-- ==== Defs.lean ====
def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_swa_finite [hPre_swa_finite : Cert.Pre_swa_finite.Facts] (m : (ℓ : Loc Cert.SwaIdeal.nD Cert.SwaIdeal.τ Cert.SwaIdeal.sig) → Buf (Elt Ideal) ℓ) : Prop :=
  ∀ c : Dev Cert.SwaIdeal.nD,
    (Cert.Pre_swa_finite.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3)) (m ((c.tc : Thread Cert.SwaIdeal.nD Cert.SwaIdeal.τ).loc Cert.SwaIdeal.main_arg4))) = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_swa_finite [hPre_swa_finite : Cert.Pre_swa_finite.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_swa_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3)) (m ((c.tc : Thread Cert.SwaRefIdeal.nD Cert.SwaRefIdeal.τ).loc Cert.SwaRefIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnNext (m : (ℓ : Loc Cert.FfnNext.nD Cert.FfnNext.τ Cert.FfnNext.sig) → Buf (Elt Bits) ℓ) : Prop :=
  True

def Pre_FfnNextIdeal (m : (ℓ : Loc Cert.FfnNextIdeal.nD Cert.FfnNextIdeal.τ Cert.FfnNextIdeal.sig) → Buf (Elt Ideal) ℓ) : Prop :=
  True

def Pre_FfnNextRefIdeal (m : (ℓ : Loc Cert.FfnNextRefIdeal.nD Cert.FfnNextRefIdeal.τ Cert.FfnNextRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_SbProj (m : (ℓ : Loc Cert.SbProj.nD Cert.SbProj.τ Cert.SbProj.sig) → Buf (Elt Bits) ℓ) : Prop :=
  True

def Pre_SbProjIdeal (m : (ℓ : Loc Cert.SbProjIdeal.nD Cert.SbProjIdeal.τ Cert.SbProjIdeal.sig) → Buf (Elt Ideal) ℓ) : Prop :=
  True

def Pre_SbProjRefIdeal (m : (ℓ : Loc Cert.SbProjRefIdeal.nD Cert.SbProjRefIdeal.τ Cert.SbProjRefIdeal.sig) → Buf (Elt Ideal) ℓ) : Prop :=
  True

def Pre_SwaProj (m : (ℓ : Loc Cert.SwaProj.nD Cert.SwaProj.τ Cert.SwaProj.sig) → Buf (Elt Bits) ℓ) : Prop :=
  True

def Pre_SwaProjIdeal (m : (ℓ : Loc Cert.SwaProjIdeal.nD Cert.SwaProjIdeal.τ Cert.SwaProjIdeal.sig) → Buf (Elt Ideal) ℓ) : Prop :=
  True

def Pre_SwaProjRefIdeal (m : (ℓ : Loc Cert.SwaProjRefIdeal.nD Cert.SwaProjRefIdeal.τ Cert.SwaProjRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3)
      ∧ r.2.mem ((c.tc : Thread Cert.Swa.nD Cert.Swa.τ).loc Cert.Swa.main_arg4) = m ((c.tc : Thread Cert.Swa.nD Cert.Swa.τ).loc Cert.Swa.main_arg4))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
      ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4))
      ∧ r.2.sem = fun _ => 0)

def quiescent_SwaIdeal_pre_swa_finite [hSwaIdeal : Cert.SwaIdeal.Facts] [hPre_swa_finite : Cert.Pre_swa_finite.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_swa_finite m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
      ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3)
      ∧ r.2.mem ((c.tc : Thread Cert.SwaRefIdeal.nD Cert.SwaRefIdeal.τ).loc Cert.SwaRefIdeal.main_arg4) = m ((c.tc : Thread Cert.SwaRefIdeal.nD Cert.SwaRefIdeal.τ).loc Cert.SwaRefIdeal.main_arg4))
      ∧ r.2.sem = fun _ => 0)

def quiescent_SwaRefIdeal_pre_swa_finite [hSwaRefIdeal : Cert.SwaRefIdeal.Facts] [hPre_swa_finite : Cert.Pre_swa_finite.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_swa_finite m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3)
      ∧ r.2.mem ((c.tc : Thread Cert.SwaRefIdeal.nD Cert.SwaRefIdeal.τ).loc Cert.SwaRefIdeal.main_arg4) = m ((c.tc : Thread Cert.SwaRefIdeal.nD Cert.SwaRefIdeal.τ).loc Cert.SwaRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnNext [hFfnNext : Cert.FfnNext.Facts] : Prop :=
  ∀ (m : (ℓ : Loc Cert.FfnNext.nD Cert.FfnNext.τ Cert.FfnNext.sig) → Buf (Elt Bits) ℓ) (g : Dev Cert.FfnNext.nD → PrngReg), Pre_FfnNext m →
    θ_run (Cert.FfnNext.defs (F := Bits)) (onTc (τ := Cert.FfnNext.τ) (Cert.FfnNext.main (F := Bits))) ⟨m, fun _ => 0, g⟩ (fun r => (∀ c : Dev Cert.FfnNext.nD,
      r.2.mem ((c.tc : Thread Cert.FfnNext.nD Cert.FfnNext.τ).loc Cert.FfnNext.main_arg0) = m ((c.tc : Thread Cert.FfnNext.nD Cert.FfnNext.τ).loc Cert.FfnNext.main_arg0)
      ∧ r.2.mem ((c.tc : Thread Cert.FfnNext.nD Cert.FfnNext.τ).loc Cert.FfnNext.main_arg1) = m ((c.tc : Thread Cert.FfnNext.nD Cert.FfnNext.τ).loc Cert.FfnNext.main_arg1)
      ∧ r.2.mem ((c.tc : Thread Cert.FfnNext.nD Cert.FfnNext.τ).loc Cert.FfnNext.main_arg2) = m ((c.tc : Thread Cert.FfnNext.nD Cert.FfnNext.τ).loc Cert.FfnNext.main_arg2)
      ∧ r.2.mem ((c.tc : Thread Cert.FfnNext.nD Cert.FfnNext.τ).loc Cert.FfnNext.main_arg3) = m ((c.tc : Thread Cert.FfnNext.nD Cert.FfnNext.τ).loc Cert.FfnNext.main_arg3)
      ∧ r.2.mem ((c.tc : Thread Cert.FfnNext.nD Cert.FfnNext.τ).loc Cert.FfnNext.main_arg4) = m ((c.tc : Thread Cert.FfnNext.nD Cert.FfnNext.τ).loc Cert.FfnNext.main_arg4)
      ∧ r.2.mem ((c.tc : Thread Cert.FfnNext.nD Cert.FfnNext.τ).loc Cert.FfnNext.main_arg5) = m ((c.tc : Thread Cert.FfnNext.nD Cert.FfnNext.τ).loc Cert.FfnNext.main_arg5)
      ∧ r.2.mem ((c.tc : Thread Cert.FfnNext.nD Cert.FfnNext.τ).loc Cert.FfnNext.main_arg6) = m ((c.tc : Thread Cert.FfnNext.nD Cert.FfnNext.τ).loc Cert.FfnNext.main_arg6)
      ∧ r.2.mem ((c.tc : Thread Cert.FfnNext.nD Cert.FfnNext.τ).loc Cert.FfnNext.main_arg7) = m ((c.tc : Thread Cert.FfnNext.nD Cert.FfnNext.τ).loc Cert.FfnNext.main_arg7))
      ∧ r.2.sem = fun _ => 0)

def quiescent_FfnNextIdeal [hFfnNextIdeal : Cert.FfnNextIdeal.Facts] : Prop :=
  ∀ (m : (ℓ : Loc Cert.FfnNextIdeal.nD Cert.FfnNextIdeal.τ Cert.FfnNextIdeal.sig) → Buf (Elt Ideal) ℓ) (g : Dev Cert.FfnNextIdeal.nD → PrngReg), Pre_FfnNextIdeal m →
    θ_run (Cert.FfnNextIdeal.defs (F := Ideal)) (onTc (τ := Cert.FfnNextIdeal.τ) (Cert.FfnNextIdeal.main (F := Ideal))) ⟨m, fun _ => 0, g⟩ (fun r => (∀ c : Dev Cert.FfnNextIdeal.nD,
      r.2.mem ((c.tc : Thread Cert.FfnNextIdeal.nD Cert.FfnNextIdeal.τ).loc Cert.FfnNextIdeal.main_arg0) = m ((c.tc : Thread Cert.FfnNextIdeal.nD Cert.FfnNextIdeal.τ).loc Cert.FfnNextIdeal.main_arg0)
      ∧ r.2.mem ((c.tc : Thread Cert.FfnNextIdeal.nD Cert.FfnNextIdeal.τ).loc Cert.FfnNextIdeal.main_arg1) = m ((c.tc : Thread Cert.FfnNextIdeal.nD Cert.FfnNextIdeal.τ).loc Cert.FfnNextIdeal.main_arg1)
      ∧ r.2.mem ((c.tc : Thread Cert.FfnNextIdeal.nD Cert.FfnNextIdeal.τ).loc Cert.FfnNextIdeal.main_arg2) = m ((c.tc : Thread Cert.FfnNextIdeal.nD Cert.FfnNextIdeal.τ).loc Cert.FfnNextIdeal.main_arg2)
      ∧ r.2.mem ((c.tc : Thread Cert.FfnNextIdeal.nD Cert.FfnNextIdeal.τ).loc Cert.FfnNextIdeal.main_arg3) = m ((c.tc : Thread Cert.FfnNextIdeal.nD Cert.FfnNextIdeal.τ).loc Cert.FfnNextIdeal.main_arg3)
      ∧ r.2.mem ((c.tc : Thread Cert.FfnNextIdeal.nD Cert.FfnNextIdeal.τ).loc Cert.FfnNextIdeal.main_arg4) = m ((c.tc : Thread Cert.FfnNextIdeal.nD Cert.FfnNextIdeal.τ).loc Cert.FfnNextIdeal.main_arg4)
      ∧ r.2.mem ((c.tc : Thread Cert.FfnNextIdeal.nD Cert.FfnNextIdeal.τ).loc Cert.FfnNextIdeal.main_arg5) = m ((c.tc : Thread Cert.FfnNextIdeal.nD Cert.FfnNextIdeal.τ).loc Cert.FfnNextIdeal.main_arg5)
      ∧ r.2.mem ((c.tc : Thread Cert.FfnNextIdeal.nD Cert.FfnNextIdeal.τ).loc Cert.FfnNextIdeal.main_arg6) = m ((c.tc : Thread Cert.FfnNextIdeal.nD Cert.FfnNextIdeal.τ).loc Cert.FfnNextIdeal.main_arg6)
      ∧ r.2.mem ((c.tc : Thread Cert.FfnNextIdeal.nD Cert.FfnNextIdeal.τ).loc Cert.FfnNextIdeal.main_arg7) = m ((c.tc : Thread Cert.FfnNextIdeal.nD Cert.FfnNextIdeal.τ).loc Cert.FfnNextIdeal.main_arg7))
      ∧ r.2.sem = fun _ => 0)

def quiescent_FfnNextRefIdeal [hFfnNextRefIdeal : Cert.FfnNextRefIdeal.Facts] : Prop :=
  ∀ (m : (ℓ : Loc Cert.FfnNextRefIdeal.nD Cert.FfnNextRefIdeal.τ Cert.FfnNextRefIdeal.sig) → Buf (Elt Ideal) ℓ) (g : Dev Cert.FfnNextRefIdeal.nD → PrngReg), Pre_FfnNextRefIdeal m →
    θ_run (Cert.FfnNextRefIdeal.defs (F := Ideal)) (onTc (τ := Cert.FfnNextRefIdeal.τ) (Cert.FfnNextRefIdeal.main (F := Ideal))) ⟨m, fun _ => 0, g⟩ (fun r => (∀ c : Dev Cert.FfnNextRefIdeal.nD,
      r.2.mem ((c.tc : Thread Cert.FfnNextRefIdeal.nD Cert.FfnNextRefIdeal.τ).loc Cert.FfnNextRefIdeal.main_arg0) = m ((c.tc : Thread Cert.FfnNextRefIdeal.nD Cert.FfnNextRefIdeal.τ).loc Cert.FfnNextRefIdeal.main_arg0)
      ∧ r.2.mem ((c.tc : Thread Cert.FfnNextRefIdeal.nD Cert.FfnNextRefIdeal.τ).loc Cert.FfnNextRefIdeal.main_arg1) = m ((c.tc : Thread Cert.FfnNextRefIdeal.nD Cert.FfnNextRefIdeal.τ).loc Cert.FfnNextRefIdeal.main_arg1)
      ∧ r.2.mem ((c.tc : Thread Cert.FfnNextRefIdeal.nD Cert.FfnNextRefIdeal.τ).loc Cert.FfnNextRefIdeal.main_arg2) = m ((c.tc : Thread Cert.FfnNextRefIdeal.nD Cert.FfnNextRefIdeal.τ).loc Cert.FfnNextRefIdeal.main_arg2)
      ∧ r.2.mem ((c.tc : Thread Cert.FfnNextRefIdeal.nD Cert.FfnNextRefIdeal.τ).loc Cert.FfnNextRefIdeal.main_arg3) = m ((c.tc : Thread Cert.FfnNextRefIdeal.nD Cert.FfnNextRefIdeal.τ).loc Cert.FfnNextRefIdeal.main_arg3)
      ∧ r.2.mem ((c.tc : Thread Cert.FfnNextRefIdeal.nD Cert.FfnNextRefIdeal.τ).loc Cert.FfnNextRefIdeal.main_arg4) = m ((c.tc : Thread Cert.FfnNextRefIdeal.nD Cert.FfnNextRefIdeal.τ).loc Cert.FfnNextRefIdeal.main_arg4)
      ∧ r.2.mem ((c.tc : Thread Cert.FfnNextRefIdeal.nD Cert.FfnNextRefIdeal.τ).loc Cert.FfnNextRefIdeal.main_arg5) = m ((c.tc : Thread Cert.FfnNextRefIdeal.nD Cert.FfnNextRefIdeal.τ).loc Cert.FfnNextRefIdeal.main_arg5)
      ∧ r.2.mem ((c.tc : Thread Cert.FfnNextRefIdeal.nD Cert.FfnNextRefIdeal.τ).loc Cert.FfnNextRefIdeal.main_arg6) = m ((c.tc : Thread Cert.FfnNextRefIdeal.nD Cert.FfnNextRefIdeal.τ).loc Cert.FfnNextRefIdeal.main_arg6)
      ∧ r.2.mem ((c.tc : Thread Cert.FfnNextRefIdeal.nD Cert.FfnNextRefIdeal.τ).loc Cert.FfnNextRefIdeal.main_arg7) = m ((c.tc : Thread Cert.FfnNextRefIdeal.nD Cert.FfnNextRefIdeal.τ).loc Cert.FfnNextRefIdeal.main_arg7))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6))
      ∧ r.2.sem = fun _ => 0)

def quiescent_SbProj [hSbProj : Cert.SbProj.Facts] : Prop :=
  ∀ (m : (ℓ : Loc Cert.SbProj.nD Cert.SbProj.τ Cert.SbProj.sig) → Buf (Elt Bits) ℓ) (g : Dev Cert.SbProj.nD → PrngReg), Pre_SbProj m →
    θ_run (Cert.SbProj.defs (F := Bits)) (onTc (τ := Cert.SbProj.τ) (Cert.SbProj.main (F := Bits))) ⟨m, fun _ => 0, g⟩ (fun r => (∀ c : Dev Cert.SbProj.nD,
      r.2.mem ((c.tc : Thread Cert.SbProj.nD Cert.SbProj.τ).loc Cert.SbProj.main_arg0) = m ((c.tc : Thread Cert.SbProj.nD Cert.SbProj.τ).loc Cert.SbProj.main_arg0)
      ∧ r.2.mem ((c.tc : Thread Cert.SbProj.nD Cert.SbProj.τ).loc Cert.SbProj.main_arg1) = m ((c.tc : Thread Cert.SbProj.nD Cert.SbProj.τ).loc Cert.SbProj.main_arg1)
      ∧ r.2.mem ((c.tc : Thread Cert.SbProj.nD Cert.SbProj.τ).loc Cert.SbProj.main_arg2) = m ((c.tc : Thread Cert.SbProj.nD Cert.SbProj.τ).loc Cert.SbProj.main_arg2))
      ∧ r.2.sem = fun _ => 0)

def quiescent_SbProjIdeal [hSbProjIdeal : Cert.SbProjIdeal.Facts] : Prop :=
  ∀ (m : (ℓ : Loc Cert.SbProjIdeal.nD Cert.SbProjIdeal.τ Cert.SbProjIdeal.sig) → Buf (Elt Ideal) ℓ) (g : Dev Cert.SbProjIdeal.nD → PrngReg), Pre_SbProjIdeal m →
    θ_run (Cert.SbProjIdeal.defs (F := Ideal)) (onTc (τ := Cert.SbProjIdeal.τ) (Cert.SbProjIdeal.main (F := Ideal))) ⟨m, fun _ => 0, g⟩ (fun r => (∀ c : Dev Cert.SbProjIdeal.nD,
      r.2.mem ((c.tc : Thread Cert.SbProjIdeal.nD Cert.SbProjIdeal.τ).loc Cert.SbProjIdeal.main_arg0) = m ((c.tc : Thread Cert.SbProjIdeal.nD Cert.SbProjIdeal.τ).loc Cert.SbProjIdeal.main_arg0)
      ∧ r.2.mem ((c.tc : Thread Cert.SbProjIdeal.nD Cert.SbProjIdeal.τ).loc Cert.SbProjIdeal.main_arg1) = m ((c.tc : Thread Cert.SbProjIdeal.nD Cert.SbProjIdeal.τ).loc Cert.SbProjIdeal.main_arg1)
      ∧ r.2.mem ((c.tc : Thread Cert.SbProjIdeal.nD Cert.SbProjIdeal.τ).loc Cert.SbProjIdeal.main_arg2) = m ((c.tc : Thread Cert.SbProjIdeal.nD Cert.SbProjIdeal.τ).loc Cert.SbProjIdeal.main_arg2))
      ∧ r.2.sem = fun _ => 0)

def quiescent_SbProjRefIdeal [hSbProjRefIdeal : Cert.SbProjRefIdeal.Facts] : Prop :=
  ∀ (m : (ℓ : Loc Cert.SbProjRefIdeal.nD Cert.SbProjRefIdeal.τ Cert.SbProjRefIdeal.sig) → Buf (Elt Ideal) ℓ) (g : Dev Cert.SbProjRefIdeal.nD → PrngReg), Pre_SbProjRefIdeal m →
    θ_run (Cert.SbProjRefIdeal.defs (F := Ideal)) (onTc (τ := Cert.SbProjRefIdeal.τ) (Cert.SbProjRefIdeal.main (F := Ideal))) ⟨m, fun _ => 0, g⟩ (fun r => (∀ c : Dev Cert.SbProjRefIdeal.nD,
      r.2.mem ((c.tc : Thread Cert.SbProjRefIdeal.nD Cert.SbProjRefIdeal.τ).loc Cert.SbProjRefIdeal.main_arg0) = m ((c.tc : Thread Cert.SbProjRefIdeal.nD Cert.SbProjRefIdeal.τ).loc Cert.SbProjRefIdeal.main_arg0)
      ∧ r.2.mem ((c.tc : Thread Cert.SbProjRefIdeal.nD Cert.SbProjRefIdeal.τ).loc Cert.SbProjRefIdeal.main_arg1) = m ((c.tc : Thread Cert.SbProjRefIdeal.nD Cert.SbProjRefIdeal.τ).loc Cert.SbProjRefIdeal.main_arg1)
      ∧ r.2.mem ((c.tc : Thread Cert.SbProjRefIdeal.nD Cert.SbProjRefIdeal.τ).loc Cert.SbProjRefIdeal.main_arg2) = m ((c.tc : Thread Cert.SbProjRefIdeal.nD Cert.SbProjRefIdeal.τ).loc Cert.SbProjRefIdeal.main_arg2))
      ∧ r.2.sem = fun _ => 0)

def quiescent_SwaProj [hSwaProj : Cert.SwaProj.Facts] : Prop :=
  ∀ (m : (ℓ : Loc Cert.SwaProj.nD Cert.SwaProj.τ Cert.SwaProj.sig) → Buf (Elt Bits) ℓ) (g : Dev Cert.SwaProj.nD → PrngReg), Pre_SwaProj m →
    θ_run (Cert.SwaProj.defs (F := Bits)) (onTc (τ := Cert.SwaProj.τ) (Cert.SwaProj.main (F := Bits))) ⟨m, fun _ => 0, g⟩ (fun r => (∀ c : Dev Cert.SwaProj.nD,
      r.2.mem ((c.tc : Thread Cert.SwaProj.nD Cert.SwaProj.τ).loc Cert.SwaProj.main_arg0) = m ((c.tc : Thread Cert.SwaProj.nD Cert.SwaProj.τ).loc Cert.SwaProj.main_arg0)
      ∧ r.2.mem ((c.tc : Thread Cert.SwaProj.nD Cert.SwaProj.τ).loc Cert.SwaProj.main_arg1) = m ((c.tc : Thread Cert.SwaProj.nD Cert.SwaProj.τ).loc Cert.SwaProj.main_arg1)
      ∧ r.2.mem ((c.tc : Thread Cert.SwaProj.nD Cert.SwaProj.τ).loc Cert.SwaProj.main_arg2) = m ((c.tc : Thread Cert.SwaProj.nD Cert.SwaProj.τ).loc Cert.SwaProj.main_arg2))
      ∧ r.2.sem = fun _ => 0)

def quiescent_SwaProjIdeal [hSwaProjIdeal : Cert.SwaProjIdeal.Facts] : Prop :=
  ∀ (m : (ℓ : Loc Cert.SwaProjIdeal.nD Cert.SwaProjIdeal.τ Cert.SwaProjIdeal.sig) → Buf (Elt Ideal) ℓ) (g : Dev Cert.SwaProjIdeal.nD → PrngReg), Pre_SwaProjIdeal m →
    θ_run (Cert.SwaProjIdeal.defs (F := Ideal)) (onTc (τ := Cert.SwaProjIdeal.τ) (Cert.SwaProjIdeal.main (F := Ideal))) ⟨m, fun _ => 0, g⟩ (fun r => (∀ c : Dev Cert.SwaProjIdeal.nD,
      r.2.mem ((c.tc : Thread Cert.SwaProjIdeal.nD Cert.SwaProjIdeal.τ).loc Cert.SwaProjIdeal.main_arg0) = m ((c.tc : Thread Cert.SwaProjIdeal.nD Cert.SwaProjIdeal.τ).loc Cert.SwaProjIdeal.main_arg0)
      ∧ r.2.mem ((c.tc : Thread Cert.SwaProjIdeal.nD Cert.SwaProjIdeal.τ).loc Cert.SwaProjIdeal.main_arg1) = m ((c.tc : Thread Cert.SwaProjIdeal.nD Cert.SwaProjIdeal.τ).loc Cert.SwaProjIdeal.main_arg1)
      ∧ r.2.mem ((c.tc : Thread Cert.SwaProjIdeal.nD Cert.SwaProjIdeal.τ).loc Cert.SwaProjIdeal.main_arg2) = m ((c.tc : Thread Cert.SwaProjIdeal.nD Cert.SwaProjIdeal.τ).loc Cert.SwaProjIdeal.main_arg2))
      ∧ r.2.sem = fun _ => 0)

def quiescent_SwaProjRefIdeal [hSwaProjRefIdeal : Cert.SwaProjRefIdeal.Facts] : Prop :=
  ∀ (m : (ℓ : Loc Cert.SwaProjRefIdeal.nD Cert.SwaProjRefIdeal.τ Cert.SwaProjRefIdeal.sig) → Buf (Elt Ideal) ℓ) (g : Dev Cert.SwaProjRefIdeal.nD → PrngReg), Pre_SwaProjRefIdeal m →
    θ_run (Cert.SwaProjRefIdeal.defs (F := Ideal)) (onTc (τ := Cert.SwaProjRefIdeal.τ) (Cert.SwaProjRefIdeal.main (F := Ideal))) ⟨m, fun _ => 0, g⟩ (fun r => (∀ c : Dev Cert.SwaProjRefIdeal.nD,
      r.2.mem ((c.tc : Thread Cert.SwaProjRefIdeal.nD Cert.SwaProjRefIdeal.τ).loc Cert.SwaProjRefIdeal.main_arg0) = m ((c.tc : Thread Cert.SwaProjRefIdeal.nD Cert.SwaProjRefIdeal.τ).loc Cert.SwaProjRefIdeal.main_arg0)
      ∧ r.2.mem ((c.tc : Thread Cert.SwaProjRefIdeal.nD Cert.SwaProjRefIdeal.τ).loc Cert.SwaProjRefIdeal.main_arg1) = m ((c.tc : Thread Cert.SwaProjRefIdeal.nD Cert.SwaProjRefIdeal.τ).loc Cert.SwaProjRefIdeal.main_arg1)
      ∧ r.2.mem ((c.tc : Thread Cert.SwaProjRefIdeal.nD Cert.SwaProjRefIdeal.τ).loc Cert.SwaProjRefIdeal.main_arg2) = m ((c.tc : Thread Cert.SwaProjRefIdeal.nD Cert.SwaProjRefIdeal.τ).loc Cert.SwaProjRefIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def preserves_Swa_SwaIdeal : Prop :=
  IdealRules.named_const.Statement Cert.SwaIdeal.κ "log2e_8" .f32 0x3E38AA3B#32 (((8 * (Real.log 2))⁻¹ : ℝ) : EReal)
  ∧ IdealRules.named_const.Statement Cert.SwaIdeal.κ "log2e" .f32 0x3FB8AA3B#32 (((Real.log 2)⁻¹ : ℝ) : EReal)

def algebraic_SwaIdeal_SwaRefIdeal_pre_swa_finite [hSwaIdeal : Cert.SwaIdeal.Facts] [hSwaRefIdeal : Cert.SwaRefIdeal.Facts] [hPre_swa_finite : Cert.Pre_swa_finite.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_swa_finite m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)
      ∧ m' ((c.tc : Thread Cert.SwaRefIdeal.nD Cert.SwaRefIdeal.τ).loc Cert.SwaRefIdeal.main_arg3) = m ((c.tc : Thread Cert.SwaIdeal.nD Cert.SwaIdeal.τ).loc Cert.SwaIdeal.main_arg3)
      ∧ m' ((c.tc : Thread Cert.SwaRefIdeal.nD Cert.SwaRefIdeal.τ).loc Cert.SwaRefIdeal.main_arg4) = m ((c.tc : Thread Cert.SwaIdeal.nD Cert.SwaIdeal.τ).loc Cert.SwaIdeal.main_arg4)) →
    ∃ (v0 : (c : Dev Cert.SwaIdeal.nD) → Buf (Elt Ideal) ((c.tc : Thread Cert.SwaIdeal.nD Cert.SwaIdeal.τ).loc Cert.SwaIdeal.main_v19)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v19) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
          ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
          ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v155) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2)
          ∧ r.2.mem ((c.tc : Thread Cert.SwaRefIdeal.nD Cert.SwaRefIdeal.τ).loc Cert.SwaRefIdeal.main_arg3) = m' ((c.tc : Thread Cert.SwaRefIdeal.nD Cert.SwaRefIdeal.τ).loc Cert.SwaRefIdeal.main_arg3)
          ∧ r.2.mem ((c.tc : Thread Cert.SwaRefIdeal.nD Cert.SwaRefIdeal.τ).loc Cert.SwaRefIdeal.main_arg4) = m' ((c.tc : Thread Cert.SwaRefIdeal.nD Cert.SwaRefIdeal.τ).loc Cert.SwaRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v20) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_FfnNext_FfnNextIdeal : Prop :=
  True

def algebraic_FfnNextIdeal_FfnNextRefIdeal [hFfnNextIdeal : Cert.FfnNextIdeal.Facts] [hFfnNextRefIdeal : Cert.FfnNextRefIdeal.Facts] : Prop :=
  ∀ (m : (ℓ : Loc Cert.FfnNextIdeal.nD Cert.FfnNextIdeal.τ Cert.FfnNextIdeal.sig) → Buf (Elt Ideal) ℓ) (g : Dev Cert.FfnNextIdeal.nD → PrngReg)
    (m' : (ℓ : Loc Cert.FfnNextRefIdeal.nD Cert.FfnNextRefIdeal.τ Cert.FfnNextRefIdeal.sig) → Buf (Elt Ideal) ℓ) (g' : Dev Cert.FfnNextRefIdeal.nD → PrngReg), Pre_FfnNextIdeal m →
    (∀ c : Dev Cert.FfnNextIdeal.nD,
      m' ((c.tc : Thread Cert.FfnNextRefIdeal.nD Cert.FfnNextRefIdeal.τ).loc Cert.FfnNextRefIdeal.main_arg0) = m ((c.tc : Thread Cert.FfnNextIdeal.nD Cert.FfnNextIdeal.τ).loc Cert.FfnNextIdeal.main_arg0)
      ∧ m' ((c.tc : Thread Cert.FfnNextRefIdeal.nD Cert.FfnNextRefIdeal.τ).loc Cert.FfnNextRefIdeal.main_arg1) = m ((c.tc : Thread Cert.FfnNextIdeal.nD Cert.FfnNextIdeal.τ).loc Cert.FfnNextIdeal.main_arg1)
      ∧ m' ((c.tc : Thread Cert.FfnNextRefIdeal.nD Cert.FfnNextRefIdeal.τ).loc Cert.FfnNextRefIdeal.main_arg2) = m ((c.tc : Thread Cert.FfnNextIdeal.nD Cert.FfnNextIdeal.τ).loc Cert.FfnNextIdeal.main_arg2)
      ∧ m' ((c.tc : Thread Cert.FfnNextRefIdeal.nD Cert.FfnNextRefIdeal.τ).loc Cert.FfnNextRefIdeal.main_arg3) = m ((c.tc : Thread Cert.FfnNextIdeal.nD Cert.FfnNextIdeal.τ).loc Cert.FfnNextIdeal.main_arg3)
      ∧ m' ((c.tc : Thread Cert.FfnNextRefIdeal.nD Cert.FfnNextRefIdeal.τ).loc Cert.FfnNextRefIdeal.main_arg4) = m ((c.tc : Thread Cert.FfnNextIdeal.nD Cert.FfnNextIdeal.τ).loc Cert.FfnNextIdeal.main_arg4)
      ∧ m' ((c.tc : Thread Cert.FfnNextRefIdeal.nD Cert.FfnNextRefIdeal.τ).loc Cert.FfnNextRefIdeal.main_arg5) = m ((c.tc : Thread Cert.FfnNextIdeal.nD Cert.FfnNextIdeal.τ).loc Cert.FfnNextIdeal.main_arg5)
      ∧ m' ((c.tc : Thread Cert.FfnNextRefIdeal.nD Cert.FfnNextRefIdeal.τ).loc Cert.FfnNextRefIdeal.main_arg6) = m ((c.tc : Thread Cert.FfnNextIdeal.nD Cert.FfnNextIdeal.τ).loc Cert.FfnNextIdeal.main_arg6)
      ∧ m' ((c.tc : Thread Cert.FfnNextRefIdeal.nD Cert.FfnNextRefIdeal.τ).loc Cert.FfnNextRefIdeal.main_arg7) = m ((c.tc : Thread Cert.FfnNextIdeal.nD Cert.FfnNextIdeal.τ).loc Cert.FfnNextIdeal.main_arg7)) →
    ∃ (v0 : (c : Dev Cert.FfnNextIdeal.nD) → Buf (Elt Ideal) ((c.tc : Thread Cert.FfnNextIdeal.nD Cert.FfnNextIdeal.τ).loc Cert.FfnNextIdeal.main_v4_0)) (v1 : (c : Dev Cert.FfnNextIdeal.nD) → Buf (Elt Ideal) ((c.tc : Thread Cert.FfnNextIdeal.nD Cert.FfnNextIdeal.τ).loc Cert.FfnNextIdeal.main_v4_1)) (v2 : (c : Dev Cert.FfnNextIdeal.nD) → Buf (Elt Ideal) ((c.tc : Thread Cert.FfnNextIdeal.nD Cert.FfnNextIdeal.τ).loc Cert.FfnNextIdeal.main_v4_2)) (v3 : (c : Dev Cert.FfnNextIdeal.nD) → Buf (Elt Ideal) ((c.tc : Thread Cert.FfnNextIdeal.nD Cert.FfnNextIdeal.τ).loc Cert.FfnNextIdeal.main_v4_3)),
      θ_run (Cert.FfnNextIdeal.defs (F := Ideal)) (onTc (τ := Cert.FfnNextIdeal.τ) (Cert.FfnNextIdeal.main (F := Ideal))) ⟨m, fun _ => 0, g⟩ (fun r => ∀ c : Dev Cert.FfnNextIdeal.nD,
          r.2.mem ((c.tc : Thread Cert.FfnNextIdeal.nD Cert.FfnNextIdeal.τ).loc Cert.FfnNextIdeal.main_v4_0) = v0 c
          ∧ r.2.mem ((c.tc : Thread Cert.FfnNextIdeal.nD Cert.FfnNextIdeal.τ).loc Cert.FfnNextIdeal.main_v4_1) = v1 c
          ∧ r.2.mem ((c.tc : Thread Cert.FfnNextIdeal.nD Cert.FfnNextIdeal.τ).loc Cert.FfnNextIdeal.main_v4_2) = v2 c
          ∧ r.2.mem ((c.tc : Thread Cert.FfnNextIdeal.nD Cert.FfnNextIdeal.τ).loc Cert.FfnNextIdeal.main_v4_3) = v3 c
          ∧ r.2.mem ((c.tc : Thread Cert.FfnNextIdeal.nD Cert.FfnNextIdeal.τ).loc Cert.FfnNextIdeal.main_arg0) = m ((c.tc : Thread Cert.FfnNextIdeal.nD Cert.FfnNextIdeal.τ).loc Cert.FfnNextIdeal.main_arg0)
          ∧ r.2.mem ((c.tc : Thread Cert.FfnNextIdeal.nD Cert.FfnNextIdeal.τ).loc Cert.FfnNextIdeal.main_arg1) = m ((c.tc : Thread Cert.FfnNextIdeal.nD Cert.FfnNextIdeal.τ).loc Cert.FfnNextIdeal.main_arg1)
          ∧ r.2.mem ((c.tc : Thread Cert.FfnNextIdeal.nD Cert.FfnNextIdeal.τ).loc Cert.FfnNextIdeal.main_arg2) = m ((c.tc : Thread Cert.FfnNextIdeal.nD Cert.FfnNextIdeal.τ).loc Cert.FfnNextIdeal.main_arg2)
          ∧ r.2.mem ((c.tc : Thread Cert.FfnNextIdeal.nD Cert.FfnNextIdeal.τ).loc Cert.FfnNextIdeal.main_arg3) = m ((c.tc : Thread Cert.FfnNextIdeal.nD Cert.FfnNextIdeal.τ).loc Cert.FfnNextIdeal.main_arg3)
          ∧ r.2.mem ((c.tc : Thread Cert.FfnNextIdeal.nD Cert.FfnNextIdeal.τ).loc Cert.FfnNextIdeal.main_arg4) = m ((c.tc : Thread Cert.FfnNextIdeal.nD Cert.FfnNextIdeal.τ).loc Cert.FfnNextIdeal.main_arg4)
          ∧ r.2.mem ((c.tc : Thread Cert.FfnNextIdeal.nD Cert.FfnNextIdeal.τ).loc Cert.FfnNextIdeal.main_arg5) = m ((c.tc : Thread Cert.FfnNextIdeal.nD Cert.FfnNextIdeal.τ).loc Cert.FfnNextIdeal.main_arg5)
          ∧ r.2.mem ((c.tc : Thread Cert.FfnNextIdeal.nD Cert.FfnNextIdeal.τ).loc Cert.FfnNextIdeal.main_arg6) = m ((c.tc : Thread Cert.FfnNextIdeal.nD Cert.FfnNextIdeal.τ).loc Cert.FfnNextIdeal.main_arg6)
          ∧ r.2.mem ((c.tc : Thread Cert.FfnNextIdeal.nD Cert.FfnNextIdeal.τ).loc Cert.FfnNextIdeal.main_arg7) = m ((c.tc : Thread Cert.FfnNextIdeal.nD Cert.FfnNextIdeal.τ).loc Cert.FfnNextIdeal.main_arg7))
      ∧ θ_run (Cert.FfnNextRefIdeal.defs (F := Ideal)) (onTc (τ := Cert.FfnNextRefIdeal.τ) (Cert.FfnNextRefIdeal.main (F := Ideal))) ⟨m', fun _ => 0, g'⟩ (fun r => ∀ c : Dev Cert.FfnNextRefIdeal.nD,
          r.2.mem ((c.tc : Thread Cert.FfnNextRefIdeal.nD Cert.FfnNextRefIdeal.τ).loc Cert.FfnNextRefIdeal.main_v20) = v0 c
          ∧ r.2.mem ((c.tc : Thread Cert.FfnNextRefIdeal.nD Cert.FfnNextRefIdeal.τ).loc Cert.FfnNextRefIdeal.main_v23) = v1 c
          ∧ r.2.mem ((c.tc : Thread Cert.FfnNextRefIdeal.nD Cert.FfnNextRefIdeal.τ).loc Cert.FfnNextRefIdeal.main_v26) = v2 c
          ∧ r.2.mem ((c.tc : Thread Cert.FfnNextRefIdeal.nD Cert.FfnNextRefIdeal.τ).loc Cert.FfnNextRefIdeal.main_v29) = v3 c
          ∧ r.2.mem ((c.tc : Thread Cert.FfnNextRefIdeal.nD Cert.FfnNextRefIdeal.τ).loc Cert.FfnNextRefIdeal.main_arg0) = m' ((c.tc : Thread Cert.FfnNextRefIdeal.nD Cert.FfnNextRefIdeal.τ).loc Cert.FfnNextRefIdeal.main_arg0)
          ∧ r.2.mem ((c.tc : Thread Cert.FfnNextRefIdeal.nD Cert.FfnNextRefIdeal.τ).loc Cert.FfnNextRefIdeal.main_arg1) = m' ((c.tc : Thread Cert.FfnNextRefIdeal.nD Cert.FfnNextRefIdeal.τ).loc Cert.FfnNextRefIdeal.main_arg1)
          ∧ r.2.mem ((c.tc : Thread Cert.FfnNextRefIdeal.nD Cert.FfnNextRefIdeal.τ).loc Cert.FfnNextRefIdeal.main_arg2) = m' ((c.tc : Thread Cert.FfnNextRefIdeal.nD Cert.FfnNextRefIdeal.τ).loc Cert.FfnNextRefIdeal.main_arg2)
          ∧ r.2.mem ((c.tc : Thread Cert.FfnNextRefIdeal.nD Cert.FfnNextRefIdeal.τ).loc Cert.FfnNextRefIdeal.main_arg3) = m' ((c.tc : Thread Cert.FfnNextRefIdeal.nD Cert.FfnNextRefIdeal.τ).loc Cert.FfnNextRefIdeal.main_arg3)
          ∧ r.2.mem ((c.tc : Thread Cert.FfnNextRefIdeal.nD Cert.FfnNextRefIdeal.τ).loc Cert.FfnNextRefIdeal.main_arg4) = m' ((c.tc : Thread Cert.FfnNextRefIdeal.nD Cert.FfnNextRefIdeal.τ).loc Cert.FfnNextRefIdeal.main_arg4)
          ∧ r.2.mem ((c.tc : Thread Cert.FfnNextRefIdeal.nD Cert.FfnNextRefIdeal.τ).loc Cert.FfnNextRefIdeal.main_arg5) = m' ((c.tc : Thread Cert.FfnNextRefIdeal.nD Cert.FfnNextRefIdeal.τ).loc Cert.FfnNextRefIdeal.main_arg5)
          ∧ r.2.mem ((c.tc : Thread Cert.FfnNextRefIdeal.nD Cert.FfnNextRefIdeal.τ).loc Cert.FfnNextRefIdeal.main_arg6) = m' ((c.tc : Thread Cert.FfnNextRefIdeal.nD Cert.FfnNextRefIdeal.τ).loc Cert.FfnNextRefIdeal.main_arg6)
          ∧ r.2.mem ((c.tc : Thread Cert.FfnNextRefIdeal.nD Cert.FfnNextRefIdeal.τ).loc Cert.FfnNextRefIdeal.main_arg7) = m' ((c.tc : Thread Cert.FfnNextRefIdeal.nD Cert.FfnNextRefIdeal.τ).loc Cert.FfnNextRefIdeal.main_arg7))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v2) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v42) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6))

def preserves_SbProj_SbProjIdeal : Prop :=
  True

def algebraic_SbProjIdeal_SbProjRefIdeal [hSbProjIdeal : Cert.SbProjIdeal.Facts] [hSbProjRefIdeal : Cert.SbProjRefIdeal.Facts] : Prop :=
  ∀ (m : (ℓ : Loc Cert.SbProjIdeal.nD Cert.SbProjIdeal.τ Cert.SbProjIdeal.sig) → Buf (Elt Ideal) ℓ) (g : Dev Cert.SbProjIdeal.nD → PrngReg)
    (m' : (ℓ : Loc Cert.SbProjRefIdeal.nD Cert.SbProjRefIdeal.τ Cert.SbProjRefIdeal.sig) → Buf (Elt Ideal) ℓ) (g' : Dev Cert.SbProjRefIdeal.nD → PrngReg), Pre_SbProjIdeal m →
    (∀ c : Dev Cert.SbProjIdeal.nD,
      m' ((c.tc : Thread Cert.SbProjRefIdeal.nD Cert.SbProjRefIdeal.τ).loc Cert.SbProjRefIdeal.main_arg0) = m ((c.tc : Thread Cert.SbProjIdeal.nD Cert.SbProjIdeal.τ).loc Cert.SbProjIdeal.main_arg0)
      ∧ m' ((c.tc : Thread Cert.SbProjRefIdeal.nD Cert.SbProjRefIdeal.τ).loc Cert.SbProjRefIdeal.main_arg1) = m ((c.tc : Thread Cert.SbProjIdeal.nD Cert.SbProjIdeal.τ).loc Cert.SbProjIdeal.main_arg1)
      ∧ m' ((c.tc : Thread Cert.SbProjRefIdeal.nD Cert.SbProjRefIdeal.τ).loc Cert.SbProjRefIdeal.main_arg2) = m ((c.tc : Thread Cert.SbProjIdeal.nD Cert.SbProjIdeal.τ).loc Cert.SbProjIdeal.main_arg2)) →
    ∃ (v0 : (c : Dev Cert.SbProjIdeal.nD) → Buf (Elt Ideal) ((c.tc : Thread Cert.SbProjIdeal.nD Cert.SbProjIdeal.τ).loc Cert.SbProjIdeal.main_v10)),
      θ_run (Cert.SbProjIdeal.defs (F := Ideal)) (onTc (τ := Cert.SbProjIdeal.τ) (Cert.SbProjIdeal.main (F := Ideal))) ⟨m, fun _ => 0, g⟩ (fun r => ∀ c : Dev Cert.SbProjIdeal.nD,
          r.2.mem ((c.tc : Thread Cert.SbProjIdeal.nD Cert.SbProjIdeal.τ).loc Cert.SbProjIdeal.main_v10) = v0 c
          ∧ r.2.mem ((c.tc : Thread Cert.SbProjIdeal.nD Cert.SbProjIdeal.τ).loc Cert.SbProjIdeal.main_arg0) = m ((c.tc : Thread Cert.SbProjIdeal.nD Cert.SbProjIdeal.τ).loc Cert.SbProjIdeal.main_arg0)
          ∧ r.2.mem ((c.tc : Thread Cert.SbProjIdeal.nD Cert.SbProjIdeal.τ).loc Cert.SbProjIdeal.main_arg1) = m ((c.tc : Thread Cert.SbProjIdeal.nD Cert.SbProjIdeal.τ).loc Cert.SbProjIdeal.main_arg1)
          ∧ r.2.mem ((c.tc : Thread Cert.SbProjIdeal.nD Cert.SbProjIdeal.τ).loc Cert.SbProjIdeal.main_arg2) = m ((c.tc : Thread Cert.SbProjIdeal.nD Cert.SbProjIdeal.τ).loc Cert.SbProjIdeal.main_arg2))
      ∧ θ_run (Cert.SbProjRefIdeal.defs (F := Ideal)) (onTc (τ := Cert.SbProjRefIdeal.τ) (Cert.SbProjRefIdeal.main (F := Ideal))) ⟨m', fun _ => 0, g'⟩ (fun r => ∀ c : Dev Cert.SbProjRefIdeal.nD,
          r.2.mem ((c.tc : Thread Cert.SbProjRefIdeal.nD Cert.SbProjRefIdeal.τ).loc Cert.SbProjRefIdeal.main_v19) = v0 c
          ∧ r.2.mem ((c.tc : Thread Cert.SbProjRefIdeal.nD Cert.SbProjRefIdeal.τ).loc Cert.SbProjRefIdeal.main_arg0) = m' ((c.tc : Thread Cert.SbProjRefIdeal.nD Cert.SbProjRefIdeal.τ).loc Cert.SbProjRefIdeal.main_arg0)
          ∧ r.2.mem ((c.tc : Thread Cert.SbProjRefIdeal.nD Cert.SbProjRefIdeal.τ).loc Cert.SbProjRefIdeal.main_arg1) = m' ((c.tc : Thread Cert.SbProjRefIdeal.nD Cert.SbProjRefIdeal.τ).loc Cert.SbProjRefIdeal.main_arg1)
          ∧ r.2.mem ((c.tc : Thread Cert.SbProjRefIdeal.nD Cert.SbProjRefIdeal.τ).loc Cert.SbProjRefIdeal.main_arg2) = m' ((c.tc : Thread Cert.SbProjRefIdeal.nD Cert.SbProjRefIdeal.τ).loc Cert.SbProjRefIdeal.main_arg2))

def preserves_SwaProj_SwaProjIdeal : Prop :=
  True

def algebraic_SwaProjIdeal_SwaProjRefIdeal [hSwaProjIdeal : Cert.SwaProjIdeal.Facts] [hSwaProjRefIdeal : Cert.SwaProjRefIdeal.Facts] : Prop :=
  ∀ (m : (ℓ : Loc Cert.SwaProjIdeal.nD Cert.SwaProjIdeal.τ Cert.SwaProjIdeal.sig) → Buf (Elt Ideal) ℓ) (g : Dev Cert.SwaProjIdeal.nD → PrngReg)
    (m' : (ℓ : Loc Cert.SwaProjRefIdeal.nD Cert.SwaProjRefIdeal.τ Cert.SwaProjRefIdeal.sig) → Buf (Elt Ideal) ℓ) (g' : Dev Cert.SwaProjRefIdeal.nD → PrngReg), Pre_SwaProjIdeal m →
    (∀ c : Dev Cert.SwaProjIdeal.nD,
      m' ((c.tc : Thread Cert.SwaProjRefIdeal.nD Cert.SwaProjRefIdeal.τ).loc Cert.SwaProjRefIdeal.main_arg0) = m ((c.tc : Thread Cert.SwaProjIdeal.nD Cert.SwaProjIdeal.τ).loc Cert.SwaProjIdeal.main_arg0)
      ∧ m' ((c.tc : Thread Cert.SwaProjRefIdeal.nD Cert.SwaProjRefIdeal.τ).loc Cert.SwaProjRefIdeal.main_arg1) = m ((c.tc : Thread Cert.SwaProjIdeal.nD Cert.SwaProjIdeal.τ).loc Cert.SwaProjIdeal.main_arg1)
      ∧ m' ((c.tc : Thread Cert.SwaProjRefIdeal.nD Cert.SwaProjRefIdeal.τ).loc Cert.SwaProjRefIdeal.main_arg2) = m ((c.tc : Thread Cert.SwaProjIdeal.nD Cert.SwaProjIdeal.τ).loc Cert.SwaProjIdeal.main_arg2)) →
    ∃ (v0 : (c : Dev Cert.SwaProjIdeal.nD) → Buf (Elt Ideal) ((c.tc : Thread Cert.SwaProjIdeal.nD Cert.SwaProjIdeal.τ).loc Cert.SwaProjIdeal.main_v2)),
      θ_run (Cert.SwaProjIdeal.defs (F := Ideal)) (onTc (τ := Cert.SwaProjIdeal.τ) (Cert.SwaProjIdeal.main (F := Ideal))) ⟨m, fun _ => 0, g⟩ (fun r => ∀ c : Dev Cert.SwaProjIdeal.nD,
          r.2.mem ((c.tc : Thread Cert.SwaProjIdeal.nD Cert.SwaProjIdeal.τ).loc Cert.SwaProjIdeal.main_v2) = v0 c
          ∧ r.2.mem ((c.tc : Thread Cert.SwaProjIdeal.nD Cert.SwaProjIdeal.τ).loc Cert.SwaProjIdeal.main_arg0) = m ((c.tc : Thread Cert.SwaProjIdeal.nD Cert.SwaProjIdeal.τ).loc Cert.SwaProjIdeal.main_arg0)
          ∧ r.2.mem ((c.tc : Thread Cert.SwaProjIdeal.nD Cert.SwaProjIdeal.τ).loc Cert.SwaProjIdeal.main_arg1) = m ((c.tc : Thread Cert.SwaProjIdeal.nD Cert.SwaProjIdeal.τ).loc Cert.SwaProjIdeal.main_arg1)
          ∧ r.2.mem ((c.tc : Thread Cert.SwaProjIdeal.nD Cert.SwaProjIdeal.τ).loc Cert.SwaProjIdeal.main_arg2) = m ((c.tc : Thread Cert.SwaProjIdeal.nD Cert.SwaProjIdeal.τ).loc Cert.SwaProjIdeal.main_arg2))
      ∧ θ_run (Cert.SwaProjRefIdeal.defs (F := Ideal)) (onTc (τ := Cert.SwaProjRefIdeal.τ) (Cert.SwaProjRefIdeal.main (F := Ideal))) ⟨m', fun _ => 0, g'⟩ (fun r => ∀ c : Dev Cert.SwaProjRefIdeal.nD,
          r.2.mem ((c.tc : Thread Cert.SwaProjRefIdeal.nD Cert.SwaProjRefIdeal.τ).loc Cert.SwaProjRefIdeal.main_v14) = v0 c
          ∧ r.2.mem ((c.tc : Thread Cert.SwaProjRefIdeal.nD Cert.SwaProjRefIdeal.τ).loc Cert.SwaProjRefIdeal.main_arg0) = m' ((c.tc : Thread Cert.SwaProjRefIdeal.nD Cert.SwaProjRefIdeal.τ).loc Cert.SwaProjRefIdeal.main_arg0)
          ∧ r.2.mem ((c.tc : Thread Cert.SwaProjRefIdeal.nD Cert.SwaProjRefIdeal.τ).loc Cert.SwaProjRefIdeal.main_arg1) = m' ((c.tc : Thread Cert.SwaProjRefIdeal.nD Cert.SwaProjRefIdeal.τ).loc Cert.SwaProjRefIdeal.main_arg1)
          ∧ r.2.mem ((c.tc : Thread Cert.SwaProjRefIdeal.nD Cert.SwaProjRefIdeal.τ).loc Cert.SwaProjRefIdeal.main_arg2) = m' ((c.tc : Thread Cert.SwaProjRefIdeal.nD Cert.SwaProjRefIdeal.τ).loc Cert.SwaProjRefIdeal.main_arg2))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v3_0)) (v1 : (c : Dev Cert.MemKvIdeal.nD) → Buf (Elt Ideal) ((c.tc : Thread Cert.MemKvIdeal.nD Cert.MemKvIdeal.τ).loc Cert.MemKvIdeal.main_v3_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3_0) = v0 c
          ∧ r.2.mem ((c.tc : Thread Cert.MemKvIdeal.nD Cert.MemKvIdeal.τ).loc Cert.MemKvIdeal.main_v3_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v33) = v0 c
          ∧ r.2.mem ((c.tc : Thread Cert.MemKvRefIdeal.nD Cert.MemKvRefIdeal.τ).loc Cert.MemKvRefIdeal.main_v37) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def Claim : Prop :=
  ∃ (hSwa : Cert.Swa.Facts) (hSwaIdeal : Cert.SwaIdeal.Facts) (hSwaRefIdeal : Cert.SwaRefIdeal.Facts) (hFfn : Cert.Ffn.Facts) (hFfnIdeal : Cert.FfnIdeal.Facts) (hFfnRefIdeal : Cert.FfnRefIdeal.Facts) (hFfnNext : Cert.FfnNext.Facts) (hFfnNextIdeal : Cert.FfnNextIdeal.Facts) (hFfnNextRefIdeal : Cert.FfnNextRefIdeal.Facts) (hMix : Cert.Mix.Facts) (hMixIdeal : Cert.MixIdeal.Facts) (hMixRefIdeal : Cert.MixRefIdeal.Facts) (hSbProj : Cert.SbProj.Facts) (hSbProjIdeal : Cert.SbProjIdeal.Facts) (hSbProjRefIdeal : Cert.SbProjRefIdeal.Facts) (hSwaProj : Cert.SwaProj.Facts) (hSwaProjIdeal : Cert.SwaProjIdeal.Facts) (hSwaProjRefIdeal : Cert.SwaProjRefIdeal.Facts) (hMemKv : Cert.MemKv.Facts) (hMemKvIdeal : Cert.MemKvIdeal.Facts) (hMemKvRefIdeal : Cert.MemKvRefIdeal.Facts) (hPre_swa_finite : Cert.Pre_swa_finite.Facts),
    quiescent_Swa (hSwa := hSwa)
    ∧ quiescent_SwaIdeal (hSwaIdeal := hSwaIdeal)
    ∧ quiescent_SwaIdeal_pre_swa_finite (hSwaIdeal := hSwaIdeal) (hPre_swa_finite := hPre_swa_finite)
    ∧ quiescent_SwaRefIdeal (hSwaRefIdeal := hSwaRefIdeal)
    ∧ quiescent_SwaRefIdeal_pre_swa_finite (hSwaRefIdeal := hSwaRefIdeal) (hPre_swa_finite := hPre_swa_finite)
    ∧ quiescent_Ffn (hFfn := hFfn)
    ∧ quiescent_FfnIdeal (hFfnIdeal := hFfnIdeal)
    ∧ quiescent_FfnRefIdeal (hFfnRefIdeal := hFfnRefIdeal)
    ∧ quiescent_FfnNext (hFfnNext := hFfnNext)
    ∧ quiescent_FfnNextIdeal (hFfnNextIdeal := hFfnNextIdeal)
    ∧ quiescent_FfnNextRefIdeal (hFfnNextRefIdeal := hFfnNextRefIdeal)
    ∧ quiescent_Mix (hMix := hMix)
    ∧ quiescent_MixIdeal (hMixIdeal := hMixIdeal)
    ∧ quiescent_MixRefIdeal (hMixRefIdeal := hMixRefIdeal)
    ∧ quiescent_SbProj (hSbProj := hSbProj)
    ∧ quiescent_SbProjIdeal (hSbProjIdeal := hSbProjIdeal)
    ∧ quiescent_SbProjRefIdeal (hSbProjRefIdeal := hSbProjRefIdeal)
    ∧ quiescent_SwaProj (hSwaProj := hSwaProj)
    ∧ quiescent_SwaProjIdeal (hSwaProjIdeal := hSwaProjIdeal)
    ∧ quiescent_SwaProjRefIdeal (hSwaProjRefIdeal := hSwaProjRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ preserves_Swa_SwaIdeal
    ∧ algebraic_SwaIdeal_SwaRefIdeal_pre_swa_finite (hSwaIdeal := hSwaIdeal) (hSwaRefIdeal := hSwaRefIdeal) (hPre_swa_finite := hPre_swa_finite)
    ∧ preserves_Ffn_FfnIdeal
    ∧ algebraic_FfnIdeal_FfnRefIdeal (hFfnIdeal := hFfnIdeal) (hFfnRefIdeal := hFfnRefIdeal)
    ∧ preserves_FfnNext_FfnNextIdeal
    ∧ algebraic_FfnNextIdeal_FfnNextRefIdeal (hFfnNextIdeal := hFfnNextIdeal) (hFfnNextRefIdeal := hFfnNextRefIdeal)
    ∧ preserves_Mix_MixIdeal
    ∧ algebraic_MixIdeal_MixRefIdeal (hMixIdeal := hMixIdeal) (hMixRefIdeal := hMixRefIdeal)
    ∧ preserves_SbProj_SbProjIdeal
    ∧ algebraic_SbProjIdeal_SbProjRefIdeal (hSbProjIdeal := hSbProjIdeal) (hSbProjRefIdeal := hSbProjRefIdeal)
    ∧ preserves_SwaProj_SwaProjIdeal
    ∧ algebraic_SwaProjIdeal_SwaProjRefIdeal (hSwaProjIdeal := hSwaProjIdeal) (hSwaProjRefIdeal := hSwaProjRefIdeal)
    ∧ preserves_MemKv_MemKvIdeal
    ∧ algebraic_MemKvIdeal_MemKvRefIdeal (hMemKvIdeal := hMemKvIdeal) (hMemKvRefIdeal := hMemKvRefIdeal)
-- ==== Pre_swa_finite.lean ====
abbrev S4x4096x2432 : Shape := ⟨3, ![4, 4096, 2432]⟩
abbrev S4x4096 : Shape := ⟨2, ![4, 4096]⟩
abbrev S64 : Shape := ⟨1, ![64]⟩
abbrev S24 : Shape := ⟨1, ![24]⟩
abbrev S4x4096x1728 : Shape := ⟨3, ![4, 4096, 1728]⟩
abbrev S_ : Shape := ⟨0, ![]⟩

class Facts : Prop where
  slices_S4x4096x2432_S4x4096x1728_0_0_0 : S4x4096x2432.Slices ![0, 0, 0] S4x4096x1728
  bitsLt_bf16_f32 : FTy.bits .bf16 < FTy.bits .f32
  bcast_S_S4x4096x1728 : S_.BroadcastsInDim S4x4096x1728 (![] : Fin 0 → Fin S4x4096x1728.rank)
  reducesTo_S4x4096x1728_S_d0_1_2 : S4x4096x1728.ReducesTo [0, 1, 2] S_
  h_S_ : 0 < S_.numel
  bcast_S_S64 : S_.BroadcastsInDim S64 (![] : Fin 0 → Fin S64.rank)
  reducesTo_S64_S_d0 : S64.ReducesTo [0] S_
  bcast_S_S24 : S_.BroadcastsInDim S24 (![] : Fin 0 → Fin S24.rank)
  reducesTo_S24_S_d0 : S24.ReducesTo [0] S_

variable [Facts]

def fn_part1 {F : FTy → Type} [FloatOps F] (main_v15 : IVec S_ 1) (main_v16 : FVec F S24 .f32) (main_cst_4 : FVec F S_ .f32) : IVec S_ 1 :=
  let main_v17 : FVec F S24 .f32 := broadcastInDim S24 ![] bcast_S_S24 main_cst_4
  let main_v18 : IVec S24 1 := cmpf .olt main_v16 main_v17
  let main_c_5 : IVec S_ 1 := constantI S_ 1 1#1
  let main_v19 : IVec S_ 1 := (fun x v => Host.reduce IntOp.andi x v reducesTo_S24_S_d0 h_S_) main_v18 main_c_5
  let main_v20 : IVec S_ 1 := andi main_v15 main_v19
  main_v20

def fn {F : FTy → Type} [FloatOps F] (main_arg0 : FVec F S4x4096x2432 .bf16) (main_arg1 : IVec S4x4096 32) (main_arg2 : FVec F S64 .f32) (main_arg3 : FVec F S64 .f32) (main_arg4 : FVec F S24 .f32) : IVec S_ 1 :=
  let main_v0 : FVec F S4x4096x1728 .bf16 := (extractStridedSlice S4x4096x1728 ![0, 0, 0] · slices_S4x4096x2432_S4x4096x1728_0_0_0) main_arg0
  let main_v1 : FVec F S4x4096x1728 .f32 := (extf .f32 · bitsLt_bf16_f32) main_v0
  let main_v2 : FVec F S4x4096x1728 .f32 := Host.absf main_v1
  let main_cst : FVec F S_ .f32 := constant S_ .f32 0x7F800000#32
  let main_v3 : FVec F S4x4096x1728 .f32 := broadcastInDim S4x4096x1728 ![] bcast_S_S4x4096x1728 main_cst
  let main_v4 : IVec S4x4096x1728 1 := cmpf .olt main_v2 main_v3
  let main_c : IVec S_ 1 := constantI S_ 1 1#1
  let main_v5 : IVec S_ 1 := (fun x v => Host.reduce IntOp.andi x v reducesTo_S4x4096x1728_S_d0_1_2 h_S_) main_v4 main_c
  let main_v6 : FVec F S64 .f32 := Host.absf main_arg2
  let main_cst_0 : FVec F S_ .f32 := constant S_ .f32 0x7F800000#32
  let main_v7 : FVec F S64 .f32 := broadcastInDim S64 ![] bcast_S_S64 main_cst_0
  let main_v8 : IVec S64 1 := cmpf .olt main_v6 main_v7
  let main_c_1 : IVec S_ 1 := constantI S_ 1 1#1
  let main_v9 : IVec S_ 1 := (fun x v => Host.reduce IntOp.andi x v reducesTo_S64_S_d0 h_S_) main_v8 main_c_1
  let main_v10 : IVec S_ 1 := andi main_v5 main_v9
  let main_v11 : FVec F S64 .f32 := Host.absf main_arg3
  let main_cst_2 : FVec F S_ .f32 := constant S_ .f32 0x7F800000#32
  let main_v12 : FVec F S64 .f32 := broadcastInDim S64 ![] bcast_S_S64 main_cst_2
  let main_v13 : IVec S64 1 := cmpf .olt main_v11 main_v12
  let main_c_3 : IVec S_ 1 := constantI S_ 1 1#1
  let main_v14 : IVec S_ 1 := (fun x v => Host.reduce IntOp.andi x v reducesTo_S64_S_d0 h_S_) main_v13 main_c_3
  let main_v15 : IVec S_ 1 := andi main_v10 main_v14
  let main_v16 : FVec F S24 .f32 := Host.absf main_arg4
  let main_cst_4 : FVec F S_ .f32 := constant S_ .f32 0x7F800000#32
  fn_part1 (F := F) main_v15 main_v16 main_cst_4
-- ==== Swa.lean ====
abbrev S4x4096x2432 : Shape := ⟨3, ![4, 4096, 2432]⟩
abbrev S4x4096 : Shape := ⟨2, ![4, 4096]⟩
abbrev S64 : Shape := ⟨1, ![64]⟩
abbrev S24 : Shape := ⟨1, ![24]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S4x4096x1 : Shape := ⟨3, ![4, 4096, 1]⟩
abbrev S1x64 : Shape := ⟨2, ![1, 64]⟩
abbrev S2x64 : Shape := ⟨2, ![2, 64]⟩
abbrev S4x4096x1536 : Shape := ⟨3, ![4, 4096, 1536]⟩
abbrev S1x128x1536 : Shape := ⟨3, ![1, 128, 1536]⟩
abbrev S1x128x384 : Shape := ⟨3, ![1, 128, 384]⟩
abbrev S1x128x1 : Shape := ⟨3, ![1, 128, 1]⟩
abbrev S128x128 : Shape := ⟨2, ![128, 128]⟩
abbrev S128x1 : Shape := ⟨2, ![128, 1]⟩
abbrev S256x128 : Shape := ⟨2, ![256, 128]⟩
abbrev S128x1536 : Shape := ⟨2, ![128, 1536]⟩
abbrev S1536x128 : Shape := ⟨2, ![1536, 128]⟩
abbrev S128x384 : Shape := ⟨2, ![128, 384]⟩
abbrev S256x384 : Shape := ⟨2, ![256, 384]⟩
abbrev S128x256 : Shape := ⟨2, ![128, 256]⟩
abbrev S512x128 : Shape := ⟨2, ![512, 128]⟩
abbrev S512x512 : Shape := ⟨2, ![512, 512]⟩
abbrev S1 : Shape := ⟨1, ![1]⟩
abbrev S128x512 : Shape := ⟨2, ![128, 512]⟩
abbrev S1x128x128 : Shape := ⟨3, ![1, 128, 128]⟩

abbrev nBuf : Space → Nat
  | .hbm => 27
  | .vmem => 17
  | .smem => 1
  | _ => 0

abbrev bufTy : (tb : Table) → Fin (tcTables nBuf tb) → BufTy
  | .hbm, ⟨0, _⟩ => ⟨S4x4096x2432, .bf16⟩
  | .hbm, ⟨1, _⟩ => ⟨S4x4096, .i32⟩
  | .hbm, ⟨2, _⟩ => ⟨S64, .f32⟩
  | .hbm, ⟨3, _⟩ => ⟨S64, .f32⟩
  | .hbm, ⟨4, _⟩ => ⟨S24, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S1x32, .f32⟩
  | .hbm, ⟨14, _⟩ => ⟨S4x32, .f32⟩
  | .hbm, ⟨15, _⟩ => ⟨S128, .f32⟩
  | .hbm, ⟨16, _⟩ => ⟨S1x128, .f32⟩
  | .hbm, ⟨17, _⟩ => ⟨S4x4096x1, .i32⟩
  | .hbm, ⟨18, _⟩ => ⟨S1x64, .f32⟩
  | .hbm, ⟨19, _⟩ => ⟨S2x64, .f32⟩
  | .hbm, ⟨20, _⟩ => ⟨S128, .f32⟩
  | .hbm, ⟨21, _⟩ => ⟨S1x128, .f32⟩
  | .hbm, ⟨22, _⟩ => ⟨S1x64, .f32⟩
  | .hbm, ⟨23, _⟩ => ⟨S2x64, .f32⟩
  | .hbm, ⟨24, _⟩ => ⟨S128, .f32⟩
  | .hbm, ⟨25, _⟩ => ⟨S1x128, .f32⟩
  | .hbm, ⟨26, _⟩ => ⟨S4x4096x1536, .bf16⟩
  | .local _ .vmem, ⟨0, _⟩ => ⟨S1x128x1536, .bf16⟩
  | .local _ .vmem, ⟨1, _⟩ => ⟨S1x128x1536, .bf16⟩
  | .local _ .vmem, ⟨2, _⟩ => ⟨S1x128x384, .bf16⟩
  | .local _ .vmem, ⟨3, _⟩ => ⟨S1x128x384, .bf16⟩
  | .local _ .vmem, ⟨4, _⟩ => ⟨S1x128x384, .bf16⟩
  | .local _ .vmem, ⟨5, _⟩ => ⟨S1x128x384, .bf16⟩
  | .local _ .vmem, ⟨6, _⟩ => ⟨S1x128x1, .i32⟩
  | .local _ .vmem, ⟨7, _⟩ => ⟨S1x128x1, .i32⟩
  | .local _ .vmem, ⟨8, _⟩ => ⟨S1x128x1, .i32⟩
  | .local _ .vmem, ⟨9, _⟩ => ⟨S1x128x1, .i32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128x1536, .bf16⟩
  | .local _ .vmem, ⟨14, _⟩ => ⟨S1x128x1536, .bf16⟩
  | .local _ .vmem, ⟨15, _⟩ => ⟨S128x128, .f32⟩
  | .local _ .vmem, ⟨16, _⟩ => ⟨S128x128, .f32⟩
  | .local _ .smem, ⟨0, _⟩ => ⟨S24, .f32⟩
  | _, _ => ⟨S4x4096x2432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![4, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c4_i32 : BitVec 32 := 4#32
  let c0_i32_0 : BitVec 32 := 0#32
  ![arg0.toNat, v1.toNat, c4_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x128x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== SwaIdeal.lean ====
variable {F : FTy → Type} [FloatOps F] [Named F]
def κ : String → Option EReal := fun
  | "log2e" => some (((Real.log 2)⁻¹ : ℝ) : EReal)
  | "log2e_8" => some (((8 * (Real.log 2))⁻¹ : ℝ) : EReal)
  | _ => none
-- ==== SwaRefIdeal.lean ====
abbrev S4x4096x2432 : Shape := ⟨3, ![4, 4096, 2432]⟩
abbrev S4x4096 : Shape := ⟨2, ![4, 4096]⟩
abbrev S64 : Shape := ⟨1, ![64]⟩
abbrev S24 : Shape := ⟨1, ![24]⟩
abbrev S4x4096x1536 : Shape := ⟨3, ![4, 4096, 1536]⟩
abbrev S4x4096x24x64 : Shape := ⟨4, ![4, 4096, 24, 64]⟩
abbrev S4x4096x192 : Shape := ⟨3, ![4, 4096, 192]⟩
abbrev S4x4096x3x64 : Shape := ⟨4, ![4, 4096, 3, 64]⟩
abbrev S_ : Shape := ⟨0, ![]⟩
abbrev S4x4096x24 : Shape := ⟨3, ![4, 4096, 24]⟩
abbrev S4x4096x24x1 : Shape := ⟨4, ![4, 4096, 24, 1]⟩
abbrev S1x1x1x64 : Shape := ⟨4, ![1, 1, 1, 64]⟩
abbrev S32 : Shape := ⟨1, ![32]⟩
abbrev S4x4096x1 : Shape := ⟨3, ![4, 4096, 1]⟩
abbrev S1x1x32 : Shape := ⟨3, ![1, 1, 32]⟩
abbrev S4x4096x32 : Shape := ⟨3, ![4, 4096, 32]⟩
abbrev S4x4096x1x32 : Shape := ⟨4, ![4, 4096, 1, 32]⟩
abbrev S4x4096x24x32 : Shape := ⟨4, ![4, 4096, 24, 32]⟩
abbrev S4x4096x3 : Shape := ⟨3, ![4, 4096, 3]⟩
abbrev S4x4096x3x1 : Shape := ⟨4, ![4, 4096, 3, 1]⟩
abbrev S4x4096x3x32 : Shape := ⟨4, ![4, 4096, 3, 32]⟩
abbrev S4x32x128x3x8x64 : Shape := ⟨6, ![4, 32, 128, 3, 8, 64]⟩
abbrev S4x32x128x3x64 : Shape := ⟨5, ![4, 32, 128, 3, 64]⟩
abbrev S4x33x128x3x64 : Shape := ⟨5, ![4, 33, 128, 3, 64]⟩
abbrev S4x32x256x3x64 : Shape := ⟨5, ![4, 32, 256, 3, 64]⟩
abbrev S4x32x3x256x128x8 : Shape := ⟨6, ![4, 32, 3, 256, 128, 8]⟩
abbrev S4x32x3x8x128x256 : Shape := ⟨6, ![4, 32, 3, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S1x1x3x8x1x1 : Shape := ⟨6, ![1, 1, 3, 8, 1, 1]⟩
abbrev S4x32x3x8x128 : Shape := ⟨5, ![4, 32, 3, 8, 128]⟩
abbrev S4x32x3x8x128x1 : Shape := ⟨6, ![4, 32, 3, 8, 128, 1]⟩
abbrev S4x32x3x64x8x128 : Shape := ⟨6, ![4, 32, 3, 64, 8, 128]⟩

abbrev nBuf : Space → Nat
  | .hbm => 188
  | .vmem => 0
  | .smem => 0
  | _ => 0

abbrev hbmTy0_0 (i : Nat) : BufTy := match i % 128 with
  | 0 => ⟨S4x4096x2432, .bf16⟩
  | 1 => ⟨S4x4096, .i32⟩
  | 2 => ⟨S64, .f32⟩
  | 3 => ⟨S64, .f32⟩
  | 4 => ⟨S24, .f32⟩
  | 5 => ⟨S4x4096x2432, .f32⟩
  | 6 => ⟨S4x4096x1536, .f32⟩
  | 7 => ⟨S4x4096x24x64, .f32⟩
  | 8 => ⟨S4x4096x192, .f32⟩
  | 9 => ⟨S4x4096x3x64, .f32⟩
  | 10 => ⟨S4x4096x192, .f32⟩
  | 11 => ⟨S4x4096x3x64, .f32⟩
  | 12 => ⟨S4x4096x24x64, .f32⟩
  | 13 => ⟨S_, .f32⟩
  | 14 => ⟨S4x4096x24, .f32⟩
  | 15 => ⟨S4x4096x24x1, .f32⟩
  | 16 => ⟨S_, .f32⟩
  | 17 => ⟨S4x4096x24x1, .f32⟩
  | 18 => ⟨S4x4096x24x1, .f32⟩
  | 19 => ⟨S_, .f32⟩
  | 20 => ⟨S4x4096x24x1, .f32⟩
  | 21 => ⟨S4x4096x24x1, .f32⟩
  | 22 => ⟨S4x4096x24x1, .f32⟩
  | 23 => ⟨S4x4096x24x64, .f32⟩
  | 24 => ⟨S4x4096x24x64, .f32⟩
  | 25 => ⟨S1x1x1x64, .f32⟩
  | 26 => ⟨S4x4096x24x64, .f32⟩
  | 27 => ⟨S4x4096x24x64, .f32⟩
  | 28 => ⟨S32, .f32⟩
  | 29 => ⟨S32, .f32⟩
  | 30 => ⟨S_, .f32⟩
  | 31 => ⟨S32, .f32⟩
  | 32 => ⟨S32, .f32⟩
  | 33 => ⟨S_, .f32⟩
  | 34 => ⟨S32, .f32⟩
  | 35 => ⟨S32, .f32⟩
  | 36 => ⟨S4x4096, .f32⟩
  | 37 => ⟨S4x4096x1, .f32⟩
  | 38 => ⟨S1x1x32, .f32⟩
  | 39 => ⟨S4x4096x32, .f32⟩
  | 40 => ⟨S4x4096x32, .f32⟩
  | 41 => ⟨S4x4096x32, .f32⟩
  | 42 => ⟨S4x4096x32, .f32⟩
  | 43 => ⟨S4x4096x1x32, .f32⟩
  | 44 => ⟨S4x4096x32, .f32⟩
  | 45 => ⟨S4x4096x1x32, .f32⟩
  | 46 => ⟨S4x4096x24x32, .f32⟩
  | 47 => ⟨S4x4096x24x32, .f32⟩
  | 48 => ⟨S4x4096x24x32, .f32⟩
  | 49 => ⟨S4x4096x24x32, .f32⟩
  | 50 => ⟨S4x4096x24x32, .f32⟩
  | 51 => ⟨S4x4096x24x32, .f32⟩
  | 52 => ⟨S4x4096x24x32, .f32⟩
  | 53 => ⟨S4x4096x24x32, .f32⟩
  | 54 => ⟨S4x4096x24x32, .f32⟩
  | 55 => ⟨S4x4096x24x32, .f32⟩
  | 56 => ⟨S4x4096x24x32, .f32⟩
  | 57 => ⟨S4x4096x24x32, .f32⟩
  | 58 => ⟨S4x4096x24x64, .f32⟩
  | 59 => ⟨S4x4096x3x64, .f32⟩
  | 60 => ⟨S_, .f32⟩
  | 61 => ⟨S4x4096x3, .f32⟩
  | 62 => ⟨S4x4096x3x1, .f32⟩
  | 63 => ⟨S_, .f32⟩
  | 64 => ⟨S4x4096x3x1, .f32⟩
  | 65 => ⟨S4x4096x3x1, .f32⟩
  | 66 => ⟨S_, .f32⟩
  | 67 => ⟨S4x4096x3x1, .f32⟩
  | 68 => ⟨S4x4096x3x1, .f32⟩
  | 69 => ⟨S4x4096x3x1, .f32⟩
  | 70 => ⟨S4x4096x3x64, .f32⟩
  | 71 => ⟨S4x4096x3x64, .f32⟩
  | 72 => ⟨S1x1x1x64, .f32⟩
  | 73 => ⟨S4x4096x3x64, .f32⟩
  | 74 => ⟨S4x4096x3x64, .f32⟩
  | 75 => ⟨S32, .f32⟩
  | 76 => ⟨S32, .f32⟩
  | 77 => ⟨S_, .f32⟩
  | 78 => ⟨S32, .f32⟩
  | 79 => ⟨S32, .f32⟩
  | 80 => ⟨S_, .f32⟩
  | 81 => ⟨S32, .f32⟩
  | 82 => ⟨S32, .f32⟩
  | 83 => ⟨S4x4096, .f32⟩
  | 84 => ⟨S4x4096x1, .f32⟩
  | 85 => ⟨S1x1x32, .f32⟩
  | 86 => ⟨S4x4096x32, .f32⟩
  | 87 => ⟨S4x4096x32, .f32⟩
  | 88 => ⟨S4x4096x32, .f32⟩
  | 89 => ⟨S4x4096x32, .f32⟩
  | 90 => ⟨S4x4096x1x32, .f32⟩
  | 91 => ⟨S4x4096x32, .f32⟩
  | 92 => ⟨S4x4096x1x32, .f32⟩
  | 93 => ⟨S4x4096x3x32, .f32⟩
  | 94 => ⟨S4x4096x3x32, .f32⟩
  | 95 => ⟨S4x4096x3x32, .f32⟩
  | 96 => ⟨S4x4096x3x32, .f32⟩
  | 97 => ⟨S4x4096x3x32, .f32⟩
  | 98 => ⟨S4x4096x3x32, .f32⟩
  | 99 => ⟨S4x4096x3x32, .f32⟩
  | 100 => ⟨S4x4096x3x32, .f32⟩
  | 101 => ⟨S4x4096x3x32, .f32⟩
  | 102 => ⟨S4x4096x3x32, .f32⟩
  | 103 => ⟨S4x4096x3x32, .f32⟩
  | 104 => ⟨S4x4096x3x32, .f32⟩
  | 105 => ⟨S4x4096x3x64, .f32⟩
  | 106 => ⟨S4x32x128x3x8x64, .f32⟩
  | 107 => ⟨S4x32x128x3x64, .f32⟩
  | 108 => ⟨S_, .i32⟩
  | 109 => ⟨S_, .f32⟩
  | 110 => ⟨S4x33x128x3x64, .f32⟩
  | 111 => ⟨S4x32x128x3x64, .f32⟩
  | 112 => ⟨S4x32x256x3x64, .f32⟩
  | 113 => ⟨S4x32x128x3x64, .f32⟩
  | 114 => ⟨S_, .i32⟩
  | 115 => ⟨S_, .f32⟩
  | 116 => ⟨S4x33x128x3x64, .f32⟩
  | 117 => ⟨S4x32x128x3x64, .f32⟩
  | 118 => ⟨S4x32x256x3x64, .f32⟩
  | 119 => ⟨S4x32x3x256x128x8, .f32⟩
  | 120 => ⟨S4x32x3x8x128x256, .f32⟩
  | 121 => ⟨S_, .f32⟩
  | 122 => ⟨S4x32x3x8x128x256, .f32⟩
  | 123 => ⟨S4x32x3x8x128x256, .f32⟩
  | 124 => ⟨S128, .i32⟩
  | 125 => ⟨S128x1, .i32⟩
  | 126 => ⟨S256, .i32⟩
  | 127 => ⟨S1x256, .i32⟩
  | _ => ⟨S4x4096x2432, .bf16⟩

abbrev hbmTy0_1 (i : Nat) : BufTy := match i % 128 with
  | 0 => ⟨S_, .i32⟩
  | 1 => ⟨S128x1, .i32⟩
  | 2 => ⟨S128x1, .i32⟩
  | 3 => ⟨S128x256, .i32⟩
  | 4 => ⟨S128x256, .i32⟩
  | 5 => ⟨S128x256, .i32⟩
  | 6 => ⟨S32, .i32⟩
  | 7 => ⟨S32x1x1, .i32⟩
  | 8 => ⟨S_, .i32⟩
  | 9 => ⟨S32x1x1, .i32⟩
  | 10 => ⟨S32x1x1, .i32⟩
  | 11 => ⟨S_, .i32⟩
  | 12 => ⟨S32x1x1, .i32⟩
  | 13 => ⟨S32x1x1, .i32⟩
  | 14 => ⟨S1x1x256, .i32⟩
  | 15 => ⟨S32x1x256, .i32⟩
  | 16 => ⟨S32x1x256, .i32⟩
  | 17 => ⟨S32x1x256, .i32⟩
  | 18 => ⟨S_, .i32⟩
  | 19 => ⟨S128x256, .i32⟩
  | 20 => ⟨S128x256, .i1⟩
  | 21 => ⟨S_, .i32⟩
  | 22 => ⟨S128x256, .i32⟩
  | 23 => ⟨S128x256, .i1⟩
  | 24 => ⟨S128x256, .i1⟩
  | 25 => ⟨S_, .i32⟩
  | 26 => ⟨S32x1x256, .i32⟩
  | 27 => ⟨S32x1x256, .i1⟩
  | 28 => ⟨S1x128x256, .i1⟩
  | 29 => ⟨S32x128x256, .i1⟩
  | 30 => ⟨S32x128x256, .i1⟩
  | 31 => ⟨S32x128x256, .i1⟩
  | 32 => ⟨S1x32x1x1x128x256, .i1⟩
  | 33 => ⟨S_, .f32⟩
  | 34 => ⟨S_, .f32⟩
  | 35 => ⟨S4x32x3x8x128x256, .i1⟩
  | 36 => ⟨S4x32x3x8x128x256, .f32⟩
  | 37 => ⟨S4x32x3x8x128x256, .f32⟩
  | 38 => ⟨S1x1x3x8x1x1, .f32⟩
  | 39 => ⟨S_, .f32⟩
  | 40 => ⟨S4x32x3x8x128, .f32⟩
  | 41 => ⟨S4x32x3x8x128x1, .f32⟩
  | 42 => ⟨S4x32x3x8x128x1, .f32⟩
  | 43 => ⟨S4x32x3x8x128x1, .f32⟩
  | 44 => ⟨S4x32x3x8x128x256, .f32⟩
  | 45 => ⟨S4x32x3x8x128x256, .f32⟩
  | 46 => ⟨S4x32x3x8x128x256, .f32⟩
  | 47 => ⟨S_, .f32⟩
  | 48 => ⟨S4x32x3x8x128, .f32⟩
  | 49 => ⟨S4x32x3x8x128x1, .f32⟩
  | 50 => ⟨S4x32x3x8x128x1, .f32⟩
  | 51 => ⟨S4x32x3x8x128x1, .f32⟩
  | 52 => ⟨S4x32x3x8x128x1, .f32⟩
  | 53 => ⟨S4x32x3x8x128x1, .f32⟩
  | 54 => ⟨S4x32x3x8x128x256, .f32⟩
  | 55 => ⟨S4x32x3x8x128x256, .f32⟩
  | 56 => ⟨S4x32x3x64x8x128, .f32⟩
  | 57 => ⟨S4x32x128x3x8x64, .f32⟩
  | 58 => ⟨S4x4096x1536, .f32⟩
  | 59 => ⟨S4x4096x1536, .bf16⟩
  | _ => ⟨S4x4096x2432, .bf16⟩

abbrev hbmTy (i : Nat) : BufTy := match i / 128 with
  | 0 => hbmTy0_0 i
  | 1 => hbmTy0_1 i
  | _ => ⟨S4x4096x2432, .bf16⟩

abbrev bufTy : (tb : Table) → Fin (tcTables nBuf tb) → BufTy
  | .hbm, ⟨i, _⟩ => hbmTy i
  | _, _ => ⟨S4x4096x2432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_4 : Ref sig .tc := ⟨.hbm, 60, rfl⟩
abbrev main_v50 : Ref sig .tc := ⟨.hbm, 61, rfl⟩
abbrev main_v51 : Ref sig .tc := ⟨.hbm, 62, rfl⟩
abbrev main_cst_5 : Ref sig .tc := ⟨.hbm, 63, rfl⟩
abbrev main_v52 : Ref sig .tc := ⟨.hbm, 64, rfl⟩
abbrev main_v53 : Ref sig .tc := ⟨.hbm, 65, rfl⟩
abbrev main_cst_6 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_cst_7 : Ref sig .tc := ⟨.hbm, 77, rfl⟩
abbrev main_v64 : Ref sig .tc := ⟨.hbm, 78, rfl⟩
abbrev main_v65 : Ref sig .tc := ⟨.hbm, 79, rfl⟩
abbrev main_cst_8 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_c : Ref sig .tc := ⟨.hbm, 108, rfl⟩
abbrev main_call0_v0 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_c_9 : Ref sig .tc := ⟨.hbm, 114, rfl⟩
abbrev main_call1_v0 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_cst_10 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_c_11 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_c_12 : Ref sig .tc := ⟨.hbm, 136, rfl⟩
abbrev main_v115 : Ref sig .tc := ⟨.hbm, 137, rfl⟩
abbrev main_v116 : Ref sig .tc := ⟨.hbm, 138, rfl⟩
abbrev main_c_13 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_c_14 : Ref sig .tc := ⟨.hbm, 146, rfl⟩
abbrev main_v123 : Ref sig .tc := ⟨.hbm, 147, rfl⟩
abbrev main_v124 : Ref sig .tc := ⟨.hbm, 148, rfl⟩
abbrev main_c_15 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_c_16 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_cst_17 : Ref sig .tc := ⟨.hbm, 161, rfl⟩
abbrev main_call2_v0 : Ref sig .tc := ⟨.hbm, 162, rfl⟩
abbrev main_call2_v1 : Ref sig .tc := ⟨.hbm, 163, rfl⟩
abbrev main_call2_v2 : Ref sig .tc := ⟨.hbm, 164, rfl⟩
abbrev main_v135 : Ref sig .tc := ⟨.hbm, 165, rfl⟩
abbrev main_v136 : Ref sig .tc := ⟨.hbm, 166, rfl⟩
abbrev main_cst_18 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_cst_19 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩

abbrev nD : Nat := 1
abbrev τ : Topo := Topo.v7x

variable {F : FTy → Type} [FloatOps F]
-- ==== Ffn.lean ====
abbrev S16384x2048 : Shape := ⟨2, ![16384, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 10
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048x5632, .bf16⟩
  | .hbm, ⟨6, _⟩ => ⟨S2048x5632, .bf16⟩
  | .hbm, ⟨7, _⟩ => ⟨S5632x2048, .bf16⟩
  | .hbm, ⟨8, _⟩ => ⟨S1x2048, .f32⟩
  | .hbm, ⟨9, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S16384x2048 : Shape := ⟨2, ![16384, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5632 : Shape := ⟨2, ![16384, 5632]⟩

abbrev nBuf : Space → Nat
  | .hbm => 38
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x5632, .f32⟩
  | .hbm, ⟨22, _⟩ => ⟨S16384x5632, .f32⟩
  | .hbm, ⟨23, _⟩ => ⟨S16384x5632, .f32⟩
  | .hbm, ⟨24, _⟩ => ⟨S_, .f32⟩
  | .hbm, ⟨25, _⟩ => ⟨S16384x5632, .f32⟩
  | .hbm, ⟨26, _⟩ => ⟨S16384x5632, .f32⟩
  | .hbm, ⟨27, _⟩ => ⟨S_, .f32⟩
  | .hbm, ⟨28, _⟩ => ⟨S16384x5632, .f32⟩
  | .hbm, ⟨29, _⟩ => ⟨S16384x5632, .f32⟩
  | .hbm, ⟨30, _⟩ => ⟨S16384x5632, .f32⟩
  | .hbm, ⟨31, _⟩ => ⟨S16384x5632, .f32⟩
  | .hbm, ⟨32, _⟩ => ⟨S16384x5632, .f32⟩
  | .hbm, ⟨33, _⟩ => ⟨S16384x2048, .f32⟩
  | .hbm, ⟨34, _⟩ => ⟨S_, .f32⟩
  | .hbm, ⟨35, _⟩ => ⟨S16384x2048, .f32⟩
  | .hbm, ⟨36, _⟩ => ⟨S16384x2048, .f32⟩
  | .hbm, ⟨37, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== FfnNext.lean ====
abbrev S16384x2048 : Shape := ⟨2, ![16384, 2048]⟩
abbrev S2048 : Shape := ⟨1, ![2048]⟩
abbrev S2048x5632 : Shape := ⟨2, ![2048, 5632]⟩
abbrev S5632x2048 : Shape := ⟨2, ![5632, 2048]⟩
abbrev S2x2x2048x5632 : Shape := ⟨4, ![2, 2, 2048, 5632]⟩
abbrev S2x2x5632x2048 : Shape := ⟨4, ![2, 2, 5632, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S1x1x128x512 : Shape := ⟨4, ![1, 1, 128, 512]⟩
abbrev S1x1x512x128 : Shape := ⟨4, ![1, 1, 512, 128]⟩
abbrev S128x512 : Shape := ⟨2, ![128, 512]⟩
abbrev S512x128 : Shape := ⟨2, ![512, 128]⟩
abbrev S1024 : Shape := ⟨1, ![1024]⟩
abbrev S1024x1 : Shape := ⟨2, ![1024, 1]⟩
abbrev S1024x512 : Shape := ⟨2, ![1024, 512]⟩

abbrev nBuf : Space → Nat
  | .hbm => 16
  | .vmem => 24
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2x2x2048x5632, .f32⟩
  | .hbm, ⟨6, _⟩ => ⟨S2x2x2048x5632, .f32⟩
  | .hbm, ⟨7, _⟩ => ⟨S2x2x5632x2048, .f32⟩
  | .hbm, ⟨8, _⟩ => ⟨S2048x5632, .bf16⟩
  | .hbm, ⟨9, _⟩ => ⟨S2048x5632, .bf16⟩
  | .hbm, ⟨10, _⟩ => ⟨S5632x2048, .bf16⟩
  | .hbm, ⟨11, _⟩ => ⟨S1x2048, .f32⟩
  | .hbm, ⟨12, _⟩ => ⟨S16384x2048, .f32⟩
  | .hbm, ⟨13, _⟩ => ⟨S2048x5632, .bf16⟩
  | .hbm, ⟨14, _⟩ => ⟨S2048x5632, .bf16⟩
  | .hbm, ⟨15, _⟩ => ⟨S5632x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x1x128x512, .f32⟩
  | .local _ .vmem, ⟨10, _⟩ => ⟨S1x1x128x512, .f32⟩
  | .local _ .vmem, ⟨11, _⟩ => ⟨S1x1x128x512, .f32⟩
  | .local _ .vmem, ⟨12, _⟩ => ⟨S1x1x128x512, .f32⟩
  | .local _ .vmem, ⟨13, _⟩ => ⟨S1x1x512x128, .f32⟩
  | .local _ .vmem, ⟨14, _⟩ => ⟨S1x1x512x128, .f32⟩
  | .local _ .vmem, ⟨15, _⟩ => ⟨S1024x2048, .f32⟩
  | .local _ .vmem, ⟨16, _⟩ => ⟨S1024x2048, .f32⟩
  | .local _ .vmem, ⟨17, _⟩ => ⟨S128x512, .bf16⟩
  | .local _ .vmem, ⟨18, _⟩ => ⟨S128x512, .bf16⟩
  | .local _ .vmem, ⟨19, _⟩ => ⟨S128x512, .bf16⟩
  | .local _ .vmem, ⟨20, _⟩ => ⟨S128x512, .bf16⟩
  | .local _ .vmem, ⟨21, _⟩ => ⟨S512x128, .bf16⟩
  | .local _ .vmem, ⟨22, _⟩ => ⟨S512x128, .bf16⟩
  | .local _ .vmem, ⟨23, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  ![c1_i32.toNat, c1_i32_0.toNat, arg0.toNat, arg1.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  ![c1_i32.toNat, c1_i32_0.toNat, arg0.toNat, arg1.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  ![c1_i32.toNat, c1_i32_0.toNat, arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== FfnNextRefIdeal.lean ====
abbrev S16384x2048 : Shape := ⟨2, ![16384, 2048]⟩
abbrev S2048 : Shape := ⟨1, ![2048]⟩
abbrev S2048x5632 : Shape := ⟨2, ![2048, 5632]⟩
abbrev S5632x2048 : Shape := ⟨2, ![5632, 2048]⟩
abbrev S2x2x2048x5632 : Shape := ⟨4, ![2, 2, 2048, 5632]⟩
abbrev S2x2x5632x2048 : Shape := ⟨4, ![2, 2, 5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5632 : Shape := ⟨2, ![16384, 5632]⟩
abbrev S1x1x2048x5632 : Shape := ⟨4, ![1, 1, 2048, 5632]⟩
abbrev S1x1x5632x2048 : Shape := ⟨4, ![1, 1, 5632, 2048]⟩

abbrev nBuf : Space → Nat
  | .hbm => 50
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2x2x2048x5632, .f32⟩
  | .hbm, ⟨6, _⟩ => ⟨S2x2x2048x5632, .f32⟩
  | .hbm, ⟨7, _⟩ => ⟨S2x2x5632x2048, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S16384x5632, .f32⟩
  | .hbm, ⟨25, _⟩ => ⟨S16384x5632, .f32⟩
  | .hbm, ⟨26, _⟩ => ⟨S16384x5632, .f32⟩
  | .hbm, ⟨27, _⟩ => ⟨S_, .f32⟩
  | .hbm, ⟨28, _⟩ => ⟨S16384x5632, .f32⟩
  | .hbm, ⟨29, _⟩ => ⟨S16384x5632, .f32⟩
  | .hbm, ⟨30, _⟩ => ⟨S_, .f32⟩
  | .hbm, ⟨31, _⟩ => ⟨S16384x5632, .f32⟩
  | .hbm, ⟨32, _⟩ => ⟨S16384x5632, .f32⟩
  | .hbm, ⟨33, _⟩ => ⟨S16384x5632, .f32⟩
  | .hbm, ⟨34, _⟩ => ⟨S16384x5632, .f32⟩
  | .hbm, ⟨35, _⟩ => ⟨S16384x5632, .f32⟩
  | .hbm, ⟨36, _⟩ => ⟨S16384x2048, .f32⟩
  | .hbm, ⟨37, _⟩ => ⟨S_, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S1x1x2048x5632, .f32⟩
  | .hbm, ⟨42, _⟩ => ⟨S2048x5632, .f32⟩
  | .hbm, ⟨43, _⟩ => ⟨S2048x5632, .bf16⟩
  | .hbm, ⟨44, _⟩ => ⟨S1x1x2048x5632, .f32⟩
  | .hbm, ⟨45, _⟩ => ⟨S2048x5632, .f32⟩
  | .hbm, ⟨46, _⟩ => ⟨S2048x5632, .bf16⟩
  | .hbm, ⟨47, _⟩ => ⟨S1x1x5632x2048, .f32⟩
  | .hbm, ⟨48, _⟩ => ⟨S5632x2048, .f32⟩
  | .hbm, ⟨49, _⟩ => ⟨S5632x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]
-- ==== Mix.lean ====
abbrev S4x4096x2048 : Shape := ⟨3, ![4, 4096, 2048]⟩
abbrev S4x4096x1536 : Shape := ⟨3, ![4, 4096, 1536]⟩
abbrev S4x4096x2432 : Shape := ⟨3, ![4, 4096, 2432]⟩
abbrev S4x256x512 : Shape := ⟨3, ![4, 256, 512]⟩
abbrev S128 : Shape := ⟨1, ![128]⟩
abbrev S2x2048x2048 : Shape := ⟨3, ![2, 2048, 2048]⟩
abbrev S1x128 : Shape := ⟨2, ![1, 128]⟩
abbrev S1x512x2048 : Shape := ⟨3, ![1, 512, 2048]⟩
abbrev S1x512x1536 : Shape := ⟨3, ![1, 512, 1536]⟩
abbrev S1x512x128 : Shape := ⟨3, ![1, 512, 128]⟩
abbrev S1x256x512 : Shape := ⟨3, ![1, 256, 512]⟩
abbrev S1x2048x2048 : Shape := ⟨3, ![1, 2048, 2048]⟩
abbrev S512x2048 : Shape := ⟨2, ![512, 2048]⟩
abbrev S512x1536 : Shape := ⟨2, ![512, 1536]⟩
abbrev S1x1536x2048 : Shape := ⟨3, ![1, 1536, 2048]⟩
abbrev S1536x2048 : Shape := ⟨2, ![1536, 2048]⟩
abbrev S512x128 : Shape := ⟨2, ![512, 128]⟩
abbrev S512 : Shape := ⟨1, ![512]⟩
abbrev S512x1 : Shape := ⟨2, ![512, 1]⟩
abbrev S1x256x128 : Shape := ⟨3, ![1, 256, 128]⟩
abbrev S256x128 : Shape := ⟨2, ![256, 128]⟩
abbrev S512x256 : Shape := ⟨2, ![512, 256]⟩
abbrev S512x512 : Shape := ⟨2, ![512, 512]⟩

abbrev nBuf : Space → Nat
  | .hbm => 10
  | .vmem => 20
  | .smem => 0
  | _ => 0

abbrev bufTy : (tb : Table) → Fin (tcTables nBuf tb) → BufTy
  | .hbm, ⟨0, _⟩ => ⟨S4x4096x2048, .f32⟩
  | .hbm, ⟨1, _⟩ => ⟨S4x4096x1536, .bf16⟩
  | .hbm, ⟨2, _⟩ => ⟨S4x4096x2432, .bf16⟩
  | .hbm, ⟨3, _⟩ => ⟨S4x256x512, .bf16⟩
  | .hbm, ⟨4, _⟩ => ⟨S4x256x512, .bf16⟩
  | .hbm, ⟨5, _⟩ => ⟨S128, .f32⟩
  | .hbm, ⟨6, _⟩ => ⟨S2x2048x2048, .f32⟩
  | .hbm, ⟨7, _⟩ => ⟨S2x2048x2048, .bf16⟩
  | .hbm, ⟨8, _⟩ => ⟨S1x128, .f32⟩
  | .hbm, ⟨9, _⟩ => ⟨S4x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x512x1536, .bf16⟩
  | .local _ .vmem, ⟨3, _⟩ => ⟨S1x512x1536, .bf16⟩
  | .local _ .vmem, ⟨4, _⟩ => ⟨S1x512x128, .bf16⟩
  | .local _ .vmem, ⟨5, _⟩ => ⟨S1x512x128, .bf16⟩
  | .local _ .vmem, ⟨6, _⟩ => ⟨S1x512x128, .bf16⟩
  | .local _ .vmem, ⟨7, _⟩ => ⟨S1x512x128, .bf16⟩
  | .local _ .vmem, ⟨8, _⟩ => ⟨S1x512x128, .bf16⟩
  | .local _ .vmem, ⟨9, _⟩ => ⟨S1x512x128, .bf16⟩
  | .local _ .vmem, ⟨10, _⟩ => ⟨S1x512x128, .bf16⟩
  | .local _ .vmem, ⟨11, _⟩ => ⟨S1x512x128, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x128, .f32⟩
  | .local _ .vmem, ⟨17, _⟩ => ⟨S1x2048x2048, .bf16⟩
  | .local _ .vmem, ⟨18, _⟩ => ⟨S1x512x2048, .f32⟩
  | .local _ .vmem, ⟨19, _⟩ => ⟨S1x512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c15_i32 : BitVec 32 := 15#32
  let c0_i32 : BitVec 32 := 0#32
  ![arg0.toNat, arg1.toNat, c15_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  ![arg0.toNat, arg1.toNat, c16_i32.toNat]

def cc0_transform_4 (i : grid0.Coords) : Fin 3 → Nat :=
  let arg0 : BitVec 32 := BitVec.ofNat 32 (i 0).val
  let arg1 : BitVec 32 := BitVec.ofNat 32 (i 1).val
  let c17_i32 : BitVec 32 := 17#32
  let c0_i32 : BitVec 32 := 0#32
  ![arg0.toNat, arg1.toNat, c17_i32.toNat]

def cc0_transform_5 (i : grid0.Coords) : Fin 3 → Nat :=
  let arg0 : BitVec 32 := BitVec.ofNat 32 (i 0).val
  let arg1 : BitVec 32 := BitVec.ofNat 32 (i 1).val
  let c18_i32 : BitVec 32 := 18#32
  let c0_i32 : BitVec 32 := 0#32
  ![arg0.toNat, arg1.toNat, c18_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MixRefIdeal.lean ====
abbrev S4x4096x2048 : Shape := ⟨3, ![4, 4096, 2048]⟩
abbrev S4x4096x1536 : Shape := ⟨3, ![4, 4096, 1536]⟩
abbrev S4x4096x2432 : Shape := ⟨3, ![4, 4096, 2432]⟩
abbrev S4x256x512 : Shape := ⟨3, ![4, 256, 512]⟩
abbrev S128 : Shape := ⟨1, ![128]⟩
abbrev S2x2048x2048 : Shape := ⟨3, ![2, 2048, 2048]⟩
abbrev S4x4096x512 : Shape := ⟨3, ![4, 4096, 512]⟩
abbrev S4x4096x4x128 : Shape := ⟨4, ![4, 4096, 4, 128]⟩
abbrev S4x256x4x128 : Shape := ⟨4, ![4, 256, 4, 128]⟩
abbrev S_ : Shape := ⟨0, ![]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩
abbrev S1x2048x2048 : Shape := ⟨3, ![1, 2048, 2048]⟩
abbrev S2048x2048 : Shape := ⟨2, ![2048, 2048]⟩

abbrev nBuf : Space → Nat
  | .hbm => 57
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x1536, .bf16⟩
  | .hbm, ⟨2, _⟩ => ⟨S4x4096x2432, .bf16⟩
  | .hbm, ⟨3, _⟩ => ⟨S4x256x512, .bf16⟩
  | .hbm, ⟨4, _⟩ => ⟨S4x256x512, .bf16⟩
  | .hbm, ⟨5, _⟩ => ⟨S128, .f32⟩
  | .hbm, ⟨6, _⟩ => ⟨S2x2048x2048, .f32⟩
  | .hbm, ⟨7, _⟩ => ⟨S4x4096x512, .bf16⟩
  | .hbm, ⟨8, _⟩ => ⟨S4x4096x512, .f32⟩
  | .hbm, ⟨9, _⟩ => ⟨S4x4096x4x128, .f32⟩
  | .hbm, ⟨10, _⟩ => ⟨S4x256x512, .f32⟩
  | .hbm, ⟨11, _⟩ => ⟨S4x256x4x128, .f32⟩
  | .hbm, ⟨12, _⟩ => ⟨S4x256x512, .f32⟩
  | .hbm, ⟨13, _⟩ => ⟨S4x256x4x128, .f32⟩
  | .hbm, ⟨14, _⟩ => ⟨S4x4096x4x128, .f32⟩
  | .hbm, ⟨15, _⟩ => ⟨S_, .f32⟩
  | .hbm, ⟨16, _⟩ => ⟨S4x4096x4, .f32⟩
  | .hbm, ⟨17, _⟩ => ⟨S4x4096x4x1, .f32⟩
  | .hbm, ⟨18, _⟩ => ⟨S_, .f32⟩
  | .hbm, ⟨19, _⟩ => ⟨S4x4096x4x1, .f32⟩
  | .hbm, ⟨20, _⟩ => ⟨S4x4096x4x1, .f32⟩
  | .hbm, ⟨21, _⟩ => ⟨S_, .f32⟩
  | .hbm, ⟨22, _⟩ => ⟨S4x4096x4x1, .f32⟩
  | .hbm, ⟨23, _⟩ => ⟨S4x4096x4x1, .f32⟩
  | .hbm, ⟨24, _⟩ => ⟨S4x4096x4x1, .f32⟩
  | .hbm, ⟨25, _⟩ => ⟨S4x4096x4x128, .f32⟩
  | .hbm, ⟨26, _⟩ => ⟨S4x4096x4x128, .f32⟩
  | .hbm, ⟨27, _⟩ => ⟨S1x1x1x128, .f32⟩
  | .hbm, ⟨28, _⟩ => ⟨S4x4096x4x128, .f32⟩
  | .hbm, ⟨29, _⟩ => ⟨S4x4096x4x128, .f32⟩
  | .hbm, ⟨30, _⟩ => ⟨S4x4x4096x256, .f32⟩
  | .hbm, ⟨31, _⟩ => ⟨S_, .f32⟩
  | .hbm, ⟨32, _⟩ => ⟨S4x4x4096x256, .f32⟩
  | .hbm, ⟨33, _⟩ => ⟨S4x4x4096x256, .f32⟩
  | .hbm, ⟨34, _⟩ => ⟨S_, .f32⟩
  | .hbm, ⟨35, _⟩ => ⟨S4x4x4096, .f32⟩
  | .hbm, ⟨36, _⟩ => ⟨S_, .f32⟩
  | .hbm, ⟨37, _⟩ => ⟨S4x4x4096, .f32⟩
  | .hbm, ⟨38, _⟩ => ⟨S4x4x4096, .f32⟩
  | .hbm, ⟨39, _⟩ => ⟨S4x4x4096x1, .f32⟩
  | .hbm, ⟨40, _⟩ => ⟨S4x4x4096x256, .f32⟩
  | .hbm, ⟨41, _⟩ => ⟨S4x4x4096x256, .f32⟩
  | .hbm, ⟨42, _⟩ => ⟨S4x4x4096x256, .f32⟩
  | .hbm, ⟨43, _⟩ => ⟨S_, .f32⟩
  | .hbm, ⟨44, _⟩ => ⟨S4x4x4096, .f32⟩
  | .hbm, ⟨45, _⟩ => ⟨S4x4x4096x1, .f32⟩
  | .hbm, ⟨46, _⟩ => ⟨S4x4x4096x256, .f32⟩
  | .hbm, ⟨47, _⟩ => ⟨S4x4x4096x256, .f32⟩
  | .hbm, ⟨48, _⟩ => ⟨S4x4x128x4096, .f32⟩
  | .hbm, ⟨49, _⟩ => ⟨S4x4096x4x128, .f32⟩
  | .hbm, ⟨50, _⟩ => ⟨S4x4096x512, .f32⟩
  | .hbm, ⟨51, _⟩ => ⟨S4x4096x1536, .f32⟩
  | .hbm, ⟨52, _⟩ => ⟨S4x4096x2048, .f32⟩
  | .hbm, ⟨53, _⟩ => ⟨S1x2048x2048, .f32⟩
  | .hbm, ⟨54, _⟩ => ⟨S2048x2048, .f32⟩
  | .hbm, ⟨55, _⟩ => ⟨S4x4096x2048, .f32⟩
  | .hbm, ⟨56, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== SbProj.lean ====
abbrev S16384x2048 : Shape := ⟨2, ![16384, 2048]⟩
abbrev S2048 : Shape := ⟨1, ![2048]⟩
abbrev S2048x5120 : Shape := ⟨2, ![2048, 5120]⟩
abbrev S5120 : Shape := ⟨1, ![5120]⟩
abbrev S_ : Shape := ⟨0, ![]⟩
abbrev S1x5120 : Shape := ⟨2, ![1, 5120]⟩
abbrev S1x2048 : Shape := ⟨2, ![1, 2048]⟩
abbrev S16384x5120 : Shape := ⟨2, ![16384, 5120]⟩
abbrev S1024x2048 : Shape := ⟨2, ![1024, 2048]⟩
abbrev S2048x2560 : Shape := ⟨2, ![2048, 2560]⟩
abbrev S1024x2560 : Shape := ⟨2, ![1024, 2560]⟩
abbrev S1024 : Shape := ⟨1, ![1024]⟩
abbrev S1024x1 : Shape := ⟨2, ![1024, 1]⟩

abbrev nBuf : Space → Nat
  | .hbm => 19
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5120, .f32⟩
  | .hbm, ⟨3, _⟩ => ⟨S5120, .i32⟩
  | .hbm, ⟨4, _⟩ => ⟨S_, .i32⟩
  | .hbm, ⟨5, _⟩ => ⟨S5120, .i32⟩
  | .hbm, ⟨6, _⟩ => ⟨S5120, .i1⟩
  | .hbm, ⟨7, _⟩ => ⟨S_, .f32⟩
  | .hbm, ⟨8, _⟩ => ⟨S_, .f32⟩
  | .hbm, ⟨9, _⟩ => ⟨S5120, .f32⟩
  | .hbm, ⟨10, _⟩ => ⟨S5120, .f32⟩
  | .hbm, ⟨11, _⟩ => ⟨S5120, .f32⟩
  | .hbm, ⟨12, _⟩ => ⟨S5120, .f32⟩
  | .hbm, ⟨13, _⟩ => ⟨S1x5120, .f32⟩
  | .hbm, ⟨14, _⟩ => ⟨S2048x5120, .f32⟩
  | .hbm, ⟨15, _⟩ => ⟨S2048x5120, .f32⟩
  | .hbm, ⟨16, _⟩ => ⟨S2048x5120, .bf16⟩
  | .hbm, ⟨17, _⟩ => ⟨S1x2048, .f32⟩
  | .hbm, ⟨18, _⟩ => ⟨S16384x5120, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2560, .bf16⟩
  | .local _ .vmem, ⟨4, _⟩ => ⟨S2048x2560, .bf16⟩
  | .local _ .vmem, ⟨5, _⟩ => ⟨S1024x2560, .bf16⟩
  | .local _ .vmem, ⟨6, _⟩ => ⟨S1024x2560, .bf16⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2560 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SbProjRefIdeal.lean ====
abbrev S16384x2048 : Shape := ⟨2, ![16384, 2048]⟩
abbrev S2048 : Shape := ⟨1, ![2048]⟩
abbrev S2048x5120 : Shape := ⟨2, ![2048, 5120]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5120 : Shape := ⟨2, ![16384, 5120]⟩
abbrev S16384x1536 : Shape := ⟨2, ![16384, 1536]⟩
abbrev S16384x3584 : Shape := ⟨2, ![16384, 3584]⟩

abbrev nBuf : Space → Nat
  | .hbm => 27
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5120, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x5120, .f32⟩
  | .hbm, ⟨20, _⟩ => ⟨S16384x1536, .f32⟩
  | .hbm, ⟨21, _⟩ => ⟨S_, .f32⟩
  | .hbm, ⟨22, _⟩ => ⟨S16384x1536, .f32⟩
  | .hbm, ⟨23, _⟩ => ⟨S16384x1536, .f32⟩
  | .hbm, ⟨24, _⟩ => ⟨S16384x3584, .f32⟩
  | .hbm, ⟨25, _⟩ => ⟨S16384x5120, .f32⟩
  | .hbm, ⟨26, _⟩ => ⟨S16384x5120, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== SwaProj.lean ====
abbrev S16384x2048 : Shape := ⟨2, ![16384, 2048]⟩
abbrev S2048 : Shape := ⟨1, ![2048]⟩
abbrev S2048x2432 : Shape := ⟨2, ![2048, 2432]⟩
abbrev S1x2048 : Shape := ⟨2, ![1, 2048]⟩
abbrev S16384x2432 : Shape := ⟨2, ![16384, 2432]⟩
abbrev S1024x2048 : Shape := ⟨2, ![1024, 2048]⟩
abbrev S1024x2432 : Shape := ⟨2, ![1024, 2432]⟩
abbrev S1024 : Shape := ⟨1, ![1024]⟩
abbrev S1024x1 : Shape := ⟨2, ![1024, 1]⟩

abbrev nBuf : Space → Nat
  | .hbm => 6
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2432, .f32⟩
  | .hbm, ⟨3, _⟩ => ⟨S2048x2432, .bf16⟩
  | .hbm, ⟨4, _⟩ => ⟨S1x2048, .f32⟩
  | .hbm, ⟨5, _⟩ => ⟨S16384x2432, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2432, .bf16⟩
  | .local _ .vmem, ⟨4, _⟩ => ⟨S1024x2432, .bf16⟩
  | .local _ .vmem, ⟨5, _⟩ => ⟨S1024x2432, .bf16⟩
  | .local _ .vmem, ⟨6, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x2432 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SwaProjRefIdeal.lean ====
abbrev S16384x2048 : Shape := ⟨2, ![16384, 2048]⟩
abbrev S2048 : Shape := ⟨1, ![2048]⟩
abbrev S2048x2432 : Shape := ⟨2, ![2048, 2432]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x2432 : Shape := ⟨2, ![16384, 2432]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2432, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x2432, .f32⟩
  | .hbm, ⟨20, _⟩ => ⟨S16384x2432, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== MemKv.lean ====
abbrev S4x256x2048 : Shape := ⟨3, ![4, 256, 2048]⟩
abbrev S2048 : Shape := ⟨1, ![2048]⟩
abbrev S2x2048x1024 : Shape := ⟨3, ![2, 2048, 1024]⟩
abbrev S128 : Shape := ⟨1, ![128]⟩
abbrev S1x2048 : Shape := ⟨2, ![1, 2048]⟩
abbrev S1x128 : Shape := ⟨2, ![1, 128]⟩
abbrev S4x256x512 : Shape := ⟨3, ![4, 256, 512]⟩
abbrev S1x256x2048 : Shape := ⟨3, ![1, 256, 2048]⟩
abbrev S1x2048x1024 : Shape := ⟨3, ![1, 2048, 1024]⟩
abbrev S1x256x512 : Shape := ⟨3, ![1, 256, 512]⟩
abbrev S256x2048 : Shape := ⟨2, ![256, 2048]⟩
abbrev S256 : Shape := ⟨1, ![256]⟩
abbrev S256x1 : Shape := ⟨2, ![256, 1]⟩
abbrev S2048x1024 : Shape := ⟨2, ![2048, 1024]⟩
abbrev S256x1024 : Shape := ⟨2, ![256, 1024]⟩
abbrev S256x128 : Shape := ⟨2, ![256, 128]⟩
abbrev S1x256x128 : Shape := ⟨3, ![1, 256, 128]⟩
abbrev S256x512 : Shape := ⟨2, ![256, 512]⟩

abbrev nBuf : Space → Nat
  | .hbm => 9
  | .vmem => 9
  | .smem => 0
  | _ => 0

abbrev bufTy : (tb : Table) → Fin (tcTables nBuf tb) → BufTy
  | .hbm, ⟨0, _⟩ => ⟨S4x256x2048, .f32⟩
  | .hbm, ⟨1, _⟩ => ⟨S2048, .f32⟩
  | .hbm, ⟨2, _⟩ => ⟨S2x2048x1024, .f32⟩
  | .hbm, ⟨3, _⟩ => ⟨S128, .f32⟩
  | .hbm, ⟨4, _⟩ => ⟨S2x2048x1024, .bf16⟩
  | .hbm, ⟨5, _⟩ => ⟨S1x2048, .f32⟩
  | .hbm, ⟨6, _⟩ => ⟨S1x128, .f32⟩
  | .hbm, ⟨7, _⟩ => ⟨S4x256x512, .bf16⟩
  | .hbm, ⟨8, _⟩ => ⟨S4x256x512, .bf16⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x128, .f32⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemKvRefIdeal.lean ====
abbrev S4x256x2048 : Shape := ⟨3, ![4, 256, 2048]⟩
abbrev S2048 : Shape := ⟨1, ![2048]⟩
abbrev S2x2048x1024 : Shape := ⟨3, ![2, 2048, 1024]⟩
abbrev S128 : Shape := ⟨1, ![128]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S1x2048x1024 : Shape := ⟨3, ![1, 2048, 1024]⟩
abbrev S2048x1024 : Shape := ⟨2, ![2048, 1024]⟩
abbrev S4x256x1024 : Shape := ⟨3, ![4, 256, 1024]⟩
abbrev S4x256x2x4x128 : Shape := ⟨5, ![4, 256, 2, 4, 128]⟩
abbrev S4x256x1x4x128 : Shape := ⟨5, ![4, 256, 1, 4, 128]⟩
abbrev S4x256x4x128 : Shape := ⟨4, ![4, 256, 4, 128]⟩
abbrev S4x256x4 : Shape := ⟨3, ![4, 256, 4]⟩
abbrev S4x256x4x1 : Shape := ⟨4, ![4, 256, 4, 1]⟩
abbrev S1x1x1x128 : Shape := ⟨4, ![1, 1, 1, 128]⟩
abbrev S4x256x512 : Shape := ⟨3, ![4, 256, 512]⟩

abbrev nBuf : Space → Nat
  | .hbm => 48
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S2048, .f32⟩
  | .hbm, ⟨2, _⟩ => ⟨S2x2048x1024, .f32⟩
  | .hbm, ⟨3, _⟩ => ⟨S128, .f32⟩
  | .hbm, ⟨4, _⟩ => ⟨S4x256x2048, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x2048, .f32⟩
  | .hbm, ⟨16, _⟩ => ⟨S4x256x2048, .f32⟩
  | .hbm, ⟨17, _⟩ => ⟨S1x1x2048, .f32⟩
  | .hbm, ⟨18, _⟩ => ⟨S4x256x2048, .f32⟩
  | .hbm, ⟨19, _⟩ => ⟨S4x256x2048, .f32⟩
  | .hbm, ⟨20, _⟩ => ⟨S1x2048x1024, .f32⟩
  | .hbm, ⟨21, _⟩ => ⟨S2048x1024, .f32⟩
  | .hbm, ⟨22, _⟩ => ⟨S4x256x1024, .f32⟩
  | .hbm, ⟨23, _⟩ => ⟨S4x256x2x4x128, .f32⟩
  | .hbm, ⟨24, _⟩ => ⟨S4x256x1x4x128, .f32⟩
  | .hbm, ⟨25, _⟩ => ⟨S4x256x4x128, .f32⟩
  | .hbm, ⟨26, _⟩ => ⟨S4x256x4x128, .f32⟩
  | .hbm, ⟨27, _⟩ => ⟨S_, .f32⟩
  | .hbm, ⟨28, _⟩ => ⟨S4x256x4, .f32⟩
  | .hbm, ⟨29, _⟩ => ⟨S4x256x4x1, .f32⟩
  | .hbm, ⟨30, _⟩ => ⟨S_, .f32⟩
  | .hbm, ⟨31, _⟩ => ⟨S4x256x4x1, .f32⟩
  | .hbm, ⟨32, _⟩ => ⟨S4x256x4x1, .f32⟩
  | .hbm, ⟨33, _⟩ => ⟨S_, .f32⟩
  | .hbm, ⟨34, _⟩ => ⟨S4x256x4x1, .f32⟩
  | .hbm, ⟨35, _⟩ => ⟨S4x256x4x1, .f32⟩
  | .hbm, ⟨36, _⟩ => ⟨S4x256x4x1, .f32⟩
  | .hbm, ⟨37, _⟩ => ⟨S4x256x4x128, .f32⟩
  | .hbm, ⟨38, _⟩ => ⟨S4x256x4x128, .f32⟩
  | .hbm, ⟨39, _⟩ => ⟨S1x1x1x128, .f32⟩
  | .hbm, ⟨40, _⟩ => ⟨S4x256x4x128, .f32⟩
  | .hbm, ⟨41, _⟩ => ⟨S4x256x4x128, .f32⟩
  | .hbm, ⟨42, _⟩ => ⟨S4x256x512, .f32⟩
  | .hbm, ⟨43, _⟩ => ⟨S4x256x512, .bf16⟩
  | .hbm, ⟨44, _⟩ => ⟨S4x256x1x4x128, .f32⟩
  | .hbm, ⟨45, _⟩ => ⟨S4x256x4x128, .f32⟩
  | .hbm, ⟨46, _⟩ => ⟨S4x256x512, .f32⟩
  | .hbm, ⟨47, _⟩ => ⟨S4x256x512, .bf16⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Proof.SwaStep.lean ====
module

public import proofs.«01_k».proof.Proof.Gen.SwaIdeal.Frame
public import Idealize.ShloMosaic.Lib.Pointwise
public import Idealize.ShloMosaic.Lib.Pipeline.ValueKit
public import Idealize.ShloMosaic.Lib.Pipeline.ReadBack

@[expose] public section

set_option maxRecDepth 16384

noncomputable section

namespace Cert.SwaIdeal.Hand

open Cert.SwaIdeal Cert.SwaIdeal.Gen Idealize.ShloMosaic Idealize.ShloMosaic.TcCoe Idealize.SL.Sem

/-! The attention of one block of 128 positions, head by head: the same few vector operations for each of the 24 heads. -/

/-- Scores outside the window become the bottom. -/
def masked (M : IVec S128x256 1) (x : FVec Ideal S128x256 .f32) : FVec Ideal S128x256 .f32 :=
  select M x (broadcast S128x256 (Scalar.ofBits .f32 0xFF800000#32))

/-- A sink, divided by the logarithm of two. -/
def sinkOf (s : Elt Ideal .f32) : Ideal .f32 := Scalar.mulf s (Named.named κ "log2e" 0x3FB8AA3B#32)

/-- The greatest score of each row, the sink among them. -/
def topOf (z : FVec Ideal S128x256 .f32) (s : Ideal .f32) : FVec Ideal S128x1 .f32 :=
  maximumf (shapeCast S128x1 (multiReduction .maximumf [1] S128 z 0xFF800000#32 reduces_S128x256_S128 (.inl rfl) rfl) shapeCasts_S128_S128x1)
    (broadcast S128x1 s)

/-- The powers of two of the scores less the greatest. -/
def expsOf (z : FVec Ideal S128x256 .f32) (s : Ideal .f32) : FVec Ideal S128x256 .f32 :=
  exp2 (subf z (broadcastTo S128x256 (topOf z s) broadcasts_S128x1_S128x256))

/-- One over each row's sum of powers, the sink's among them. -/
def recipOf (z : FVec Ideal S128x256 .f32) (s : Ideal .f32) : FVec Ideal S128x1 .f32 :=
  divf (broadcast S128x1 (Scalar.ofBits .f32 0x3F800000#32))
    (addf (shapeCast S128x1 (multiReduction .add [1] S128 (expsOf z s) 0x00000000#32 reduces_S128x256_S128 (.inl rfl) rfl) shapeCasts_S128_S128x1)
      (exp2 (subf (broadcast S128x1 s) (topOf z s))))

/-- Two heads' powers side by side. -/
def rowOf (z0 z1 : FVec Ideal S128x256 .f32) (s0 s1 : Ideal .f32) : FVec Ideal S128x512 .bf16 :=
  concatenate S128x512 1 [⟨S128x256, truncf .bf16 (expsOf z0 s0) bitsLt_bf16_f32⟩, ⟨S128x256, truncf .bf16 (expsOf z1 s1) bitsLt_bf16_f32⟩]
    concatenates_S128x256_S128x256_S128x512_d1

/-- Two heads' reciprocals, each over its half of the lanes. -/
def scaleOf (z0 z1 : FVec Ideal S128x256 .f32) (s0 s1 : Ideal .f32) : FVec Ideal S128x128 .f32 :=
  select (broadcastTo S128x128 (shapeCast S1x128 k0_pay3 shapeCasts_S1x128_S1x128) broadcasts_S1x128_S128x128)
    (broadcastTo S128x128 (shapeCast S128x1 (recipOf z0 s0) shapeCasts_S128x1_S128x1) broadcasts_S128x1_S128x128)
    (broadcastTo S128x128 (shapeCast S128x1 (recipOf z1 s1) shapeCasts_S128x1_S128x1) broadcasts_S128x1_S128x128)

/-- Lanes of the first half over zeroes, and zeroes over the second half: from a source in the first half. -/
def diagLow (x : FVec Ideal S256x128 .f32) : FVec Ideal S512x128 .bf16 :=
  truncf .bf16 (concatenate S512x128 0
    [⟨S256x128, select (broadcastTo S256x128 (shapeCast S1x128 k0_pay3 shapeCasts_S1x128_S1x128) broadcasts_S1x128_S256x128) x (broadcast S256x128 (Scalar.ofBits .f32 0x00000000#32))⟩,
      ⟨S256x128, select (broadcastTo S256x128 (shapeCast S1x128 k0_pay3 shapeCasts_S1x128_S1x128) broadcasts_S1x128_S256x128) (broadcast S256x128 (Scalar.ofBits .f32 0x00000000#32)) (dynamicRotate 1 64#32 none x rotates_S256x128_d1)⟩]
    concatenates_S256x128_S256x128_S512x128_d0) bitsLt_bf16_f32

/-- The same from a source in the second half. -/
def diagHigh (x : FVec Ideal S256x128 .f32) : FVec Ideal S512x128 .bf16 :=
  truncf .bf16 (concatenate S512x128 0
    [⟨S256x128, select (broadcastTo S256x128 (shapeCast S1x128 k0_pay3 shapeCasts_S1x128_S1x128) broadcasts_S1x128_S256x128) (dynamicRotate 1 64#32 none x rotates_S256x128_d1) (broadcast S256x128 (Scalar.ofBits .f32 0x00000000#32))⟩,
      ⟨S256x128, select (broadcastTo S256x128 (shapeCast S1x128 k0_pay3 shapeCasts_S1x128_S1x128) broadcasts_S1x128_S256x128) (broadcast S256x128 (Scalar.ofBits .f32 0x00000000#32)) x⟩]
    concatenates_S256x128_S256x128_S512x128_d0) bitsLt_bf16_f32

/-- The products of two heads' queries with their keys, side by side, for four pairs of heads one below another. -/
def scoresOf (q : FVec Ideal S512x128 .bf16) (d : FVec Ideal S512x128 .bf16) : FVec Ideal S512x512 .f32 :=
  matmul dot_S512x128_S512x128_S512x512_1_1_0_0_n_n none q d (constant S512x512 .f32 0x00000000#32)

/-- The powers times the values. -/
def valuesOf (r : FVec Ideal S512x512 .bf16) (d : FVec Ideal S512x128 .bf16) : FVec Ideal S512x128 .f32 :=
  matmul dot_S512x512_S512x128_S512x128_1_0_0_1_n_n none r d (constant S512x128 .f32 0x00000000#32)

/-- Four pairs' rows one below another. -/
def stacked (r0 r1 r2 r3 : FVec Ideal S128x512 .bf16) : FVec Ideal S512x512 .bf16 :=
  concatenate S512x512 0 [⟨S128x512, r0⟩, ⟨S128x512, r1⟩, ⟨S128x512, r2⟩, ⟨S128x512, r3⟩] concatenates_S128x512_S128x512_S128x512_S128x512_S512x512_d0

/-- The scores of head 0 of pair 0, outside the window the bottom. -/
def part00 (M : IVec S128x256 1) (z : FVec Ideal S512x512 .f32) : FVec Ideal S128x256 .f32 :=
  masked M (extractStridedSlice S128x256 ![0, 0] z slices_S512x512_o0_0_S128x256)

/-- The scores of head 1 of pair 0, outside the window the bottom. -/
def part01 (M : IVec S128x256 1) (z : FVec Ideal S512x512 .f32) : FVec Ideal S128x256 .f32 :=
  masked M (extractStridedSlice S128x256 ![0, 256] z slices_S512x512_o0_256_S128x256)

/-- The scores of head 0 of pair 1, outside the window the bottom. -/
def part10 (M : IVec S128x256 1) (z : FVec Ideal S512x512 .f32) : FVec Ideal S128x256 .f32 :=
  masked M (extractStridedSlice S128x256 ![128, 0] z slices_S512x512_o128_0_S128x256)

/-- The scores of head 1 of pair 1, outside the window the bottom. -/
def part11 (M : IVec S128x256 1) (z : FVec Ideal S512x512 .f32) : FVec Ideal S128x256 .f32 :=
  masked M (extractStridedSlice S128x256 ![128, 256] z slices_S512x512_o128_256_S128x256)

/-- The scores of head 0 of pair 2, outside the window the bottom. -/
def part20 (M : IVec S128x256 1) (z : FVec Ideal S512x512 .f32) : FVec Ideal S128x256 .f32 :=
  masked M (extractStridedSlice S128x256 ![256, 0] z slices_S512x512_o256_0_S128x256)

/-- The scores of head 1 of pair 2, outside the window the bottom. -/
def part21 (M : IVec S128x256 1) (z : FVec Ideal S512x512 .f32) : FVec Ideal S128x256 .f32 :=
  masked M (extractStridedSlice S128x256 ![256, 256] z slices_S512x512_o256_256_S128x256)

/-- The scores of head 0 of pair 3, outside the window the bottom. -/
def part30 (M : IVec S128x256 1) (z : FVec Ideal S512x512 .f32) : FVec Ideal S128x256 .f32 :=
  masked M (extractStridedSlice S128x256 ![384, 0] z slices_S512x512_o384_0_S128x256)

/-- The scores of head 1 of pair 3, outside the window the bottom. -/
def part31 (M : IVec S128x256 1) (z : FVec Ideal S512x512 .f32) : FVec Ideal S128x256 .f32 :=
  masked M (extractStridedSlice S128x256 ![384, 256] z slices_S512x512_o384_256_S128x256)

/-- The powers of eight heads. -/
def powersOf (M : IVec S128x256 1) (z : FVec Ideal S512x512 .f32) (s0 s1 s2 s3 s4 s5 s6 s7 : Elt Ideal .f32) : FVec Ideal S512x512 .bf16 :=
  stacked (rowOf (part00 M z) (part01 M z) (sinkOf s0) (sinkOf s1)) (rowOf (part10 M z) (part11 M z) (sinkOf s2) (sinkOf s3))
    (rowOf (part20 M z) (part21 M z) (sinkOf s4) (sinkOf s5)) (rowOf (part30 M z) (part31 M z) (sinkOf s6) (sinkOf s7))

/-- The output of pair 0: its rows of the product, times the reciprocals. -/
def piece0 (o : FVec Ideal S512x128 .f32) (c : FVec Ideal S128x128 .f32) : FVec Ideal S1x128x128 .bf16 :=
  shapeCast S1x128x128 (truncf .bf16 (mulf (extractStridedSlice S128x128 ![0, 0] o slices_S512x128_o0_0_S128x128) c) bitsLt_bf16_f32) shapeCasts_S128x128_S1x128x128

/-- The output of pair 1: its rows of the product, times the reciprocals. -/
def piece1 (o : FVec Ideal S512x128 .f32) (c : FVec Ideal S128x128 .f32) : FVec Ideal S1x128x128 .bf16 :=
  shapeCast S1x128x128 (truncf .bf16 (mulf (extractStridedSlice S128x128 ![128, 0] o slices_S512x128_o128_0_S128x128) c) bitsLt_bf16_f32) shapeCasts_S128x128_S1x128x128

/-- The output of pair 2: its rows of the product, times the reciprocals. -/
def piece2 (o : FVec Ideal S512x128 .f32) (c : FVec Ideal S128x128 .f32) : FVec Ideal S1x128x128 .bf16 :=
  shapeCast S1x128x128 (truncf .bf16 (mulf (extractStridedSlice S128x128 ![256, 0] o slices_S512x128_o256_0_S128x128) c) bitsLt_bf16_f32) shapeCasts_S128x128_S1x128x128

/-- The output of pair 3: its rows of the product, times the reciprocals. -/
def piece3 (o : FVec Ideal S512x128 .f32) (c : FVec Ideal S128x128 .f32) : FVec Ideal S1x128x128 .bf16 :=
  shapeCast S1x128x128 (truncf .bf16 (mulf (extractStridedSlice S128x128 ![384, 0] o slices_S512x128_o384_0_S128x128) c) bitsLt_bf16_f32) shapeCasts_S128x128_S1x128x128

section Pieces

variable (Q : FVec Ideal S1536x128 .bf16) (K0 K1 : FVec Ideal S256x128 .f32) (KV : FVec Ideal S256x384 .f32) (M : IVec S128x256 1) (s : Fin 24 → Elt Ideal .f32)

/-- The scores of the heads that share the first keys. -/
theorem scores0_eq : k0_pay27 k0_pay3 K0 (k0_pay26 Q) 64#32
    = scoresOf (extractStridedSlice S512x128 ![0, 0] Q slices_S1536x128_o0_0_S512x128) (diagLow K0) := rfl

/-- The scores of the heads that share the second keys. -/
theorem scores1_eq : k0_pay28 k0_pay3 Q K0
    = scoresOf (extractStridedSlice S512x128 ![512, 0] Q slices_S1536x128_o512_0_S512x128) (diagHigh K0) := rfl

/-- The scores of the heads that share the third keys. -/
theorem scores2_eq : k0_pay29 k0_pay3 Q K1
    = scoresOf (extractStridedSlice S512x128 ![1024, 0] Q slices_S1536x128_o1024_0_S512x128) (diagLow K1) := rfl

/-- What the kernel stores at lanes 0 to 127 of its output. -/
theorem piece00_eq : k0_pay183 (k0_pay40 k0_pay3 M (k0_pay27 k0_pay3 K0 (k0_pay26 Q) 64#32) (k0_pay30 (s 0)) (k0_pay31 k0_pay3 K0 M (k0_pay26 Q) 64#32) (k0_pay32 k0_pay3 K0 M (k0_pay26 Q) 64#32) (s 1)) (k0_pay178 k0_pay3 (k0_pay22 KV) (k0_pay73 M (k0_pay27 k0_pay3 K0 (k0_pay26 Q) 64#32) (k0_pay39 M (k0_pay27 k0_pay3 K0 (k0_pay26 Q) 64#32) (k0_pay30 (s 0)) (k0_pay31 k0_pay3 K0 M (k0_pay26 Q) 64#32) (k0_pay32 k0_pay3 K0 M (k0_pay26 Q) 64#32) (s 1)) (k0_pay49 M (k0_pay27 k0_pay3 K0 (k0_pay26 Q) 64#32) (k0_pay41 (s 2)) (k0_pay42 M (k0_pay27 k0_pay3 K0 (k0_pay26 Q) 64#32)) (s 3)) (k0_pay61 M (k0_pay27 k0_pay3 K0 (k0_pay26 Q) 64#32) (k0_pay51 (s 4)) (k0_pay52 (k0_pay27 k0_pay3 K0 (k0_pay26 Q) 64#32)) k0_pay53 (s 5)) (k0_pay63 (s 6)) (k0_pay64 (k0_pay27 k0_pay3 K0 (k0_pay26 Q) 64#32)) (s 7)))
    = piece0 (valuesOf (powersOf M (k0_pay27 k0_pay3 K0 (k0_pay26 Q) 64#32) (s 0) (s 1) (s 2) (s 3) (s 4) (s 5) (s 6) (s 7)) (diagHigh (k0_pay22 KV)))
        (scaleOf (part00 M (k0_pay27 k0_pay3 K0 (k0_pay26 Q) 64#32)) (part01 M (k0_pay27 k0_pay3 K0 (k0_pay26 Q) 64#32)) (sinkOf (s 0)) (sinkOf (s 1))) := rfl

/-- What the kernel stores at lanes 128 to 255 of its output. -/
theorem piece01_eq : k0_pay184 (k0_pay50 k0_pay3 M (k0_pay27 k0_pay3 K0 (k0_pay26 Q) 64#32) (k0_pay41 (s 2)) (k0_pay42 M (k0_pay27 k0_pay3 K0 (k0_pay26 Q) 64#32)) (s 3)) (k0_pay178 k0_pay3 (k0_pay22 KV) (k0_pay73 M (k0_pay27 k0_pay3 K0 (k0_pay26 Q) 64#32) (k0_pay39 M (k0_pay27 k0_pay3 K0 (k0_pay26 Q) 64#32) (k0_pay30 (s 0)) (k0_pay31 k0_pay3 K0 M (k0_pay26 Q) 64#32) (k0_pay32 k0_pay3 K0 M (k0_pay26 Q) 64#32) (s 1)) (k0_pay49 M (k0_pay27 k0_pay3 K0 (k0_pay26 Q) 64#32) (k0_pay41 (s 2)) (k0_pay42 M (k0_pay27 k0_pay3 K0 (k0_pay26 Q) 64#32)) (s 3)) (k0_pay61 M (k0_pay27 k0_pay3 K0 (k0_pay26 Q) 64#32) (k0_pay51 (s 4)) (k0_pay52 (k0_pay27 k0_pay3 K0 (k0_pay26 Q) 64#32)) k0_pay53 (s 5)) (k0_pay63 (s 6)) (k0_pay64 (k0_pay27 k0_pay3 K0 (k0_pay26 Q) 64#32)) (s 7)))
    = piece1 (valuesOf (powersOf M (k0_pay27 k0_pay3 K0 (k0_pay26 Q) 64#32) (s 0) (s 1) (s 2) (s 3) (s 4) (s 5) (s 6) (s 7)) (diagHigh (k0_pay22 KV)))
        (scaleOf (part10 M (k0_pay27 k0_pay3 K0 (k0_pay26 Q) 64#32)) (part11 M (k0_pay27 k0_pay3 K0 (k0_pay26 Q) 64#32)) (sinkOf (s 2)) (sinkOf (s 3))) := rfl

/-- What the kernel stores at lanes 256 to 383 of its output. -/
theorem piece02_eq : k0_pay185 (k0_pay62 k0_pay3 M (k0_pay27 k0_pay3 K0 (k0_pay26 Q) 64#32) (k0_pay51 (s 4)) (k0_pay52 (k0_pay27 k0_pay3 K0 (k0_pay26 Q) 64#32)) k0_pay53 (s 5)) (k0_pay178 k0_pay3 (k0_pay22 KV) (k0_pay73 M (k0_pay27 k0_pay3 K0 (k0_pay26 Q) 64#32) (k0_pay39 M (k0_pay27 k0_pay3 K0 (k0_pay26 Q) 64#32) (k0_pay30 (s 0)) (k0_pay31 k0_pay3 K0 M (k0_pay26 Q) 64#32) (k0_pay32 k0_pay3 K0 M (k0_pay26 Q) 64#32) (s 1)) (k0_pay49 M (k0_pay27 k0_pay3 K0 (k0_pay26 Q) 64#32) (k0_pay41 (s 2)) (k0_pay42 M (k0_pay27 k0_pay3 K0 (k0_pay26 Q) 64#32)) (s 3)) (k0_pay61 M (k0_pay27 k0_pay3 K0 (k0_pay26 Q) 64#32) (k0_pay51 (s 4)) (k0_pay52 (k0_pay27 k0_pay3 K0 (k0_pay26 Q) 64#32)) k0_pay53 (s 5)) (k0_pay63 (s 6)) (k0_pay64 (k0_pay27 k0_pay3 K0 (k0_pay26 Q) 64#32)) (s 7)))
    = piece2 (valuesOf (powersOf M (k0_pay27 k0_pay3 K0 (k0_pay26 Q) 64#32) (s 0) (s 1) (s 2) (s 3) (s 4) (s 5) (s 6) (s 7)) (diagHigh (k0_pay22 KV)))
        (scaleOf (part20 M (k0_pay27 k0_pay3 K0 (k0_pay26 Q) 64#32)) (part21 M (k0_pay27 k0_pay3 K0 (k0_pay26 Q) 64#32)) (sinkOf (s 4)) (sinkOf (s 5))) := rfl

/-- What the kernel stores at lanes 384 to 511 of its output. -/
theorem piece03_eq : k0_pay186 (k0_pay72 k0_pay3 M (k0_pay27 k0_pay3 K0 (k0_pay26 Q) 64#32) (k0_pay63 (s 6)) (k0_pay64 (k0_pay27 k0_pay3 K0 (k0_pay26 Q) 64#32)) (s 7)) (k0_pay178 k0_pay3 (k0_pay22 KV) (k0_pay73 M (k0_pay27 k0_pay3 K0 (k0_pay26 Q) 64#32) (k0_pay39 M (k0_pay27 k0_pay3 K0 (k0_pay26 Q) 64#32) (k0_pay30 (s 0)) (k0_pay31 k0_pay3 K0 M (k0_pay26 Q) 64#32) (k0_pay32 k0_pay3 K0 M (k0_pay26 Q) 64#32) (s 1)) (k0_pay49 M (k0_pay27 k0_pay3 K0 (k0_pay26 Q) 64#32) (k0_pay41 (s 2)) (k0_pay42 M (k0_pay27 k0_pay3 K0 (k0_pay26 Q) 64#32)) (s 3)) (k0_pay61 M (k0_pay27 k0_pay3 K0 (k0_pay26 Q) 64#32) (k0_pay51 (s 4)) (k0_pay52 (k0_pay27 k0_pay3 K0 (k0_pay26 Q) 64#32)) k0_pay53 (s 5)) (k0_pay63 (s 6)) (k0_pay64 (k0_pay27 k0_pay3 K0 (k0_pay26 Q) 64#32)) (s 7)))
    = piece3 (valuesOf (powersOf M (k0_pay27 k0_pay3 K0 (k0_pay26 Q) 64#32) (s 0) (s 1) (s 2) (s 3) (s 4) (s 5) (s 6) (s 7)) (diagHigh (k0_pay22 KV)))
        (scaleOf (part30 M (k0_pay27 k0_pay3 K0 (k0_pay26 Q) 64#32)) (part31 M (k0_pay27 k0_pay3 K0 (k0_pay26 Q) 64#32)) (sinkOf (s 6)) (sinkOf (s 7))) := rfl

/-- What the kernel stores at lanes 512 to 639 of its output. -/
theorem piece10_eq : k0_pay187 (k0_pay83 k0_pay3 M (k0_pay28 k0_pay3 Q K0) (s 8) (s 9)) (k0_pay179 k0_pay3 (k0_pay23 KV) (k0_pay123 (k0_pay82 M (k0_pay28 k0_pay3 Q K0) (s 8) (s 9)) (k0_pay92 M (k0_pay28 k0_pay3 Q K0) (s 10) (s 11)) (k0_pay106 M (k0_pay28 k0_pay3 Q K0) (s 12) (s 13)) (k0_pay120 M (k0_pay28 k0_pay3 Q K0) (s 14) (s 15))))
    = piece0 (valuesOf (powersOf M (k0_pay28 k0_pay3 Q K0) (s 8) (s 9) (s 10) (s 11) (s 12) (s 13) (s 14) (s 15)) (diagLow (k0_pay23 KV)))
        (scaleOf (part00 M (k0_pay28 k0_pay3 Q K0)) (part01 M (k0_pay28 k0_pay3 Q K0)) (sinkOf (s 8)) (sinkOf (s 9))) := rfl

/-- What the kernel stores at lanes 640 to 767 of its output. -/
theorem piece11_eq : k0_pay189 (k0_pay188 (k0_pay96 (k0_pay93 k0_pay3) (k0_pay94 M (k0_pay28 k0_pay3 Q K0) (s 10)) (k0_pay95 M (k0_pay28 k0_pay3 Q K0) (s 11))) (k0_pay179 k0_pay3 (k0_pay23 KV) (k0_pay123 (k0_pay82 M (k0_pay28 k0_pay3 Q K0) (s 8) (s 9)) (k0_pay92 M (k0_pay28 k0_pay3 Q K0) (s 10) (s 11)) (k0_pay106 M (k0_pay28 k0_pay3 Q K0) (s 12) (s 13)) (k0_pay120 M (k0_pay28 k0_pay3 Q K0) (s 14) (s 15)))))
    = piece1 (valuesOf (powersOf M (k0_pay28 k0_pay3 Q K0) (s 8) (s 9) (s 10) (s 11) (s 12) (s 13) (s 14) (s 15)) (diagLow (k0_pay23 KV)))
        (scaleOf (part10 M (k0_pay28 k0_pay3 Q K0)) (part11 M (k0_pay28 k0_pay3 Q K0)) (sinkOf (s 10)) (sinkOf (s 11))) := rfl

/-- What the kernel stores at lanes 768 to 895 of its output. -/
theorem piece12_eq : k0_pay190 (k0_pay109 (k0_pay105 M (k0_pay28 k0_pay3 Q K0) (s 13)) (k0_pay107 k0_pay3) (k0_pay108 M (k0_pay28 k0_pay3 Q K0) (s 12))) (k0_pay179 k0_pay3 (k0_pay23 KV) (k0_pay123 (k0_pay82 M (k0_pay28 k0_pay3 Q K0) (s 8) (s 9)) (k0_pay92 M (k0_pay28 k0_pay3 Q K0) (s 10) (s 11)) (k0_pay106 M (k0_pay28 k0_pay3 Q K0) (s 12) (s 13)) (k0_pay120 M (k0_pay28 k0_pay3 Q K0) (s 14) (s 15))))
    = piece2 (valuesOf (powersOf M (k0_pay28 k0_pay3 Q K0) (s 8) (s 9) (s 10) (s 11) (s 12) (s 13) (s 14) (s 15)) (diagLow (k0_pay23 KV)))
        (scaleOf (part20 M (k0_pay28 k0_pay3 Q K0)) (part21 M (k0_pay28 k0_pay3 Q K0)) (sinkOf (s 12)) (sinkOf (s 13))) := rfl

/-- What the kernel stores at lanes 896 to 1023 of its output. -/
theorem piece13_eq : k0_pay191 (k0_pay122 (k0_pay114 M (k0_pay28 k0_pay3 Q K0) (s 14)) (k0_pay119 M (k0_pay28 k0_pay3 Q K0) (s 15)) (k0_pay121 k0_pay3)) (k0_pay179 k0_pay3 (k0_pay23 KV) (k0_pay123 (k0_pay82 M (k0_pay28 k0_pay3 Q K0) (s 8) (s 9)) (k0_pay92 M (k0_pay28 k0_pay3 Q K0) (s 10) (s 11)) (k0_pay106 M (k0_pay28 k0_pay3 Q K0) (s 12) (s 13)) (k0_pay120 M (k0_pay28 k0_pay3 Q K0) (s 14) (s 15))))
    = piece3 (valuesOf (powersOf M (k0_pay28 k0_pay3 Q K0) (s 8) (s 9) (s 10) (s 11) (s 12) (s 13) (s 14) (s 15)) (diagLow (k0_pay23 KV)))
        (scaleOf (part30 M (k0_pay28 k0_pay3 Q K0)) (part31 M (k0_pay28 k0_pay3 Q K0)) (sinkOf (s 14)) (sinkOf (s 15))) := rfl

/-- What the kernel stores at lanes 1024 to 1151 of its output. -/
theorem piece20_eq : k0_pay192 (k0_pay136 k0_pay3 (k0_pay128 M (k0_pay29 k0_pay3 Q K1) (s 16)) (k0_pay134 M (k0_pay29 k0_pay3 Q K1) (s 17))) (k0_pay182 (k0_pay177 (k0_pay135 (k0_pay129 M (k0_pay29 k0_pay3 Q K1) (s 16)) (k0_pay133 M (k0_pay29 k0_pay3 Q K1) (s 17))) (k0_pay148 (k0_pay142 M (k0_pay29 k0_pay3 Q K1) (s 18)) (k0_pay146 M (k0_pay29 k0_pay3 Q K1) (s 19))) (k0_pay162 (k0_pay155 M (k0_pay29 k0_pay3 Q K1) (s 20)) (k0_pay159 M (k0_pay29 k0_pay3 Q K1) (s 21))) (k0_pay169 M (k0_pay29 k0_pay3 Q K1) (s 22)) (k0_pay173 M (k0_pay29 k0_pay3 Q K1) (s 23))) (k0_pay180 k0_pay3 (k0_pay24 KV)) (k0_pay181 k0_pay3 (k0_pay24 KV)))
    = piece0 (valuesOf (powersOf M (k0_pay29 k0_pay3 Q K1) (s 16) (s 17) (s 18) (s 19) (s 20) (s 21) (s 22) (s 23)) (diagHigh (k0_pay24 KV)))
        (scaleOf (part00 M (k0_pay29 k0_pay3 Q K1)) (part01 M (k0_pay29 k0_pay3 Q K1)) (sinkOf (s 16)) (sinkOf (s 17))) := rfl

/-- What the kernel stores at lanes 1152 to 1279 of its output. -/
theorem piece21_eq : k0_pay193 (k0_pay149 k0_pay3 (k0_pay141 M (k0_pay29 k0_pay3 Q K1) (s 18)) (k0_pay147 M (k0_pay29 k0_pay3 Q K1) (s 19)) (FloatOps.ofBits FTy.f32 1065353216#32)) (k0_pay182 (k0_pay177 (k0_pay135 (k0_pay129 M (k0_pay29 k0_pay3 Q K1) (s 16)) (k0_pay133 M (k0_pay29 k0_pay3 Q K1) (s 17))) (k0_pay148 (k0_pay142 M (k0_pay29 k0_pay3 Q K1) (s 18)) (k0_pay146 M (k0_pay29 k0_pay3 Q K1) (s 19))) (k0_pay162 (k0_pay155 M (k0_pay29 k0_pay3 Q K1) (s 20)) (k0_pay159 M (k0_pay29 k0_pay3 Q K1) (s 21))) (k0_pay169 M (k0_pay29 k0_pay3 Q K1) (s 22)) (k0_pay173 M (k0_pay29 k0_pay3 Q K1) (s 23))) (k0_pay180 k0_pay3 (k0_pay24 KV)) (k0_pay181 k0_pay3 (k0_pay24 KV)))
    = piece1 (valuesOf (powersOf M (k0_pay29 k0_pay3 Q K1) (s 16) (s 17) (s 18) (s 19) (s 20) (s 21) (s 22) (s 23)) (diagHigh (k0_pay24 KV)))
        (scaleOf (part10 M (k0_pay29 k0_pay3 Q K1)) (part11 M (k0_pay29 k0_pay3 Q K1)) (sinkOf (s 18)) (sinkOf (s 19))) := rfl

/-- What the kernel stores at lanes 1280 to 1407 of its output. -/
theorem piece22_eq : k0_pay194 (k0_pay163 k0_pay3 (k0_pay154 M (k0_pay29 k0_pay3 Q K1) (s 20)) (k0_pay160 M (k0_pay29 k0_pay3 Q K1) (s 21)) (k0_pay161 M (k0_pay29 k0_pay3 Q K1) (s 21))) (k0_pay182 (k0_pay177 (k0_pay135 (k0_pay129 M (k0_pay29 k0_pay3 Q K1) (s 16)) (k0_pay133 M (k0_pay29 k0_pay3 Q K1) (s 17))) (k0_pay148 (k0_pay142 M (k0_pay29 k0_pay3 Q K1) (s 18)) (k0_pay146 M (k0_pay29 k0_pay3 Q K1) (s 19))) (k0_pay162 (k0_pay155 M (k0_pay29 k0_pay3 Q K1) (s 20)) (k0_pay159 M (k0_pay29 k0_pay3 Q K1) (s 21))) (k0_pay169 M (k0_pay29 k0_pay3 Q K1) (s 22)) (k0_pay173 M (k0_pay29 k0_pay3 Q K1) (s 23))) (k0_pay180 k0_pay3 (k0_pay24 KV)) (k0_pay181 k0_pay3 (k0_pay24 KV)))
    = piece2 (valuesOf (powersOf M (k0_pay29 k0_pay3 Q K1) (s 16) (s 17) (s 18) (s 19) (s 20) (s 21) (s 22) (s 23)) (diagHigh (k0_pay24 KV)))
        (scaleOf (part20 M (k0_pay29 k0_pay3 Q K1)) (part21 M (k0_pay29 k0_pay3 Q K1)) (sinkOf (s 20)) (sinkOf (s 21))) := rfl

/-- What the kernel stores at lanes 1408 to 1535 of its output. -/
theorem piece23_eq : k0_pay1 (k0_pay195 (k0_pay176 k0_pay3 (k0_pay168 M (k0_pay29 k0_pay3 Q K1) (s 22)) (k0_pay172 M (k0_pay29 k0_pay3 Q K1) (s 23)) (k0_pay174 M (k0_pay29 k0_pay3 Q K1) (s 23)) (k0_pay175 (s 23))) (k0_pay182 (k0_pay177 (k0_pay135 (k0_pay129 M (k0_pay29 k0_pay3 Q K1) (s 16)) (k0_pay133 M (k0_pay29 k0_pay3 Q K1) (s 17))) (k0_pay148 (k0_pay142 M (k0_pay29 k0_pay3 Q K1) (s 18)) (k0_pay146 M (k0_pay29 k0_pay3 Q K1) (s 19))) (k0_pay162 (k0_pay155 M (k0_pay29 k0_pay3 Q K1) (s 20)) (k0_pay159 M (k0_pay29 k0_pay3 Q K1) (s 21))) (k0_pay169 M (k0_pay29 k0_pay3 Q K1) (s 22)) (k0_pay173 M (k0_pay29 k0_pay3 Q K1) (s 23))) (k0_pay180 k0_pay3 (k0_pay24 KV)) (k0_pay181 k0_pay3 (k0_pay24 KV))))
    = piece3 (valuesOf (powersOf M (k0_pay29 k0_pay3 Q K1) (s 16) (s 17) (s 18) (s 19) (s 20) (s 21) (s 22) (s 23)) (diagHigh (k0_pay24 KV)))
        (scaleOf (part30 M (k0_pay29 k0_pay3 Q K1)) (part31 M (k0_pay29 k0_pay3 Q K1)) (sinkOf (s 22)) (sinkOf (s 23))) := rfl

end Pieces

end Cert.SwaIdeal.Hand

end
-- ==== Proof.SwaMath.lean ====
module

public import Idealize.ShloMosaic.Lib.Pointwise
public import Idealize.ShloMosaic.Lib.Pipeline.ValueKit

@[expose] public section

set_option maxRecDepth 16384

noncomputable section

/-! Windowed attention with sinks over extended reals: normalised and rotated heads, a softmax in base two of scaled
scores, and the same in base e. -/

namespace Hand.Swa

open Idealize.ShloMosaic

/-- A head's 64 elements normalised by their root mean square, times the gain. -/
def norm (x g : Fin 64 → EReal) (e : Fin 64) : EReal :=
  x e * Ideal.rsqrt (Ideal.div (∑ d, x d * x d) (Ideal.ofBits FTy.f32 0x42800000#32) + Ideal.ofBits FTy.f32 0x358637BD#32) * g e

/-- A head turned by its 32 angles: element `e` with `e + 32`. -/
def rot (y : Fin 64 → EReal) (ang : Fin 32 → EReal) (e : Fin 64) : EReal :=
  if h : e.val < 32 then
    y e * Ideal.cos (ang ⟨e.val, h⟩) - y ⟨e.val + 32, by omega⟩ * Ideal.sin (ang ⟨e.val, h⟩)
  else y e * Ideal.cos (ang ⟨e.val - 32, by omega⟩) + y ⟨e.val - 32, by omega⟩ * Ideal.sin (ang ⟨e.val - 32, by omega⟩)

/-- The greatest score, the sink among them. -/
def top (z : Fin 256 → EReal) (s : EReal) : EReal :=
  max (Finset.fold max (Ideal.ofBits FTy.f32 0xFF800000#32) z Finset.univ) s

/-- The attention's output: the values weighted by the softmax of the scores, the sink in its denominator. -/
def attend (z v : Fin 256 → EReal) (s : EReal) : EReal :=
  ∑ k, Ideal.div (Ideal.exp (z k - top z s)) ((∑ j, Ideal.exp (z j - top z s)) + Ideal.exp (s - top z s)) * v k

/-- The same with powers of two, and the division after the sum. -/
def attend2 (z v : Fin 256 → EReal) (s : EReal) : EReal :=
  (∑ k, Ideal.exp2 (z k - top z s) * v k)
    * Ideal.div (Ideal.ofBits FTy.f32 0x3F800000#32) ((∑ j, Ideal.exp2 (z j - top z s)) + Ideal.exp2 (s - top z s))

/-- Lanes of one 64-wide half of 128 lanes. -/
abbrev half (p : Fin 2) (e : Fin 64) : Fin 128 := ⟨64 * p.val + e.val, by omega⟩

/-- One at lanes of the same half. -/
def same (l j : Fin 128) : EReal := if (l.val < 64 ↔ j.val < 64) then 1 else 0

/-- Two heads' lanes normalised together: the squares' sums by a product with a matrix of ones and zeroes, the rounding
remainder of each square summed apart. -/
def norm2 (x g : Fin 128 → EReal) (j : Fin 128) : EReal :=
  x j * Ideal.rsqrt (((∑ l, x l * x l * same l j) + ∑ l, (x l * x l - x l * x l) * same l j) * Ideal.ofBits FTy.f32 0x3C800000#32
    + Ideal.ofBits FTy.f32 0x358637BD#32) * g j

/-- Two heads' lanes turned together, by signed sines. -/
def rot2 (y ang : Fin 128 → EReal) (j : Fin 128) : EReal :=
  y j * Ideal.cos (ang j)
    + (if j.val % 64 < 32 then y ⟨(j.val + 128 - 96) % 128, Nat.mod_lt _ (by norm_num)⟩ else y ⟨(j.val + 128 - 32) % 128, Nat.mod_lt _ (by norm_num)⟩)
      * (if j.val % 64 < 32 then Ideal.ofBits FTy.f32 0x00000000#32 - Ideal.sin (ang j) else Ideal.sin (ang j))

/-- The word of minus infinity. -/
theorem bot_bits : Ideal.ofBits FTy.f32 0xFF800000#32 = ⊥ := by
  simp [Ideal.ofBits, Ideal.ieee]

/-- The word of zero. -/
theorem zero_bits : Ideal.ofBits FTy.f32 0x00000000#32 = 0 := by
  simp [Ideal.ofBits, Ideal.ieee]

/-- The word of one. -/
theorem one_bits : Ideal.ofBits FTy.f32 0x3F800000#32 = ((1 : ℝ) : EReal) := by
  simp [Ideal.ofBits, Ideal.ieee, -EReal.coe_mul]; norm_num

/-- The word of one, of sixteen bits. -/
theorem one_bits_b : Ideal.ofBits FTy.bf16 0x3F80#16 = ((1 : ℝ) : EReal) := by
  simp [Ideal.ofBits, Ideal.ieee, -EReal.coe_mul]; norm_num

/-- The word of 64. -/
theorem bits_64 : Ideal.ofBits FTy.f32 0x42800000#32 = ((64 : ℝ) : EReal) := by
  simp [Ideal.ofBits, Ideal.ieee, -EReal.coe_mul]; norm_num

/-- The word of 1/64. -/
theorem bits_64th : Ideal.ofBits FTy.f32 0x3C800000#32 = ((1 / 64 : ℝ) : EReal) := by
  simp [Ideal.ofBits, Ideal.ieee, -EReal.coe_mul]; norm_num

/-- The word of 1/8. -/
theorem bits_8th : Ideal.ofBits FTy.f32 0x3E000000#32 = ((1 / 8 : ℝ) : EReal) := by
  simp [Ideal.ofBits, Ideal.ieee, -EReal.coe_mul]; norm_num

/-- The word added to a mean square is a positive real. -/
theorem eps_bits : ∃ r : ℝ, 0 < r ∧ Ideal.ofBits FTy.f32 0x358637BD#32 = (r : EReal) := by
  refine ⟨_, ?_, by simp [Ideal.ofBits, Ideal.ieee, -EReal.coe_mul]; rfl⟩
  positivity

/-- A finite sum of reals, as extended reals. -/
theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- Multiplication with a nonnegative real distributes over a finite sum. -/
theorem sum_mul_coe {ι : Type} (s : Finset ι) (f : ι → EReal) (r : ℝ) (h : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast h) (EReal.coe_ne_top _) _ _

/-- The normalised head of reals is real. -/
theorem norm_real (x g : Fin 64 → ℝ) : ∃ y : Fin 64 → ℝ, ∀ e, norm (fun d => (x d : EReal)) (fun d => (g d : EReal)) e = (y e : EReal) := by
  obtain ⟨r, hr, he⟩ := eps_bits
  have h0 : 0 ≤ ∑ d, x d * x d := Finset.sum_nonneg fun d _ => mul_self_nonneg _
  have h1 : 0 < (∑ d, x d * x d) * (1 / 64) + r := by positivity
  refine ⟨fun e => x e * (Real.sqrt ((∑ d, x d * x d) * (1 / 64) + r))⁻¹ * g e, fun e => ?_⟩
  have hs : (∑ d, (x d : EReal) * (x d : EReal)) = ((∑ d, x d * x d : ℝ) : EReal) := by
    rw [← sum_coe]; exact Finset.sum_congr rfl fun d _ => (EReal.coe_mul _ _).symm
  unfold norm
  rw [he, bits_64, Ideal.div_coe (by norm_num), hs, ← EReal.coe_mul, ← EReal.coe_add, Ideal.rsqrt_coe, if_neg (not_lt.mpr h1.le),
    if_neg h1.ne', ← EReal.coe_mul, ← EReal.coe_mul]

/-- The squares of the lanes of one half. -/
theorem same_sum (x : Fin 128 → EReal) (p : Fin 2) (e : Fin 64) :
    (∑ l, x l * same l (half p e)) = ∑ d, x (half p d) := by
  have hsplit := Fin.sum_univ_add (a := 64) (b := 64) fun l => x l * same l (half p e)
  refine hsplit.trans ?_
  have he := e.isLt
  fin_cases p
  · have h1 : ∀ d : Fin 64, same (Fin.castAdd 64 d) (half 0 e) = 1 := fun d => if_pos (by simp)
    have h2 : ∀ d : Fin 64, same (Fin.natAdd 64 d : Fin (64 + 64)) (half 0 e) = 0 := fun d => if_neg (by simp)
    show (∑ d, x (Fin.castAdd 64 d) * same (Fin.castAdd 64 d) (half 0 e)) + (∑ d, x (Fin.natAdd 64 d : Fin (64 + 64)) * same (Fin.natAdd 64 d : Fin (64 + 64)) (half 0 e)) = _
    simp only [h1, h2, mul_one, mul_zero, Finset.sum_const_zero, add_zero]
    exact Finset.sum_congr rfl fun d _ => congrArg x (Fin.ext (by simp))
  · have h1 : ∀ d : Fin 64, same (Fin.castAdd 64 d) (half 1 e) = 0 := fun d => if_neg (by simp)
    have h2 : ∀ d : Fin 64, same (Fin.natAdd 64 d : Fin (64 + 64)) (half 1 e) = 1 := fun d => if_pos (by simp)
    show (∑ d, x (Fin.castAdd 64 d) * same (Fin.castAdd 64 d) (half 1 e)) + (∑ d, x (Fin.natAdd 64 d : Fin (64 + 64)) * same (Fin.natAdd 64 d : Fin (64 + 64)) (half 1 e)) = _
    simp only [h1, h2, mul_one, mul_zero, Finset.sum_const_zero, zero_add]
    exact Finset.sum_congr rfl fun d _ => congrArg x (Fin.ext (by simp; omega))

/-- The lanes of two heads of reals, normalised together, are each head normalised, times the gain's real factor. -/
theorem norm2_eq (x : Fin 128 → EReal) (g : Fin 128 → EReal) (p : Fin 2) (hx : ∀ d, ∃ r : ℝ, x (half p d) = r) (e : Fin 64) :
    norm2 x g (half p e) = norm (fun d => x (half p d)) (fun d => g (half p d)) e := by
  have hz : ∀ d, x (half p d) * x (half p d) - x (half p d) * x (half p d) = 0 := fun d => by
    obtain ⟨r, hr⟩ := hx d
    rw [hr, ← EReal.coe_mul, ← EReal.coe_sub, sub_self, EReal.coe_zero]
  unfold norm2 norm
  rw [same_sum (fun l => x l * x l), same_sum (fun l => x l * x l - x l * x l), bits_64, Ideal.div_coe (by norm_num), bits_64th]
  simp only [hz, Finset.sum_const_zero, add_zero]

/-- The lanes of two heads turned together are each head turned, times a common real factor. -/
theorem rot2_eq (y : Fin 128 → EReal) (ang : Fin 128 → EReal) (a : Fin 32 → ℝ) (p : Fin 2) (w : Fin 64 → ℝ) (k : ℝ)
    (hy : ∀ e, y (half p e) = ((w e * k : ℝ) : EReal)) (ha : ∀ e, ang (half p e) = ((a ⟨e.val % 32, Nat.mod_lt _ (by norm_num)⟩ : ℝ) : EReal)) (e : Fin 64) :
    rot2 y ang (half p e) = rot (fun d => (w d : EReal)) (fun i => (a i : EReal)) e * (k : EReal) := by
  have he := e.isLt
  have hp := p.isLt
  have hm : (half p e).val % 64 = e.val := by show (64 * p.val + e.val) % 64 = e.val; omega
  unfold rot2 rot
  rw [hm, zero_bits, hy, ha]
  by_cases h : e.val < 32
  · have h1 : (⟨((half p e).val + 128 - 96) % 128, Nat.mod_lt _ (by norm_num)⟩ : Fin 128) = half p ⟨e.val + 32, by omega⟩ :=
      Fin.ext (by show (64 * p.val + e.val + 32) % 128 = 64 * p.val + (e.val + 32); omega)
    have h2 : (⟨e.val % 32, Nat.mod_lt _ (by norm_num)⟩ : Fin 32) = ⟨e.val, h⟩ := Fin.ext (Nat.mod_eq_of_lt h)
    rw [if_pos h, if_pos h, dif_pos h, h1, hy, h2, Ideal.cos_coe, Ideal.sin_coe]
    simp only [zero_sub, ← EReal.coe_neg, ← EReal.coe_mul, ← EReal.coe_add, ← EReal.coe_sub]
    congr 1; ring
  · have h1 : (⟨((half p e).val + 128 - 32) % 128, Nat.mod_lt _ (by norm_num)⟩ : Fin 128) = half p ⟨e.val - 32, by omega⟩ :=
      Fin.ext (by show (64 * p.val + e.val + 96) % 128 = 64 * p.val + (e.val - 32); omega)
    have h2 : (⟨e.val % 32, Nat.mod_lt _ (by norm_num)⟩ : Fin 32) = ⟨e.val - 32, by omega⟩ :=
      Fin.ext (by show e.val % 32 = e.val - 32; omega)
    rw [if_neg h, if_neg h, dif_neg h, h1, hy, h2, Ideal.cos_coe, Ideal.sin_coe]
    simp only [← EReal.coe_mul, ← EReal.coe_add]
    congr 1; ring

/-- A turned head of reals is real. -/
theorem rot_real (w : Fin 64 → ℝ) (a : Fin 32 → ℝ) (e : Fin 64) :
    ∃ r : ℝ, rot (fun d => (w d : EReal)) (fun i => (a i : EReal)) e = (r : EReal) := by
  unfold rot
  split
  · exact ⟨_, by rw [Ideal.cos_coe, Ideal.sin_coe, ← EReal.coe_mul, ← EReal.coe_mul, ← EReal.coe_sub]⟩
  · exact ⟨_, by rw [Ideal.cos_coe, Ideal.sin_coe, ← EReal.coe_mul, ← EReal.coe_mul, ← EReal.coe_add]⟩

/-- A positive real factor passes through the maximum of two. -/
theorem max_mul (a b : EReal) (k : ℝ) (hk : 0 < k) : max (a * (k : EReal)) (b * (k : EReal)) = max a b * (k : EReal) := by
  have hm : Monotone fun x : EReal => x * (k : EReal) := fun x y hxy => mul_le_mul_of_nonneg_right hxy (by exact_mod_cast hk.le)
  exact (hm.map_max (a := a) (b := b)).symm

/-- And through the greatest of a finite family, from the bottom. -/
theorem fold_max_mul {ι : Type} (s : Finset ι) (f : ι → EReal) (k : ℝ) (hk : 0 < k) :
    Finset.fold max (⊥ : EReal) (fun i => f i * (k : EReal)) s = Finset.fold max ⊥ f s * (k : EReal) := by
  classical
  induction s using Finset.induction_on with
  | empty => simp only [Finset.fold_empty]; exact (EReal.bot_mul_coe_of_pos hk).symm
  | insert a s ha ih => rw [Finset.fold_insert ha, Finset.fold_insert ha, ih, max_mul _ _ k hk]

/-- The greatest of finitely many extended reals below infinity is below infinity. -/
theorem fold_max_lt_top {ι : Type} (s : Finset ι) (f : ι → EReal) (h : ∀ i, f i < ⊤) : Finset.fold max (⊥ : EReal) f s < ⊤ := by
  classical
  induction s using Finset.induction_on with
  | empty => exact bot_lt_top
  | insert a s ha ih => rw [Finset.fold_insert ha]; exact max_lt (h a) ih

/-- The greatest of finitely many scores below infinity, with a real sink, is real. -/
theorem top_real (z : Fin 256 → EReal) (s : ℝ) (hz : ∀ k, z k ≠ ⊤) : ∃ r : ℝ, top z s = r := by
  have h1 : top z s ≠ ⊤ := by
    refine ne_of_lt (max_lt ?_ (EReal.coe_lt_top _))
    rw [bot_bits]
    exact fold_max_lt_top _ _ fun k => lt_top_iff_ne_top.mpr (hz k)
  have h2 : top z s ≠ ⊥ := ne_of_gt (lt_of_lt_of_le (EReal.bot_lt_coe s) (le_max_right _ _))
  exact ⟨(top z s).toReal, (EReal.coe_toReal h1 h2).symm⟩

/-- A power of two of a difference divided by the logarithm of two is the exponential of the difference. -/
theorem exp2_scale (z : EReal) (hz : z ≠ ⊤) (r : ℝ) :
    Ideal.exp2 (z * (((Real.log 2)⁻¹ : ℝ) : EReal) - (r : EReal) * (((Real.log 2)⁻¹ : ℝ) : EReal)) = Ideal.exp (z - (r : EReal)) := by
  have hl : 0 < Real.log 2 := Real.log_pos (by norm_num)
  induction z with
  | bot => rw [EReal.bot_mul_coe_of_pos (inv_pos.mpr hl), ← EReal.coe_mul, EReal.bot_sub, EReal.bot_sub]; rfl
  | top => exact absurd rfl hz
  | coe z =>
    rw [← EReal.coe_mul, ← EReal.coe_mul, ← EReal.coe_sub, ← EReal.coe_sub, Ideal.exp2_coe, Ideal.exp_coe]
    congr 1
    show (2 : ℝ) ^ (z * (Real.log 2)⁻¹ - r * (Real.log 2)⁻¹) = _
    rw [Real.rpow_def_of_pos (by norm_num)]
    congr 1; field_simp

/-- The exponential of a score below infinity less a real is a nonnegative real. -/
theorem exp_real (z : EReal) (hz : z ≠ ⊤) (r : ℝ) : ∃ e : ℝ, 0 ≤ e ∧ Ideal.exp (z - (r : EReal)) = e := by
  induction z with
  | bot => exact ⟨0, le_refl _, by rw [EReal.bot_sub]; rfl⟩
  | top => exact absurd rfl hz
  | coe z => exact ⟨Real.exp (z - r), (Real.exp_pos _).le, by rw [← EReal.coe_sub]; rfl⟩

/-- The two softmaxes agree: scores and sink divided by the logarithm of two and powers of two, or base e; the values
may differ where the score is the bottom. -/
theorem attend2_eq (z z' v v' : Fin 256 → EReal) (s : ℝ) (s' : EReal) (hz : ∀ k, z k ≠ ⊤)
    (hz' : ∀ k, z' k = z k * (((Real.log 2)⁻¹ : ℝ) : EReal)) (hs' : s' = (s : EReal) * (((Real.log 2)⁻¹ : ℝ) : EReal))
    (hv : ∀ k, z k = ⊥ ∨ v' k = v k) : attend2 z' v' s' = attend z v s := by
  have hl : 0 < (Real.log 2)⁻¹ := inv_pos.mpr (Real.log_pos (by norm_num))
  obtain ⟨r, hr⟩ := top_real z s hz
  have ht : top z' s' = (r : EReal) * (((Real.log 2)⁻¹ : ℝ) : EReal) := by
    rw [← hr]
    unfold top
    rw [hs', funext hz', bot_bits, fold_max_mul _ _ _ hl, max_mul _ _ _ hl]
  have he : ∀ k, Ideal.exp2 (z' k - top z' s') = Ideal.exp (z k - (r : EReal)) := fun k => by rw [ht, hz', exp2_scale _ (hz k)]
  have hes : Ideal.exp2 (s' - top z' s') = Ideal.exp ((s : EReal) - (r : EReal)) := by
    rw [ht, hs', exp2_scale _ (EReal.coe_ne_top s)]
  choose p hp0 hp using fun k => exp_real (z k) (hz k) r
  have hsr : Ideal.exp ((s : EReal) - (r : EReal)) = ((Real.exp (s - r) : ℝ) : EReal) := by rw [← EReal.coe_sub]; rfl
  have hD : 0 < (∑ k, p k) + Real.exp (s - r) := add_pos_of_nonneg_of_pos (Finset.sum_nonneg fun k _ => hp0 k) (Real.exp_pos _)
  unfold attend2 attend
  simp only [he, hes, hr, hp, hsr]
  rw [sum_coe, ← EReal.coe_add, Ideal.div_coe hD.ne', one_bits, ← EReal.coe_mul, one_mul, sum_mul_coe _ _ _ (by positivity)]
  refine Finset.sum_congr rfl fun k _ => ?_
  rw [Ideal.div_coe hD.ne', mul_right_comm]
  rcases hv k with h | h
  · have : p k = 0 := by
      have h1 := hp k
      rw [h, EReal.bot_sub] at h1
      exact (EReal.coe_eq_zero.mp (h1.symm : ((p k : ℝ) : EReal) = 0))
    rw [this, EReal.coe_zero, zero_mul, zero_mul, zero_mul]
  · rw [h]

end Hand.Swa

end
-- ==== Proof.SwaHead.lean ====
module

public import proofs.«01_k».proof.Proof.SwaStep
public import proofs.«01_k».proof.Proof.SwaMath

@[expose] public section

set_option maxRecDepth 16384

noncomputable section

namespace Cert.SwaIdeal.Hand

open Cert.SwaIdeal Cert.SwaIdeal.Gen Idealize.ShloMosaic Idealize.ShloMosaic.TcCoe Idealize.SL.Sem
open Hand.Swa

/-! The attention of one block of 128 positions, at an element. -/

/-- A mask of the lanes: the first half. -/
theorem low_lane (l : Fin 128) : k0_pay3 (ix2 0 l) = (if l.val < 64 then 1#1 else 0#1) :=
  (by decide +kernel : ∀ l : Fin 128, k0_pay3 (ix2 0 l) = (if l.val < 64 then 1#1 else 0#1)) l

/-- A selection by a bit is a choice. -/
theorem select_bit {α : Type} (c : BitVec 1) (x y : α) : Scalar.select c x y = if c = 1#1 then x else y := by
  unfold Scalar.select
  rcases (by decide : ∀ c : BitVec 1, c = 0#1 ∨ c = 1#1) c with rfl | rfl <;> rfl

/-- The same with a bit that a proposition decides. -/
theorem select_if {α : Type} (p : Prop) [Decidable p] (x y : α) : Scalar.select (if p then 1#1 else 0#1) x y = if p then x else y := by
  by_cases h : p
  · rw [if_pos h, if_pos h]; exact select_bit _ _ _
  · rw [if_neg h, if_neg h]; exact select_bit _ _ _

/-- Masked scores at an index. -/
theorem masked_apply (M : IVec S128x256 1) (x : FVec Ideal S128x256 .f32) (a : Fin 128) (s : Fin 256) :
    masked M x (ix2 a s) = if M (ix2 a s) = 1#1 then x (ix2 a s) else Ideal.ofBits FTy.f32 0xFF800000#32 := by
  unfold masked
  pointwise
  exact select_bit _ _ _

/-- The greatest of a row, at an index. -/
theorem topOf_apply (z : FVec Ideal S128x256 .f32) (s : Ideal .f32) (a : Fin 128) :
    topOf z s (ix2 a 0) = top (fun k => z (ix2 a k)) s := by
  unfold topOf top
  pointwise

/-- The powers of a row, at an index. -/
theorem expsOf_apply (z : FVec Ideal S128x256 .f32) (s : Ideal .f32) (a : Fin 128) (k : Fin 256) :
    expsOf z s (ix2 a k) = Ideal.exp2 (z (ix2 a k) - top (fun k => z (ix2 a k)) s) := by
  rw [← topOf_apply]
  unfold expsOf
  generalize topOf z s = T
  pointwise
  rfl

/-- The reciprocal of the denominator of a row. -/
theorem recipOf_apply (z : FVec Ideal S128x256 .f32) (s : Ideal .f32) (a : Fin 128) :
    recipOf z s (ix2 a 0) = Ideal.div (Ideal.ofBits FTy.f32 0x3F800000#32)
      ((∑ k, expsOf z s (ix2 a k)) + Ideal.exp2 (s - top (fun k => z (ix2 a k)) s)) := by
  rw [← topOf_apply]
  unfold recipOf
  generalize expsOf z s = E
  generalize topOf z s = T
  pointwise
  rfl

/-- Two heads' powers side by side, at an index. -/
theorem rowOf_apply (z0 z1 : FVec Ideal S128x256 .f32) (s0 s1 : Ideal .f32) (a : Fin 128) (k : Fin 512) :
    rowOf z0 z1 s0 s1 (ix2 a k) = if h : k.val < 256 then expsOf z0 s0 (ix2 a ⟨k.val, h⟩) else expsOf z1 s1 (ix2 a ⟨k.val - 256, by omega⟩) := by
  unfold rowOf
  generalize expsOf z0 s0 = E
  generalize expsOf z1 s1 = T
  pointwise

/-- Two heads' reciprocals over their lanes, at an index. -/
theorem scaleOf_apply (z0 z1 : FVec Ideal S128x256 .f32) (s0 s1 : Ideal .f32) (a : Fin 128) (l : Fin 128) :
    scaleOf z0 z1 s0 s1 (ix2 a l) = if l.val < 64 then recipOf z0 s0 (ix2 a 0) else recipOf z1 s1 (ix2 a 0) := by
  have h3 := low_lane l
  unfold scaleOf
  generalize recipOf z0 s0 = E
  generalize recipOf z1 s1 = T
  generalize k0_pay3 = P at *
  pointwise [h3]
  simp only [select_if]

/-- Keys or values on a block diagonal, from the low half of the lanes. -/
theorem diagLow_apply (x : FVec Ideal S256x128 .f32) (k : Fin 512) (l : Fin 128) :
    diagLow x (ix2 k l) = if h : k.val < 256 then (if l.val < 64 then x (ix2 ⟨k.val, h⟩ l) else 0)
      else (if l.val < 64 then 0 else x (ix2 ⟨k.val - 256, by omega⟩ ⟨(l.val + 128 - 64) % 128, Nat.mod_lt _ (by norm_num)⟩)) := by
  have h3 := low_lane l
  unfold diagLow
  generalize k0_pay3 = P at *
  pointwise [h3]
  simp only [select_if]

/-- Keys or values on a block diagonal, from the high half of the lanes. -/
theorem diagHigh_apply (x : FVec Ideal S256x128 .f32) (k : Fin 512) (l : Fin 128) :
    diagHigh x (ix2 k l) = if h : k.val < 256 then (if l.val < 64 then x (ix2 ⟨k.val, h⟩ ⟨(l.val + 128 - 64) % 128, Nat.mod_lt _ (by norm_num)⟩) else 0)
      else (if l.val < 64 then 0 else x (ix2 ⟨k.val - 256, by omega⟩ l)) := by
  have h3 := low_lane l
  unfold diagHigh
  generalize k0_pay3 = P at *
  pointwise [h3]
  simp only [select_if]

/-- Four columns' scores, at an index. -/
theorem scoresOf_apply (q : FVec Ideal S512x128 .bf16) (d : FVec Ideal S512x128 .bf16) (r k : Fin 512) :
    scoresOf q d (ix2 r k) = ∑ l : Fin 128, q (ix2 r l) * d (ix2 k l) := by
  unfold scoresOf
  pointwise

/-- Four columns' weighted values, at an index. -/
theorem valuesOf_apply (q : FVec Ideal S512x512 .bf16) (d : FVec Ideal S512x128 .bf16) (r : Fin 512) (l : Fin 128) :
    valuesOf q d (ix2 r l) = ∑ k : Fin 512, q (ix2 r k) * d (ix2 k l) := by
  unfold valuesOf
  pointwise

/-- Four columns' powers one below another, at an index. -/
theorem stacked_apply (r0 r1 r2 r3 : FVec Ideal S128x512 .bf16) (r k : Fin 512) :
    stacked r0 r1 r2 r3 (ix2 r k) = if h : r.val < 128 then r0 (ix2 ⟨r.val, h⟩ k)
      else if h' : r.val - 128 < 128 then r1 (ix2 ⟨r.val - 128, h'⟩ k)
      else if h'' : r.val - 128 - 128 < 128 then r2 (ix2 ⟨r.val - 128 - 128, h''⟩ k) else r3 (ix2 ⟨r.val - 128 - 128 - 128, by omega⟩ k) := by
  unfold stacked
  pointwise

/-- Column 0's piece of the output, at an index. -/
theorem piece0_apply (o : FVec Ideal S512x128 .f32) (c : FVec Ideal S128x128 .f32) (a l : Fin 128) :
    piece0 o c (ix3 0 a l) = o (ix2 ⟨0 + a.val, by omega⟩ l) * c (ix2 a l) := by
  unfold piece0
  pointwise

/-- Column 0's masked scores of half 0, at an index. -/
theorem part00_apply (M : IVec S128x256 1) (z : FVec Ideal S512x512 .f32) (a : Fin 128) (s : Fin 256) :
    part00 M z (ix2 a s) = if M (ix2 a s) = 1#1 then z (ix2 ⟨0 + a.val, by omega⟩ ⟨0 + s.val, by omega⟩) else Ideal.ofBits FTy.f32 0xFF800000#32 := by
  unfold part00 masked
  pointwise
  exact select_bit _ _ _

/-- Column 0's masked scores of half 1, at an index. -/
theorem part01_apply (M : IVec S128x256 1) (z : FVec Ideal S512x512 .f32) (a : Fin 128) (s : Fin 256) :
    part01 M z (ix2 a s) = if M (ix2 a s) = 1#1 then z (ix2 ⟨0 + a.val, by omega⟩ ⟨256 + s.val, by omega⟩) else Ideal.ofBits FTy.f32 0xFF800000#32 := by
  unfold part01 masked
  pointwise
  exact select_bit _ _ _

/-- Column 1's piece of the output, at an index. -/
theorem piece1_apply (o : FVec Ideal S512x128 .f32) (c : FVec Ideal S128x128 .f32) (a l : Fin 128) :
    piece1 o c (ix3 0 a l) = o (ix2 ⟨128 + a.val, by omega⟩ l) * c (ix2 a l) := by
  unfold piece1
  pointwise

/-- Column 1's masked scores of half 0, at an index. -/
theorem part10_apply (M : IVec S128x256 1) (z : FVec Ideal S512x512 .f32) (a : Fin 128) (s : Fin 256) :
    part10 M z (ix2 a s) = if M (ix2 a s) = 1#1 then z (ix2 ⟨128 + a.val, by omega⟩ ⟨0 + s.val, by omega⟩) else Ideal.ofBits FTy.f32 0xFF800000#32 := by
  unfold part10 masked
  pointwise
  exact select_bit _ _ _

/-- Column 1's masked scores of half 1, at an index. -/
theorem part11_apply (M : IVec S128x256 1) (z : FVec Ideal S512x512 .f32) (a : Fin 128) (s : Fin 256) :
    part11 M z (ix2 a s) = if M (ix2 a s) = 1#1 then z (ix2 ⟨128 + a.val, by omega⟩ ⟨256 + s.val, by omega⟩) else Ideal.ofBits FTy.f32 0xFF800000#32 := by
  unfold part11 masked
  pointwise
  exact select_bit _ _ _

/-- Column 2's piece of the output, at an index. -/
theorem piece2_apply (o : FVec Ideal S512x128 .f32) (c : FVec Ideal S128x128 .f32) (a l : Fin 128) :
    piece2 o c (ix3 0 a l) = o (ix2 ⟨256 + a.val, by omega⟩ l) * c (ix2 a l) := by
  unfold piece2
  pointwise

/-- Column 2's masked scores of half 0, at an index. -/
theorem part20_apply (M : IVec S128x256 1) (z : FVec Ideal S512x512 .f32) (a : Fin 128) (s : Fin 256) :
    part20 M z (ix2 a s) = if M (ix2 a s) = 1#1 then z (ix2 ⟨256 + a.val, by omega⟩ ⟨0 + s.val, by omega⟩) else Ideal.ofBits FTy.f32 0xFF800000#32 := by
  unfold part20 masked
  pointwise
  exact select_bit _ _ _

/-- Column 2's masked scores of half 1, at an index. -/
theorem part21_apply (M : IVec S128x256 1) (z : FVec Ideal S512x512 .f32) (a : Fin 128) (s : Fin 256) :
    part21 M z (ix2 a s) = if M (ix2 a s) = 1#1 then z (ix2 ⟨256 + a.val, by omega⟩ ⟨256 + s.val, by omega⟩) else Ideal.ofBits FTy.f32 0xFF800000#32 := by
  unfold part21 masked
  pointwise
  exact select_bit _ _ _

/-- Column 3's piece of the output, at an index. -/
theorem piece3_apply (o : FVec Ideal S512x128 .f32) (c : FVec Ideal S128x128 .f32) (a l : Fin 128) :
    piece3 o c (ix3 0 a l) = o (ix2 ⟨384 + a.val, by omega⟩ l) * c (ix2 a l) := by
  unfold piece3
  pointwise

/-- Column 3's masked scores of half 0, at an index. -/
theorem part30_apply (M : IVec S128x256 1) (z : FVec Ideal S512x512 .f32) (a : Fin 128) (s : Fin 256) :
    part30 M z (ix2 a s) = if M (ix2 a s) = 1#1 then z (ix2 ⟨384 + a.val, by omega⟩ ⟨0 + s.val, by omega⟩) else Ideal.ofBits FTy.f32 0xFF800000#32 := by
  unfold part30 masked
  pointwise
  exact select_bit _ _ _

/-- Column 3's masked scores of half 1, at an index. -/
theorem part31_apply (M : IVec S128x256 1) (z : FVec Ideal S512x512 .f32) (a : Fin 128) (s : Fin 256) :
    part31 M z (ix2 a s) = if M (ix2 a s) = 1#1 then z (ix2 ⟨384 + a.val, by omega⟩ ⟨256 + s.val, by omega⟩) else Ideal.ofBits FTy.f32 0xFF800000#32 := by
  unfold part31 masked
  pointwise
  exact select_bit _ _ _

end Cert.SwaIdeal.Hand

end
-- ==== Proof.SwaOut.lean ====
module

public import proofs.«01_k».proof.Proof.SwaHead

@[expose] public section

set_option maxRecDepth 16384

noncomputable section

namespace Cert.SwaIdeal.Hand

open Cert.SwaIdeal Cert.SwaIdeal.Gen Idealize.ShloMosaic Idealize.ShloMosaic.TcCoe Idealize.SL.Sem
open Hand.Swa

/-! The output block of a grid point, at an element: each head's attention. -/

/-- A sum over 512 rows as the two sums over its halves. -/
theorem sum_512 (f : Fin 512 → EReal) :
    (∑ k, f k) = (∑ k : Fin 256, f ⟨k.val, by omega⟩) + ∑ k : Fin 256, f ⟨256 + k.val, by omega⟩ :=
  Fin.sum_univ_add (a := 256) (b := 256) f

/-- A sum over 128 lanes as the two sums over its halves. -/
theorem sum_128 (f : Fin 128 → EReal) :
    (∑ l, f l) = (∑ d : Fin 64, f (half 0 d)) + ∑ d : Fin 64, f (half 1 d) := by
  refine (Fin.sum_univ_add (a := 64) (b := 64) f).trans ?_
  congr 1

/-- The lanes of the low half. -/
theorem half0_lt (d : Fin 64) : (half 0 d).val < 64 := by show 64 * 0 + d.val < 64; omega
/-- The lanes of the high half. -/
theorem half1_ge (d : Fin 64) : ¬ (half 1 d).val < 64 := by show ¬ 64 * 1 + d.val < 64; omega

/-- The block-diagonal matrix from a source in half 0: its rows of the first half. -/
theorem diagLow_fst (x : FVec Ideal S256x128 .f32) (k : Fin 256) (d : Fin 64) :
    diagLow x (ix2 ⟨k.val, by omega⟩ (half 0 d)) = x (ix2 k (half 0 d)) ∧ diagLow x (ix2 ⟨k.val, by omega⟩ (half 1 d)) = 0
      ∧ diagLow x (ix2 ⟨256 + k.val, by omega⟩ (half 0 d)) = 0 ∧ diagLow x (ix2 ⟨256 + k.val, by omega⟩ (half 1 d)) = x (ix2 k (half 0 d)) := by
  have hk := k.isLt
  have hd := d.isLt
  have h2 : ¬ (256 + k.val) < 256 := by omega
  refine ⟨?_, ?_, ?_, ?_⟩ <;> rw [diagLow_apply]
  · rw [dif_pos hk, if_pos (half0_lt d)]

  · rw [dif_pos hk, if_neg (half1_ge d)]
  · rw [dif_neg h2, if_pos (half0_lt d)]
  · rw [dif_neg h2, if_neg (half1_ge d)]
    refine congrArg x (congrArg₂ ix2 (Fin.ext (by show 256 + k.val - 256 = k.val; omega)) (Fin.ext ?_))
    show _ = 64 * 0 + d.val
    show (64 * 1 + d.val + 128 - 64) % 128 = _
    omega

/-- A pair of heads' scores: head 0 and head 1 against the same key. -/
theorem scoresLow (q : FVec Ideal S512x128 .bf16) (x : FVec Ideal S256x128 .f32) (r : Fin 512) (k : Fin 256) :
    scoresOf q (diagLow x) (ix2 r ⟨k.val, by omega⟩) = ∑ d : Fin 64, q (ix2 r (half 0 d)) * x (ix2 k (half 0 d))
      ∧ scoresOf q (diagLow x) (ix2 r ⟨256 + k.val, by omega⟩) = ∑ d : Fin 64, q (ix2 r (half 1 d)) * x (ix2 k (half 0 d)) := by
  have h := diagLow_fst x k
  constructor <;> rw [scoresOf_apply, sum_128]
  · simp only [(h _).1, (h _).2.1, mul_zero, Finset.sum_const_zero, add_zero]
  · simp only [(h _).2.2.1, (h _).2.2.2, mul_zero, Finset.sum_const_zero, zero_add]

/-- A pair of heads' outputs: the weights' sums over the values times the reciprocals. -/
theorem pairLow (z0 z1 : FVec Ideal S128x256 .f32) (s0 s1 : Ideal .f32) (x : FVec Ideal S256x128 .f32) (a : Fin 128) (e : Fin 64) :
    (∑ k : Fin 512, rowOf z0 z1 s0 s1 (ix2 a k) * diagLow x (ix2 k (half 0 e))) * scaleOf z0 z1 s0 s1 (ix2 a (half 0 e))
        = attend2 (fun k => z0 (ix2 a k)) (fun k => x (ix2 k (half 0 e))) s0
      ∧ (∑ k : Fin 512, rowOf z0 z1 s0 s1 (ix2 a k) * diagLow x (ix2 k (half 1 e))) * scaleOf z0 z1 s0 s1 (ix2 a (half 1 e))
        = attend2 (fun k => z1 (ix2 a k)) (fun k => x (ix2 k (half 0 e))) s1 := by
  have h := fun k => diagLow_fst x k e
  have hr0 : ∀ k : Fin 256, rowOf z0 z1 s0 s1 (ix2 a ⟨k.val, by omega⟩) = expsOf z0 s0 (ix2 a k) := fun k => by
    rw [rowOf_apply, dif_pos k.isLt]
  have hr1 : ∀ k : Fin 256, rowOf z0 z1 s0 s1 (ix2 a ⟨256 + k.val, by omega⟩) = expsOf z1 s1 (ix2 a k) := fun k => by
    rw [rowOf_apply, dif_neg (by show ¬ 256 + k.val < 256; omega)]
    exact congrArg (expsOf z1 s1) (congrArg₂ ix2 rfl (Fin.ext (by show 256 + k.val - 256 = k.val; omega)))
  unfold attend2
  constructor <;> rw [sum_512, scaleOf_apply]
  · rw [if_pos (half0_lt e)]
    simp only [(h _).1, (h _).2.2.1, hr0, mul_zero, Finset.sum_const_zero, add_zero, recipOf_apply, expsOf_apply]
  · rw [if_neg (half1_ge e)]
    simp only [(h _).2.1, (h _).2.2.2, hr1, mul_zero, Finset.sum_const_zero, zero_add, recipOf_apply, expsOf_apply]

/-- The block-diagonal matrix from a source in half 1: its rows of the first half. -/
theorem diagHigh_fst (x : FVec Ideal S256x128 .f32) (k : Fin 256) (d : Fin 64) :
    diagHigh x (ix2 ⟨k.val, by omega⟩ (half 0 d)) = x (ix2 k (half 1 d)) ∧ diagHigh x (ix2 ⟨k.val, by omega⟩ (half 1 d)) = 0
      ∧ diagHigh x (ix2 ⟨256 + k.val, by omega⟩ (half 0 d)) = 0 ∧ diagHigh x (ix2 ⟨256 + k.val, by omega⟩ (half 1 d)) = x (ix2 k (half 1 d)) := by
  have hk := k.isLt
  have hd := d.isLt
  have h2 : ¬ (256 + k.val) < 256 := by omega
  refine ⟨?_, ?_, ?_, ?_⟩ <;> rw [diagHigh_apply]
  · rw [dif_pos hk, if_pos (half0_lt d)]
    exact congrArg x (congrArg₂ ix2 rfl (Fin.ext (by show (64 * 0 + d.val + 128 - 64) % 128 = 64 * 1 + d.val; omega)))
  · rw [dif_pos hk, if_neg (half1_ge d)]
  · rw [dif_neg h2, if_pos (half0_lt d)]
  · rw [dif_neg h2, if_neg (half1_ge d)]
    refine congrArg x (congrArg₂ ix2 (Fin.ext (by show 256 + k.val - 256 = k.val; omega)) (Fin.ext ?_))
    show _ = 64 * 1 + d.val
    show 64 * 1 + d.val = _
    omega

/-- A pair of heads' scores: head 0 and head 1 against the same key. -/
theorem scoresHigh (q : FVec Ideal S512x128 .bf16) (x : FVec Ideal S256x128 .f32) (r : Fin 512) (k : Fin 256) :
    scoresOf q (diagHigh x) (ix2 r ⟨k.val, by omega⟩) = ∑ d : Fin 64, q (ix2 r (half 0 d)) * x (ix2 k (half 1 d))
      ∧ scoresOf q (diagHigh x) (ix2 r ⟨256 + k.val, by omega⟩) = ∑ d : Fin 64, q (ix2 r (half 1 d)) * x (ix2 k (half 1 d)) := by
  have h := diagHigh_fst x k
  constructor <;> rw [scoresOf_apply, sum_128]
  · simp only [(h _).1, (h _).2.1, mul_zero, Finset.sum_const_zero, add_zero]
  · simp only [(h _).2.2.1, (h _).2.2.2, mul_zero, Finset.sum_const_zero, zero_add]

/-- A pair of heads' outputs: the weights' sums over the values times the reciprocals. -/
theorem pairHigh (z0 z1 : FVec Ideal S128x256 .f32) (s0 s1 : Ideal .f32) (x : FVec Ideal S256x128 .f32) (a : Fin 128) (e : Fin 64) :
    (∑ k : Fin 512, rowOf z0 z1 s0 s1 (ix2 a k) * diagHigh x (ix2 k (half 0 e))) * scaleOf z0 z1 s0 s1 (ix2 a (half 0 e))
        = attend2 (fun k => z0 (ix2 a k)) (fun k => x (ix2 k (half 1 e))) s0
      ∧ (∑ k : Fin 512, rowOf z0 z1 s0 s1 (ix2 a k) * diagHigh x (ix2 k (half 1 e))) * scaleOf z0 z1 s0 s1 (ix2 a (half 1 e))
        = attend2 (fun k => z1 (ix2 a k)) (fun k => x (ix2 k (half 1 e))) s1 := by
  have h := fun k => diagHigh_fst x k e
  have hr0 : ∀ k : Fin 256, rowOf z0 z1 s0 s1 (ix2 a ⟨k.val, by omega⟩) = expsOf z0 s0 (ix2 a k) := fun k => by
    rw [rowOf_apply, dif_pos k.isLt]
  have hr1 : ∀ k : Fin 256, rowOf z0 z1 s0 s1 (ix2 a ⟨256 + k.val, by omega⟩) = expsOf z1 s1 (ix2 a k) := fun k => by
    rw [rowOf_apply, dif_neg (by show ¬ 256 + k.val < 256; omega)]
    exact congrArg (expsOf z1 s1) (congrArg₂ ix2 rfl (Fin.ext (by show 256 + k.val - 256 = k.val; omega)))
  unfold attend2
  constructor <;> rw [sum_512, scaleOf_apply]
  · rw [if_pos (half0_lt e)]
    simp only [(h _).1, (h _).2.2.1, hr0, mul_zero, Finset.sum_const_zero, add_zero, recipOf_apply, expsOf_apply]
  · rw [if_neg (half1_ge e)]
    simp only [(h _).2.1, (h _).2.2.2, hr1, mul_zero, Finset.sum_const_zero, zero_add, recipOf_apply, expsOf_apply]

section Whole

variable (Q : FVec Ideal S1536x128 .bf16) (K0 K1 : FVec Ideal S256x128 .f32) (KV : FVec Ideal S256x384 .f32) (M : IVec S128x256 1) (s : Fin 24 → Elt Ideal .f32)

/-- The three keys: two in the first 128 lanes, one after them. -/
def keyOf (h : Fin 3) (k : Fin 256) (d : Fin 64) : EReal :=
  match h with
  | 0 => K0 (ix2 k (half 0 d))
  | 1 => K0 (ix2 k (half 1 d))
  | 2 => K1 (ix2 k (half 0 d))

/-- Head `g`'s scores at a query. -/
def scoreOf (a : Fin 128) (g : Fin 24) (k : Fin 256) : EReal :=
  if M (ix2 a k) = 1#1 then
    ∑ d : Fin 64, Q (ix2 ⟨128 * (g.val / 2) + a.val, by omega⟩ (half ⟨g.val % 2, Nat.mod_lt _ (by norm_num)⟩ d)) * keyOf K0 K1 ⟨g.val / 8, by omega⟩ k d
  else Ideal.ofBits FTy.f32 0xFF800000#32

/-- Head `g`'s output at a query, element `e`. -/
def outOf (a : Fin 128) (g : Fin 24) (e : Fin 64) : EReal :=
  attend2 (scoreOf Q K0 K1 M a g) (fun k => KV (ix2 k ⟨192 + 64 * (g.val / 8) + e.val, by omega⟩)) (sinkOf (s g))

/-- The output block. -/
def whole : S1x128x1536.Idx → EReal := fun y =>
  outOf Q K0 K1 KV M s (y 1) ⟨(y 2).val / 64, Nat.div_lt_of_lt_mul (y 2).isLt⟩ ⟨(y 2).val % 64, Nat.mod_lt _ (by norm_num)⟩

/-- Group 0 of the queries, at an index. -/
theorem queries0 (r : Fin 512) (l : Fin 128) :
    (extractStridedSlice S512x128 ![0, 0] Q slices_S1536x128_o0_0_S512x128) (ix2 r l) = Q (ix2 ⟨0 + r.val, by omega⟩ l) := by
  pointwise

/-- Group 0 of the values, at an index. -/
theorem values0 (k : Fin 256) (e : Fin 64) : k0_pay22 KV (ix2 k (half 1 e)) = KV (ix2 k ⟨192 + 64 * 0 + e.val, by omega⟩) := by
  unfold k0_pay22
  pointwise
  all_goals first | rfl | exact congrArg KV (congrArg₂ ix2 rfl (Fin.ext (by simp only [half]; norm_num; try omega)))

/-- Head 0's scores. -/
theorem score0 (a : Fin 128) (k : Fin 256) : part00 M (k0_pay27 k0_pay3 K0 (k0_pay26 Q) 64#32) (ix2 a k) = scoreOf Q K0 K1 M a 0 k := by
  rw [part00_apply, scores0_eq]
  unfold scoreOf
  have hs := (scoresLow (extractStridedSlice S512x128 ![0, 0] Q slices_S1536x128_o0_0_S512x128) K0 ⟨0 + a.val, by omega⟩ k).1
  simp only [queries0] at hs
  refine if_congr Iff.rfl (Eq.trans ?_ (hs.trans ?_)) rfl
  · first | rfl | exact congrArg _ (congrArg₂ ix2 rfl (Fin.ext (by show 0 + k.val = _; simp)))
  · refine Finset.sum_congr rfl fun d _ => congrArg₂ (· * ·) (congrArg Q (congrArg₂ ix2 (Fin.ext ?_) rfl)) rfl
    show 0 + (0 + a.val) = 128 * (0 / 2) + a.val
    omega

/-- Head 1's scores. -/
theorem score1 (a : Fin 128) (k : Fin 256) : part01 M (k0_pay27 k0_pay3 K0 (k0_pay26 Q) 64#32) (ix2 a k) = scoreOf Q K0 K1 M a 1 k := by
  rw [part01_apply, scores0_eq]
  unfold scoreOf
  have hs := (scoresLow (extractStridedSlice S512x128 ![0, 0] Q slices_S1536x128_o0_0_S512x128) K0 ⟨0 + a.val, by omega⟩ k).2
  simp only [queries0] at hs
  refine if_congr Iff.rfl (Eq.trans ?_ (hs.trans ?_)) rfl
  · first | rfl | exact congrArg _ (congrArg₂ ix2 rfl (Fin.ext (by show 256 + k.val = _; simp)))
  · refine Finset.sum_congr rfl fun d _ => congrArg₂ (· * ·) (congrArg Q (congrArg₂ ix2 (Fin.ext ?_) rfl)) rfl
    show 0 + (0 + a.val) = 128 * (1 / 2) + a.val
    omega

/-- Head 2's scores. -/
theorem score2 (a : Fin 128) (k : Fin 256) : part10 M (k0_pay27 k0_pay3 K0 (k0_pay26 Q) 64#32) (ix2 a k) = scoreOf Q K0 K1 M a 2 k := by
  rw [part10_apply, scores0_eq]
  unfold scoreOf
  have hs := (scoresLow (extractStridedSlice S512x128 ![0, 0] Q slices_S1536x128_o0_0_S512x128) K0 ⟨128 + a.val, by omega⟩ k).1
  simp only [queries0] at hs
  refine if_congr Iff.rfl (Eq.trans ?_ (hs.trans ?_)) rfl
  · first | rfl | exact congrArg _ (congrArg₂ ix2 rfl (Fin.ext (by show 0 + k.val = _; simp)))
  · refine Finset.sum_congr rfl fun d _ => congrArg₂ (· * ·) (congrArg Q (congrArg₂ ix2 (Fin.ext ?_) rfl)) rfl
    show 0 + (128 + a.val) = 128 * (2 / 2) + a.val
    omega

/-- Head 3's scores. -/
theorem score3 (a : Fin 128) (k : Fin 256) : part11 M (k0_pay27 k0_pay3 K0 (k0_pay26 Q) 64#32) (ix2 a k) = scoreOf Q K0 K1 M a 3 k := by
  rw [part11_apply, scores0_eq]
  unfold scoreOf
  have hs := (scoresLow (extractStridedSlice S512x128 ![0, 0] Q slices_S1536x128_o0_0_S512x128) K0 ⟨128 + a.val, by omega⟩ k).2
  simp only [queries0] at hs
  refine if_congr Iff.rfl (Eq.trans ?_ (hs.trans ?_)) rfl
  · first | rfl | exact congrArg _ (congrArg₂ ix2 rfl (Fin.ext (by show 256 + k.val = _; simp)))
  · refine Finset.sum_congr rfl fun d _ => congrArg₂ (· * ·) (congrArg Q (congrArg₂ ix2 (Fin.ext ?_) rfl)) rfl
    show 0 + (128 + a.val) = 128 * (3 / 2) + a.val
    omega

/-- Head 4's scores. -/
theorem score4 (a : Fin 128) (k : Fin 256) : part20 M (k0_pay27 k0_pay3 K0 (k0_pay26 Q) 64#32) (ix2 a k) = scoreOf Q K0 K1 M a 4 k := by
  rw [part20_apply, scores0_eq]
  unfold scoreOf
  have hs := (scoresLow (extractStridedSlice S512x128 ![0, 0] Q slices_S1536x128_o0_0_S512x128) K0 ⟨256 + a.val, by omega⟩ k).1
  simp only [queries0] at hs
  refine if_congr Iff.rfl (Eq.trans ?_ (hs.trans ?_)) rfl
  · first | rfl | exact congrArg _ (congrArg₂ ix2 rfl (Fin.ext (by show 0 + k.val = _; simp)))
  · refine Finset.sum_congr rfl fun d _ => congrArg₂ (· * ·) (congrArg Q (congrArg₂ ix2 (Fin.ext ?_) rfl)) rfl
    show 0 + (256 + a.val) = 128 * (4 / 2) + a.val
    omega

/-- Head 5's scores. -/
theorem score5 (a : Fin 128) (k : Fin 256) : part21 M (k0_pay27 k0_pay3 K0 (k0_pay26 Q) 64#32) (ix2 a k) = scoreOf Q K0 K1 M a 5 k := by
  rw [part21_apply, scores0_eq]
  unfold scoreOf
  have hs := (scoresLow (extractStridedSlice S512x128 ![0, 0] Q slices_S1536x128_o0_0_S512x128) K0 ⟨256 + a.val, by omega⟩ k).2
  simp only [queries0] at hs
  refine if_congr Iff.rfl (Eq.trans ?_ (hs.trans ?_)) rfl
  · first | rfl | exact congrArg _ (congrArg₂ ix2 rfl (Fin.ext (by show 256 + k.val = _; simp)))
  · refine Finset.sum_congr rfl fun d _ => congrArg₂ (· * ·) (congrArg Q (congrArg₂ ix2 (Fin.ext ?_) rfl)) rfl
    show 0 + (256 + a.val) = 128 * (5 / 2) + a.val
    omega

/-- Head 6's scores. -/
theorem score6 (a : Fin 128) (k : Fin 256) : part30 M (k0_pay27 k0_pay3 K0 (k0_pay26 Q) 64#32) (ix2 a k) = scoreOf Q K0 K1 M a 6 k := by
  rw [part30_apply, scores0_eq]
  unfold scoreOf
  have hs := (scoresLow (extractStridedSlice S512x128 ![0, 0] Q slices_S1536x128_o0_0_S512x128) K0 ⟨384 + a.val, by omega⟩ k).1
  simp only [queries0] at hs
  refine if_congr Iff.rfl (Eq.trans ?_ (hs.trans ?_)) rfl
  · first | rfl | exact congrArg _ (congrArg₂ ix2 rfl (Fin.ext (by show 0 + k.val = _; simp)))
  · refine Finset.sum_congr rfl fun d _ => congrArg₂ (· * ·) (congrArg Q (congrArg₂ ix2 (Fin.ext ?_) rfl)) rfl
    show 0 + (384 + a.val) = 128 * (6 / 2) + a.val
    omega

/-- Head 7's scores. -/
theorem score7 (a : Fin 128) (k : Fin 256) : part31 M (k0_pay27 k0_pay3 K0 (k0_pay26 Q) 64#32) (ix2 a k) = scoreOf Q K0 K1 M a 7 k := by
  rw [part31_apply, scores0_eq]
  unfold scoreOf
  have hs := (scoresLow (extractStridedSlice S512x128 ![0, 0] Q slices_S1536x128_o0_0_S512x128) K0 ⟨384 + a.val, by omega⟩ k).2
  simp only [queries0] at hs
  refine if_congr Iff.rfl (Eq.trans ?_ (hs.trans ?_)) rfl
  · first | rfl | exact congrArg _ (congrArg₂ ix2 rfl (Fin.ext (by show 256 + k.val = _; simp)))
  · refine Finset.sum_congr rfl fun d _ => congrArg₂ (· * ·) (congrArg Q (congrArg₂ ix2 (Fin.ext ?_) rfl)) rfl
    show 0 + (384 + a.val) = 128 * (7 / 2) + a.val
    omega

/-- The output of group 0, column 0. -/
theorem at00 (a : Fin 128) (l : Fin 128) :
    piece0 (valuesOf (powersOf M (k0_pay27 k0_pay3 K0 (k0_pay26 Q) 64#32) (s 0) (s 1) (s 2) (s 3) (s 4) (s 5) (s 6) (s 7)) (diagHigh (k0_pay22 KV)))
        (scaleOf (part00 M (k0_pay27 k0_pay3 K0 (k0_pay26 Q) 64#32)) (part01 M (k0_pay27 k0_pay3 K0 (k0_pay26 Q) 64#32)) (sinkOf (s 0)) (sinkOf (s 1))) (ix3 0 a l)
      = whole Q K0 K1 KV M s (ix3 0 a ⟨0 + l.val, by omega⟩) := by
  have hz0 := fun k => score0 Q K0 K1 M a k
  have hz1 := fun k => score1 Q K0 K1 M a k
  generalize (k0_pay27 k0_pay3 K0 (k0_pay26 Q) 64#32) = Z at *
  have hrow : ∀ k : Fin 512, powersOf M Z (s 0) (s 1) (s 2) (s 3) (s 4) (s 5) (s 6) (s 7) (ix2 ⟨0 + a.val, by omega⟩ k)
      = rowOf (part00 M Z) (part01 M Z) (sinkOf (s 0)) (sinkOf (s 1)) (ix2 a k) := fun k => by
    unfold powersOf
    rw [stacked_apply]
    have ha := a.isLt
    rw [dif_pos (by show 0 + a.val < 128; omega)]; exact congrArg _ (congrArg₂ ix2 (Fin.ext (by show 0 + a.val = _; omega)) rfl)
  have hlt := l.isLt
  rw [piece0_apply, valuesOf_apply]
  simp only [hrow]
  by_cases hl : l.val < 64
  · obtain ⟨e, rfl⟩ : ∃ e, l = half 0 e := ⟨⟨l.val, hl⟩, Fin.ext (by show l.val = 64 * 0 + l.val; omega)⟩
    have he := e.isLt
    rw [(pairHigh _ _ _ _ (k0_pay22 KV) a e).1, funext hz0, funext fun k => values0 KV k e]
    show outOf Q K0 K1 KV M s a 0 e = _
    unfold whole
    congr 1
    · exact Fin.ext (by show 0 = (0 + (64 * 0 + e.val)) / 64; omega)
    · exact Fin.ext (by show e.val = (0 + (64 * 0 + e.val)) % 64; omega)
  · obtain ⟨e, rfl⟩ : ∃ e, l = half 1 e := ⟨⟨l.val - 64, by omega⟩, Fin.ext (by show l.val = 64 * 1 + (l.val - 64); omega)⟩
    have he := e.isLt
    rw [(pairHigh _ _ _ _ (k0_pay22 KV) a e).2, funext hz1, funext fun k => values0 KV k e]
    show outOf Q K0 K1 KV M s a 1 e = _
    unfold whole
    congr 1
    · exact Fin.ext (by show 1 = (0 + (64 * 1 + e.val)) / 64; omega)
    · exact Fin.ext (by show e.val = (0 + (64 * 1 + e.val)) % 64; omega)

/-- The output of group 0, column 1. -/
theorem at01 (a : Fin 128) (l : Fin 128) :
    piece1 (valuesOf (powersOf M (k0_pay27 k0_pay3 K0 (k0_pay26 Q) 64#32) (s 0) (s 1) (s 2) (s 3) (s 4) (s 5) (s 6) (s 7)) (diagHigh (k0_pay22 KV)))
        (scaleOf (part10 M (k0_pay27 k0_pay3 K0 (k0_pay26 Q) 64#32)) (part11 M (k0_pay27 k0_pay3 K0 (k0_pay26 Q) 64#32)) (sinkOf (s 2)) (sinkOf (s 3))) (ix3 0 a l)
      = whole Q K0 K1 KV M s (ix3 0 a ⟨128 + l.val, by omega⟩) := by
  have hz0 := fun k => score2 Q K0 K1 M a k
  have hz1 := fun k => score3 Q K0 K1 M a k
  generalize (k0_pay27 k0_pay3 K0 (k0_pay26 Q) 64#32) = Z at *
  have hrow : ∀ k : Fin 512, powersOf M Z (s 0) (s 1) (s 2) (s 3) (s 4) (s 5) (s 6) (s 7) (ix2 ⟨128 + a.val, by omega⟩ k)
      = rowOf (part10 M Z) (part11 M Z) (sinkOf (s 2)) (sinkOf (s 3)) (ix2 a k) := fun k => by
    unfold powersOf
    rw [stacked_apply]
    have ha := a.isLt
    rw [dif_neg (by show ¬ 128 + a.val < 128; omega), dif_pos (by show 128 + a.val - 128 < 128; omega)]; exact congrArg _ (congrArg₂ ix2 (Fin.ext (by show 128 + a.val - 128 = _; omega)) rfl)
  have hlt := l.isLt
  rw [piece1_apply, valuesOf_apply]
  simp only [hrow]
  by_cases hl : l.val < 64
  · obtain ⟨e, rfl⟩ : ∃ e, l = half 0 e := ⟨⟨l.val, hl⟩, Fin.ext (by show l.val = 64 * 0 + l.val; omega)⟩
    have he := e.isLt
    rw [(pairHigh _ _ _ _ (k0_pay22 KV) a e).1, funext hz0, funext fun k => values0 KV k e]
    show outOf Q K0 K1 KV M s a 2 e = _
    unfold whole
    congr 1
    · exact Fin.ext (by show 2 = (128 + (64 * 0 + e.val)) / 64; omega)
    · exact Fin.ext (by show e.val = (128 + (64 * 0 + e.val)) % 64; omega)
  · obtain ⟨e, rfl⟩ : ∃ e, l = half 1 e := ⟨⟨l.val - 64, by omega⟩, Fin.ext (by show l.val = 64 * 1 + (l.val - 64); omega)⟩
    have he := e.isLt
    rw [(pairHigh _ _ _ _ (k0_pay22 KV) a e).2, funext hz1, funext fun k => values0 KV k e]
    show outOf Q K0 K1 KV M s a 3 e = _
    unfold whole
    congr 1
    · exact Fin.ext (by show 3 = (128 + (64 * 1 + e.val)) / 64; omega)
    · exact Fin.ext (by show e.val = (128 + (64 * 1 + e.val)) % 64; omega)

/-- The output of group 0, column 2. -/
theorem at02 (a : Fin 128) (l : Fin 128) :
    piece2 (valuesOf (powersOf M (k0_pay27 k0_pay3 K0 (k0_pay26 Q) 64#32) (s 0) (s 1) (s 2) (s 3) (s 4) (s 5) (s 6) (s 7)) (diagHigh (k0_pay22 KV)))
        (scaleOf (part20 M (k0_pay27 k0_pay3 K0 (k0_pay26 Q) 64#32)) (part21 M (k0_pay27 k0_pay3 K0 (k0_pay26 Q) 64#32)) (sinkOf (s 4)) (sinkOf (s 5))) (ix3 0 a l)
      = whole Q K0 K1 KV M s (ix3 0 a ⟨256 + l.val, by omega⟩) := by
  have hz0 := fun k => score4 Q K0 K1 M a k
  have hz1 := fun k => score5 Q K0 K1 M a k
  generalize (k0_pay27 k0_pay3 K0 (k0_pay26 Q) 64#32) = Z at *
  have hrow : ∀ k : Fin 512, powersOf M Z (s 0) (s 1) (s 2) (s 3) (s 4) (s 5) (s 6) (s 7) (ix2 ⟨256 + a.val, by omega⟩ k)
      = rowOf (part20 M Z) (part21 M Z) (sinkOf (s 4)) (sinkOf (s 5)) (ix2 a k) := fun k => by
    unfold powersOf
    rw [stacked_apply]
    have ha := a.isLt
    rw [dif_neg (by show ¬ 256 + a.val < 128; omega), dif_neg (by show ¬ 256 + a.val - 128 < 128; omega), dif_pos (by show 256 + a.val - 128 - 128 < 128; omega)]; exact congrArg _ (congrArg₂ ix2 (Fin.ext (by show 256 + a.val - 128 - 128 = _; omega)) rfl)
  have hlt := l.isLt
  rw [piece2_apply, valuesOf_apply]
  simp only [hrow]
  by_cases hl : l.val < 64
  · obtain ⟨e, rfl⟩ : ∃ e, l = half 0 e := ⟨⟨l.val, hl⟩, Fin.ext (by show l.val = 64 * 0 + l.val; omega)⟩
    have he := e.isLt
    rw [(pairHigh _ _ _ _ (k0_pay22 KV) a e).1, funext hz0, funext fun k => values0 KV k e]
    show outOf Q K0 K1 KV M s a 4 e = _
    unfold whole
    congr 1
    · exact Fin.ext (by show 4 = (256 + (64 * 0 + e.val)) / 64; omega)
    · exact Fin.ext (by show e.val = (256 + (64 * 0 + e.val)) % 64; omega)
  · obtain ⟨e, rfl⟩ : ∃ e, l = half 1 e := ⟨⟨l.val - 64, by omega⟩, Fin.ext (by show l.val = 64 * 1 + (l.val - 64); omega)⟩
    have he := e.isLt
    rw [(pairHigh _ _ _ _ (k0_pay22 KV) a e).2, funext hz1, funext fun k => values0 KV k e]
    show outOf Q K0 K1 KV M s a 5 e = _
    unfold whole
    congr 1
    · exact Fin.ext (by show 5 = (256 + (64 * 1 + e.val)) / 64; omega)
    · exact Fin.ext (by show e.val = (256 + (64 * 1 + e.val)) % 64; omega)

/-- The output of group 0, column 3. -/
theorem at03 (a : Fin 128) (l : Fin 128) :
    piece3 (valuesOf (powersOf M (k0_pay27 k0_pay3 K0 (k0_pay26 Q) 64#32) (s 0) (s 1) (s 2) (s 3) (s 4) (s 5) (s 6) (s 7)) (diagHigh (k0_pay22 KV)))
        (scaleOf (part30 M (k0_pay27 k0_pay3 K0 (k0_pay26 Q) 64#32)) (part31 M (k0_pay27 k0_pay3 K0 (k0_pay26 Q) 64#32)) (sinkOf (s 6)) (sinkOf (s 7))) (ix3 0 a l)
      = whole Q K0 K1 KV M s (ix3 0 a ⟨384 + l.val, by omega⟩) := by
  have hz0 := fun k => score6 Q K0 K1 M a k
  have hz1 := fun k => score7 Q K0 K1 M a k
  generalize (k0_pay27 k0_pay3 K0 (k0_pay26 Q) 64#32) = Z at *
  have hrow : ∀ k : Fin 512, powersOf M Z (s 0) (s 1) (s 2) (s 3) (s 4) (s 5) (s 6) (s 7) (ix2 ⟨384 + a.val, by omega⟩ k)
      = rowOf (part30 M Z) (part31 M Z) (sinkOf (s 6)) (sinkOf (s 7)) (ix2 a k) := fun k => by
    unfold powersOf
    rw [stacked_apply]
    have ha := a.isLt
    rw [dif_neg (by show ¬ 384 + a.val < 128; omega), dif_neg (by show ¬ 384 + a.val - 128 < 128; omega), dif_neg (by show ¬ 384 + a.val - 128 - 128 < 128; omega)]; exact congrArg _ (congrArg₂ ix2 (Fin.ext (by show 384 + a.val - 128 - 128 - 128 = a.val; omega)) rfl)
  have hlt := l.isLt
  rw [piece3_apply, valuesOf_apply]
  simp only [hrow]
  by_cases hl : l.val < 64
  · obtain ⟨e, rfl⟩ : ∃ e, l = half 0 e := ⟨⟨l.val, hl⟩, Fin.ext (by show l.val = 64 * 0 + l.val; omega)⟩
    have he := e.isLt
    rw [(pairHigh _ _ _ _ (k0_pay22 KV) a e).1, funext hz0, funext fun k => values0 KV k e]
    show outOf Q K0 K1 KV M s a 6 e = _
    unfold whole
    congr 1
    · exact Fin.ext (by show 6 = (384 + (64 * 0 + e.val)) / 64; omega)
    · exact Fin.ext (by show e.val = (384 + (64 * 0 + e.val)) % 64; omega)
  · obtain ⟨e, rfl⟩ : ∃ e, l = half 1 e := ⟨⟨l.val - 64, by omega⟩, Fin.ext (by show l.val = 64 * 1 + (l.val - 64); omega)⟩
    have he := e.isLt
    rw [(pairHigh _ _ _ _ (k0_pay22 KV) a e).2, funext hz1, funext fun k => values0 KV k e]
    show outOf Q K0 K1 KV M s a 7 e = _
    unfold whole
    congr 1
    · exact Fin.ext (by show 7 = (384 + (64 * 1 + e.val)) / 64; omega)
    · exact Fin.ext (by show e.val = (384 + (64 * 1 + e.val)) % 64; omega)

/-- Group 1 of the queries, at an index. -/
theorem queries1 (r : Fin 512) (l : Fin 128) :
    (extractStridedSlice S512x128 ![512, 0] Q slices_S1536x128_o512_0_S512x128) (ix2 r l) = Q (ix2 ⟨512 + r.val, by omega⟩ l) := by
  pointwise

/-- Group 1 of the values, at an index. -/
theorem values1 (k : Fin 256) (e : Fin 64) : k0_pay23 KV (ix2 k (half 0 e)) = KV (ix2 k ⟨192 + 64 * 1 + e.val, by omega⟩) := by
  unfold k0_pay23
  pointwise
  all_goals first | rfl | exact congrArg KV (congrArg₂ ix2 rfl (Fin.ext (by simp only [half]; norm_num; try omega)))

/-- Head 8's scores. -/
theorem score8 (a : Fin 128) (k : Fin 256) : part00 M (k0_pay28 k0_pay3 Q K0) (ix2 a k) = scoreOf Q K0 K1 M a 8 k := by
  rw [part00_apply, scores1_eq]
  unfold scoreOf
  have hs := (scoresHigh (extractStridedSlice S512x128 ![512, 0] Q slices_S1536x128_o512_0_S512x128) K0 ⟨0 + a.val, by omega⟩ k).1
  simp only [queries1] at hs
  refine if_congr Iff.rfl (Eq.trans ?_ (hs.trans ?_)) rfl
  · first | rfl | exact congrArg _ (congrArg₂ ix2 rfl (Fin.ext (by show 0 + k.val = _; simp)))
  · refine Finset.sum_congr rfl fun d _ => congrArg₂ (· * ·) (congrArg Q (congrArg₂ ix2 (Fin.ext ?_) rfl)) rfl
    show 512 + (0 + a.val) = 128 * (8 / 2) + a.val
    omega

/-- Head 9's scores. -/
theorem score9 (a : Fin 128) (k : Fin 256) : part01 M (k0_pay28 k0_pay3 Q K0) (ix2 a k) = scoreOf Q K0 K1 M a 9 k := by
  rw [part01_apply, scores1_eq]
  unfold scoreOf
  have hs := (scoresHigh (extractStridedSlice S512x128 ![512, 0] Q slices_S1536x128_o512_0_S512x128) K0 ⟨0 + a.val, by omega⟩ k).2
  simp only [queries1] at hs
  refine if_congr Iff.rfl (Eq.trans ?_ (hs.trans ?_)) rfl
  · first | rfl | exact congrArg _ (congrArg₂ ix2 rfl (Fin.ext (by show 256 + k.val = _; simp)))
  · refine Finset.sum_congr rfl fun d _ => congrArg₂ (· * ·) (congrArg Q (congrArg₂ ix2 (Fin.ext ?_) rfl)) rfl
    show 512 + (0 + a.val) = 128 * (9 / 2) + a.val
    omega

/-- Head 10's scores. -/
theorem score10 (a : Fin 128) (k : Fin 256) : part10 M (k0_pay28 k0_pay3 Q K0) (ix2 a k) = scoreOf Q K0 K1 M a 10 k := by
  rw [part10_apply, scores1_eq]
  unfold scoreOf
  have hs := (scoresHigh (extractStridedSlice S512x128 ![512, 0] Q slices_S1536x128_o512_0_S512x128) K0 ⟨128 + a.val, by omega⟩ k).1
  simp only [queries1] at hs
  refine if_congr Iff.rfl (Eq.trans ?_ (hs.trans ?_)) rfl
  · first | rfl | exact congrArg _ (congrArg₂ ix2 rfl (Fin.ext (by show 0 + k.val = _; simp)))
  · refine Finset.sum_congr rfl fun d _ => congrArg₂ (· * ·) (congrArg Q (congrArg₂ ix2 (Fin.ext ?_) rfl)) rfl
    show 512 + (128 + a.val) = 128 * (10 / 2) + a.val
    omega

/-- Head 11's scores. -/
theorem score11 (a : Fin 128) (k : Fin 256) : part11 M (k0_pay28 k0_pay3 Q K0) (ix2 a k) = scoreOf Q K0 K1 M a 11 k := by
  rw [part11_apply, scores1_eq]
  unfold scoreOf
  have hs := (scoresHigh (extractStridedSlice S512x128 ![512, 0] Q slices_S1536x128_o512_0_S512x128) K0 ⟨128 + a.val, by omega⟩ k).2
  simp only [queries1] at hs
  refine if_congr Iff.rfl (Eq.trans ?_ (hs.trans ?_)) rfl
  · first | rfl | exact congrArg _ (congrArg₂ ix2 rfl (Fin.ext (by show 256 + k.val = _; simp)))
  · refine Finset.sum_congr rfl fun d _ => congrArg₂ (· * ·) (congrArg Q (congrArg₂ ix2 (Fin.ext ?_) rfl)) rfl
    show 512 + (128 + a.val) = 128 * (11 / 2) + a.val
    omega

/-- Head 12's scores. -/
theorem score12 (a : Fin 128) (k : Fin 256) : part20 M (k0_pay28 k0_pay3 Q K0) (ix2 a k) = scoreOf Q K0 K1 M a 12 k := by
  rw [part20_apply, scores1_eq]
  unfold scoreOf
  have hs := (scoresHigh (extractStridedSlice S512x128 ![512, 0] Q slices_S1536x128_o512_0_S512x128) K0 ⟨256 + a.val, by omega⟩ k).1
  simp only [queries1] at hs
  refine if_congr Iff.rfl (Eq.trans ?_ (hs.trans ?_)) rfl
  · first | rfl | exact congrArg _ (congrArg₂ ix2 rfl (Fin.ext (by show 0 + k.val = _; simp)))
  · refine Finset.sum_congr rfl fun d _ => congrArg₂ (· * ·) (congrArg Q (congrArg₂ ix2 (Fin.ext ?_) rfl)) rfl
    show 512 + (256 + a.val) = 128 * (12 / 2) + a.val
    omega

/-- Head 13's scores. -/
theorem score13 (a : Fin 128) (k : Fin 256) : part21 M (k0_pay28 k0_pay3 Q K0) (ix2 a k) = scoreOf Q K0 K1 M a 13 k := by
  rw [part21_apply, scores1_eq]
  unfold scoreOf
  have hs := (scoresHigh (extractStridedSlice S512x128 ![512, 0] Q slices_S1536x128_o512_0_S512x128) K0 ⟨256 + a.val, by omega⟩ k).2
  simp only [queries1] at hs
  refine if_congr Iff.rfl (Eq.trans ?_ (hs.trans ?_)) rfl
  · first | rfl | exact congrArg _ (congrArg₂ ix2 rfl (Fin.ext (by show 256 + k.val = _; simp)))
  · refine Finset.sum_congr rfl fun d _ => congrArg₂ (· * ·) (congrArg Q (congrArg₂ ix2 (Fin.ext ?_) rfl)) rfl
    show 512 + (256 + a.val) = 128 * (13 / 2) + a.val
    omega

/-- Head 14's scores. -/
theorem score14 (a : Fin 128) (k : Fin 256) : part30 M (k0_pay28 k0_pay3 Q K0) (ix2 a k) = scoreOf Q K0 K1 M a 14 k := by
  rw [part30_apply, scores1_eq]
  unfold scoreOf
  have hs := (scoresHigh (extractStridedSlice S512x128 ![512, 0] Q slices_S1536x128_o512_0_S512x128) K0 ⟨384 + a.val, by omega⟩ k).1
  simp only [queries1] at hs
  refine if_congr Iff.rfl (Eq.trans ?_ (hs.trans ?_)) rfl
  · first | rfl | exact congrArg _ (congrArg₂ ix2 rfl (Fin.ext (by show 0 + k.val = _; simp)))
  · refine Finset.sum_congr rfl fun d _ => congrArg₂ (· * ·) (congrArg Q (congrArg₂ ix2 (Fin.ext ?_) rfl)) rfl
    show 512 + (384 + a.val) = 128 * (14 / 2) + a.val
    omega

/-- Head 15's scores. -/
theorem score15 (a : Fin 128) (k : Fin 256) : part31 M (k0_pay28 k0_pay3 Q K0) (ix2 a k) = scoreOf Q K0 K1 M a 15 k := by
  rw [part31_apply, scores1_eq]
  unfold scoreOf
  have hs := (scoresHigh (extractStridedSlice S512x128 ![512, 0] Q slices_S1536x128_o512_0_S512x128) K0 ⟨384 + a.val, by omega⟩ k).2
  simp only [queries1] at hs
  refine if_congr Iff.rfl (Eq.trans ?_ (hs.trans ?_)) rfl
  · first | rfl | exact congrArg _ (congrArg₂ ix2 rfl (Fin.ext (by show 256 + k.val = _; simp)))
  · refine Finset.sum_congr rfl fun d _ => congrArg₂ (· * ·) (congrArg Q (congrArg₂ ix2 (Fin.ext ?_) rfl)) rfl
    show 512 + (384 + a.val) = 128 * (15 / 2) + a.val
    omega

/-- The output of group 1, column 0. -/
theorem at10 (a : Fin 128) (l : Fin 128) :
    piece0 (valuesOf (powersOf M (k0_pay28 k0_pay3 Q K0) (s 8) (s 9) (s 10) (s 11) (s 12) (s 13) (s 14) (s 15)) (diagLow (k0_pay23 KV)))
        (scaleOf (part00 M (k0_pay28 k0_pay3 Q K0)) (part01 M (k0_pay28 k0_pay3 Q K0)) (sinkOf (s 8)) (sinkOf (s 9))) (ix3 0 a l)
      = whole Q K0 K1 KV M s (ix3 0 a ⟨512 + l.val, by omega⟩) := by
  have hz0 := fun k => score8 Q K0 K1 M a k
  have hz1 := fun k => score9 Q K0 K1 M a k
  generalize (k0_pay28 k0_pay3 Q K0) = Z at *
  have hrow : ∀ k : Fin 512, powersOf M Z (s 8) (s 9) (s 10) (s 11) (s 12) (s 13) (s 14) (s 15) (ix2 ⟨0 + a.val, by omega⟩ k)
      = rowOf (part00 M Z) (part01 M Z) (sinkOf (s 8)) (sinkOf (s 9)) (ix2 a k) := fun k => by
    unfold powersOf
    rw [stacked_apply]
    have ha := a.isLt
    rw [dif_pos (by show 0 + a.val < 128; omega)]; exact congrArg _ (congrArg₂ ix2 (Fin.ext (by show 0 + a.val = _; omega)) rfl)
  have hlt := l.isLt
  rw [piece0_apply, valuesOf_apply]
  simp only [hrow]
  by_cases hl : l.val < 64
  · obtain ⟨e, rfl⟩ : ∃ e, l = half 0 e := ⟨⟨l.val, hl⟩, Fin.ext (by show l.val = 64 * 0 + l.val; omega)⟩
    have he := e.isLt
    rw [(pairLow _ _ _ _ (k0_pay23 KV) a e).1, funext hz0, funext fun k => values1 KV k e]
    show outOf Q K0 K1 KV M s a 8 e = _
    unfold whole
    congr 1
    · exact Fin.ext (by show 8 = (512 + (64 * 0 + e.val)) / 64; omega)
    · exact Fin.ext (by show e.val = (512 + (64 * 0 + e.val)) % 64; omega)
  · obtain ⟨e, rfl⟩ : ∃ e, l = half 1 e := ⟨⟨l.val - 64, by omega⟩, Fin.ext (by show l.val = 64 * 1 + (l.val - 64); omega)⟩
    have he := e.isLt
    rw [(pairLow _ _ _ _ (k0_pay23 KV) a e).2, funext hz1, funext fun k => values1 KV k e]
    show outOf Q K0 K1 KV M s a 9 e = _
    unfold whole
    congr 1
    · exact Fin.ext (by show 9 = (512 + (64 * 1 + e.val)) / 64; omega)
    · exact Fin.ext (by show e.val = (512 + (64 * 1 + e.val)) % 64; omega)

/-- The output of group 1, column 1. -/
theorem at11 (a : Fin 128) (l : Fin 128) :
    piece1 (valuesOf (powersOf M (k0_pay28 k0_pay3 Q K0) (s 8) (s 9) (s 10) (s 11) (s 12) (s 13) (s 14) (s 15)) (diagLow (k0_pay23 KV)))
        (scaleOf (part10 M (k0_pay28 k0_pay3 Q K0)) (part11 M (k0_pay28 k0_pay3 Q K0)) (sinkOf (s 10)) (sinkOf (s 11))) (ix3 0 a l)
      = whole Q K0 K1 KV M s (ix3 0 a ⟨640 + l.val, by omega⟩) := by
  have hz0 := fun k => score10 Q K0 K1 M a k
  have hz1 := fun k => score11 Q K0 K1 M a k
  generalize (k0_pay28 k0_pay3 Q K0) = Z at *
  have hrow : ∀ k : Fin 512, powersOf M Z (s 8) (s 9) (s 10) (s 11) (s 12) (s 13) (s 14) (s 15) (ix2 ⟨128 + a.val, by omega⟩ k)
      = rowOf (part10 M Z) (part11 M Z) (sinkOf (s 10)) (sinkOf (s 11)) (ix2 a k) := fun k => by
    unfold powersOf
    rw [stacked_apply]
    have ha := a.isLt
    rw [dif_neg (by show ¬ 128 + a.val < 128; omega), dif_pos (by show 128 + a.val - 128 < 128; omega)]; exact congrArg _ (congrArg₂ ix2 (Fin.ext (by show 128 + a.val - 128 = _; omega)) rfl)
  have hlt := l.isLt
  rw [piece1_apply, valuesOf_apply]
  simp only [hrow]
  by_cases hl : l.val < 64
  · obtain ⟨e, rfl⟩ : ∃ e, l = half 0 e := ⟨⟨l.val, hl⟩, Fin.ext (by show l.val = 64 * 0 + l.val; omega)⟩
    have he := e.isLt
    rw [(pairLow _ _ _ _ (k0_pay23 KV) a e).1, funext hz0, funext fun k => values1 KV k e]
    show outOf Q K0 K1 KV M s a 10 e = _
    unfold whole
    congr 1
    · exact Fin.ext (by show 10 = (640 + (64 * 0 + e.val)) / 64; omega)
    · exact Fin.ext (by show e.val = (640 + (64 * 0 + e.val)) % 64; omega)
  · obtain ⟨e, rfl⟩ : ∃ e, l = half 1 e := ⟨⟨l.val - 64, by omega⟩, Fin.ext (by show l.val = 64 * 1 + (l.val - 64); omega)⟩
    have he := e.isLt
    rw [(pairLow _ _ _ _ (k0_pay23 KV) a e).2, funext hz1, funext fun k => values1 KV k e]
    show outOf Q K0 K1 KV M s a 11 e = _
    unfold whole
    congr 1
    · exact Fin.ext (by show 11 = (640 + (64 * 1 + e.val)) / 64; omega)
    · exact Fin.ext (by show e.val = (640 + (64 * 1 + e.val)) % 64; omega)

/-- The output of group 1, column 2. -/
theorem at12 (a : Fin 128) (l : Fin 128) :
    piece2 (valuesOf (powersOf M (k0_pay28 k0_pay3 Q K0) (s 8) (s 9) (s 10) (s 11) (s 12) (s 13) (s 14) (s 15)) (diagLow (k0_pay23 KV)))
        (scaleOf (part20 M (k0_pay28 k0_pay3 Q K0)) (part21 M (k0_pay28 k0_pay3 Q K0)) (sinkOf (s 12)) (sinkOf (s 13))) (ix3 0 a l)
      = whole Q K0 K1 KV M s (ix3 0 a ⟨768 + l.val, by omega⟩) := by
  have hz0 := fun k => score12 Q K0 K1 M a k
  have hz1 := fun k => score13 Q K0 K1 M a k
  generalize (k0_pay28 k0_pay3 Q K0) = Z at *
  have hrow : ∀ k : Fin 512, powersOf M Z (s 8) (s 9) (s 10) (s 11) (s 12) (s 13) (s 14) (s 15) (ix2 ⟨256 + a.val, by omega⟩ k)
      = rowOf (part20 M Z) (part21 M Z) (sinkOf (s 12)) (sinkOf (s 13)) (ix2 a k) := fun k => by
    unfold powersOf
    rw [stacked_apply]
    have ha := a.isLt
    rw [dif_neg (by show ¬ 256 + a.val < 128; omega), dif_neg (by show ¬ 256 + a.val - 128 < 128; omega), dif_pos (by show 256 + a.val - 128 - 128 < 128; omega)]; exact congrArg _ (congrArg₂ ix2 (Fin.ext (by show 256 + a.val - 128 - 128 = _; omega)) rfl)
  have hlt := l.isLt
  rw [piece2_apply, valuesOf_apply]
  simp only [hrow]
  by_cases hl : l.val < 64
  · obtain ⟨e, rfl⟩ : ∃ e, l = half 0 e := ⟨⟨l.val, hl⟩, Fin.ext (by show l.val = 64 * 0 + l.val; omega)⟩
    have he := e.isLt
    rw [(pairLow _ _ _ _ (k0_pay23 KV) a e).1, funext hz0, funext fun k => values1 KV k e]
    show outOf Q K0 K1 KV M s a 12 e = _
    unfold whole
    congr 1
    · exact Fin.ext (by show 12 = (768 + (64 * 0 + e.val)) / 64; omega)
    · exact Fin.ext (by show e.val = (768 + (64 * 0 + e.val)) % 64; omega)
  · obtain ⟨e, rfl⟩ : ∃ e, l = half 1 e := ⟨⟨l.val - 64, by omega⟩, Fin.ext (by show l.val = 64 * 1 + (l.val - 64); omega)⟩
    have he := e.isLt
    rw [(pairLow _ _ _ _ (k0_pay23 KV) a e).2, funext hz1, funext fun k => values1 KV k e]
    show outOf Q K0 K1 KV M s a 13 e = _
    unfold whole
    congr 1
    · exact Fin.ext (by show 13 = (768 + (64 * 1 + e.val)) / 64; omega)
    · exact Fin.ext (by show e.val = (768 + (64 * 1 + e.val)) % 64; omega)

/-- The output of group 1, column 3. -/
theorem at13 (a : Fin 128) (l : Fin 128) :
    piece3 (valuesOf (powersOf M (k0_pay28 k0_pay3 Q K0) (s 8) (s 9) (s 10) (s 11) (s 12) (s 13) (s 14) (s 15)) (diagLow (k0_pay23 KV)))
        (scaleOf (part30 M (k0_pay28 k0_pay3 Q K0)) (part31 M (k0_pay28 k0_pay3 Q K0)) (sinkOf (s 14)) (sinkOf (s 15))) (ix3 0 a l)
      = whole Q K0 K1 KV M s (ix3 0 a ⟨896 + l.val, by omega⟩) := by
  have hz0 := fun k => score14 Q K0 K1 M a k
  have hz1 := fun k => score15 Q K0 K1 M a k
  generalize (k0_pay28 k0_pay3 Q K0) = Z at *
  have hrow : ∀ k : Fin 512, powersOf M Z (s 8) (s 9) (s 10) (s 11) (s 12) (s 13) (s 14) (s 15) (ix2 ⟨384 + a.val, by omega⟩ k)
      = rowOf (part30 M Z) (part31 M Z) (sinkOf (s 14)) (sinkOf (s 15)) (ix2 a k) := fun k => by
    unfold powersOf
    rw [stacked_apply]
    have ha := a.isLt
    rw [dif_neg (by show ¬ 384 + a.val < 128; omega), dif_neg (by show ¬ 384 + a.val - 128 < 128; omega), dif_neg (by show ¬ 384 + a.val - 128 - 128 < 128; omega)]; exact congrArg _ (congrArg₂ ix2 (Fin.ext (by show 384 + a.val - 128 - 128 - 128 = a.val; omega)) rfl)
  have hlt := l.isLt
  rw [piece3_apply, valuesOf_apply]
  simp only [hrow]
  by_cases hl : l.val < 64
  · obtain ⟨e, rfl⟩ : ∃ e, l = half 0 e := ⟨⟨l.val, hl⟩, Fin.ext (by show l.val = 64 * 0 + l.val; omega)⟩
    have he := e.isLt
    rw [(pairLow _ _ _ _ (k0_pay23 KV) a e).1, funext hz0, funext fun k => values1 KV k e]
    show outOf Q K0 K1 KV M s a 14 e = _
    unfold whole
    congr 1
    · exact Fin.ext (by show 14 = (896 + (64 * 0 + e.val)) / 64; omega)
    · exact Fin.ext (by show e.val = (896 + (64 * 0 + e.val)) % 64; omega)
  · obtain ⟨e, rfl⟩ : ∃ e, l = half 1 e := ⟨⟨l.val - 64, by omega⟩, Fin.ext (by show l.val = 64 * 1 + (l.val - 64); omega)⟩
    have he := e.isLt
    rw [(pairLow _ _ _ _ (k0_pay23 KV) a e).2, funext hz1, funext fun k => values1 KV k e]
    show outOf Q K0 K1 KV M s a 15 e = _
    unfold whole
    congr 1
    · exact Fin.ext (by show 15 = (896 + (64 * 1 + e.val)) / 64; omega)
    · exact Fin.ext (by show e.val = (896 + (64 * 1 + e.val)) % 64; omega)

/-- Group 2 of the queries, at an index. -/
theorem queries2 (r : Fin 512) (l : Fin 128) :
    (extractStridedSlice S512x128 ![1024, 0] Q slices_S1536x128_o1024_0_S512x128) (ix2 r l) = Q (ix2 ⟨1024 + r.val, by omega⟩ l) := by
  pointwise

/-- Group 2 of the values, at an index. -/
theorem values2 (k : Fin 256) (e : Fin 64) : k0_pay24 KV (ix2 k (half 1 e)) = KV (ix2 k ⟨192 + 64 * 2 + e.val, by omega⟩) := by
  unfold k0_pay24
  pointwise
  all_goals first | rfl | exact congrArg KV (congrArg₂ ix2 rfl (Fin.ext (by simp only [half]; norm_num; try omega)))

/-- Head 16's scores. -/
theorem score16 (a : Fin 128) (k : Fin 256) : part00 M (k0_pay29 k0_pay3 Q K1) (ix2 a k) = scoreOf Q K0 K1 M a 16 k := by
  rw [part00_apply, scores2_eq]
  unfold scoreOf
  have hs := (scoresLow (extractStridedSlice S512x128 ![1024, 0] Q slices_S1536x128_o1024_0_S512x128) K1 ⟨0 + a.val, by omega⟩ k).1
  simp only [queries2] at hs
  refine if_congr Iff.rfl (Eq.trans ?_ (hs.trans ?_)) rfl
  · first | rfl | exact congrArg _ (congrArg₂ ix2 rfl (Fin.ext (by show 0 + k.val = _; simp)))
  · refine Finset.sum_congr rfl fun d _ => congrArg₂ (· * ·) (congrArg Q (congrArg₂ ix2 (Fin.ext ?_) rfl)) rfl
    show 1024 + (0 + a.val) = 128 * (16 / 2) + a.val
    omega

/-- Head 17's scores. -/
theorem score17 (a : Fin 128) (k : Fin 256) : part01 M (k0_pay29 k0_pay3 Q K1) (ix2 a k) = scoreOf Q K0 K1 M a 17 k := by
  rw [part01_apply, scores2_eq]
  unfold scoreOf
  have hs := (scoresLow (extractStridedSlice S512x128 ![1024, 0] Q slices_S1536x128_o1024_0_S512x128) K1 ⟨0 + a.val, by omega⟩ k).2
  simp only [queries2] at hs
  refine if_congr Iff.rfl (Eq.trans ?_ (hs.trans ?_)) rfl
  · first | rfl | exact congrArg _ (congrArg₂ ix2 rfl (Fin.ext (by show 256 + k.val = _; simp)))
  · refine Finset.sum_congr rfl fun d _ => congrArg₂ (· * ·) (congrArg Q (congrArg₂ ix2 (Fin.ext ?_) rfl)) rfl
    show 1024 + (0 + a.val) = 128 * (17 / 2) + a.val
    omega

/-- Head 18's scores. -/
theorem score18 (a : Fin 128) (k : Fin 256) : part10 M (k0_pay29 k0_pay3 Q K1) (ix2 a k) = scoreOf Q K0 K1 M a 18 k := by
  rw [part10_apply, scores2_eq]
  unfold scoreOf
  have hs := (scoresLow (extractStridedSlice S512x128 ![1024, 0] Q slices_S1536x128_o1024_0_S512x128) K1 ⟨128 + a.val, by omega⟩ k).1
  simp only [queries2] at hs
  refine if_congr Iff.rfl (Eq.trans ?_ (hs.trans ?_)) rfl
  · first | rfl | exact congrArg _ (congrArg₂ ix2 rfl (Fin.ext (by show 0 + k.val = _; simp)))
  · refine Finset.sum_congr rfl fun d _ => congrArg₂ (· * ·) (congrArg Q (congrArg₂ ix2 (Fin.ext ?_) rfl)) rfl
    show 1024 + (128 + a.val) = 128 * (18 / 2) + a.val
    omega

/-- Head 19's scores. -/
theorem score19 (a : Fin 128) (k : Fin 256) : part11 M (k0_pay29 k0_pay3 Q K1) (ix2 a k) = scoreOf Q K0 K1 M a 19 k := by
  rw [part11_apply, scores2_eq]
  unfold scoreOf
  have hs := (scoresLow (extractStridedSlice S512x128 ![1024, 0] Q slices_S1536x128_o1024_0_S512x128) K1 ⟨128 + a.val, by omega⟩ k).2
  simp only [queries2] at hs
  refine if_congr Iff.rfl (Eq.trans ?_ (hs.trans ?_)) rfl
  · first | rfl | exact congrArg _ (congrArg₂ ix2 rfl (Fin.ext (by show 256 + k.val = _; simp)))
  · refine Finset.sum_congr rfl fun d _ => congrArg₂ (· * ·) (congrArg Q (congrArg₂ ix2 (Fin.ext ?_) rfl)) rfl
    show 1024 + (128 + a.val) = 128 * (19 / 2) + a.val
    omega

/-- Head 20's scores. -/
theorem score20 (a : Fin 128) (k : Fin 256) : part20 M (k0_pay29 k0_pay3 Q K1) (ix2 a k) = scoreOf Q K0 K1 M a 20 k := by
  rw [part20_apply, scores2_eq]
  unfold scoreOf
  have hs := (scoresLow (extractStridedSlice S512x128 ![1024, 0] Q slices_S1536x128_o1024_0_S512x128) K1 ⟨256 + a.val, by omega⟩ k).1
  simp only [queries2] at hs
  refine if_congr Iff.rfl (Eq.trans ?_ (hs.trans ?_)) rfl
  · first | rfl | exact congrArg _ (congrArg₂ ix2 rfl (Fin.ext (by show 0 + k.val = _; simp)))
  · refine Finset.sum_congr rfl fun d _ => congrArg₂ (· * ·) (congrArg Q (congrArg₂ ix2 (Fin.ext ?_) rfl)) rfl
    show 1024 + (256 + a.val) = 128 * (20 / 2) + a.val
    omega

/-- Head 21's scores. -/
theorem score21 (a : Fin 128) (k : Fin 256) : part21 M (k0_pay29 k0_pay3 Q K1) (ix2 a k) = scoreOf Q K0 K1 M a 21 k := by
  rw [part21_apply, scores2_eq]
  unfold scoreOf
  have hs := (scoresLow (extractStridedSlice S512x128 ![1024, 0] Q slices_S1536x128_o1024_0_S512x128) K1 ⟨256 + a.val, by omega⟩ k).2
  simp only [queries2] at hs
  refine if_congr Iff.rfl (Eq.trans ?_ (hs.trans ?_)) rfl
  · first | rfl | exact congrArg _ (congrArg₂ ix2 rfl (Fin.ext (by show 256 + k.val = _; simp)))
  · refine Finset.sum_congr rfl fun d _ => congrArg₂ (· * ·) (congrArg Q (congrArg₂ ix2 (Fin.ext ?_) rfl)) rfl
    show 1024 + (256 + a.val) = 128 * (21 / 2) + a.val
    omega

/-- Head 22's scores. -/
theorem score22 (a : Fin 128) (k : Fin 256) : part30 M (k0_pay29 k0_pay3 Q K1) (ix2 a k) = scoreOf Q K0 K1 M a 22 k := by
  rw [part30_apply, scores2_eq]
  unfold scoreOf
  have hs := (scoresLow (extractStridedSlice S512x128 ![1024, 0] Q slices_S1536x128_o1024_0_S512x128) K1 ⟨384 + a.val, by omega⟩ k).1
  simp only [queries2] at hs
  refine if_congr Iff.rfl (Eq.trans ?_ (hs.trans ?_)) rfl
  · first | rfl | exact congrArg _ (congrArg₂ ix2 rfl (Fin.ext (by show 0 + k.val = _; simp)))
  · refine Finset.sum_congr rfl fun d _ => congrArg₂ (· * ·) (congrArg Q (congrArg₂ ix2 (Fin.ext ?_) rfl)) rfl
    show 1024 + (384 + a.val) = 128 * (22 / 2) + a.val
    omega

/-- Head 23's scores. -/
theorem score23 (a : Fin 128) (k : Fin 256) : part31 M (k0_pay29 k0_pay3 Q K1) (ix2 a k) = scoreOf Q K0 K1 M a 23 k := by
  rw [part31_apply, scores2_eq]
  unfold scoreOf
  have hs := (scoresLow (extractStridedSlice S512x128 ![1024, 0] Q slices_S1536x128_o1024_0_S512x128) K1 ⟨384 + a.val, by omega⟩ k).2
  simp only [queries2] at hs
  refine if_congr Iff.rfl (Eq.trans ?_ (hs.trans ?_)) rfl
  · first | rfl | exact congrArg _ (congrArg₂ ix2 rfl (Fin.ext (by show 256 + k.val = _; simp)))
  · refine Finset.sum_congr rfl fun d _ => congrArg₂ (· * ·) (congrArg Q (congrArg₂ ix2 (Fin.ext ?_) rfl)) rfl
    show 1024 + (384 + a.val) = 128 * (23 / 2) + a.val
    omega

/-- The output of group 2, column 0. -/
theorem at20 (a : Fin 128) (l : Fin 128) :
    piece0 (valuesOf (powersOf M (k0_pay29 k0_pay3 Q K1) (s 16) (s 17) (s 18) (s 19) (s 20) (s 21) (s 22) (s 23)) (diagHigh (k0_pay24 KV)))
        (scaleOf (part00 M (k0_pay29 k0_pay3 Q K1)) (part01 M (k0_pay29 k0_pay3 Q K1)) (sinkOf (s 16)) (sinkOf (s 17))) (ix3 0 a l)
      = whole Q K0 K1 KV M s (ix3 0 a ⟨1024 + l.val, by omega⟩) := by
  have hz0 := fun k => score16 Q K0 K1 M a k
  have hz1 := fun k => score17 Q K0 K1 M a k
  generalize (k0_pay29 k0_pay3 Q K1) = Z at *
  have hrow : ∀ k : Fin 512, powersOf M Z (s 16) (s 17) (s 18) (s 19) (s 20) (s 21) (s 22) (s 23) (ix2 ⟨0 + a.val, by omega⟩ k)
      = rowOf (part00 M Z) (part01 M Z) (sinkOf (s 16)) (sinkOf (s 17)) (ix2 a k) := fun k => by
    unfold powersOf
    rw [stacked_apply]
    have ha := a.isLt
    rw [dif_pos (by show 0 + a.val < 128; omega)]; exact congrArg _ (congrArg₂ ix2 (Fin.ext (by show 0 + a.val = _; omega)) rfl)
  have hlt := l.isLt
  rw [piece0_apply, valuesOf_apply]
  simp only [hrow]
  by_cases hl : l.val < 64
  · obtain ⟨e, rfl⟩ : ∃ e, l = half 0 e := ⟨⟨l.val, hl⟩, Fin.ext (by show l.val = 64 * 0 + l.val; omega)⟩
    have he := e.isLt
    rw [(pairHigh _ _ _ _ (k0_pay24 KV) a e).1, funext hz0, funext fun k => values2 KV k e]
    show outOf Q K0 K1 KV M s a 16 e = _
    unfold whole
    congr 1
    · exact Fin.ext (by show 16 = (1024 + (64 * 0 + e.val)) / 64; omega)
    · exact Fin.ext (by show e.val = (1024 + (64 * 0 + e.val)) % 64; omega)
  · obtain ⟨e, rfl⟩ : ∃ e, l = half 1 e := ⟨⟨l.val - 64, by omega⟩, Fin.ext (by show l.val = 64 * 1 + (l.val - 64); omega)⟩
    have he := e.isLt
    rw [(pairHigh _ _ _ _ (k0_pay24 KV) a e).2, funext hz1, funext fun k => values2 KV k e]
    show outOf Q K0 K1 KV M s a 17 e = _
    unfold whole
    congr 1
    · exact Fin.ext (by show 17 = (1024 + (64 * 1 + e.val)) / 64; omega)
    · exact Fin.ext (by show e.val = (1024 + (64 * 1 + e.val)) % 64; omega)

/-- The output of group 2, column 1. -/
theorem at21 (a : Fin 128) (l : Fin 128) :
    piece1 (valuesOf (powersOf M (k0_pay29 k0_pay3 Q K1) (s 16) (s 17) (s 18) (s 19) (s 20) (s 21) (s 22) (s 23)) (diagHigh (k0_pay24 KV)))
        (scaleOf (part10 M (k0_pay29 k0_pay3 Q K1)) (part11 M (k0_pay29 k0_pay3 Q K1)) (sinkOf (s 18)) (sinkOf (s 19))) (ix3 0 a l)
      = whole Q K0 K1 KV M s (ix3 0 a ⟨1152 + l.val, by omega⟩) := by
  have hz0 := fun k => score18 Q K0 K1 M a k
  have hz1 := fun k => score19 Q K0 K1 M a k
  generalize (k0_pay29 k0_pay3 Q K1) = Z at *
  have hrow : ∀ k : Fin 512, powersOf M Z (s 16) (s 17) (s 18) (s 19) (s 20) (s 21) (s 22) (s 23) (ix2 ⟨128 + a.val, by omega⟩ k)
      = rowOf (part10 M Z) (part11 M Z) (sinkOf (s 18)) (sinkOf (s 19)) (ix2 a k) := fun k => by
    unfold powersOf
    rw [stacked_apply]
    have ha := a.isLt
    rw [dif_neg (by show ¬ 128 + a.val < 128; omega), dif_pos (by show 128 + a.val - 128 < 128; omega)]; exact congrArg _ (congrArg₂ ix2 (Fin.ext (by show 128 + a.val - 128 = _; omega)) rfl)
  have hlt := l.isLt
  rw [piece1_apply, valuesOf_apply]
  simp only [hrow]
  by_cases hl : l.val < 64
  · obtain ⟨e, rfl⟩ : ∃ e, l = half 0 e := ⟨⟨l.val, hl⟩, Fin.ext (by show l.val = 64 * 0 + l.val; omega)⟩
    have he := e.isLt
    rw [(pairHigh _ _ _ _ (k0_pay24 KV) a e).1, funext hz0, funext fun k => values2 KV k e]
    show outOf Q K0 K1 KV M s a 18 e = _
    unfold whole
    congr 1
    · exact Fin.ext (by show 18 = (1152 + (64 * 0 + e.val)) / 64; omega)
    · exact Fin.ext (by show e.val = (1152 + (64 * 0 + e.val)) % 64; omega)
  · obtain ⟨e, rfl⟩ : ∃ e, l = half 1 e := ⟨⟨l.val - 64, by omega⟩, Fin.ext (by show l.val = 64 * 1 + (l.val - 64); omega)⟩
    have he := e.isLt
    rw [(pairHigh _ _ _ _ (k0_pay24 KV) a e).2, funext hz1, funext fun k => values2 KV k e]
    show outOf Q K0 K1 KV M s a 19 e = _
    unfold whole
    congr 1
    · exact Fin.ext (by show 19 = (1152 + (64 * 1 + e.val)) / 64; omega)
    · exact Fin.ext (by show e.val = (1152 + (64 * 1 + e.val)) % 64; omega)

/-- The output of group 2, column 2. -/
theorem at22 (a : Fin 128) (l : Fin 128) :
    piece2 (valuesOf (powersOf M (k0_pay29 k0_pay3 Q K1) (s 16) (s 17) (s 18) (s 19) (s 20) (s 21) (s 22) (s 23)) (diagHigh (k0_pay24 KV)))
        (scaleOf (part20 M (k0_pay29 k0_pay3 Q K1)) (part21 M (k0_pay29 k0_pay3 Q K1)) (sinkOf (s 20)) (sinkOf (s 21))) (ix3 0 a l)
      = whole Q K0 K1 KV M s (ix3 0 a ⟨1280 + l.val, by omega⟩) := by
  have hz0 := fun k => score20 Q K0 K1 M a k
  have hz1 := fun k => score21 Q K0 K1 M a k
  generalize (k0_pay29 k0_pay3 Q K1) = Z at *
  have hrow : ∀ k : Fin 512, powersOf M Z (s 16) (s 17) (s 18) (s 19) (s 20) (s 21) (s 22) (s 23) (ix2 ⟨256 + a.val, by omega⟩ k)
      = rowOf (part20 M Z) (part21 M Z) (sinkOf (s 20)) (sinkOf (s 21)) (ix2 a k) := fun k => by
    unfold powersOf
    rw [stacked_apply]
    have ha := a.isLt
    rw [dif_neg (by show ¬ 256 + a.val < 128; omega), dif_neg (by show ¬ 256 + a.val - 128 < 128; omega), dif_pos (by show 256 + a.val - 128 - 128 < 128; omega)]; exact congrArg _ (congrArg₂ ix2 (Fin.ext (by show 256 + a.val - 128 - 128 = _; omega)) rfl)
  have hlt := l.isLt
  rw [piece2_apply, valuesOf_apply]
  simp only [hrow]
  by_cases hl : l.val < 64
  · obtain ⟨e, rfl⟩ : ∃ e, l = half 0 e := ⟨⟨l.val, hl⟩, Fin.ext (by show l.val = 64 * 0 + l.val; omega)⟩
    have he := e.isLt
    rw [(pairHigh _ _ _ _ (k0_pay24 KV) a e).1, funext hz0, funext fun k => values2 KV k e]
    show outOf Q K0 K1 KV M s a 20 e = _
    unfold whole
    congr 1
    · exact Fin.ext (by show 20 = (1280 + (64 * 0 + e.val)) / 64; omega)
    · exact Fin.ext (by show e.val = (1280 + (64 * 0 + e.val)) % 64; omega)
  · obtain ⟨e, rfl⟩ : ∃ e, l = half 1 e := ⟨⟨l.val - 64, by omega⟩, Fin.ext (by show l.val = 64 * 1 + (l.val - 64); omega)⟩
    have he := e.isLt
    rw [(pairHigh _ _ _ _ (k0_pay24 KV) a e).2, funext hz1, funext fun k => values2 KV k e]
    show outOf Q K0 K1 KV M s a 21 e = _
    unfold whole
    congr 1
    · exact Fin.ext (by show 21 = (1280 + (64 * 1 + e.val)) / 64; omega)
    · exact Fin.ext (by show e.val = (1280 + (64 * 1 + e.val)) % 64; omega)

/-- The output of group 2, column 3. -/
theorem at23 (a : Fin 128) (l : Fin 128) :
    piece3 (valuesOf (powersOf M (k0_pay29 k0_pay3 Q K1) (s 16) (s 17) (s 18) (s 19) (s 20) (s 21) (s 22) (s 23)) (diagHigh (k0_pay24 KV)))
        (scaleOf (part30 M (k0_pay29 k0_pay3 Q K1)) (part31 M (k0_pay29 k0_pay3 Q K1)) (sinkOf (s 22)) (sinkOf (s 23))) (ix3 0 a l)
      = whole Q K0 K1 KV M s (ix3 0 a ⟨1408 + l.val, by omega⟩) := by
  have hz0 := fun k => score22 Q K0 K1 M a k
  have hz1 := fun k => score23 Q K0 K1 M a k
  generalize (k0_pay29 k0_pay3 Q K1) = Z at *
  have hrow : ∀ k : Fin 512, powersOf M Z (s 16) (s 17) (s 18) (s 19) (s 20) (s 21) (s 22) (s 23) (ix2 ⟨384 + a.val, by omega⟩ k)
      = rowOf (part30 M Z) (part31 M Z) (sinkOf (s 22)) (sinkOf (s 23)) (ix2 a k) := fun k => by
    unfold powersOf
    rw [stacked_apply]
    have ha := a.isLt
    rw [dif_neg (by show ¬ 384 + a.val < 128; omega), dif_neg (by show ¬ 384 + a.val - 128 < 128; omega), dif_neg (by show ¬ 384 + a.val - 128 - 128 < 128; omega)]; exact congrArg _ (congrArg₂ ix2 (Fin.ext (by show 384 + a.val - 128 - 128 - 128 = a.val; omega)) rfl)
  have hlt := l.isLt
  rw [piece3_apply, valuesOf_apply]
  simp only [hrow]
  by_cases hl : l.val < 64
  · obtain ⟨e, rfl⟩ : ∃ e, l = half 0 e := ⟨⟨l.val, hl⟩, Fin.ext (by show l.val = 64 * 0 + l.val; omega)⟩
    have he := e.isLt
    rw [(pairHigh _ _ _ _ (k0_pay24 KV) a e).1, funext hz0, funext fun k => values2 KV k e]
    show outOf Q K0 K1 KV M s a 22 e = _
    unfold whole
    congr 1
    · exact Fin.ext (by show 22 = (1408 + (64 * 0 + e.val)) / 64; omega)
    · exact Fin.ext (by show e.val = (1408 + (64 * 0 + e.val)) % 64; omega)
  · obtain ⟨e, rfl⟩ : ∃ e, l = half 1 e := ⟨⟨l.val - 64, by omega⟩, Fin.ext (by show l.val = 64 * 1 + (l.val - 64); omega)⟩
    have he := e.isLt
    rw [(pairHigh _ _ _ _ (k0_pay24 KV) a e).2, funext hz1, funext fun k => values2 KV k e]
    show outOf Q K0 K1 KV M s a 23 e = _
    unfold whole
    congr 1
    · exact Fin.ext (by show 23 = (1408 + (64 * 1 + e.val)) / 64; omega)
    · exact Fin.ext (by show e.val = (1408 + (64 * 1 + e.val)) % 64; omega)

/-- An index of a block of 128 lanes, by its coordinates. -/
theorem idx_split (x : S1x128x128.Idx) : ∃ a l : Fin 128, x = ix3 0 a l := by
  refine ⟨x 1, x 2, (eq_ix3 x).trans ?_⟩
  exact congrArg (fun z : Fin 1 => (ix3 z (x 1) (x 2) : S1x128x128.Idx)) (Subsingleton.elim (α := Fin 1) _ _)

/-- The piece at lanes 1408 to 1535 of the output block. -/
theorem stored11 (x : (Rect.unit (s := S1x128x1536) ![0, 0, 1408] ![1, 128, 128] inb_S1x128x1536_S1x128x128_0_0_1408).shape.Idx) : (k0_pay1 (k0_pay195 (k0_pay176 k0_pay3 (k0_pay168 M (k0_pay29 k0_pay3 Q K1) (s 22)) (k0_pay172 M (k0_pay29 k0_pay3 Q K1) (s 23)) (k0_pay174 M (k0_pay29 k0_pay3 Q K1) (s 23)) (k0_pay175 (s 23))) (k0_pay182 (k0_pay177 (k0_pay135 (k0_pay129 M (k0_pay29 k0_pay3 Q K1) (s 16)) (k0_pay133 M (k0_pay29 k0_pay3 Q K1) (s 17))) (k0_pay148 (k0_pay142 M (k0_pay29 k0_pay3 Q K1) (s 18)) (k0_pay146 M (k0_pay29 k0_pay3 Q K1) (s 19))) (k0_pay162 (k0_pay155 M (k0_pay29 k0_pay3 Q K1) (s 20)) (k0_pay159 M (k0_pay29 k0_pay3 Q K1) (s 21))) (k0_pay169 M (k0_pay29 k0_pay3 Q K1) (s 22)) (k0_pay173 M (k0_pay29 k0_pay3 Q K1) (s 23))) (k0_pay180 k0_pay3 (k0_pay24 KV)) (k0_pay181 k0_pay3 (k0_pay24 KV)))) : FVec Ideal S1x128x128 .bf16) x = whole Q K0 K1 KV M s ((Rect.unit (s := S1x128x1536) ![0, 0, 1408] ![1, 128, 128] inb_S1x128x1536_S1x128x128_0_0_1408).emb x) := by
  rw [piece23_eq]
  obtain ⟨a, l, rfl⟩ := idx_split x
  refine (at23 Q K0 K1 KV M s a l).trans (congrArg (whole Q K0 K1 KV M s) ?_)
  funext j
  fin_cases j <;> exact Fin.ext (by simp [Rect.emb, Rect.unit]; try rfl)

/-- The piece at lanes 1280 to 1407 of the output block. -/
theorem stored10 (x : (Rect.unit (s := S1x128x1536) ![0, 0, 1280] ![1, 128, 128] inb_S1x128x1536_S1x128x128_0_0_1280).shape.Idx) : (k0_pay194 (k0_pay163 k0_pay3 (k0_pay154 M (k0_pay29 k0_pay3 Q K1) (s 20)) (k0_pay160 M (k0_pay29 k0_pay3 Q K1) (s 21)) (k0_pay161 M (k0_pay29 k0_pay3 Q K1) (s 21))) (k0_pay182 (k0_pay177 (k0_pay135 (k0_pay129 M (k0_pay29 k0_pay3 Q K1) (s 16)) (k0_pay133 M (k0_pay29 k0_pay3 Q K1) (s 17))) (k0_pay148 (k0_pay142 M (k0_pay29 k0_pay3 Q K1) (s 18)) (k0_pay146 M (k0_pay29 k0_pay3 Q K1) (s 19))) (k0_pay162 (k0_pay155 M (k0_pay29 k0_pay3 Q K1) (s 20)) (k0_pay159 M (k0_pay29 k0_pay3 Q K1) (s 21))) (k0_pay169 M (k0_pay29 k0_pay3 Q K1) (s 22)) (k0_pay173 M (k0_pay29 k0_pay3 Q K1) (s 23))) (k0_pay180 k0_pay3 (k0_pay24 KV)) (k0_pay181 k0_pay3 (k0_pay24 KV))) : FVec Ideal S1x128x128 .bf16) x = whole Q K0 K1 KV M s ((Rect.unit (s := S1x128x1536) ![0, 0, 1280] ![1, 128, 128] inb_S1x128x1536_S1x128x128_0_0_1280).emb x) := by
  rw [piece22_eq]
  obtain ⟨a, l, rfl⟩ := idx_split x
  refine (at22 Q K0 K1 KV M s a l).trans (congrArg (whole Q K0 K1 KV M s) ?_)
  funext j
  fin_cases j <;> exact Fin.ext (by simp [Rect.emb, Rect.unit]; try rfl)

/-- The piece at lanes 1152 to 1279 of the output block. -/
theorem stored9 (x : (Rect.unit (s := S1x128x1536) ![0, 0, 1152] ![1, 128, 128] inb_S1x128x1536_S1x128x128_0_0_1152).shape.Idx) : (k0_pay193 (k0_pay149 k0_pay3 (k0_pay141 M (k0_pay29 k0_pay3 Q K1) (s 18)) (k0_pay147 M (k0_pay29 k0_pay3 Q K1) (s 19)) (FloatOps.ofBits FTy.f32 1065353216#32)) (k0_pay182 (k0_pay177 (k0_pay135 (k0_pay129 M (k0_pay29 k0_pay3 Q K1) (s 16)) (k0_pay133 M (k0_pay29 k0_pay3 Q K1) (s 17))) (k0_pay148 (k0_pay142 M (k0_pay29 k0_pay3 Q K1) (s 18)) (k0_pay146 M (k0_pay29 k0_pay3 Q K1) (s 19))) (k0_pay162 (k0_pay155 M (k0_pay29 k0_pay3 Q K1) (s 20)) (k0_pay159 M (k0_pay29 k0_pay3 Q K1) (s 21))) (k0_pay169 M (k0_pay29 k0_pay3 Q K1) (s 22)) (k0_pay173 M (k0_pay29 k0_pay3 Q K1) (s 23))) (k0_pay180 k0_pay3 (k0_pay24 KV)) (k0_pay181 k0_pay3 (k0_pay24 KV))) : FVec Ideal S1x128x128 .bf16) x = whole Q K0 K1 KV M s ((Rect.unit (s := S1x128x1536) ![0, 0, 1152] ![1, 128, 128] inb_S1x128x1536_S1x128x128_0_0_1152).emb x) := by
  rw [piece21_eq]
  obtain ⟨a, l, rfl⟩ := idx_split x
  refine (at21 Q K0 K1 KV M s a l).trans (congrArg (whole Q K0 K1 KV M s) ?_)
  funext j
  fin_cases j <;> exact Fin.ext (by simp [Rect.emb, Rect.unit]; try rfl)

/-- The piece at lanes 1024 to 1151 of the output block. -/
theorem stored8 (x : (Rect.unit (s := S1x128x1536) ![0, 0, 1024] ![1, 128, 128] inb_S1x128x1536_S1x128x128_0_0_1024).shape.Idx) : (k0_pay192 (k0_pay136 k0_pay3 (k0_pay128 M (k0_pay29 k0_pay3 Q K1) (s 16)) (k0_pay134 M (k0_pay29 k0_pay3 Q K1) (s 17))) (k0_pay182 (k0_pay177 (k0_pay135 (k0_pay129 M (k0_pay29 k0_pay3 Q K1) (s 16)) (k0_pay133 M (k0_pay29 k0_pay3 Q K1) (s 17))) (k0_pay148 (k0_pay142 M (k0_pay29 k0_pay3 Q K1) (s 18)) (k0_pay146 M (k0_pay29 k0_pay3 Q K1) (s 19))) (k0_pay162 (k0_pay155 M (k0_pay29 k0_pay3 Q K1) (s 20)) (k0_pay159 M (k0_pay29 k0_pay3 Q K1) (s 21))) (k0_pay169 M (k0_pay29 k0_pay3 Q K1) (s 22)) (k0_pay173 M (k0_pay29 k0_pay3 Q K1) (s 23))) (k0_pay180 k0_pay3 (k0_pay24 KV)) (k0_pay181 k0_pay3 (k0_pay24 KV))) : FVec Ideal S1x128x128 .bf16) x = whole Q K0 K1 KV M s ((Rect.unit (s := S1x128x1536) ![0, 0, 1024] ![1, 128, 128] inb_S1x128x1536_S1x128x128_0_0_1024).emb x) := by
  rw [piece20_eq]
  obtain ⟨a, l, rfl⟩ := idx_split x
  refine (at20 Q K0 K1 KV M s a l).trans (congrArg (whole Q K0 K1 KV M s) ?_)
  funext j
  fin_cases j <;> exact Fin.ext (by simp [Rect.emb, Rect.unit]; try rfl)

/-- The piece at lanes 896 to 1023 of the output block. -/
theorem stored7 (x : (Rect.unit (s := S1x128x1536) ![0, 0, 896] ![1, 128, 128] inb_S1x128x1536_S1x128x128_0_0_896).shape.Idx) : (k0_pay191 (k0_pay122 (k0_pay114 M (k0_pay28 k0_pay3 Q K0) (s 14)) (k0_pay119 M (k0_pay28 k0_pay3 Q K0) (s 15)) (k0_pay121 k0_pay3)) (k0_pay179 k0_pay3 (k0_pay23 KV) (k0_pay123 (k0_pay82 M (k0_pay28 k0_pay3 Q K0) (s 8) (s 9)) (k0_pay92 M (k0_pay28 k0_pay3 Q K0) (s 10) (s 11)) (k0_pay106 M (k0_pay28 k0_pay3 Q K0) (s 12) (s 13)) (k0_pay120 M (k0_pay28 k0_pay3 Q K0) (s 14) (s 15)))) : FVec Ideal S1x128x128 .bf16) x = whole Q K0 K1 KV M s ((Rect.unit (s := S1x128x1536) ![0, 0, 896] ![1, 128, 128] inb_S1x128x1536_S1x128x128_0_0_896).emb x) := by
  rw [piece13_eq]
  obtain ⟨a, l, rfl⟩ := idx_split x
  refine (at13 Q K0 K1 KV M s a l).trans (congrArg (whole Q K0 K1 KV M s) ?_)
  funext j
  fin_cases j <;> exact Fin.ext (by simp [Rect.emb, Rect.unit]; try rfl)

/-- The piece at lanes 768 to 895 of the output block. -/
theorem stored6 (x : (Rect.unit (s := S1x128x1536) ![0, 0, 768] ![1, 128, 128] inb_S1x128x1536_S1x128x128_0_0_768).shape.Idx) : (k0_pay190 (k0_pay109 (k0_pay105 M (k0_pay28 k0_pay3 Q K0) (s 13)) (k0_pay107 k0_pay3) (k0_pay108 M (k0_pay28 k0_pay3 Q K0) (s 12))) (k0_pay179 k0_pay3 (k0_pay23 KV) (k0_pay123 (k0_pay82 M (k0_pay28 k0_pay3 Q K0) (s 8) (s 9)) (k0_pay92 M (k0_pay28 k0_pay3 Q K0) (s 10) (s 11)) (k0_pay106 M (k0_pay28 k0_pay3 Q K0) (s 12) (s 13)) (k0_pay120 M (k0_pay28 k0_pay3 Q K0) (s 14) (s 15)))) : FVec Ideal S1x128x128 .bf16) x = whole Q K0 K1 KV M s ((Rect.unit (s := S1x128x1536) ![0, 0, 768] ![1, 128, 128] inb_S1x128x1536_S1x128x128_0_0_768).emb x) := by
  rw [piece12_eq]
  obtain ⟨a, l, rfl⟩ := idx_split x
  refine (at12 Q K0 K1 KV M s a l).trans (congrArg (whole Q K0 K1 KV M s) ?_)
  funext j
  fin_cases j <;> exact Fin.ext (by simp [Rect.emb, Rect.unit]; try rfl)

/-- The piece at lanes 640 to 767 of the output block. -/
theorem stored5 (x : (Rect.unit (s := S1x128x1536) ![0, 0, 640] ![1, 128, 128] inb_S1x128x1536_S1x128x128_0_0_640).shape.Idx) : (k0_pay189 (k0_pay188 (k0_pay96 (k0_pay93 k0_pay3) (k0_pay94 M (k0_pay28 k0_pay3 Q K0) (s 10)) (k0_pay95 M (k0_pay28 k0_pay3 Q K0) (s 11))) (k0_pay179 k0_pay3 (k0_pay23 KV) (k0_pay123 (k0_pay82 M (k0_pay28 k0_pay3 Q K0) (s 8) (s 9)) (k0_pay92 M (k0_pay28 k0_pay3 Q K0) (s 10) (s 11)) (k0_pay106 M (k0_pay28 k0_pay3 Q K0) (s 12) (s 13)) (k0_pay120 M (k0_pay28 k0_pay3 Q K0) (s 14) (s 15))))) : FVec Ideal S1x128x128 .bf16) x = whole Q K0 K1 KV M s ((Rect.unit (s := S1x128x1536) ![0, 0, 640] ![1, 128, 128] inb_S1x128x1536_S1x128x128_0_0_640).emb x) := by
  rw [piece11_eq]
  obtain ⟨a, l, rfl⟩ := idx_split x
  refine (at11 Q K0 K1 KV M s a l).trans (congrArg (whole Q K0 K1 KV M s) ?_)
  funext j
  fin_cases j <;> exact Fin.ext (by simp [Rect.emb, Rect.unit]; try rfl)

/-- The piece at lanes 512 to 639 of the output block. -/
theorem stored4 (x : (Rect.unit (s := S1x128x1536) ![0, 0, 512] ![1, 128, 128] inb_S1x128x1536_S1x128x128_0_0_512).shape.Idx) : (k0_pay187 (k0_pay83 k0_pay3 M (k0_pay28 k0_pay3 Q K0) (s 8) (s 9)) (k0_pay179 k0_pay3 (k0_pay23 KV) (k0_pay123 (k0_pay82 M (k0_pay28 k0_pay3 Q K0) (s 8) (s 9)) (k0_pay92 M (k0_pay28 k0_pay3 Q K0) (s 10) (s 11)) (k0_pay106 M (k0_pay28 k0_pay3 Q K0) (s 12) (s 13)) (k0_pay120 M (k0_pay28 k0_pay3 Q K0) (s 14) (s 15)))) : FVec Ideal S1x128x128 .bf16) x = whole Q K0 K1 KV M s ((Rect.unit (s := S1x128x1536) ![0, 0, 512] ![1, 128, 128] inb_S1x128x1536_S1x128x128_0_0_512).emb x) := by
  rw [piece10_eq]
  obtain ⟨a, l, rfl⟩ := idx_split x
  refine (at10 Q K0 K1 KV M s a l).trans (congrArg (whole Q K0 K1 KV M s) ?_)
  funext j
  fin_cases j <;> exact Fin.ext (by simp [Rect.emb, Rect.unit]; try rfl)

/-- The piece at lanes 384 to 511 of the output block. -/
theorem stored3 (x : (Rect.unit (s := S1x128x1536) ![0, 0, 384] ![1, 128, 128] inb_S1x128x1536_S1x128x128_0_0_384).shape.Idx) : (k0_pay186 (k0_pay72 k0_pay3 M (k0_pay27 k0_pay3 K0 (k0_pay26 Q) 64#32) (k0_pay63 (s 6)) (k0_pay64 (k0_pay27 k0_pay3 K0 (k0_pay26 Q) 64#32)) (s 7)) (k0_pay178 k0_pay3 (k0_pay22 KV) (k0_pay73 M (k0_pay27 k0_pay3 K0 (k0_pay26 Q) 64#32) (k0_pay39 M (k0_pay27 k0_pay3 K0 (k0_pay26 Q) 64#32) (k0_pay30 (s 0)) (k0_pay31 k0_pay3 K0 M (k0_pay26 Q) 64#32) (k0_pay32 k0_pay3 K0 M (k0_pay26 Q) 64#32) (s 1)) (k0_pay49 M (k0_pay27 k0_pay3 K0 (k0_pay26 Q) 64#32) (k0_pay41 (s 2)) (k0_pay42 M (k0_pay27 k0_pay3 K0 (k0_pay26 Q) 64#32)) (s 3)) (k0_pay61 M (k0_pay27 k0_pay3 K0 (k0_pay26 Q) 64#32) (k0_pay51 (s 4)) (k0_pay52 (k0_pay27 k0_pay3 K0 (k0_pay26 Q) 64#32)) k0_pay53 (s 5)) (k0_pay63 (s 6)) (k0_pay64 (k0_pay27 k0_pay3 K0 (k0_pay26 Q) 64#32)) (s 7))) : FVec Ideal S1x128x128 .bf16) x = whole Q K0 K1 KV M s ((Rect.unit (s := S1x128x1536) ![0, 0, 384] ![1, 128, 128] inb_S1x128x1536_S1x128x128_0_0_384).emb x) := by
  rw [piece03_eq]
  obtain ⟨a, l, rfl⟩ := idx_split x
  refine (at03 Q K0 K1 KV M s a l).trans (congrArg (whole Q K0 K1 KV M s) ?_)
  funext j
  fin_cases j <;> exact Fin.ext (by simp [Rect.emb, Rect.unit]; try rfl)

/-- The piece at lanes 256 to 383 of the output block. -/
theorem stored2 (x : (Rect.unit (s := S1x128x1536) ![0, 0, 256] ![1, 128, 128] inb_S1x128x1536_S1x128x128_0_0_256).shape.Idx) : (k0_pay185 (k0_pay62 k0_pay3 M (k0_pay27 k0_pay3 K0 (k0_pay26 Q) 64#32) (k0_pay51 (s 4)) (k0_pay52 (k0_pay27 k0_pay3 K0 (k0_pay26 Q) 64#32)) k0_pay53 (s 5)) (k0_pay178 k0_pay3 (k0_pay22 KV) (k0_pay73 M (k0_pay27 k0_pay3 K0 (k0_pay26 Q) 64#32) (k0_pay39 M (k0_pay27 k0_pay3 K0 (k0_pay26 Q) 64#32) (k0_pay30 (s 0)) (k0_pay31 k0_pay3 K0 M (k0_pay26 Q) 64#32) (k0_pay32 k0_pay3 K0 M (k0_pay26 Q) 64#32) (s 1)) (k0_pay49 M (k0_pay27 k0_pay3 K0 (k0_pay26 Q) 64#32) (k0_pay41 (s 2)) (k0_pay42 M (k0_pay27 k0_pay3 K0 (k0_pay26 Q) 64#32)) (s 3)) (k0_pay61 M (k0_pay27 k0_pay3 K0 (k0_pay26 Q) 64#32) (k0_pay51 (s 4)) (k0_pay52 (k0_pay27 k0_pay3 K0 (k0_pay26 Q) 64#32)) k0_pay53 (s 5)) (k0_pay63 (s 6)) (k0_pay64 (k0_pay27 k0_pay3 K0 (k0_pay26 Q) 64#32)) (s 7))) : FVec Ideal S1x128x128 .bf16) x = whole Q K0 K1 KV M s ((Rect.unit (s := S1x128x1536) ![0, 0, 256] ![1, 128, 128] inb_S1x128x1536_S1x128x128_0_0_256).emb x) := by
  rw [piece02_eq]
  obtain ⟨a, l, rfl⟩ := idx_split x
  refine (at02 Q K0 K1 KV M s a l).trans (congrArg (whole Q K0 K1 KV M s) ?_)
  funext j
  fin_cases j <;> exact Fin.ext (by simp [Rect.emb, Rect.unit]; try rfl)

/-- The piece at lanes 128 to 255 of the output block. -/
theorem stored1 (x : (Rect.unit (s := S1x128x1536) ![0, 0, 128] ![1, 128, 128] inb_S1x128x1536_S1x128x128_0_0_128).shape.Idx) : (k0_pay184 (k0_pay50 k0_pay3 M (k0_pay27 k0_pay3 K0 (k0_pay26 Q) 64#32) (k0_pay41 (s 2)) (k0_pay42 M (k0_pay27 k0_pay3 K0 (k0_pay26 Q) 64#32)) (s 3)) (k0_pay178 k0_pay3 (k0_pay22 KV) (k0_pay73 M (k0_pay27 k0_pay3 K0 (k0_pay26 Q) 64#32) (k0_pay39 M (k0_pay27 k0_pay3 K0 (k0_pay26 Q) 64#32) (k0_pay30 (s 0)) (k0_pay31 k0_pay3 K0 M (k0_pay26 Q) 64#32) (k0_pay32 k0_pay3 K0 M (k0_pay26 Q) 64#32) (s 1)) (k0_pay49 M (k0_pay27 k0_pay3 K0 (k0_pay26 Q) 64#32) (k0_pay41 (s 2)) (k0_pay42 M (k0_pay27 k0_pay3 K0 (k0_pay26 Q) 64#32)) (s 3)) (k0_pay61 M (k0_pay27 k0_pay3 K0 (k0_pay26 Q) 64#32) (k0_pay51 (s 4)) (k0_pay52 (k0_pay27 k0_pay3 K0 (k0_pay26 Q) 64#32)) k0_pay53 (s 5)) (k0_pay63 (s 6)) (k0_pay64 (k0_pay27 k0_pay3 K0 (k0_pay26 Q) 64#32)) (s 7))) : FVec Ideal S1x128x128 .bf16) x = whole Q K0 K1 KV M s ((Rect.unit (s := S1x128x1536) ![0, 0, 128] ![1, 128, 128] inb_S1x128x1536_S1x128x128_0_0_128).emb x) := by
  rw [piece01_eq]
  obtain ⟨a, l, rfl⟩ := idx_split x
  refine (at01 Q K0 K1 KV M s a l).trans (congrArg (whole Q K0 K1 KV M s) ?_)
  funext j
  fin_cases j <;> exact Fin.ext (by simp [Rect.emb, Rect.unit]; try rfl)

/-- The piece at lanes 0 to 127 of the output block. -/
theorem stored0 (x : (Rect.unit (s := S1x128x1536) ![0, 0, 0] ![1, 128, 128] inb_S1x128x1536_S1x128x128_0_0_0).shape.Idx) : (k0_pay183 (k0_pay40 k0_pay3 M (k0_pay27 k0_pay3 K0 (k0_pay26 Q) 64#32) (k0_pay30 (s 0)) (k0_pay31 k0_pay3 K0 M (k0_pay26 Q) 64#32) (k0_pay32 k0_pay3 K0 M (k0_pay26 Q) 64#32) (s 1)) (k0_pay178 k0_pay3 (k0_pay22 KV) (k0_pay73 M (k0_pay27 k0_pay3 K0 (k0_pay26 Q) 64#32) (k0_pay39 M (k0_pay27 k0_pay3 K0 (k0_pay26 Q) 64#32) (k0_pay30 (s 0)) (k0_pay31 k0_pay3 K0 M (k0_pay26 Q) 64#32) (k0_pay32 k0_pay3 K0 M (k0_pay26 Q) 64#32) (s 1)) (k0_pay49 M (k0_pay27 k0_pay3 K0 (k0_pay26 Q) 64#32) (k0_pay41 (s 2)) (k0_pay42 M (k0_pay27 k0_pay3 K0 (k0_pay26 Q) 64#32)) (s 3)) (k0_pay61 M (k0_pay27 k0_pay3 K0 (k0_pay26 Q) 64#32) (k0_pay51 (s 4)) (k0_pay52 (k0_pay27 k0_pay3 K0 (k0_pay26 Q) 64#32)) k0_pay53 (s 5)) (k0_pay63 (s 6)) (k0_pay64 (k0_pay27 k0_pay3 K0 (k0_pay26 Q) 64#32)) (s 7))) : FVec Ideal S1x128x128 .bf16) x = whole Q K0 K1 KV M s ((Rect.unit (s := S1x128x1536) ![0, 0, 0] ![1, 128, 128] inb_S1x128x1536_S1x128x128_0_0_0).emb x) := by
  rw [piece00_eq]
  obtain ⟨a, l, rfl⟩ := idx_split x
  refine (at00 Q K0 K1 KV M s a l).trans (congrArg (whole Q K0 K1 KV M s) ?_)
  funext j
  fin_cases j <;> exact Fin.ext (by simp [Rect.emb, Rect.unit]; try rfl)

/-- All twelve pieces together. -/
theorem canon_eq (y : S1x128x1536.Idx) : View.canon (Val := Elt Ideal) (s := S1x128x1536) (e := .bf16) [⟨Rect.unit ![0, 0, 1408] ![1, 128, 128] inb_S1x128x1536_S1x128x128_0_0_1408, k0_pay1 (k0_pay195 (k0_pay176 k0_pay3 (k0_pay168 M (k0_pay29 k0_pay3 Q K1) (s 22)) (k0_pay172 M (k0_pay29 k0_pay3 Q K1) (s 23)) (k0_pay174 M (k0_pay29 k0_pay3 Q K1) (s 23)) (k0_pay175 (s 23))) (k0_pay182 (k0_pay177 (k0_pay135 (k0_pay129 M (k0_pay29 k0_pay3 Q K1) (s 16)) (k0_pay133 M (k0_pay29 k0_pay3 Q K1) (s 17))) (k0_pay148 (k0_pay142 M (k0_pay29 k0_pay3 Q K1) (s 18)) (k0_pay146 M (k0_pay29 k0_pay3 Q K1) (s 19))) (k0_pay162 (k0_pay155 M (k0_pay29 k0_pay3 Q K1) (s 20)) (k0_pay159 M (k0_pay29 k0_pay3 Q K1) (s 21))) (k0_pay169 M (k0_pay29 k0_pay3 Q K1) (s 22)) (k0_pay173 M (k0_pay29 k0_pay3 Q K1) (s 23))) (k0_pay180 k0_pay3 (k0_pay24 KV)) (k0_pay181 k0_pay3 (k0_pay24 KV))))⟩,
    ⟨Rect.unit ![0, 0, 1280] ![1, 128, 128] inb_S1x128x1536_S1x128x128_0_0_1280, k0_pay194 (k0_pay163 k0_pay3 (k0_pay154 M (k0_pay29 k0_pay3 Q K1) (s 20)) (k0_pay160 M (k0_pay29 k0_pay3 Q K1) (s 21)) (k0_pay161 M (k0_pay29 k0_pay3 Q K1) (s 21))) (k0_pay182 (k0_pay177 (k0_pay135 (k0_pay129 M (k0_pay29 k0_pay3 Q K1) (s 16)) (k0_pay133 M (k0_pay29 k0_pay3 Q K1) (s 17))) (k0_pay148 (k0_pay142 M (k0_pay29 k0_pay3 Q K1) (s 18)) (k0_pay146 M (k0_pay29 k0_pay3 Q K1) (s 19))) (k0_pay162 (k0_pay155 M (k0_pay29 k0_pay3 Q K1) (s 20)) (k0_pay159 M (k0_pay29 k0_pay3 Q K1) (s 21))) (k0_pay169 M (k0_pay29 k0_pay3 Q K1) (s 22)) (k0_pay173 M (k0_pay29 k0_pay3 Q K1) (s 23))) (k0_pay180 k0_pay3 (k0_pay24 KV)) (k0_pay181 k0_pay3 (k0_pay24 KV)))⟩,
    ⟨Rect.unit ![0, 0, 1152] ![1, 128, 128] inb_S1x128x1536_S1x128x128_0_0_1152, k0_pay193 (k0_pay149 k0_pay3 (k0_pay141 M (k0_pay29 k0_pay3 Q K1) (s 18)) (k0_pay147 M (k0_pay29 k0_pay3 Q K1) (s 19)) (FloatOps.ofBits FTy.f32 1065353216#32)) (k0_pay182 (k0_pay177 (k0_pay135 (k0_pay129 M (k0_pay29 k0_pay3 Q K1) (s 16)) (k0_pay133 M (k0_pay29 k0_pay3 Q K1) (s 17))) (k0_pay148 (k0_pay142 M (k0_pay29 k0_pay3 Q K1) (s 18)) (k0_pay146 M (k0_pay29 k0_pay3 Q K1) (s 19))) (k0_pay162 (k0_pay155 M (k0_pay29 k0_pay3 Q K1) (s 20)) (k0_pay159 M (k0_pay29 k0_pay3 Q K1) (s 21))) (k0_pay169 M (k0_pay29 k0_pay3 Q K1) (s 22)) (k0_pay173 M (k0_pay29 k0_pay3 Q K1) (s 23))) (k0_pay180 k0_pay3 (k0_pay24 KV)) (k0_pay181 k0_pay3 (k0_pay24 KV)))⟩,
    ⟨Rect.unit ![0, 0, 1024] ![1, 128, 128] inb_S1x128x1536_S1x128x128_0_0_1024, k0_pay192 (k0_pay136 k0_pay3 (k0_pay128 M (k0_pay29 k0_pay3 Q K1) (s 16)) (k0_pay134 M (k0_pay29 k0_pay3 Q K1) (s 17))) (k0_pay182 (k0_pay177 (k0_pay135 (k0_pay129 M (k0_pay29 k0_pay3 Q K1) (s 16)) (k0_pay133 M (k0_pay29 k0_pay3 Q K1) (s 17))) (k0_pay148 (k0_pay142 M (k0_pay29 k0_pay3 Q K1) (s 18)) (k0_pay146 M (k0_pay29 k0_pay3 Q K1) (s 19))) (k0_pay162 (k0_pay155 M (k0_pay29 k0_pay3 Q K1) (s 20)) (k0_pay159 M (k0_pay29 k0_pay3 Q K1) (s 21))) (k0_pay169 M (k0_pay29 k0_pay3 Q K1) (s 22)) (k0_pay173 M (k0_pay29 k0_pay3 Q K1) (s 23))) (k0_pay180 k0_pay3 (k0_pay24 KV)) (k0_pay181 k0_pay3 (k0_pay24 KV)))⟩,
    ⟨Rect.unit ![0, 0, 896] ![1, 128, 128] inb_S1x128x1536_S1x128x128_0_0_896, k0_pay191 (k0_pay122 (k0_pay114 M (k0_pay28 k0_pay3 Q K0) (s 14)) (k0_pay119 M (k0_pay28 k0_pay3 Q K0) (s 15)) (k0_pay121 k0_pay3)) (k0_pay179 k0_pay3 (k0_pay23 KV) (k0_pay123 (k0_pay82 M (k0_pay28 k0_pay3 Q K0) (s 8) (s 9)) (k0_pay92 M (k0_pay28 k0_pay3 Q K0) (s 10) (s 11)) (k0_pay106 M (k0_pay28 k0_pay3 Q K0) (s 12) (s 13)) (k0_pay120 M (k0_pay28 k0_pay3 Q K0) (s 14) (s 15))))⟩,
    ⟨Rect.unit ![0, 0, 768] ![1, 128, 128] inb_S1x128x1536_S1x128x128_0_0_768, k0_pay190 (k0_pay109 (k0_pay105 M (k0_pay28 k0_pay3 Q K0) (s 13)) (k0_pay107 k0_pay3) (k0_pay108 M (k0_pay28 k0_pay3 Q K0) (s 12))) (k0_pay179 k0_pay3 (k0_pay23 KV) (k0_pay123 (k0_pay82 M (k0_pay28 k0_pay3 Q K0) (s 8) (s 9)) (k0_pay92 M (k0_pay28 k0_pay3 Q K0) (s 10) (s 11)) (k0_pay106 M (k0_pay28 k0_pay3 Q K0) (s 12) (s 13)) (k0_pay120 M (k0_pay28 k0_pay3 Q K0) (s 14) (s 15))))⟩,
    ⟨Rect.unit ![0, 0, 640] ![1, 128, 128] inb_S1x128x1536_S1x128x128_0_0_640, k0_pay189 (k0_pay188 (k0_pay96 (k0_pay93 k0_pay3) (k0_pay94 M (k0_pay28 k0_pay3 Q K0) (s 10)) (k0_pay95 M (k0_pay28 k0_pay3 Q K0) (s 11))) (k0_pay179 k0_pay3 (k0_pay23 KV) (k0_pay123 (k0_pay82 M (k0_pay28 k0_pay3 Q K0) (s 8) (s 9)) (k0_pay92 M (k0_pay28 k0_pay3 Q K0) (s 10) (s 11)) (k0_pay106 M (k0_pay28 k0_pay3 Q K0) (s 12) (s 13)) (k0_pay120 M (k0_pay28 k0_pay3 Q K0) (s 14) (s 15)))))⟩,
    ⟨Rect.unit ![0, 0, 512] ![1, 128, 128] inb_S1x128x1536_S1x128x128_0_0_512, k0_pay187 (k0_pay83 k0_pay3 M (k0_pay28 k0_pay3 Q K0) (s 8) (s 9)) (k0_pay179 k0_pay3 (k0_pay23 KV) (k0_pay123 (k0_pay82 M (k0_pay28 k0_pay3 Q K0) (s 8) (s 9)) (k0_pay92 M (k0_pay28 k0_pay3 Q K0) (s 10) (s 11)) (k0_pay106 M (k0_pay28 k0_pay3 Q K0) (s 12) (s 13)) (k0_pay120 M (k0_pay28 k0_pay3 Q K0) (s 14) (s 15))))⟩,
    ⟨Rect.unit ![0, 0, 384] ![1, 128, 128] inb_S1x128x1536_S1x128x128_0_0_384, k0_pay186 (k0_pay72 k0_pay3 M (k0_pay27 k0_pay3 K0 (k0_pay26 Q) 64#32) (k0_pay63 (s 6)) (k0_pay64 (k0_pay27 k0_pay3 K0 (k0_pay26 Q) 64#32)) (s 7)) (k0_pay178 k0_pay3 (k0_pay22 KV) (k0_pay73 M (k0_pay27 k0_pay3 K0 (k0_pay26 Q) 64#32) (k0_pay39 M (k0_pay27 k0_pay3 K0 (k0_pay26 Q) 64#32) (k0_pay30 (s 0)) (k0_pay31 k0_pay3 K0 M (k0_pay26 Q) 64#32) (k0_pay32 k0_pay3 K0 M (k0_pay26 Q) 64#32) (s 1)) (k0_pay49 M (k0_pay27 k0_pay3 K0 (k0_pay26 Q) 64#32) (k0_pay41 (s 2)) (k0_pay42 M (k0_pay27 k0_pay3 K0 (k0_pay26 Q) 64#32)) (s 3)) (k0_pay61 M (k0_pay27 k0_pay3 K0 (k0_pay26 Q) 64#32) (k0_pay51 (s 4)) (k0_pay52 (k0_pay27 k0_pay3 K0 (k0_pay26 Q) 64#32)) k0_pay53 (s 5)) (k0_pay63 (s 6)) (k0_pay64 (k0_pay27 k0_pay3 K0 (k0_pay26 Q) 64#32)) (s 7)))⟩,
    ⟨Rect.unit ![0, 0, 256] ![1, 128, 128] inb_S1x128x1536_S1x128x128_0_0_256, k0_pay185 (k0_pay62 k0_pay3 M (k0_pay27 k0_pay3 K0 (k0_pay26 Q) 64#32) (k0_pay51 (s 4)) (k0_pay52 (k0_pay27 k0_pay3 K0 (k0_pay26 Q) 64#32)) k0_pay53 (s 5)) (k0_pay178 k0_pay3 (k0_pay22 KV) (k0_pay73 M (k0_pay27 k0_pay3 K0 (k0_pay26 Q) 64#32) (k0_pay39 M (k0_pay27 k0_pay3 K0 (k0_pay26 Q) 64#32) (k0_pay30 (s 0)) (k0_pay31 k0_pay3 K0 M (k0_pay26 Q) 64#32) (k0_pay32 k0_pay3 K0 M (k0_pay26 Q) 64#32) (s 1)) (k0_pay49 M (k0_pay27 k0_pay3 K0 (k0_pay26 Q) 64#32) (k0_pay41 (s 2)) (k0_pay42 M (k0_pay27 k0_pay3 K0 (k0_pay26 Q) 64#32)) (s 3)) (k0_pay61 M (k0_pay27 k0_pay3 K0 (k0_pay26 Q) 64#32) (k0_pay51 (s 4)) (k0_pay52 (k0_pay27 k0_pay3 K0 (k0_pay26 Q) 64#32)) k0_pay53 (s 5)) (k0_pay63 (s 6)) (k0_pay64 (k0_pay27 k0_pay3 K0 (k0_pay26 Q) 64#32)) (s 7)))⟩,
    ⟨Rect.unit ![0, 0, 128] ![1, 128, 128] inb_S1x128x1536_S1x128x128_0_0_128, k0_pay184 (k0_pay50 k0_pay3 M (k0_pay27 k0_pay3 K0 (k0_pay26 Q) 64#32) (k0_pay41 (s 2)) (k0_pay42 M (k0_pay27 k0_pay3 K0 (k0_pay26 Q) 64#32)) (s 3)) (k0_pay178 k0_pay3 (k0_pay22 KV) (k0_pay73 M (k0_pay27 k0_pay3 K0 (k0_pay26 Q) 64#32) (k0_pay39 M (k0_pay27 k0_pay3 K0 (k0_pay26 Q) 64#32) (k0_pay30 (s 0)) (k0_pay31 k0_pay3 K0 M (k0_pay26 Q) 64#32) (k0_pay32 k0_pay3 K0 M (k0_pay26 Q) 64#32) (s 1)) (k0_pay49 M (k0_pay27 k0_pay3 K0 (k0_pay26 Q) 64#32) (k0_pay41 (s 2)) (k0_pay42 M (k0_pay27 k0_pay3 K0 (k0_pay26 Q) 64#32)) (s 3)) (k0_pay61 M (k0_pay27 k0_pay3 K0 (k0_pay26 Q) 64#32) (k0_pay51 (s 4)) (k0_pay52 (k0_pay27 k0_pay3 K0 (k0_pay26 Q) 64#32)) k0_pay53 (s 5)) (k0_pay63 (s 6)) (k0_pay64 (k0_pay27 k0_pay3 K0 (k0_pay26 Q) 64#32)) (s 7)))⟩,
    ⟨Rect.unit ![0, 0, 0] ![1, 128, 128] inb_S1x128x1536_S1x128x128_0_0_0, k0_pay183 (k0_pay40 k0_pay3 M (k0_pay27 k0_pay3 K0 (k0_pay26 Q) 64#32) (k0_pay30 (s 0)) (k0_pay31 k0_pay3 K0 M (k0_pay26 Q) 64#32) (k0_pay32 k0_pay3 K0 M (k0_pay26 Q) 64#32) (s 1)) (k0_pay178 k0_pay3 (k0_pay22 KV) (k0_pay73 M (k0_pay27 k0_pay3 K0 (k0_pay26 Q) 64#32) (k0_pay39 M (k0_pay27 k0_pay3 K0 (k0_pay26 Q) 64#32) (k0_pay30 (s 0)) (k0_pay31 k0_pay3 K0 M (k0_pay26 Q) 64#32) (k0_pay32 k0_pay3 K0 M (k0_pay26 Q) 64#32) (s 1)) (k0_pay49 M (k0_pay27 k0_pay3 K0 (k0_pay26 Q) 64#32) (k0_pay41 (s 2)) (k0_pay42 M (k0_pay27 k0_pay3 K0 (k0_pay26 Q) 64#32)) (s 3)) (k0_pay61 M (k0_pay27 k0_pay3 K0 (k0_pay26 Q) 64#32) (k0_pay51 (s 4)) (k0_pay52 (k0_pay27 k0_pay3 K0 (k0_pay26 Q) 64#32)) k0_pay53 (s 5)) (k0_pay63 (s 6)) (k0_pay64 (k0_pay27 k0_pay3 K0 (k0_pay26 Q) 64#32)) (s 7)))⟩] y = whole Q K0 K1 KV M s y := by
  refine View.canon_apply_of_pieces (Val := Elt Ideal) (S := S1x128x1536) (e := .bf16) (whole Q K0 K1 KV M s) _ ?_ y (View.cover_of_tiledL (s := S1x128x1536) _ S1x128x128.size (by sl_kernel_rfl) y)
  intro pc hpc
  rcases List.mem_cons.mp hpc with rfl | hpc
  · exact fun x => stored11 Q K0 K1 KV M s x
  rcases List.mem_cons.mp hpc with rfl | hpc
  · exact fun x => stored10 Q K0 K1 KV M s x
  rcases List.mem_cons.mp hpc with rfl | hpc
  · exact fun x => stored9 Q K0 K1 KV M s x
  rcases List.mem_cons.mp hpc with rfl | hpc
  · exact fun x => stored8 Q K0 K1 KV M s x
  rcases List.mem_cons.mp hpc with rfl | hpc
  · exact fun x => stored7 Q K0 K1 KV M s x
  rcases List.mem_cons.mp hpc with rfl | hpc
  · exact fun x => stored6 Q K0 K1 KV M s x
  rcases List.mem_cons.mp hpc with rfl | hpc
  · exact fun x => stored5 Q K0 K1 KV M s x
  rcases List.mem_cons.mp hpc with rfl | hpc
  · exact fun x => stored4 Q K0 K1 KV M s x
  rcases List.mem_cons.mp hpc with rfl | hpc
  · exact fun x => stored3 Q K0 K1 KV M s x
  rcases List.mem_cons.mp hpc with rfl | hpc
  · exact fun x => stored2 Q K0 K1 KV M s x
  rcases List.mem_cons.mp hpc with rfl | hpc
  · exact fun x => stored1 Q K0 K1 KV M s x
  rcases List.mem_cons.mp hpc with rfl | hpc
  · exact fun x => stored0 Q K0 K1 KV M s x
  · exact absurd hpc List.not_mem_nil

end Whole

end Cert.SwaIdeal.Hand

end
-- ==== Proof.SwaLanes.lean ====
module

public import proofs.«01_k».proof.Proof.SwaOut

@[expose] public section

set_option maxRecDepth 16384

noncomputable section

namespace Cert.SwaIdeal.Hand

open Cert.SwaIdeal Cert.SwaIdeal.Gen Idealize.ShloMosaic Idealize.ShloMosaic.TcCoe Idealize.SL.Sem
open Hand.Swa

/-! Queries, keys, values, the window and the tables of angles, at an element. -/

/-- A mask of the lanes: the first half of each head. -/
theorem fst_lane (l : Fin 128) : k0_pay2 (ix2 0 l) = (if l.val % 64 < 32 then 1#1 else 0#1) :=
  (by decide +kernel : ∀ l : Fin 128, k0_pay2 (ix2 0 l) = (if l.val % 64 < 32 then 1#1 else 0#1)) l

/-- The matrix of ones and zeroes: one at lanes of the same half. -/
theorem same_lanes (i j : Fin 128) : (k0_pay4 : FVec Ideal S128x128 .bf16) (ix2 i j) = same i j := by
  have hc : ∀ i : Fin 128, IntOp.cmpi CmpIPredicate.slt (BitVec.ofNat 32 i.val) 64#32 = if i.val < 64 then 1#1 else 0#1 := by decide +kernel
  unfold k0_pay4
  pointwise
  rw [hc, hc]
  unfold same
  have h1 : ((((1#32 : BitVec 32).toInt : ℤ) : ℝ) : EReal) = 1 := by
    rw [show (1#32 : BitVec 32).toInt = 1 from rfl]; norm_num
  have h0 : ((((0#32 : BitVec 32).toInt : ℤ) : ℝ) : EReal) = 0 := by
    rw [show (0#32 : BitVec 32).toInt = 0 from rfl]; norm_num
  by_cases hi : i.val < 64 <;> by_cases hj : j.val < 64 <;> simp only [hi, hj, if_true, if_false, iff_true, iff_false, not_true_eq_false, not_false_eq_true]
  · exact h1
  · exact h0
  · exact h0
  · exact h1

/-- The window: at most 128 positions back, none before the first. -/
theorem window (n : ℕ) (hn : n < 32) (a : Fin 128) (k : Fin 256) :
    k0_pay25 (BitVec.ofNat 32 n) (ix2 a k) = 1#1 ↔ k.val ≤ a.val + 128 ∧ a.val < k.val ∧ (128 ≤ k.val ∨ 0 < n) := by
  have h1 : ∀ (a : Fin 128) (k : Fin 256), IntOp.andi
      (IntOp.cmpi CmpIPredicate.sge (IntOp.subi (IntOp.addi (BitVec.ofNat 32 a.val) 128#32) (BitVec.ofNat 32 k.val)) 0#32)
      (IntOp.cmpi CmpIPredicate.slt (IntOp.subi (IntOp.addi (BitVec.ofNat 32 a.val) 128#32) (BitVec.ofNat 32 k.val)) 128#32)
      = if k.val ≤ a.val + 128 ∧ a.val < k.val then 1#1 else 0#1 := by decide +kernel
  have h2 : ∀ k : Fin 256, IntOp.cmpi CmpIPredicate.sge (BitVec.ofNat 32 k.val) 128#32 = if 128 ≤ k.val then 1#1 else 0#1 := by decide +kernel
  have h3 : ∀ n : Fin 32, Scalar.cmpi CmpIPredicate.sgt (BitVec.ofNat 32 n.val) 0#32 = if 0 < n.val then 1#1 else 0#1 := by decide +kernel
  unfold k0_pay25
  pointwise
  rw [h1, h2, h3 ⟨n, hn⟩]
  by_cases p : k.val ≤ a.val + 128 ∧ a.val < k.val <;> by_cases q : 128 ≤ k.val <;> by_cases r : 0 < n <;>
    simp only [p, q, r, if_true, if_false] <;> simp [p, q, r, IntOp.andi, IntOp.ori] <;> omega

/-- A table of cosines. -/
theorem cos_table (p : Vec Ideal S1x128x1 .i32) (f : Vec Ideal S1x128 .f32) (a l : Fin 128) :
    k0_pay6 p f (ix2 a l) = Ideal.cos ((((p (ix3 0 a 0)).toInt : ℝ) : EReal) * f (ix2 0 l)) := by
  unfold k0_pay6 k0_pay5
  pointwise
  rfl

/-- A table of sines, negated in the first half of each head. -/
theorem sin_table (p : Vec Ideal S1x128x1 .i32) (f : Vec Ideal S1x128 .f32) (a l : Fin 128) :
    k0_pay7 p f (ix2 a l) = if l.val % 64 < 32 then Ideal.ofBits FTy.f32 0x00000000#32 - Ideal.sin ((((p (ix3 0 a 0)).toInt : ℝ) : EReal) * f (ix2 0 l)) else Ideal.sin ((((p (ix3 0 a 0)).toInt : ℝ) : EReal) * f (ix2 0 l)) := by
  have h := fst_lane l
  unfold k0_pay7 k0_pay5
  generalize k0_pay2 = P at *
  pointwise [h]
  rw [select_if]
  rfl

/-- The table of cosines of the first point is built alike. -/
theorem cos_table0 (p : Vec Ideal S1x128x1 .i32) (f : Vec Ideal S1x128 .f32) (a l : Fin 128) :
    k0_pay9 p f (ix2 a l) = k0_pay6 p f (ix2 a l) := by
  unfold k0_pay9 k0_pay8 k0_pay6 k0_pay5
  pointwise

/-- The table of sines of the first point is built alike. -/
theorem sin_table0 (p : Vec Ideal S1x128x1 .i32) (f : Vec Ideal S1x128 .f32) (a l : Fin 128) :
    k0_pay10 p f (ix2 a l) = k0_pay7 p f (ix2 a l) := by
  unfold k0_pay10 k0_pay8 k0_pay7 k0_pay5
  generalize k0_pay2 = P
  pointwise

/-- The table of cosines is handed on as it is. -/
theorem carried_cos (x : FVec Ideal S128x128 .f32) : k0_pay11 x = x := by
  unfold k0_pay11
  funext y
  rw [eq_ix2 y]
  pointwise

/-- The table of sines is handed on as it is. -/
theorem carried_sin (x : FVec Ideal S128x128 .f32) : k0_pay12 x = x := by
  unfold k0_pay12
  funext y
  rw [eq_ix2 y]
  pointwise

/-- Two tables one below another. -/
theorem tables_cos (x y : FVec Ideal S128x128 .f32) (k : Fin 256) (l : Fin 128) :
    k0_pay13 x y (ix2 k l) = if h : k.val < 128 then y (ix2 ⟨k.val, h⟩ l) else x (ix2 ⟨k.val - 128, by omega⟩ l) := by
  unfold k0_pay13
  pointwise

/-- Two tables of sines one below another. -/
theorem tables_sin (x y : FVec Ideal S128x128 .f32) (k : Fin 256) (l : Fin 128) :
    k0_pay14 x y (ix2 k l) = if h : k.val < 128 then y (ix2 ⟨k.val, h⟩ l) else x (ix2 ⟨k.val - 128, by omega⟩ l) := by
  unfold k0_pay14
  pointwise

/-- Keys and values: the block before, then this block. -/
theorem keys_values (x y : Vec Ideal S1x128x384 .bf16) (k : Fin 256) (j : Fin 384) :
    k0_pay18 x y (ix2 k j) = if h : k.val < 128 then x (ix3 0 ⟨k.val, h⟩ j) else y (ix3 0 ⟨k.val - 128, by omega⟩ j) := by
  unfold k0_pay18
  pointwise

/-- Twelve columns of 128 lanes one below another. -/
def stackQ (x : Vec Ideal S1x128x1536 .bf16) : FVec Ideal S1536x128 .f32 :=
  let v : FVec Ideal S128x1536 .f32 := extf .f32 (shapeCast S128x1536 x shapeCasts_S1x128x1536_S128x1536 : FVec Ideal S128x1536 .bf16) bitsLt_bf16_f32
  concatenate S1536x128 0 [⟨S128x128, extractStridedSlice S128x128 ![0, 0] v slices_S128x1536_o0_0_S128x128⟩, ⟨S128x128, extractStridedSlice S128x128 ![0, 128] v slices_S128x1536_o0_128_S128x128⟩, ⟨S128x128, extractStridedSlice S128x128 ![0, 256] v slices_S128x1536_o0_256_S128x128⟩, ⟨S128x128, extractStridedSlice S128x128 ![0, 384] v slices_S128x1536_o0_384_S128x128⟩, ⟨S128x128, extractStridedSlice S128x128 ![0, 512] v slices_S128x1536_o0_512_S128x128⟩, ⟨S128x128, extractStridedSlice S128x128 ![0, 640] v slices_S128x1536_o0_640_S128x128⟩, ⟨S128x128, extractStridedSlice S128x128 ![0, 768] v slices_S128x1536_o0_768_S128x128⟩, ⟨S128x128, extractStridedSlice S128x128 ![0, 896] v slices_S128x1536_o0_896_S128x128⟩, ⟨S128x128, extractStridedSlice S128x128 ![0, 1024] v slices_S128x1536_o0_1024_S128x128⟩, ⟨S128x128, extractStridedSlice S128x128 ![0, 1152] v slices_S128x1536_o0_1152_S128x128⟩, ⟨S128x128, extractStridedSlice S128x128 ![0, 1280] v slices_S128x1536_o0_1280_S128x128⟩, ⟨S128x128, extractStridedSlice S128x128 ![0, 1408] v slices_S128x1536_o0_1408_S128x128⟩]
    concatenates_S128x128_S128x128_S128x128_S128x128_S128x128_S128x128_S128x128_S128x128_S128x128_S128x128_S128x128_S128x128_S1536x128_d0

/-- Twelve blocks of rows one below another, at a row. -/
theorem stack12 (f : Fin 12 → FVec Ideal S128x128 .f32) (r : Fin 1536) (l : Fin 128) :
    (concatenate S1536x128 0 [⟨S128x128, f 0⟩, ⟨S128x128, f 1⟩, ⟨S128x128, f 2⟩, ⟨S128x128, f 3⟩, ⟨S128x128, f 4⟩, ⟨S128x128, f 5⟩, ⟨S128x128, f 6⟩, ⟨S128x128, f 7⟩, ⟨S128x128, f 8⟩, ⟨S128x128, f 9⟩, ⟨S128x128, f 10⟩, ⟨S128x128, f 11⟩]
      concatenates_S128x128_S128x128_S128x128_S128x128_S128x128_S128x128_S128x128_S128x128_S128x128_S128x128_S128x128_S128x128_S1536x128_d0 : FVec Ideal S1536x128 .f32) (ix2 r l)
      = f ⟨r.val / 128, by omega⟩ (ix2 ⟨r.val % 128, Nat.mod_lt _ (by norm_num)⟩ l) := by
  pointwise
  have hr := r.isLt
  rcases (by omega : r.val / 128 = 0 ∨ r.val / 128 = 1 ∨ r.val / 128 = 2 ∨ r.val / 128 = 3 ∨ r.val / 128 = 4 ∨ r.val / 128 = 5 ∨ r.val / 128 = 6 ∨ r.val / 128 = 7 ∨ r.val / 128 = 8 ∨ r.val / 128 = 9 ∨ r.val / 128 = 10 ∨ r.val / 128 = 11) with h | h | h | h | h | h | h | h | h | h | h | h
  · rw [dif_pos (by omega)]
    exact congrArg₂ f (Fin.ext (by show 0 = r.val / 128; omega)) (congrArg₂ ix2 (Fin.ext (by show r.val = r.val % 128; omega)) rfl)
  · rw [dif_neg (by omega), dif_pos (by omega)]
    exact congrArg₂ f (Fin.ext (by show 1 = r.val / 128; omega)) (congrArg₂ ix2 (Fin.ext (by show r.val - 128 = r.val % 128; omega)) rfl)
  · rw [dif_neg (by omega), dif_neg (by omega), dif_pos (by omega)]
    exact congrArg₂ f (Fin.ext (by show 2 = r.val / 128; omega)) (congrArg₂ ix2 (Fin.ext (by show r.val - 128 - 128 = r.val % 128; omega)) rfl)
  · rw [dif_neg (by omega), dif_neg (by omega), dif_neg (by omega), dif_pos (by omega)]
    exact congrArg₂ f (Fin.ext (by show 3 = r.val / 128; omega)) (congrArg₂ ix2 (Fin.ext (by show r.val - 128 - 128 - 128 = r.val % 128; omega)) rfl)
  · rw [dif_neg (by omega), dif_neg (by omega), dif_neg (by omega), dif_neg (by omega), dif_pos (by omega)]
    exact congrArg₂ f (Fin.ext (by show 4 = r.val / 128; omega)) (congrArg₂ ix2 (Fin.ext (by show r.val - 128 - 128 - 128 - 128 = r.val % 128; omega)) rfl)
  · rw [dif_neg (by omega), dif_neg (by omega), dif_neg (by omega), dif_neg (by omega), dif_neg (by omega), dif_pos (by omega)]
    exact congrArg₂ f (Fin.ext (by show 5 = r.val / 128; omega)) (congrArg₂ ix2 (Fin.ext (by show r.val - 128 - 128 - 128 - 128 - 128 = r.val % 128; omega)) rfl)
  · rw [dif_neg (by omega), dif_neg (by omega), dif_neg (by omega), dif_neg (by omega), dif_neg (by omega), dif_neg (by omega), dif_pos (by omega)]
    exact congrArg₂ f (Fin.ext (by show 6 = r.val / 128; omega)) (congrArg₂ ix2 (Fin.ext (by show r.val - 128 - 128 - 128 - 128 - 128 - 128 = r.val % 128; omega)) rfl)
  · rw [dif_neg (by omega), dif_neg (by omega), dif_neg (by omega), dif_neg (by omega), dif_neg (by omega), dif_neg (by omega), dif_neg (by omega), dif_pos (by omega)]
    exact congrArg₂ f (Fin.ext (by show 7 = r.val / 128; omega)) (congrArg₂ ix2 (Fin.ext (by show r.val - 128 - 128 - 128 - 128 - 128 - 128 - 128 = r.val % 128; omega)) rfl)
  · rw [dif_neg (by omega), dif_neg (by omega), dif_neg (by omega), dif_neg (by omega), dif_neg (by omega), dif_neg (by omega), dif_neg (by omega), dif_neg (by omega), dif_pos (by omega)]
    exact congrArg₂ f (Fin.ext (by show 8 = r.val / 128; omega)) (congrArg₂ ix2 (Fin.ext (by show r.val - 128 - 128 - 128 - 128 - 128 - 128 - 128 - 128 = r.val % 128; omega)) rfl)
  · rw [dif_neg (by omega), dif_neg (by omega), dif_neg (by omega), dif_neg (by omega), dif_neg (by omega), dif_neg (by omega), dif_neg (by omega), dif_neg (by omega), dif_neg (by omega), dif_pos (by omega)]
    exact congrArg₂ f (Fin.ext (by show 9 = r.val / 128; omega)) (congrArg₂ ix2 (Fin.ext (by show r.val - 128 - 128 - 128 - 128 - 128 - 128 - 128 - 128 - 128 = r.val % 128; omega)) rfl)
  · rw [dif_neg (by omega), dif_neg (by omega), dif_neg (by omega), dif_neg (by omega), dif_neg (by omega), dif_neg (by omega), dif_neg (by omega), dif_neg (by omega), dif_neg (by omega), dif_neg (by omega), dif_pos (by omega)]
    exact congrArg₂ f (Fin.ext (by show 10 = r.val / 128; omega)) (congrArg₂ ix2 (Fin.ext (by show r.val - 128 - 128 - 128 - 128 - 128 - 128 - 128 - 128 - 128 - 128 = r.val % 128; omega)) rfl)
  · rw [dif_neg (by omega), dif_neg (by omega), dif_neg (by omega), dif_neg (by omega), dif_neg (by omega), dif_neg (by omega), dif_neg (by omega), dif_neg (by omega), dif_neg (by omega), dif_neg (by omega), dif_neg (by omega)]
    exact congrArg₂ f (Fin.ext (by show 11 = r.val / 128; omega)) (congrArg₂ ix2 (Fin.ext (by show r.val - 128 - 128 - 128 - 128 - 128 - 128 - 128 - 128 - 128 - 128 - 128 = r.val % 128; omega)) rfl)

/-- A column of the queries' block. -/
def column (v : FVec Ideal S128x1536 .f32) (i : Fin 12) : FVec Ideal S128x128 .f32 :=
  match i with
  | 0 => extractStridedSlice S128x128 ![0, 0] v slices_S128x1536_o0_0_S128x128
  | 1 => extractStridedSlice S128x128 ![0, 128] v slices_S128x1536_o0_128_S128x128
  | 2 => extractStridedSlice S128x128 ![0, 256] v slices_S128x1536_o0_256_S128x128
  | 3 => extractStridedSlice S128x128 ![0, 384] v slices_S128x1536_o0_384_S128x128
  | 4 => extractStridedSlice S128x128 ![0, 512] v slices_S128x1536_o0_512_S128x128
  | 5 => extractStridedSlice S128x128 ![0, 640] v slices_S128x1536_o0_640_S128x128
  | 6 => extractStridedSlice S128x128 ![0, 768] v slices_S128x1536_o0_768_S128x128
  | 7 => extractStridedSlice S128x128 ![0, 896] v slices_S128x1536_o0_896_S128x128
  | 8 => extractStridedSlice S128x128 ![0, 1024] v slices_S128x1536_o0_1024_S128x128
  | 9 => extractStridedSlice S128x128 ![0, 1152] v slices_S128x1536_o0_1152_S128x128
  | 10 => extractStridedSlice S128x128 ![0, 1280] v slices_S128x1536_o0_1280_S128x128
  | 11 => extractStridedSlice S128x128 ![0, 1408] v slices_S128x1536_o0_1408_S128x128

/-- Column 0 of 128 lanes, at an index. -/
theorem column0 (v : FVec Ideal S128x1536 .f32) (a l : Fin 128) :
    (extractStridedSlice S128x128 ![0, 0] v slices_S128x1536_o0_0_S128x128) (ix2 a l) = v (ix2 a ⟨128 * 0 + l.val, by omega⟩) := by
  pointwise

/-- Column 1 of 128 lanes, at an index. -/
theorem column1 (v : FVec Ideal S128x1536 .f32) (a l : Fin 128) :
    (extractStridedSlice S128x128 ![0, 128] v slices_S128x1536_o0_128_S128x128) (ix2 a l) = v (ix2 a ⟨128 * 1 + l.val, by omega⟩) := by
  pointwise

/-- Column 2 of 128 lanes, at an index. -/
theorem column2 (v : FVec Ideal S128x1536 .f32) (a l : Fin 128) :
    (extractStridedSlice S128x128 ![0, 256] v slices_S128x1536_o0_256_S128x128) (ix2 a l) = v (ix2 a ⟨128 * 2 + l.val, by omega⟩) := by
  pointwise

/-- Column 3 of 128 lanes, at an index. -/
theorem column3 (v : FVec Ideal S128x1536 .f32) (a l : Fin 128) :
    (extractStridedSlice S128x128 ![0, 384] v slices_S128x1536_o0_384_S128x128) (ix2 a l) = v (ix2 a ⟨128 * 3 + l.val, by omega⟩) := by
  pointwise

/-- Column 4 of 128 lanes, at an index. -/
theorem column4 (v : FVec Ideal S128x1536 .f32) (a l : Fin 128) :
    (extractStridedSlice S128x128 ![0, 512] v slices_S128x1536_o0_512_S128x128) (ix2 a l) = v (ix2 a ⟨128 * 4 + l.val, by omega⟩) := by
  pointwise

/-- Column 5 of 128 lanes, at an index. -/
theorem column5 (v : FVec Ideal S128x1536 .f32) (a l : Fin 128) :
    (extractStridedSlice S128x128 ![0, 640] v slices_S128x1536_o0_640_S128x128) (ix2 a l) = v (ix2 a ⟨128 * 5 + l.val, by omega⟩) := by
  pointwise

/-- Column 6 of 128 lanes, at an index. -/
theorem column6 (v : FVec Ideal S128x1536 .f32) (a l : Fin 128) :
    (extractStridedSlice S128x128 ![0, 768] v slices_S128x1536_o0_768_S128x128) (ix2 a l) = v (ix2 a ⟨128 * 6 + l.val, by omega⟩) := by
  pointwise

/-- Column 7 of 128 lanes, at an index. -/
theorem column7 (v : FVec Ideal S128x1536 .f32) (a l : Fin 128) :
    (extractStridedSlice S128x128 ![0, 896] v slices_S128x1536_o0_896_S128x128) (ix2 a l) = v (ix2 a ⟨128 * 7 + l.val, by omega⟩) := by
  pointwise

/-- Column 8 of 128 lanes, at an index. -/
theorem column8 (v : FVec Ideal S128x1536 .f32) (a l : Fin 128) :
    (extractStridedSlice S128x128 ![0, 1024] v slices_S128x1536_o0_1024_S128x128) (ix2 a l) = v (ix2 a ⟨128 * 8 + l.val, by omega⟩) := by
  pointwise

/-- Column 9 of 128 lanes, at an index. -/
theorem column9 (v : FVec Ideal S128x1536 .f32) (a l : Fin 128) :
    (extractStridedSlice S128x128 ![0, 1152] v slices_S128x1536_o0_1152_S128x128) (ix2 a l) = v (ix2 a ⟨128 * 9 + l.val, by omega⟩) := by
  pointwise

/-- Column 10 of 128 lanes, at an index. -/
theorem column10 (v : FVec Ideal S128x1536 .f32) (a l : Fin 128) :
    (extractStridedSlice S128x128 ![0, 1280] v slices_S128x1536_o0_1280_S128x128) (ix2 a l) = v (ix2 a ⟨128 * 10 + l.val, by omega⟩) := by
  pointwise

/-- Column 11 of 128 lanes, at an index. -/
theorem column11 (v : FVec Ideal S128x1536 .f32) (a l : Fin 128) :
    (extractStridedSlice S128x128 ![0, 1408] v slices_S128x1536_o0_1408_S128x128) (ix2 a l) = v (ix2 a ⟨128 * 11 + l.val, by omega⟩) := by
  pointwise

/-- A column of 128 lanes, at an index. -/
theorem column_apply (v : FVec Ideal S128x1536 .f32) (i : Fin 12) (a l : Fin 128) : column v i (ix2 a l) = v (ix2 a ⟨128 * i.val + l.val, by omega⟩) := by
  match i with
  | 0 => exact column0 v a l
  | 1 => exact column1 v a l
  | 2 => exact column2 v a l
  | 3 => exact column3 v a l
  | 4 => exact column4 v a l
  | 5 => exact column5 v a l
  | 6 => exact column6 v a l
  | 7 => exact column7 v a l
  | 8 => exact column8 v a l
  | 9 => exact column9 v a l
  | 10 => exact column10 v a l
  | 11 => exact column11 v a l

/-- The queries' block without its leading axis. -/
def flatQ (x : Vec Ideal S1x128x1536 .bf16) : FVec Ideal S128x1536 .f32 :=
  extf .f32 (shapeCast S128x1536 x shapeCasts_S1x128x1536_S128x1536 : FVec Ideal S128x1536 .bf16) bitsLt_bf16_f32

/-- The block of queries without its unit axis. -/
theorem flatQ_apply (x : Vec Ideal S1x128x1536 .bf16) (a : Fin 128) (j : Fin 1536) : flatQ x (ix2 a j) = x (ix3 0 a j) := by
  unfold flatQ
  pointwise

/-- The stacked queries, at an index. -/
theorem stackQ_apply (x : Vec Ideal S1x128x1536 .bf16) (r : Fin 1536) (l : Fin 128) :
    stackQ x (ix2 r l) = x (ix3 0 ⟨r.val % 128, Nat.mod_lt _ (by norm_num)⟩ ⟨128 * (r.val / 128) + l.val, by omega⟩) :=
  (stack12 (column (flatQ x)) r l).trans ((column_apply _ _ _ _).trans (flatQ_apply _ _ _))

/-- The rows of queries normalised, over the stacked rows. -/
theorem norm_queries_shape (x : Vec Ideal S1x128x1536 .bf16) (g : Vec Ideal S1x128 .f32) :
    k0_pay15 k0_pay4 x g =
      (let q := stackQ x
       let h : FVec Ideal S1536x128 .f32 := extf .f32 (truncf .bf16 (mulf q q) bitsLt_bf16_f32 : FVec Ideal S1536x128 .bf16) bitsLt_bf16_f32
       let m1 : FVec Ideal S1536x128 .f32 := matmul dot_S1536x128_S128x128_S1536x128_1_0_0_1_n_n none (truncf .bf16 (mulf q q) bitsLt_bf16_f32 : FVec Ideal S1536x128 .bf16) (k0_pay4 : FVec Ideal S128x128 .bf16) (constant S1536x128 .f32 0x00000000#32)
       let m2 : FVec Ideal S1536x128 .f32 := matmul dot_S1536x128_S128x128_S1536x128_1_0_0_1_n_n none (truncf .bf16 (subf (mulf q q) h) bitsLt_bf16_f32 : FVec Ideal S1536x128 .bf16) (k0_pay4 : FVec Ideal S128x128 .bf16) (constant S1536x128 .f32 0x00000000#32)
       mulf (mulf q (rsqrt (addf (mulf (addf m1 m2) (broadcast S1536x128 (Scalar.ofBits .f32 0x3C800000#32))) (broadcast S1536x128 (Scalar.ofBits .f32 0x358637BD#32)))))
         (broadcastTo S1536x128 (mulf (shapeCast S1x128 g shapeCasts_S1x128_S1x128) (broadcast S1x128 (Named.named κ "log2e_8" 0x3E38AA3B#32 : Ideal .f32))) broadcasts_S1x128_S1536x128)) := rfl

/-- The rows of queries normalised: twelve columns of 128 lanes one below another. -/
theorem norm_queries (x : Vec Ideal S1x128x1536 .bf16) (g : Vec Ideal S1x128 .f32) (r : Fin 1536) (l : Fin 128) :
    k0_pay15 k0_pay4 x g (ix2 r l) = norm2 (fun l => x (ix3 0 ⟨r.val % 128, Nat.mod_lt _ (by norm_num)⟩ ⟨128 * (r.val / 128) + l.val, by omega⟩))
      (fun l => g (ix2 0 l) * (Named.named κ "log2e_8" 0x3E38AA3B#32 : Ideal .f32)) l := by
  have hs := same_lanes
  have hX' := stackQ_apply x
  rw [norm_queries_shape]
  generalize stackQ x = X at *
  unfold norm2
  generalize k0_pay4 (F := Ideal) = P at *
  pointwise [hs, hX']

/-- A table twelve times. -/
theorem twelve (x : FVec Ideal S128x128 .f32) (r : Fin 1536) (l : Fin 128) : k0_pay16 x (ix2 r l) = x (ix2 ⟨r.val % 128, Nat.mod_lt _ (by norm_num)⟩ l) := by
  exact stack12 (fun _ => x) r l

/-- The queries turned. -/
theorem turned_queries (c s : FVec Ideal S128x128 .f32) (y : FVec Ideal S1536x128 .f32) (ang : Fin 128 → Fin 128 → EReal)
    (hc : ∀ a l, c (ix2 a l) = Ideal.cos (ang a l))
    (hs : ∀ a l : Fin 128, s (ix2 a l) = if l.val % 64 < 32 then Ideal.ofBits FTy.f32 0x00000000#32 - Ideal.sin (ang a l) else Ideal.sin (ang a l))
    (r : Fin 1536) (l : Fin 128) :
    k0_pay17 k0_pay2 s y (k0_pay16 c) (ix2 r l) = rot2 (fun l => y (ix2 r l)) (ang ⟨r.val % 128, Nat.mod_lt _ (by norm_num)⟩) l := by
  have h := fst_lane l
  have ht : k0_pay16 s = concatenate S1536x128 0 [⟨S128x128, s⟩, ⟨S128x128, s⟩, ⟨S128x128, s⟩, ⟨S128x128, s⟩, ⟨S128x128, s⟩, ⟨S128x128, s⟩, ⟨S128x128, s⟩, ⟨S128x128, s⟩, ⟨S128x128, s⟩, ⟨S128x128, s⟩, ⟨S128x128, s⟩, ⟨S128x128, s⟩] concatenates_S128x128_S128x128_S128x128_S128x128_S128x128_S128x128_S128x128_S128x128_S128x128_S128x128_S128x128_S128x128_S1536x128_d0 := rfl
  have h1 := twelve c r l
  have h2 := twelve s r l
  rw [hc] at h1
  rw [hs] at h2
  unfold k0_pay17 rot2
  rw [← ht]
  generalize k0_pay16 c = C at *
  generalize k0_pay16 s = S at *
  generalize k0_pay2 = P at *
  pointwise [h, h1, h2]
  simp only [select_if]

/-- The keys turned, of the first 128 lanes. -/
theorem turned_keys0 (c s : FVec Ideal S256x128 .f32) (x y : Vec Ideal S1x128x384 .bf16) (g : Vec Ideal S1x128 .f32) (ang : Fin 256 → Fin 128 → EReal)
    (hc : ∀ a l, c (ix2 a l) = Ideal.cos (ang a l))
    (hs : ∀ (a : Fin 256) (l : Fin 128), s (ix2 a l) = if l.val % 64 < 32 then Ideal.ofBits FTy.f32 0x00000000#32 - Ideal.sin (ang a l) else Ideal.sin (ang a l))
    (k : Fin 256) (l : Fin 128) :
    k0_pay19 k0_pay2 k0_pay4 c s x y g (ix2 k l)
      = rot2 (norm2 (fun l => k0_pay18 x y (ix2 k ⟨l.val, by omega⟩)) (fun l => g (ix2 0 l))) (ang k) l := by
  have h := fst_lane l
  have h1 := hc k l
  have h2 := hs k l
  have h3 := same_lanes
  unfold k0_pay19 rot2 norm2
  generalize k0_pay18 x y = X at *
  generalize k0_pay4 (F := Ideal) = P4 at *
  generalize k0_pay2 = P at *
  pointwise [h, h1, h2, h3]
  simp only [select_if]

/-- The keys turned, of the next 128 lanes. -/
theorem turned_keys1 (c s : FVec Ideal S256x128 .f32) (x y : Vec Ideal S1x128x384 .bf16) (g : Vec Ideal S1x128 .f32) (ang : Fin 256 → Fin 128 → EReal)
    (hc : ∀ a l, c (ix2 a l) = Ideal.cos (ang a l))
    (hs : ∀ (a : Fin 256) (l : Fin 128), s (ix2 a l) = if l.val % 64 < 32 then Ideal.ofBits FTy.f32 0x00000000#32 - Ideal.sin (ang a l) else Ideal.sin (ang a l))
    (k : Fin 256) (l : Fin 128) :
    k0_pay21 k0_pay2 k0_pay4 c s (k0_pay20 x y) g (ix2 k l)
      = rot2 (norm2 (fun l => k0_pay18 x y (ix2 k ⟨128 + l.val, by omega⟩)) (fun l => g (ix2 0 l))) (ang k) l := by
  have h := fst_lane l
  have h1 := hc k l
  have h2 := hs k l
  have h3 := same_lanes
  have h4 : ∀ (k : Fin 256) (l : Fin 128), k0_pay20 x y (ix2 k l) = k0_pay18 x y (ix2 k ⟨128 + l.val, by omega⟩) := fun k l => by
    unfold k0_pay20
    generalize k0_pay18 x y = X at *
    pointwise
  unfold k0_pay21 rot2 norm2
  generalize k0_pay18 x y = X at *
  generalize k0_pay20 x y = X2 at *
  generalize k0_pay4 (F := Ideal) = P4 at *
  generalize k0_pay2 = P at *
  pointwise [h, h1, h2, h3, h4]
  simp only [select_if]

end Cert.SwaIdeal.Hand

end
-- ==== Proof.SwaPoint.lean ====
module

public import proofs.«01_k».proof.Proof.SwaLanes

@[expose] public section

set_option maxRecDepth 16384

noncomputable section

namespace Cert.SwaIdeal.Hand

open Cert.SwaIdeal Cert.SwaIdeal.Gen Idealize.ShloMosaic Idealize.ShloMosaic.TcCoe Idealize.SL.Sem

/-! What one grid point leaves: its output block and the tables it hands on. -/

variable (m : (ℓ : Loc nD τ sig) → Buf (Elt Ideal) ℓ) (c : Dev nD) (t : Fin cfg0.N)

/-- A sink. -/
def sinkAt (x : Vec Ideal S24 .f32) (i : Fin 24) : Elt Ideal .f32 := x (ix1 i)

/-- Loading one sink. -/
theorem sink_read (x : Vec Ideal S24 .f32) (i : Fin 24) (h) (z) : View.ld x (Rect.unit (s := S24) ![i.val] ![1] h) z = sinkAt x i := by
  unfold View.ld sinkAt
  refine congrArg x ?_
  funext j
  fin_cases j
  have hz : (z 0).val < 1 := (z 0).isLt
  exact Fin.ext (by simp [Rect.unit])

/-- Loading sink 0. -/
theorem sink_read0 (x : Vec Ideal S24 .f32) (z) : View.ld x (Rect.unit (s := S24) ![0] ![1] inb_S24_S1_0) z = sinkAt x 0 := sink_read x 0 _ z

/-- Loading sink 1. -/
theorem sink_read1 (x : Vec Ideal S24 .f32) (z) : View.ld x (Rect.unit (s := S24) ![1] ![1] inb_S24_S1_1) z = sinkAt x 1 := sink_read x 1 _ z

/-- Loading sink 2. -/
theorem sink_read2 (x : Vec Ideal S24 .f32) (z) : View.ld x (Rect.unit (s := S24) ![2] ![1] inb_S24_S1_2) z = sinkAt x 2 := sink_read x 2 _ z

/-- Loading sink 3. -/
theorem sink_read3 (x : Vec Ideal S24 .f32) (z) : View.ld x (Rect.unit (s := S24) ![3] ![1] inb_S24_S1_3) z = sinkAt x 3 := sink_read x 3 _ z

/-- Loading sink 4. -/
theorem sink_read4 (x : Vec Ideal S24 .f32) (z) : View.ld x (Rect.unit (s := S24) ![4] ![1] inb_S24_S1_4) z = sinkAt x 4 := sink_read x 4 _ z

/-- Loading sink 5. -/
theorem sink_read5 (x : Vec Ideal S24 .f32) (z) : View.ld x (Rect.unit (s := S24) ![5] ![1] inb_S24_S1_5) z = sinkAt x 5 := sink_read x 5 _ z

/-- Loading sink 6. -/
theorem sink_read6 (x : Vec Ideal S24 .f32) (z) : View.ld x (Rect.unit (s := S24) ![6] ![1] inb_S24_S1_6) z = sinkAt x 6 := sink_read x 6 _ z

/-- Loading sink 7. -/
theorem sink_read7 (x : Vec Ideal S24 .f32) (z) : View.ld x (Rect.unit (s := S24) ![7] ![1] inb_S24_S1_7) z = sinkAt x 7 := sink_read x 7 _ z

/-- Loading sink 8. -/
theorem sink_read8 (x : Vec Ideal S24 .f32) (z) : View.ld x (Rect.unit (s := S24) ![8] ![1] inb_S24_S1_8) z = sinkAt x 8 := sink_read x 8 _ z

/-- Loading sink 9. -/
theorem sink_read9 (x : Vec Ideal S24 .f32) (z) : View.ld x (Rect.unit (s := S24) ![9] ![1] inb_S24_S1_9) z = sinkAt x 9 := sink_read x 9 _ z

/-- Loading sink 10. -/
theorem sink_read10 (x : Vec Ideal S24 .f32) (z) : View.ld x (Rect.unit (s := S24) ![10] ![1] inb_S24_S1_10) z = sinkAt x 10 := sink_read x 10 _ z

/-- Loading sink 11. -/
theorem sink_read11 (x : Vec Ideal S24 .f32) (z) : View.ld x (Rect.unit (s := S24) ![11] ![1] inb_S24_S1_11) z = sinkAt x 11 := sink_read x 11 _ z

/-- Loading sink 12. -/
theorem sink_read12 (x : Vec Ideal S24 .f32) (z) : View.ld x (Rect.unit (s := S24) ![12] ![1] inb_S24_S1_12) z = sinkAt x 12 := sink_read x 12 _ z

/-- Loading sink 13. -/
theorem sink_read13 (x : Vec Ideal S24 .f32) (z) : View.ld x (Rect.unit (s := S24) ![13] ![1] inb_S24_S1_13) z = sinkAt x 13 := sink_read x 13 _ z

/-- Loading sink 14. -/
theorem sink_read14 (x : Vec Ideal S24 .f32) (z) : View.ld x (Rect.unit (s := S24) ![14] ![1] inb_S24_S1_14) z = sinkAt x 14 := sink_read x 14 _ z

/-- Loading sink 15. -/
theorem sink_read15 (x : Vec Ideal S24 .f32) (z) : View.ld x (Rect.unit (s := S24) ![15] ![1] inb_S24_S1_15) z = sinkAt x 15 := sink_read x 15 _ z

/-- Loading sink 16. -/
theorem sink_read16 (x : Vec Ideal S24 .f32) (z) : View.ld x (Rect.unit (s := S24) ![16] ![1] inb_S24_S1_16) z = sinkAt x 16 := sink_read x 16 _ z

/-- Loading sink 17. -/
theorem sink_read17 (x : Vec Ideal S24 .f32) (z) : View.ld x (Rect.unit (s := S24) ![17] ![1] inb_S24_S1_17) z = sinkAt x 17 := sink_read x 17 _ z

/-- Loading sink 18. -/
theorem sink_read18 (x : Vec Ideal S24 .f32) (z) : View.ld x (Rect.unit (s := S24) ![18] ![1] inb_S24_S1_18) z = sinkAt x 18 := sink_read x 18 _ z

/-- Loading sink 19. -/
theorem sink_read19 (x : Vec Ideal S24 .f32) (z) : View.ld x (Rect.unit (s := S24) ![19] ![1] inb_S24_S1_19) z = sinkAt x 19 := sink_read x 19 _ z

/-- Loading sink 20. -/
theorem sink_read20 (x : Vec Ideal S24 .f32) (z) : View.ld x (Rect.unit (s := S24) ![20] ![1] inb_S24_S1_20) z = sinkAt x 20 := sink_read x 20 _ z

/-- Loading sink 21. -/
theorem sink_read21 (x : Vec Ideal S24 .f32) (z) : View.ld x (Rect.unit (s := S24) ![21] ![1] inb_S24_S1_21) z = sinkAt x 21 := sink_read x 21 _ z

/-- Loading sink 22. -/
theorem sink_read22 (x : Vec Ideal S24 .f32) (z) : View.ld x (Rect.unit (s := S24) ![22] ![1] inb_S24_S1_22) z = sinkAt x 22 := sink_read x 22 _ z

/-- Loading sink 23. -/
theorem sink_read23 (x : Vec Ideal S24 .f32) (z) : View.ld x (Rect.unit (s := S24) ![23] ![1] inb_S24_S1_23) z = sinkAt x 23 := sink_read x 23 _ z

/-- The queries of a point. -/
def queriesAt : FVec Ideal S1536x128 .bf16 :=
  k0_pay17 k0_pay2 (k0_pay7 (iblk m c 4 t) (iblk m c 6 t)) (k0_pay15 k0_pay4 (X0_1 m c t) (iblk m c 7 t)) (k0_pay16 (k0_pay6 (iblk m c 4 t) (iblk m c 6 t)))

/-- The output block of a point, from the tables of the block before. -/
def blockAt (tc ts : FVec Ideal S128x128 .f32) : S1x128x1536.Idx → EReal :=
  whole (queriesAt m c t)
    (k0_pay19 k0_pay2 k0_pay4 (k0_pay13 (k0_pay6 (iblk m c 4 t) (iblk m c 6 t)) tc) (k0_pay14 (k0_pay7 (iblk m c 4 t) (iblk m c 6 t)) ts) (X0_3 m c t) (X0_2 m c t) (iblk m c 8 t))
    (k0_pay21 k0_pay2 k0_pay4 (k0_pay13 (k0_pay6 (iblk m c 4 t) (iblk m c 6 t)) tc) (k0_pay14 (k0_pay7 (iblk m c 4 t) (iblk m c 6 t)) ts) (k0_pay20 (X0_3 m c t) (X0_2 m c t)) (iblk m c 8 t))
    (k0_pay18 (X0_3 m c t) (X0_2 m c t)) (k0_pay25 (BitVec.ofNat 32 (grid0.coords t 1))) (sinkAt (iblk m c 0 t))

/-- A point that is not the first of its batch element uses the tables handed on. -/
theorem point_B (h0 : ¬ t.val % 32 = 0) (y : S1x128x1536.Idx) :
    (outsAt0 m c t.val t.isLt).1 y = blockAt m c t (outsAt0 m c (t.val - 1) (by omega)).2.1 (outsAt0 m c (t.val - 1) (by omega)).2.2 y := by
  rw [outsAt0_B m c t h0]
  dsimp only
  frame_out
  simp only [read_unread_whole]
  rw [sink_read0, sink_read1, sink_read2, sink_read3, sink_read4, sink_read5, sink_read6, sink_read7, sink_read8, sink_read9, sink_read10, sink_read11, sink_read12, sink_read13, sink_read14, sink_read15, sink_read16, sink_read17, sink_read18, sink_read19, sink_read20, sink_read21, sink_read22, sink_read23]
  unfold blockAt queriesAt
  generalize k0_pay17 k0_pay2 (k0_pay7 (iblk m c 4 t) (iblk m c 6 t)) (k0_pay15 k0_pay4 (X0_1 m c t) (iblk m c 7 t)) (k0_pay16 (k0_pay6 (iblk m c 4 t) (iblk m c 6 t))) = Q
  generalize k0_pay21 k0_pay2 k0_pay4 (k0_pay13 (k0_pay6 (iblk m c 4 t) (iblk m c 6 t)) (outsAt0 m c (t.val - 1) (by omega)).2.1) (k0_pay14 (k0_pay7 (iblk m c 4 t) (iblk m c 6 t)) (outsAt0 m c (t.val - 1) (by omega)).2.2) (k0_pay20 (X0_3 m c t) (X0_2 m c t)) (iblk m c 8 t) = K1
  generalize k0_pay19 k0_pay2 k0_pay4 (k0_pay13 (k0_pay6 (iblk m c 4 t) (iblk m c 6 t)) (outsAt0 m c (t.val - 1) (by omega)).2.1) (k0_pay14 (k0_pay7 (iblk m c 4 t) (iblk m c 6 t)) (outsAt0 m c (t.val - 1) (by omega)).2.2) (X0_3 m c t) (X0_2 m c t) (iblk m c 8 t) = K0
  generalize k0_pay18 (X0_3 m c t) (X0_2 m c t) = KV
  generalize k0_pay25 (BitVec.ofNat 32 (grid0.coords t 1)) = M
  generalize iblk m c 0 t = sk
  exact canon_eq Q K0 K1 KV M (sinkAt sk) y

/-- The first point of a batch element makes its own tables. -/
theorem point_A (h0 : t.val % 32 = 0) (y : S1x128x1536.Idx) :
    (outsAt0 m c t.val t.isLt).1 y = blockAt m c t (k0_pay9 (iblk m c 5 t) (iblk m c 6 t)) (k0_pay10 (iblk m c 5 t) (iblk m c 6 t)) y := by
  rw [outsAt0_A m c t h0]
  dsimp only
  frame_out
  rw [sink_read0, sink_read1, sink_read2, sink_read3, sink_read4, sink_read5, sink_read6, sink_read7, sink_read8, sink_read9, sink_read10, sink_read11, sink_read12, sink_read13, sink_read14, sink_read15, sink_read16, sink_read17, sink_read18, sink_read19, sink_read20, sink_read21, sink_read22, sink_read23]
  unfold blockAt queriesAt
  generalize k0_pay17 k0_pay2 (k0_pay7 (iblk m c 4 t) (iblk m c 6 t)) (k0_pay15 k0_pay4 (X0_1 m c t) (iblk m c 7 t)) (k0_pay16 (k0_pay6 (iblk m c 4 t) (iblk m c 6 t))) = Q
  generalize k0_pay21 k0_pay2 k0_pay4 (k0_pay13 (k0_pay6 (iblk m c 4 t) (iblk m c 6 t)) (k0_pay9 (iblk m c 5 t) (iblk m c 6 t))) (k0_pay14 (k0_pay7 (iblk m c 4 t) (iblk m c 6 t)) (k0_pay10 (iblk m c 5 t) (iblk m c 6 t))) (k0_pay20 (X0_3 m c t) (X0_2 m c t)) (iblk m c 8 t) = K1
  generalize k0_pay19 k0_pay2 k0_pay4 (k0_pay13 (k0_pay6 (iblk m c 4 t) (iblk m c 6 t)) (k0_pay9 (iblk m c 5 t) (iblk m c 6 t))) (k0_pay14 (k0_pay7 (iblk m c 4 t) (iblk m c 6 t)) (k0_pay10 (iblk m c 5 t) (iblk m c 6 t))) (X0_3 m c t) (X0_2 m c t) (iblk m c 8 t) = K0
  generalize k0_pay18 (X0_3 m c t) (X0_2 m c t) = KV
  generalize k0_pay25 (BitVec.ofNat 32 (grid0.coords t 1)) = M
  generalize iblk m c 0 t = sk
  exact canon_eq Q K0 K1 KV M (sinkAt sk) y

/-- Every point hands on its own tables. -/
theorem handed : (outsAt0 m c t.val t.isLt).2.1 = k0_pay6 (iblk m c 4 t) (iblk m c 6 t)
    ∧ (outsAt0 m c t.val t.isLt).2.2 = k0_pay7 (iblk m c 4 t) (iblk m c 6 t) := by
  by_cases h0 : t.val % 32 = 0
  · rw [outsAt0_A m c t h0]
    dsimp only
    frame_out
    exact ⟨carried_cos _, carried_sin _⟩
  · rw [outsAt0_B m c t h0]
    dsimp only
    frame_out
    exact ⟨carried_cos _, carried_sin _⟩

end Cert.SwaIdeal.Hand

end
-- ==== Proof.SwaSpec.lean ====
module

public import proofs.«01_k».proof.Proof.SwaMath

@[expose] public section

set_option maxRecDepth 16384

noncomputable section

/-! The layer's attention as one formula over arrays of extended reals. -/

namespace Hand.Swa

open Idealize.ShloMosaic

/-- Arrays, by shape. -/
abbrev Proj : Type := (⟨3, ![4, 4096, 2432]⟩ : Shape).Idx → EReal
abbrev Posn : Type := (⟨2, ![4, 4096]⟩ : Shape).Idx → BitVec 32
abbrev Gain : Type := (⟨1, ![64]⟩ : Shape).Idx → EReal
abbrev Sink : Type := (⟨1, ![24]⟩ : Shape).Idx → EReal

/-- The rotation's frequencies. -/
def freq (i : Fin 32) : EReal :=
  Ideal.pow (Ideal.ofBits FTy.f32 0x461C4000#32) (Ideal.div (-((((BitVec.ofNat 32 i.val).toInt : ℝ) : EReal))) (Ideal.ofBits FTy.f32 0x42000000#32))

/-- The angles of a position. -/
def angle (ps : Posn) (b : Fin 4) (t : Fin 4096) (i : Fin 32) : EReal := ((((ps (ix2 b t)).toInt : ℝ)) : EReal) * freq i

/-- A head at column `o` of the projection, normalised and turned. -/
def turned (p : Proj) (ps : Posn) (g : Gain) (b : Fin 4) (t : Fin 4096) (o : ℕ) (ho : o + 64 ≤ 2432) (e : Fin 64) : EReal :=
  rot (norm (fun d => p (ix3 b t ⟨o + d.val, by omega⟩)) (fun d => g (ix1 d))) (angle ps b t) e

/-- The position of key `k` of the two blocks that block `n` reads. -/
abbrev keyPos (n : Fin 32) (k : Fin 256) : Fin 4096 := ⟨128 * n.val + k.val - 128, by omega⟩

/-- The position of row `a` of block `n`. -/
abbrev rowPos (n : Fin 32) (a : Fin 128) : Fin 4096 := ⟨128 * n.val + a.val, by omega⟩

/-- Row `a` of block `n` reads key `k`. -/
abbrev Sees (n : Fin 32) (a : Fin 128) (k : Fin 256) : Prop := k.val ≤ a.val + 128 ∧ a.val < k.val ∧ (128 ≤ k.val ∨ 0 < n.val)

/-- The scores of head `h` at row `a` of block `n`. -/
def score (p : Proj) (ps : Posn) (gq gk : Gain) (b : Fin 4) (n : Fin 32) (a : Fin 128) (h : Fin 24) (k : Fin 256) : EReal :=
  if Sees n a k then
    (∑ d, turned p ps gq b (rowPos n a) (64 * h.val) (by omega) d * turned p ps gk b (keyPos n k) (1536 + 64 * (h.val / 8)) (by omega) d)
      * Ideal.ofBits FTy.f32 0x3E000000#32
  else Ideal.ofBits FTy.f32 0xFF800000#32

/-- The values; nothing before the first block. -/
def value (p : Proj) (b : Fin 4) (n : Fin 32) (h : Fin 24) (e : Fin 64) (k : Fin 256) : EReal :=
  if 128 ≤ k.val ∨ 0 < n.val then p (ix3 b (keyPos n k) ⟨1728 + 64 * (h.val / 8) + e.val, by omega⟩) else 0

/-- The attention of head `h`, element `e`, at row `a` of block `n`. -/
def attention (p : Proj) (ps : Posn) (gq gk : Gain) (s : Sink) (b : Fin 4) (n : Fin 32) (a : Fin 128) (h : Fin 24) (e : Fin 64) : EReal :=
  attend (score p ps gq gk b n a h) (value p b n h e) (s (ix1 h))

/-- The attention over the whole array, the heads side by side. -/
def attended (p : Proj) (ps : Posn) (gq gk : Gain) (s : Sink) : (⟨3, ![4, 4096, 1536]⟩ : Shape).Idx → EReal := fun i =>
  attention p ps gq gk s (i 0) ⟨(i 1).val / 128, Nat.div_lt_of_lt_mul (i 1).isLt⟩ ⟨(i 1).val % 128, Nat.mod_lt _ (by norm_num)⟩
    ⟨(i 2).val / 64, Nat.div_lt_of_lt_mul (i 2).isLt⟩ ⟨(i 2).val % 64, Nat.mod_lt _ (by norm_num)⟩

/-- The frequencies are real. -/
theorem freq_real : ∃ f : Fin 32 → ℝ, ∀ i, freq i = (f i : EReal) := by
  have h1 : ∃ r : ℝ, Ideal.ofBits FTy.f32 0x461C4000#32 = (r : EReal) :=
    ⟨_, by simp [Ideal.ofBits, Ideal.ieee, -EReal.coe_mul]; rfl⟩
  have h2 : Ideal.ofBits FTy.f32 0x42000000#32 = ((32 : ℝ) : EReal) := by
    simp [Ideal.ofBits, Ideal.ieee, -EReal.coe_mul]; norm_num
  obtain ⟨r, he⟩ := h1
  refine ⟨fun i => r ^ (-((BitVec.ofNat 32 i.val).toInt : ℝ) * (1 / 32)), fun i => ?_⟩
  unfold freq
  rw [he, h2, Ideal.div_coe (by norm_num), ← EReal.coe_neg, ← EReal.coe_mul, Ideal.pow_coe_coe]
  rfl

/-- The angles are real. -/
theorem angle_real (ps : Posn) (b : Fin 4) (t : Fin 4096) : ∃ a : Fin 32 → ℝ, ∀ i, angle ps b t i = (a i : EReal) := by
  obtain ⟨f, hf⟩ := freq_real
  exact ⟨fun i => ((ps (ix2 b t)).toInt : ℝ) * f i, fun i => by unfold angle; rw [hf, ← EReal.coe_mul]⟩

end Hand.Swa

end
-- ==== Proof.SwaBlocks.lean ====
module

public import proofs.«01_k».proof.Proof.SwaPoint
public import proofs.«01_k».proof.Proof.SwaSpec

@[expose] public section

set_option maxRecDepth 16384

noncomputable section

namespace Cert.SwaIdeal.Hand

open Cert.SwaIdeal Cert.SwaIdeal.Gen Idealize.ShloMosaic Idealize.ShloMosaic.TcCoe Idealize.SL.Sem Hand.Swa

/-! The blocks that a grid point reads, over the arguments. -/

variable (m : (ℓ : Loc nD τ sig) → Buf (Elt Ideal) ℓ)

/-- The arguments as arrays. -/
abbrev PR (c : Dev nD) : Proj := m ((c : Thread nD τ).loc main_arg0)
abbrev PO (c : Dev nD) : Posn := m ((c : Thread nD τ).loc main_arg1)
abbrev GQ (c : Dev nD) : Gain := m ((c : Thread nD τ).loc main_arg2)
abbrev GK (c : Dev nD) : Gain := m ((c : Thread nD τ).loc main_arg3)
abbrev SK (c : Dev nD) : Sink := m ((c : Thread nD τ).loc main_arg4)

/-- The block indices of the operands and of the result at a grid point. -/
theorem places : ∀ t : Fin cfg0.N,
    win0_0.index t = ![0] ∧ win0_1.index t = ![t.val / 32, t.val % 32, 0] ∧ win0_2.index t = ![t.val / 32, t.val % 32, 4]
      ∧ win0_3.index t = ![t.val / 32, t.val % 32 - 1, 4] ∧ win0_4.index t = ![t.val / 32, t.val % 32, 0]
      ∧ win0_5.index t = ![t.val / 32, t.val % 32 - 1, 0] ∧ win0_6.index t = ![0, 0] ∧ win0_7.index t = ![0, 0] ∧ win0_8.index t = ![0, 0]
      ∧ win0_9.index t = ![t.val / 32, t.val % 32, 0] :=
  (by decide +kernel : ∀ t : Fin grid0.N, _)

/-- The block's number within its batch element, as the kernel is given it. -/
theorem coord1 : ∀ t : Fin cfg0.N, ((grid0.coords t 1 : Fin _) : ℕ) = t.val % 32 := (by decide +kernel : ∀ t : Fin grid0.N, _)

/-- The batch element and the position that a point's row holds. -/
abbrev bat (n : ℕ) : Fin 4 := ⟨(n / 32) % 4, Nat.mod_lt _ (by norm_num)⟩
abbrev pos (n : ℕ) (a : Fin 128) : Fin 4096 := ⟨(n % 32) * 128 + a.val, by omega⟩
abbrev prev (n : ℕ) (a : Fin 128) : Fin 4096 := ⟨(n % 32 - 1) * 128 + a.val, by omega⟩

section Blocks

variable (c : Dev nD) (t : Fin cfg0.N)

/-- The sinks, as a grid point reads them. -/
theorem sink_block (i : Fin 24) : iblk m c 0 t (ix1 i) = SK m c (ix1 i) := by
  blk_ext [iblk, V, places t]

/-- A point's block of queries. -/
theorem q_block (a : Fin 128) (j : Fin 1536) : X0_1 m c t (ix3 0 a j) = PR m c (ix3 (bat t.val) (pos t.val a) ⟨j.val, by omega⟩) := by
  have hN : t.val < 128 := lt_of_lt_of_eq t.isLt N_0
  unfold X0_1 Pipeline.Window.fill
  rw [dif_pos (moved0_1 t _)]
  blk_ext [iblk, V, places t]

/-- A point's block of keys and values. -/
theorem kv_block (a : Fin 128) (j : Fin 384) : X0_2 m c t (ix3 0 a j) = PR m c (ix3 (bat t.val) (pos t.val a) ⟨1536 + j.val, by omega⟩) := by
  have hN : t.val < 128 := lt_of_lt_of_eq t.isLt N_0
  unfold X0_2 Pipeline.Window.fill
  rw [dif_pos (moved0_2 t _)]
  blk_ext [iblk, V, places t]

/-- The keys and values of the block before. -/
theorem kv_before (a : Fin 128) (j : Fin 384) : X0_3 m c t (ix3 0 a j) = PR m c (ix3 (bat t.val) (prev t.val a) ⟨1536 + j.val, by omega⟩) := by
  have hN : t.val < 128 := lt_of_lt_of_eq t.isLt N_0
  unfold X0_3 Pipeline.Window.fill
  rw [dif_pos (moved0_3 t _)]
  blk_ext [iblk, V, places t]

/-- The positions as the kernel is given them. -/
theorem positions_apply (b : Fin 4) (p : Fin 4096) : V m c main_v10 (ix3 b p 0) = PO m c (ix2 b p) := by
  simp only [V, hostOps0, List.flatten_cons, List.flatten_nil, List.cons_append, List.nil_append]
  entry_read
  pointwise

/-- The frequencies, once for each 32 lanes. -/
theorem freq_apply (l : Fin 128) : V m c main_v9 (ix2 0 l) = freq ⟨l.val % 32, Nat.mod_lt _ (by norm_num)⟩ := by
  simp only [V, hostOps0, List.flatten_cons, List.flatten_nil, List.cons_append, List.nil_append]
  entry_read
  pointwise

  rfl

/-- The queries' gains, twice over. -/
theorem gq_apply (l : Fin 128) : V m c main_v14 (ix2 0 l) = GQ m c (ix1 ⟨l.val % 64, Nat.mod_lt _ (by norm_num)⟩) := by
  simp only [V, hostOps0, List.flatten_cons, List.flatten_nil, List.cons_append, List.nil_append]
  entry_read
  pointwise

/-- The keys' gains, twice over. -/
theorem gk_apply (l : Fin 128) : V m c main_v18 (ix2 0 l) = GK m c (ix1 ⟨l.val % 64, Nat.mod_lt _ (by norm_num)⟩) := by
  simp only [V, hostOps0, List.flatten_cons, List.flatten_nil, List.cons_append, List.nil_append]
  entry_read
  pointwise

/-- A point's positions. -/
theorem pos_block (a : Fin 128) : iblk m c 4 t (ix3 0 a 0) = PO m c (ix2 (bat t.val) (pos t.val a)) := by
  have hN : t.val < 128 := lt_of_lt_of_eq t.isLt N_0
  rw [← positions_apply m c]
  unfold iblk
  generalize V m c main_v10 = w
  blk_ext [places t]

/-- The positions of the block before. -/
theorem pos_before (a : Fin 128) : iblk m c 5 t (ix3 0 a 0) = PO m c (ix2 (bat t.val) (prev t.val a)) := by
  have hN : t.val < 128 := lt_of_lt_of_eq t.isLt N_0
  rw [← positions_apply m c]
  unfold iblk
  generalize V m c main_v10 = w
  blk_ext [places t]

/-- The frequencies, as a grid point reads them. -/
theorem freq_block (l : Fin 128) : iblk m c 6 t (ix2 0 l) = freq ⟨l.val % 32, Nat.mod_lt _ (by norm_num)⟩ := by
  rw [← freq_apply m c l]
  unfold iblk
  generalize V m c main_v9 = w
  blk_ext [places t]

/-- The queries' gains, as a grid point reads them. -/
theorem gq_block (l : Fin 128) : iblk m c 7 t (ix2 0 l) = GQ m c (ix1 ⟨l.val % 64, Nat.mod_lt _ (by norm_num)⟩) := by
  rw [← gq_apply m c l]
  unfold iblk
  generalize V m c main_v14 = w
  blk_ext [places t]

/-- The keys' gains, as a grid point reads them. -/
theorem gk_block (l : Fin 128) : iblk m c 8 t (ix2 0 l) = GK m c (ix1 ⟨l.val % 64, Nat.mod_lt _ (by norm_num)⟩) := by
  rw [← gk_apply m c l]
  unfold iblk
  generalize V m c main_v18 = w
  blk_ext [places t]

end Blocks

end Cert.SwaIdeal.Hand

end
-- ==== Proof.SwaJoin.lean ====
module

public import proofs.«01_k».proof.Proof.SwaBlocks

@[expose] public section

set_option maxRecDepth 16384

noncomputable section

namespace Cert.SwaIdeal.Hand

open Cert.SwaIdeal Cert.SwaIdeal.Gen Idealize.ShloMosaic Idealize.ShloMosaic.TcCoe Idealize.SL.Sem Hand.Swa

/-! The kernel's blocks are the attention's, where what it normalises is finite. -/

/-- A head of two heads' lanes, normalised and turned, a factor in the gains. -/
theorem head_turned (x g ang : Fin 128 → EReal) (p : Fin 2) (P G : Fin 64 → EReal) (A : Fin 32 → EReal) (k : ℝ) (K : EReal) (hK : K = (k : EReal))
    (hx : ∀ d, x (half p d) = P d) (hP : ∀ d, ∃ r : ℝ, P d = r) (hg : ∀ d, g (half p d) = G d * K) (hG : ∀ d, ∃ r : ℝ, G d = r)
    (ha : ∀ e : Fin 64, ang (half p e) = A ⟨e.val % 32, Nat.mod_lt _ (by norm_num)⟩) (hA : ∀ i, ∃ r : ℝ, A i = r) (e : Fin 64) :
    rot2 (norm2 x g) ang (half p e) = rot (Hand.Swa.norm P G) A e * (k : EReal) := by
  choose P' hP' using hP
  choose G' hG' using hG
  choose A' hA' using hA
  obtain rfl : P = fun d => (P' d : EReal) := funext hP'
  obtain rfl : G = fun d => (G' d : EReal) := funext hG'
  obtain rfl : A = fun i => (A' i : EReal) := funext hA'
  obtain ⟨w, hw⟩ := norm_real P' G'
  have hy : ∀ e, norm2 x g (half p e) = ((w e * k : ℝ) : EReal) := fun e => by
    rw [norm2_eq x g p (fun d => ⟨P' d, hx d⟩) e, EReal.coe_mul, ← hw e]
    unfold Hand.Swa.norm
    simp only [hx, hg, hK]
    rw [← mul_assoc]
  rw [rot2_eq (norm2 x g) ang A' p w k hy ha e]
  rw [show Hand.Swa.norm (fun d => (P' d : EReal)) (fun d => (G' d : EReal)) = fun d => (w d : EReal) from funext hw]

/-- A head normalised and turned is real, where the projection and the gains are. -/
theorem turned_real (p : Proj) (ps : Posn) (g : Gain) (b : Fin 4) (t : Fin 4096) (o : ℕ) (ho : o + 64 ≤ 2432)
    (hp : ∀ d : Fin 64, ∃ r : ℝ, p (ix3 b t ⟨o + d.val, by omega⟩) = r) (hg : ∀ d, ∃ r : ℝ, g (ix1 d) = r) (e : Fin 64) :
    ∃ r : ℝ, turned p ps g b t o ho e = r := by
  choose P' hP' using hp
  choose G' hG' using hg
  obtain ⟨A', hA'⟩ := angle_real ps b t
  obtain ⟨w, hw⟩ := norm_real P' G'
  obtain ⟨r, hr⟩ := rot_real w A' e
  refine ⟨r, ?_⟩
  unfold turned
  rw [show (fun d : Fin 64 => p (ix3 b t ⟨o + d.val, by omega⟩)) = fun d => (P' d : EReal) from funext hP',
    show (fun d => g (ix1 d)) = fun d => (G' d : EReal) from funext hG', show angle ps b t = fun i => (A' i : EReal) from funext hA',
    show Hand.Swa.norm (fun d => (P' d : EReal)) (fun d => (G' d : EReal)) = fun d => (w d : EReal) from funext hw]
  exact hr

/-- A score is not infinitely large, where the projection and the gains are real. -/
theorem score_cases (p : Proj) (ps : Posn) (gq gk : Gain) (b : Fin 4) (n : Fin 32) (a : Fin 128) (h : Fin 24) (k : Fin 256)
    (hp : ∀ b t (j : Fin 2432), j.val < 1728 → ∃ r : ℝ, p (ix3 b t j) = r) (hq : ∀ d, ∃ r : ℝ, gq (ix1 d) = r) (hk : ∀ d, ∃ r : ℝ, gk (ix1 d) = r) :
    score p ps gq gk b n a h k ≠ ⊤ := by
  unfold score
  split
  · have h1 := fun d => turned_real p ps gq b (rowPos n a) (64 * h.val) (by omega) (fun d => hp _ _ _ (by show 64 * h.val + d.val < 1728; omega)) hq d
    have h2 := fun d => turned_real p ps gk b (keyPos n k) (1536 + 64 * (h.val / 8)) (by omega) (fun d => hp _ _ _ (by show 1536 + 64 * (h.val / 8) + d.val < 1728; omega)) hk d
    choose u hu using h1
    choose v hv using h2
    simp only [hu, hv, bits_8th, ← EReal.coe_mul, sum_coe]
    exact EReal.coe_ne_top _
  · rw [bot_bits]
    exact bot_ne_top

variable (m : (ℓ : Loc nD τ sig) → Buf (Elt Ideal) ℓ) (c : Dev nD) (t : Fin cfg0.N)

/-- The position of key `k` of the two blocks that a point reads. -/
abbrev keyAt (n : ℕ) (k : Fin 256) : Fin 4096 := if h : k.val < 128 then prev n ⟨k.val, h⟩ else pos n ⟨k.val - 128, by omega⟩

/-- The block's number within its batch element. -/
abbrev num (n : ℕ) : Fin 32 := ⟨n % 32, Nat.mod_lt _ (by norm_num)⟩

/-- A point's row, by its block's number. -/
theorem pos_row (n : ℕ) (a : Fin 128) : pos n a = rowPos (num n) a := Fin.ext (by show n % 32 * 128 + a.val = 128 * (n % 32) + a.val; omega)

/-- The position of a key that is read. -/
theorem keyAt_pos (n : ℕ) (k : Fin 256) (h : 128 ≤ k.val ∨ 0 < (num n).val) : keyAt n k = keyPos (num n) k := by
  have h' : 128 ≤ k.val ∨ 0 < n % 32 := h
  refine Fin.ext ?_
  unfold keyAt
  split
  · show (n % 32 - 1) * 128 + k.val = 128 * (n % 32) + k.val - 128
    omega
  · show n % 32 * 128 + (k.val - 128) = 128 * (n % 32) + k.val - 128
    omega

/-- The lanes of a point's keys and values. -/
theorem kv_lanes (k : Fin 256) (j : Fin 384) :
    k0_pay18 (X0_3 m c t) (X0_2 m c t) (ix2 k j) = PR m c (ix3 (bat t.val) (keyAt t.val k) ⟨1536 + j.val, by omega⟩) := by
  rw [keys_values]
  unfold keyAt
  by_cases h : k.val < 128
  · rw [dif_pos h, dif_pos h, kv_before]
  · rw [dif_neg h, dif_neg h, kv_block]

/-- The cosines of a point's positions. -/
theorem cos_here (a l : Fin 128) :
    k0_pay6 (iblk m c 4 t) (iblk m c 6 t) (ix2 a l) = Ideal.cos (angle (PO m c) (bat t.val) (pos t.val a) ⟨l.val % 32, Nat.mod_lt _ (by norm_num)⟩) := by
  rw [cos_table, pos_block, freq_block]
  rfl

/-- The signed sines of a point's positions. -/
theorem sin_here (a l : Fin 128) :
    k0_pay7 (iblk m c 4 t) (iblk m c 6 t) (ix2 a l)
      = if l.val % 64 < 32 then Ideal.ofBits FTy.f32 0x00000000#32 - Ideal.sin (angle (PO m c) (bat t.val) (pos t.val a) ⟨l.val % 32, Nat.mod_lt _ (by norm_num)⟩)
        else Ideal.sin (angle (PO m c) (bat t.val) (pos t.val a) ⟨l.val % 32, Nat.mod_lt _ (by norm_num)⟩) := by
  rw [sin_table, pos_block, freq_block]
  rfl

/-- The cosines of the positions of the block before. -/
theorem cos_before (a l : Fin 128) :
    k0_pay9 (iblk m c 5 t) (iblk m c 6 t) (ix2 a l) = Ideal.cos (angle (PO m c) (bat t.val) (prev t.val a) ⟨l.val % 32, Nat.mod_lt _ (by norm_num)⟩) := by
  rw [cos_table0, cos_table, pos_before, freq_block]
  rfl

/-- The signed sines of the positions of the block before. -/
theorem sin_before (a l : Fin 128) :
    k0_pay10 (iblk m c 5 t) (iblk m c 6 t) (ix2 a l)
      = if l.val % 64 < 32 then Ideal.ofBits FTy.f32 0x00000000#32 - Ideal.sin (angle (PO m c) (bat t.val) (prev t.val a) ⟨l.val % 32, Nat.mod_lt _ (by norm_num)⟩)
        else Ideal.sin (angle (PO m c) (bat t.val) (prev t.val a) ⟨l.val % 32, Nat.mod_lt _ (by norm_num)⟩) := by
  rw [sin_table0, sin_table, pos_before, freq_block]
  rfl

/-- What is real: the queries' and keys' columns of the projection, the gains and the sinks. -/
structure Finite : Prop where
  proj : ∀ b t (j : Fin 2432), j.val < 1728 → ∃ r : ℝ, PR m c (ix3 b t j) = r
  gq : ∀ d, ∃ r : ℝ, GQ m c (ix1 d) = r
  gk : ∀ d, ∃ r : ℝ, GK m c (ix1 d) = r
  sink : ∀ h, ∃ r : ℝ, SK m c (ix1 h) = r

variable {m c} (F : Finite m c)
include F

/-- The queries of a point: head `g` at row `a`, divided by eight logarithms of two. -/
theorem query_lanes (a : Fin 128) (g : Fin 24) (d : Fin 64) :
    queriesAt m c t (ix2 ⟨128 * (g.val / 2) + a.val, by omega⟩ (half ⟨g.val % 2, Nat.mod_lt _ (by norm_num)⟩ d))
      = turned (PR m c) (PO m c) (GQ m c) (bat t.val) (pos t.val a) (64 * g.val) (by omega) d * (((8 * Real.log 2)⁻¹ : ℝ) : EReal) := by
  unfold queriesAt
  rw [turned_queries _ _ _ _ (cos_here m c t) (sin_here m c t)]
  rw [show (fun l => k0_pay15 k0_pay4 (X0_1 m c t) (iblk m c 7 t) (ix2 (⟨128 * (g.val / 2) + a.val, by omega⟩ : Fin 1536) l)) = _ from funext fun l => norm_queries _ _ _ l]
  have e1 : (⟨(⟨128 * (g.val / 2) + a.val, by omega⟩ : Fin 1536).val % 128, Nat.mod_lt _ (by norm_num)⟩ : Fin 128) = a :=
    Fin.ext (by show (128 * (g.val / 2) + a.val) % 128 = a.val; omega)
  rw [e1]
  unfold turned
  refine head_turned _ _ _ _ _ _ _ _ _ rfl (fun d => ?_) (fun d => F.proj _ _ _ ?_) (fun d => ?_) F.gq (fun e => ?_) (fun i => ?_) d
  · rw [q_block]
    congr 2
    refine Fin.ext ?_
    show 128 * ((128 * (g.val / 2) + a.val) / 128) + (64 * (g.val % 2) + d.val) = 64 * g.val + d.val
    omega
  · show 64 * g.val + d.val < 1728
    omega
  · rw [gq_block]
    congr 3
    refine Fin.ext ?_
    show (64 * (g.val % 2) + d.val) % 64 = d.val
    omega
  · congr 1
    refine Fin.ext ?_
    show (64 * (g.val % 2) + e.val) % 32 = e.val % 32
    omega
  · obtain ⟨A, hA⟩ := angle_real (PO m c) (bat t.val) (pos t.val a)
    exact ⟨A i, hA i⟩

/-- Two heads' keys turned: the head of half `p`, of a column of lanes that starts at `o`. -/
theorem key_lanes (o : ℕ) (ho : o + 128 ≤ 384) (p : Fin 2) (hc : o + 64 * p.val + 64 ≤ 192) (k : Fin 256) (d : Fin 64) :
    rot2 (norm2 (fun l => k0_pay18 (X0_3 m c t) (X0_2 m c t) (ix2 k ⟨o + l.val, by omega⟩)) (fun l => iblk m c 8 t (ix2 0 l)))
      (fun l => angle (PO m c) (bat t.val) (keyAt t.val k) ⟨l.val % 32, Nat.mod_lt _ (by norm_num)⟩) (half p d)
      = turned (PR m c) (PO m c) (GK m c) (bat t.val) (keyAt t.val k) (1536 + (o + 64 * p.val)) (by omega) d := by
  unfold turned
  refine (head_turned _ _ _ _ (fun d => PR m c (ix3 (bat t.val) (keyAt t.val k) ⟨1536 + (o + 64 * p.val) + d.val, by omega⟩)) (fun d => GK m c (ix1 d))
    (angle (PO m c) (bat t.val) (keyAt t.val k)) 1 1 (by norm_num) (fun d => ?_) (fun d => F.proj _ _ _ ?_) (fun d => ?_) F.gk (fun e => ?_) (fun i => ?_) d).trans ?_
  · rw [kv_lanes]
    congr 2
    refine Fin.ext ?_
    show 1536 + (o + (64 * p.val + d.val)) = 1536 + (o + 64 * p.val) + d.val
    omega
  · show 1536 + (o + 64 * p.val) + d.val < 1728
    omega
  · rw [gk_block, mul_one]
    congr 2
    refine Fin.ext ?_
    show (64 * p.val + d.val) % 64 = d.val
    omega
  · congr 1
    refine Fin.ext ?_
    show (64 * p.val + e.val) % 32 = e.val % 32
    omega
  · obtain ⟨A, hA⟩ := angle_real (PO m c) (bat t.val) (keyAt t.val k)
    exact ⟨A i, hA i⟩
  · rw [EReal.coe_one, mul_one]

end Cert.SwaIdeal.Hand

end
-- ==== Proof.SwaResult.lean ====
module

public import proofs.«01_k».proof.Proof.SwaJoin

@[expose] public section

set_option maxRecDepth 16384

noncomputable section

namespace Cert.SwaIdeal.Hand

open Cert.SwaIdeal Cert.SwaIdeal.Gen Idealize.ShloMosaic Idealize.ShloMosaic.TcCoe Idealize.SL.Sem Hand.Swa

/-! The kernel's result is the attention, where what it normalises is finite. -/

variable {m : (ℓ : Loc nD τ sig) → Buf (Elt Ideal) ℓ} {c : Dev nD} (F : Finite m c) (t : Fin cfg0.N)

/-- The angles of the two blocks of positions that a point reads. -/
abbrev angleAt (m : (ℓ : Loc nD τ sig) → Buf (Elt Ideal) ℓ) (c : Dev nD) (n : ℕ) (k : Fin 256) (l : Fin 128) : EReal :=
  angle (PO m c) (bat n) (keyAt n k) ⟨l.val % 32, Nat.mod_lt _ (by norm_num)⟩

/-- The cosines of both blocks. -/
theorem cos_both (tc : FVec Ideal S128x128 .f32)
    (hc : ∀ a l : Fin 128, tc (ix2 a l) = Ideal.cos (angle (PO m c) (bat t.val) (prev t.val a) ⟨l.val % 32, Nat.mod_lt _ (by norm_num)⟩))
    (k : Fin 256) (l : Fin 128) :
    k0_pay13 (k0_pay6 (iblk m c 4 t) (iblk m c 6 t)) tc (ix2 k l) = Ideal.cos (angleAt m c t.val k l) := by
  rw [tables_cos]
  unfold angleAt keyAt
  by_cases h : k.val < 128
  · rw [dif_pos h, dif_pos h, hc]
  · rw [dif_neg h, dif_neg h, cos_here]

/-- The signed sines of both blocks. -/
theorem sin_both (ts : FVec Ideal S128x128 .f32)
    (hs : ∀ a l : Fin 128, ts (ix2 a l)
      = if l.val % 64 < 32 then Ideal.ofBits FTy.f32 0x00000000#32 - Ideal.sin (angle (PO m c) (bat t.val) (prev t.val a) ⟨l.val % 32, Nat.mod_lt _ (by norm_num)⟩)
        else Ideal.sin (angle (PO m c) (bat t.val) (prev t.val a) ⟨l.val % 32, Nat.mod_lt _ (by norm_num)⟩))
    (k : Fin 256) (l : Fin 128) :
    k0_pay14 (k0_pay7 (iblk m c 4 t) (iblk m c 6 t)) ts (ix2 k l)
      = if l.val % 64 < 32 then Ideal.ofBits FTy.f32 0x00000000#32 - Ideal.sin (angleAt m c t.val k l) else Ideal.sin (angleAt m c t.val k l) := by
  rw [tables_sin]
  unfold angleAt keyAt
  by_cases h : k.val < 128
  · rw [dif_pos h, dif_pos h, hs]
  · rw [dif_neg h, dif_neg h, sin_here]

include F

/-- A point's keys, by head. -/
theorem keys_at (tc ts : FVec Ideal S128x128 .f32)
    (hc : ∀ a l : Fin 128, tc (ix2 a l) = Ideal.cos (angle (PO m c) (bat t.val) (prev t.val a) ⟨l.val % 32, Nat.mod_lt _ (by norm_num)⟩))
    (hs : ∀ a l : Fin 128, ts (ix2 a l)
      = if l.val % 64 < 32 then Ideal.ofBits FTy.f32 0x00000000#32 - Ideal.sin (angle (PO m c) (bat t.val) (prev t.val a) ⟨l.val % 32, Nat.mod_lt _ (by norm_num)⟩)
        else Ideal.sin (angle (PO m c) (bat t.val) (prev t.val a) ⟨l.val % 32, Nat.mod_lt _ (by norm_num)⟩))
    (h : Fin 3) (k : Fin 256) (d : Fin 64) :
    keyOf
      (k0_pay19 k0_pay2 k0_pay4 (k0_pay13 (k0_pay6 (iblk m c 4 t) (iblk m c 6 t)) tc) (k0_pay14 (k0_pay7 (iblk m c 4 t) (iblk m c 6 t)) ts) (X0_3 m c t) (X0_2 m c t) (iblk m c 8 t))
      (k0_pay21 k0_pay2 k0_pay4 (k0_pay13 (k0_pay6 (iblk m c 4 t) (iblk m c 6 t)) tc) (k0_pay14 (k0_pay7 (iblk m c 4 t) (iblk m c 6 t)) ts) (k0_pay20 (X0_3 m c t) (X0_2 m c t)) (iblk m c 8 t)) h k d
      = turned (PR m c) (PO m c) (GK m c) (bat t.val) (keyAt t.val k) (1536 + 64 * h.val) (by omega) d := by
  have h1 := cos_both t tc hc
  have h2 := sin_both t ts hs
  have k0 := turned_keys0 _ _ (X0_3 m c t) (X0_2 m c t) (iblk m c 8 t) _ h1 h2 k
  have k1 := turned_keys1 _ _ (X0_3 m c t) (X0_2 m c t) (iblk m c 8 t) _ h1 h2 k
  unfold keyOf
  match h with
  | 0 =>
    refine (k0 _).trans ?_
    have := key_lanes t F 0 (by norm_num) 0 (by norm_num) k d
    simp only [zero_add] at this
    exact this
  | 1 =>
    refine (k0 _).trans ?_
    have := key_lanes t F 0 (by norm_num) 1 (by norm_num) k d
    simp only [zero_add] at this
    exact this
  | 2 =>
    exact (k1 _).trans (key_lanes t F 128 (by norm_num) 0 (by norm_num) k d)

/-- A point's output block is the attention's. -/
theorem block_attention (tc ts : FVec Ideal S128x128 .f32)
    (hc : ∀ a l : Fin 128, tc (ix2 a l) = Ideal.cos (angle (PO m c) (bat t.val) (prev t.val a) ⟨l.val % 32, Nat.mod_lt _ (by norm_num)⟩))
    (hs : ∀ a l : Fin 128, ts (ix2 a l)
      = if l.val % 64 < 32 then Ideal.ofBits FTy.f32 0x00000000#32 - Ideal.sin (angle (PO m c) (bat t.val) (prev t.val a) ⟨l.val % 32, Nat.mod_lt _ (by norm_num)⟩)
        else Ideal.sin (angle (PO m c) (bat t.val) (prev t.val a) ⟨l.val % 32, Nat.mod_lt _ (by norm_num)⟩))
    (a : Fin 128) (n : Fin 1536) :
    blockAt m c t tc ts (ix3 0 a n)
      = attention (PR m c) (PO m c) (GQ m c) (GK m c) (SK m c) (bat t.val) (num t.val) a ⟨n.val / 64, by omega⟩ ⟨n.val % 64, Nat.mod_lt _ (by norm_num)⟩ := by
  have hq := fun g d => query_lanes t F a g d
  have hk := keys_at F t tc ts hc hs
  have hv := kv_lanes m c t
  have hw : ∀ k, k0_pay25 (BitVec.ofNat 32 (grid0.coords t 1)) (ix2 a k) = 1#1 ↔ Sees (num t.val) a k := fun k => by
    have hN := coord1 t
    have := window ((grid0.coords t 1 : Fin _) : ℕ) (by rw [hN]; omega) a k
    rw [this, hN]
  have hsk : ∀ i, sinkAt (iblk m c 0 t) i = SK m c (ix1 i) := fun i => by unfold sinkAt; rw [sink_block]
  unfold blockAt
  generalize (k0_pay21 k0_pay2 k0_pay4 (k0_pay13 (k0_pay6 (iblk m c 4 t) (iblk m c 6 t)) tc) (k0_pay14 (k0_pay7 (iblk m c 4 t) (iblk m c 6 t)) ts) (k0_pay20 (X0_3 m c t) (X0_2 m c t)) (iblk m c 8 t)) = K1 at *
  generalize (k0_pay19 k0_pay2 k0_pay4 (k0_pay13 (k0_pay6 (iblk m c 4 t) (iblk m c 6 t)) tc) (k0_pay14 (k0_pay7 (iblk m c 4 t) (iblk m c 6 t)) ts) (X0_3 m c t) (X0_2 m c t) (iblk m c 8 t)) = K0 at *
  generalize k0_pay18 (X0_3 m c t) (X0_2 m c t) = KV at *
  generalize queriesAt m c t = Q at *
  generalize k0_pay25 (BitVec.ofNat 32 (grid0.coords t 1)) = M at *
  generalize sinkAt (iblk m c 0 t) = s at *
  show outOf Q K0 K1 KV M s a ⟨n.val / 64, _⟩ ⟨n.val % 64, _⟩ = _
  generalize (⟨n.val / 64, by omega⟩ : Fin 24) = g
  generalize (⟨n.val % 64, Nat.mod_lt _ (by norm_num)⟩ : Fin 64) = e
  obtain ⟨r, hr⟩ := F.sink g
  have hl : 0 < Real.log 2 := Real.log_pos (by norm_num)
  unfold outOf attention
  rw [hr]
  refine attend2_eq _ _ _ _ r _ (fun k => score_cases _ _ _ _ _ _ _ _ _ F.proj F.gq F.gk) (fun k => ?_) ?_ (fun k => ?_)
  · unfold scoreOf score
    by_cases hm : Sees (num t.val) a k
    · rw [if_pos ((hw k).mpr hm), if_pos hm]
      have h1 := fun d => turned_real (PR m c) (PO m c) (GQ m c) (bat t.val) (rowPos (num t.val) a) (64 * g.val) (by omega) (fun d => F.proj _ _ _ (by show 64 * g.val + d.val < 1728; omega)) F.gq d
      have h2 := fun d => turned_real (PR m c) (PO m c) (GK m c) (bat t.val) (keyPos (num t.val) k) (1536 + 64 * (g.val / 8)) (by omega) (fun d => F.proj _ _ _ (by show 1536 + 64 * (g.val / 8) + d.val < 1728; omega)) F.gk d
      choose u hu using h1
      choose v hv' using h2
      have h3 : ∀ d, Q (ix2 ⟨128 * (g.val / 2) + a.val, by omega⟩ (half ⟨g.val % 2, Nat.mod_lt _ (by norm_num)⟩ d)) = ((u d * (8 * Real.log 2)⁻¹ : ℝ) : EReal) := fun d => by
        rw [hq g d, EReal.coe_mul, ← hu d]
        simp only [pos_row]
      have h4 : ∀ d, keyOf K0 K1 ⟨g.val / 8, by omega⟩ k d = (v d : EReal) := fun d => by
        rw [hk, ← hv' d]
        simp only [keyAt_pos t.val k hm.2.2]
      simp only [h3, h4, hu, hv', bits_8th, ← EReal.coe_mul, sum_coe]
      congr 1
      rw [Finset.sum_mul, Finset.sum_mul]
      refine Finset.sum_congr rfl fun d _ => ?_
      field_simp
    · rw [if_neg (fun h => hm ((hw k).mp h)), if_neg hm, bot_bits, EReal.bot_mul_coe_of_pos (inv_pos.mpr hl)]
  · unfold sinkOf
    rw [hsk, hr]
    rfl
  · by_cases hm : Sees (num t.val) a k
    · right
      unfold value
      rw [if_pos hm.2.2, hv, keyAt_pos t.val k hm.2.2]
      congr 2
      refine Fin.ext ?_
      show 1536 + (192 + 64 * (g.val / 8) + e.val) = 1728 + 64 * (g.val / 8) + e.val
      omega
    · left
      unfold score
      rw [if_neg hm, bot_bits]

/-- What a grid point leaves in its output block. -/
theorem point_attention (a : Fin 128) (n : Fin 1536) :
    (outsAt0 m c t.val t.isLt).1 (ix3 0 a n)
      = attention (PR m c) (PO m c) (GQ m c) (GK m c) (SK m c) (bat t.val) (num t.val) a ⟨n.val / 64, by omega⟩ ⟨n.val % 64, Nat.mod_lt _ (by norm_num)⟩ := by
  by_cases h0 : t.val % 32 = 0
  · rw [point_A m c t h0]
    exact block_attention F t _ _ (cos_before m c t) (sin_before m c t) a n
  · rw [point_B m c t h0]
    have hlt : t.val - 1 < cfg0.N := by have := t.isLt; omega
    obtain ⟨e1, e2⟩ := handed m c ⟨t.val - 1, hlt⟩
    have e1' : (outsAt0 m c (t.val - 1) hlt).2.1 = _ := e1
    have e2' : (outsAt0 m c (t.val - 1) hlt).2.2 = _ := e2
    have hb : bat (t.val - 1) = bat t.val := Fin.ext (by show (t.val - 1) / 32 % 4 = t.val / 32 % 4; omega)
    have hp : ∀ a, pos (t.val - 1) a = prev t.val a := fun a => Fin.ext (by show (t.val - 1) % 32 * 128 + a.val = (t.val % 32 - 1) * 128 + a.val; omega)
    rw [e1', e2']
    refine block_attention F t _ _ (fun a l => ?_) (fun a l => ?_) a n
    · rw [cos_here, hb, hp]
    · rw [sin_here, hb, hp]

/-- The kernel's result is the attention. -/
theorem result_attended :
    (dats m 0 c).arrAt 9 cfg0.N = attended (PR m c) (PO m c) (GQ m c) (GK m c) (SK m c) := by
  refine (dats m 0 c).arrAt_eq_of_covers 9 _ (by decide +kernel) fun t hf y => ?_
  blk_simp
  rw [after0_9]
  obtain ⟨z, a, n, rfl⟩ : ∃ (z : Fin 1) (a : Fin 128) (n : Fin 1536), y = ix3 z a n := ⟨y 0, y 1, y 2, eq_ix3 y⟩
  obtain rfl : z = 0 := Subsingleton.elim _ _
  rw [point_attention F t]
  have hN : t.val < 128 := lt_of_lt_of_eq t.isLt N_0
  have e1 : attended (PR m c) (PO m c) (GQ m c) (GK m c) (SK m c) (ix3 (bat t.val) (pos t.val a) n)
      = attention (PR m c) (PO m c) (GQ m c) (GK m c) (SK m c) (bat t.val) (num t.val) a ⟨n.val / 64, by omega⟩ ⟨n.val % 64, Nat.mod_lt _ (by norm_num)⟩ := by
    unfold attended
    congr 1
    · exact Fin.ext (by show (t.val % 32 * 128 + a.val) / 128 = t.val % 32; omega)
    · exact Fin.ext (by show (t.val % 32 * 128 + a.val) % 128 = a.val; omega)
  rw [← e1]
  generalize attended (PR m c) (PO m c) (GQ m c) (GK m c) (SK m c) = w
  blk_ext [places t]

end Cert.SwaIdeal.Hand

end
-- ==== Proof.SwaFinite.lean ====
module

public import proofs.«01_k».proof.Defs
public import proofs.«01_k».proof.Proof.Gen.Pre_swa_finite
public import Idealize.ShloMosaic.Lib.KernelVsHost
public import proofs.«01_k».proof.Proof.SwaResult

@[expose] public section

set_option maxRecDepth 16384

noncomputable section

namespace Cert.SwaIdeal.Hand

open Idealize.ShloMosaic Idealize.ShloMosaic.TcCoe Idealize.SL.Sem

/-! What the precondition says: every entry that the kernel normalises is real, and so are the gains and the sinks. -/

/-- An `and` of many is true only where each is. -/
theorem fold_andi {ι : Type} (s : Finset ι) (f : ι → BitVec 1) (h : Finset.fold IntOp.andi 1#1 f s = 1#1) : ∀ i ∈ s, f i = 1#1 := by
  classical
  have h2 : ∀ x y : BitVec 1, IntOp.andi x y = 1#1 → x = 1#1 ∧ y = 1#1 := by decide
  induction s using Finset.induction_on with
  | empty => intro i hi; exact absurd hi (Finset.notMem_empty i)
  | insert a s ha ih =>
    rw [Finset.fold_insert ha] at h
    intro i hi
    rcases Finset.mem_insert.mp hi with rfl | hi
    · exact (h2 _ _ h).1
    · exact ih (h2 _ _ h).2 i hi

/-- The same of a reduction over every axis. -/
theorem all_of_reduce {s : Shape} {axes : List (Fin s.rank)} (x : IVec s 1) (h : s.ReducesTo axes Cert.Pre_swa_finite.S_) (hu : 0 < Cert.Pre_swa_finite.S_.numel)
    (j : Cert.Pre_swa_finite.S_.Idx) (e : Host.reduce IntOp.andi x (constantI Cert.Pre_swa_finite.S_ 1 1#1) h hu j = 1#1) : ∀ i, x i = 1#1 := by
  intro i
  rw [Host.reduce_eq_fold] at e
  exact fold_andi _ _ e i (Finset.mem_filter.mpr ⟨Finset.mem_univ i, funext fun b => absurd b.isLt (Nat.not_lt_zero _)⟩)

/-- A value whose absolute value is less than infinity is real. -/
theorem real_of_lt (x : Ideal .f32) (h : FloatOps.cmpf .olt (FloatOps.hostAbsf x) (FloatOps.ofBits (F := Ideal) .f32 0x7F800000#32) = 1#1) :
    ∃ r : ℝ, (x : EReal) = r := by
  rw [← Ideal.xori_weird_eq_hostAbsf_olt_inf] at h
  have h2 : ∀ y : BitVec 1, IntOp.xori y 1#1 = 1#1 → y = 0#1 := by decide
  have h3 : BitVec.ofBool (decide ((x : EReal) = ⊤ ∨ (x : EReal) = ⊥)) = 0#1 := h2 _ h
  by_cases h4 : (x : EReal) = ⊤ ∨ (x : EReal) = ⊥
  · rw [decide_eq_true h4] at h3
    exact absurd h3 (by decide)
  · obtain ⟨h5, h6⟩ := not_or.mp h4
    exact ⟨EReal.toReal x, (EReal.coe_toReal h5 h6).symm⟩

/-- The precondition gives what the value needs. -/
theorem finite_of_pre (m : (ℓ : Loc Cert.SwaIdeal.nD Cert.SwaIdeal.τ Cert.SwaIdeal.sig) → Buf (Elt Ideal) ℓ) (hpre : Cert.Pre_SwaIdeal_swa_finite m)
    (c : Dev Cert.SwaIdeal.nD) : Finite m c := by
  have h2 : ∀ x y : BitVec 1, IntOp.andi x y = 1#1 → x = 1#1 ∧ y = 1#1 := by decide
  have h := congrFun (hpre c) (Shape.Idx.first Cert.Pre_swa_finite.Gen.h_S_)
  unfold Cert.Pre_swa_finite.fn Cert.Pre_swa_finite.fn_part1 at h
  obtain ⟨h, hs⟩ := h2 _ _ h
  obtain ⟨h, hk⟩ := h2 _ _ h
  obtain ⟨hp, hq⟩ := h2 _ _ h
  refine ⟨fun b t j hj => ?_, fun d => ?_, fun d => ?_, fun i => ?_⟩
  · have e : ∀ x : FVec Ideal Cert.Pre_swa_finite.S4x4096x2432 .bf16,
        extractStridedSlice Cert.Pre_swa_finite.S4x4096x1728 ![0, 0, 0] x Cert.Pre_swa_finite.Gen.slices_S4x4096x2432_S4x4096x1728_0_0_0
          (ix3 b t (⟨j.val, hj⟩ : Fin 1728)) = x (ix3 b t j) := by
      intro x
      pointwise
    obtain ⟨r, hr⟩ := real_of_lt _ (all_of_reduce _ _ _ _ hp (ix3 b t (⟨j.val, hj⟩ : Fin 1728)))
    exact ⟨r, (e _).symm.trans hr⟩
  · exact real_of_lt _ (all_of_reduce _ _ _ _ hq (ix1 d))
  · exact real_of_lt _ (all_of_reduce _ _ _ _ hk (ix1 d))
  · exact real_of_lt _ (all_of_reduce _ _ _ _ hs (ix1 i))

end Cert.SwaIdeal.Hand

end
-- ==== Proof.SwaRef1.lean ====
module

public import proofs.«01_k».proof.Proof.SwaSpec
public import proofs.«01_k».proof.Proof.Gen.SwaRefIdeal.Read

@[expose] public section

set_option maxRecDepth 16384

noncomputable section

namespace Cert.SwaRefIdeal.Hand

open Cert.SwaRefIdeal Cert.SwaRefIdeal.Read Cert.SwaRefIdeal.Gen Idealize.ShloMosaic Idealize.ShloMosaic.TcCoe Idealize.SL.Sem Hand.Swa

/-! The reference read at an index: the rotated heads. -/

variable (x0 : (⟨S4x4096x2432, .bf16⟩ : BufTy).Contents (Elt Ideal)) (x1 : (⟨S4x4096, .i32⟩ : BufTy).Contents (Elt Ideal))
  (x2 x3 : (⟨S64, .f32⟩ : BufTy).Contents (Elt Ideal)) (x4 : (⟨S24, .f32⟩ : BufTy).Contents (Elt Ideal))

/-- The normalised queries. -/
theorem q_norm (b : Fin 4) (t : Fin 4096) (h : Fin 24) (e : Fin 64) :
    val_main_v19 (F := Ideal) x0 x2 (ix4 b t h e) = Hand.Swa.norm (fun d => x0 (ix3 b t ⟨64 * h.val + d.val, by omega⟩)) (fun d => x2 (ix1 d)) e := by
  unfold val_main_v19 val_main_v18 val_main_v17 val_main_v16 val_main_v15 val_main_v14 val_main_v13 val_main_v12 val_main_cst_1 val_main_v11 val_main_v10 val_main_cst_0 val_main_v9 val_main_v8 val_main_cst val_main_v7 val_main_v2 val_main_v1 val_main_v0 Hand.Swa.norm
  pointwise
  have e1 : ∀ (x : Fin 64) p, (⟨h.val * 64 + x.val, p⟩ : Fin 2432) = ⟨64 * h.val + x.val, by omega⟩ := fun x p => Fin.ext (by show h.val * 64 + x.val = 64 * h.val + x.val; omega)
  simp only [e1]

/-- The normalised keys. -/
theorem k_norm (b : Fin 4) (t : Fin 4096) (h : Fin 3) (e : Fin 64) :
    val_main_v61 (F := Ideal) x0 x3 (ix4 b t h e) = Hand.Swa.norm (fun d => x0 (ix3 b t ⟨1536 + 64 * h.val + d.val, by omega⟩)) (fun d => x3 (ix1 d)) e := by
  unfold val_main_v61 val_main_v60 val_main_v59 val_main_v58 val_main_v57 val_main_v56 val_main_v55 val_main_v54 val_main_cst_6 val_main_v53 val_main_v52 val_main_cst_5 val_main_v51 val_main_v50 val_main_cst_4 val_main_v49 val_main_v4 val_main_v3 val_main_v0 Hand.Swa.norm
  pointwise
  have e1 : ∀ (x : Fin 64) p, (⟨1536 + (h.val * 64 + x.val), p⟩ : Fin 2432) = ⟨1536 + 64 * h.val + x.val, by omega⟩ := fun x p => Fin.ext (by show 1536 + (h.val * 64 + x.val) = 1536 + 64 * h.val + x.val; omega)
  simp only [e1]

/-- The reference's angles for the queries. -/
theorem q_angle (b : Fin 4) (t : Fin 4096) (i : Fin 32) : val_main_v31 (F := Ideal) x1 (ix3 b t i) = angle x1 b t i := by
  unfold val_main_v31 val_main_v30 val_main_v29 val_main_v28 val_main_v27 val_main_v26 val_main_v25 val_main_v24 val_main_cst_3 val_main_v23 val_main_v22 val_main_cst_2 val_main_v21 val_main_v20 angle freq
  pointwise
  rfl

/-- The reference's angles for the keys. -/
theorem k_angle (b : Fin 4) (t : Fin 4096) (i : Fin 32) : val_main_v73 (F := Ideal) x1 (ix3 b t i) = angle x1 b t i := by
  unfold val_main_v73 val_main_v72 val_main_v71 val_main_v70 val_main_v69 val_main_v68 val_main_v67 val_main_v66 val_main_cst_8 val_main_v65 val_main_v64 val_main_cst_7 val_main_v63 val_main_v62 angle freq
  pointwise
  rfl

/-- The turned queries. -/
theorem q_turned (b : Fin 4) (t : Fin 4096) (h : Fin 24) (e : Fin 64) :
    val_main_v48 (F := Ideal) x0 x1 x2 (ix4 b t h e) = turned x0 x1 x2 b t (64 * h.val) (by omega) e := by
  have h1 := q_norm x0 x2 b t h
  have h2 := q_angle x1 b t
  unfold val_main_v48 val_main_v47 val_main_v46 val_main_v45 val_main_v44 val_main_v43 val_main_v42 val_main_v41 val_main_v40 val_main_v39 val_main_v38 val_main_v37 val_main_v36 val_main_v35 val_main_v34 val_main_v33 val_main_v32 turned rot
  generalize val_main_v19 (F := Ideal) x0 x2 = z at *
  generalize val_main_v31 (F := Ideal) x1 = y at *
  pointwise
  simp only [h1, h2]
  have e1 : ∀ p, (⟨32 + e.val, p⟩ : Fin 64) = ⟨e.val + 32, by omega⟩ := fun p => Fin.ext (Nat.add_comm _ _)
  have e2 : ∀ hh : ¬ e.val < 32, ∀ p, (⟨32 + (e.val - 32), p⟩ : Fin 64) = e := fun hh p => Fin.ext (by show 32 + (e.val - 32) = e.val; omega)
  split
  · rw [e1]
  · next hh => rw [e2 hh]

/-- The turned keys. -/
theorem k_turned (b : Fin 4) (t : Fin 4096) (h : Fin 3) (e : Fin 64) :
    val_main_v90 (F := Ideal) x0 x1 x3 (ix4 b t h e) = turned x0 x1 x3 b t (1536 + 64 * h.val) (by omega) e := by
  have h1 := k_norm x0 x3 b t h
  have h2 := k_angle x1 b t
  unfold val_main_v90 val_main_v89 val_main_v88 val_main_v87 val_main_v86 val_main_v85 val_main_v84 val_main_v83 val_main_v82 val_main_v81 val_main_v80 val_main_v79 val_main_v78 val_main_v77 val_main_v76 val_main_v75 val_main_v74 turned rot
  generalize val_main_v61 (F := Ideal) x0 x3 = z at *
  generalize val_main_v73 (F := Ideal) x1 = y at *
  pointwise
  simp only [h1, h2]
  have e1 : ∀ p, (⟨32 + e.val, p⟩ : Fin 64) = ⟨e.val + 32, by omega⟩ := fun p => Fin.ext (Nat.add_comm _ _)
  have e2 : ∀ hh : ¬ e.val < 32, ∀ p, (⟨32 + (e.val - 32), p⟩ : Fin 64) = e := fun hh p => Fin.ext (by show 32 + (e.val - 32) = e.val; omega)
  split
  · rw [e1]
  · next hh => rw [e2 hh]

end Cert.SwaRefIdeal.Hand

end
-- ==== Proof.SwaRef2.lean ====
module

public import proofs.«01_k».proof.Proof.SwaRef1

@[expose] public section

set_option maxRecDepth 16384

noncomputable section

namespace Cert.SwaRefIdeal.Hand

open Cert.SwaRefIdeal Cert.SwaRefIdeal.Read Cert.SwaRefIdeal.Gen Idealize.ShloMosaic Idealize.ShloMosaic.TcCoe Idealize.SL.Sem Hand.Swa

/-! The reference read at an index: the scores, the softmax and the weighted values. -/

variable (x0 : (⟨S4x4096x2432, .bf16⟩ : BufTy).Contents (Elt Ideal)) (x1 : (⟨S4x4096, .i32⟩ : BufTy).Contents (Elt Ideal))
  (x2 x3 : (⟨S64, .f32⟩ : BufTy).Contents (Elt Ideal)) (x4 : (⟨S24, .f32⟩ : BufTy).Contents (Elt Ideal))

/-- Head `g` of the group of key head `h`. -/
abbrev headOf (h : Fin 3) (g : Fin 8) : Fin 24 := ⟨8 * h.val + g.val, by omega⟩

/-- Zero, from the integer. -/
theorem zero_int : (FloatOps.sitofp FTy.f32 (0#32 : BitVec 32) : Ideal .f32) = (0 : EReal) := by
  show ((((0#32 : BitVec 32).toInt : ℤ) : ℝ) : EReal) = 0
  rw [show (0#32 : BitVec 32).toInt = 0 from rfl]; norm_num

/-- The window's integer comparisons. -/
theorem seen (n : Fin 32) (a : Fin 128) (k : Fin 256) :
    IntOp.andi
        (IntOp.andi
          (IntOp.cmpi CmpIPredicate.sge (IntOp.subi (IntOp.addi (BitVec.ofNat 32 a.val) 128#32) (BitVec.ofNat 32 k.val)) 0#32)
          (IntOp.cmpi CmpIPredicate.slt (IntOp.subi (IntOp.addi (BitVec.ofNat 32 a.val) 128#32) (BitVec.ofNat 32 k.val)) 128#32))
        (IntOp.cmpi CmpIPredicate.sge (IntOp.addi (IntOp.subi (IntOp.muli (BitVec.ofNat 32 n.val) 128#32) 128#32) (BitVec.ofNat 32 k.val)) 0#32)
      = 1#1 ↔ Sees n a k := by
  have h1 : ∀ (a : Fin 128) (k : Fin 256), IntOp.andi
      (IntOp.cmpi CmpIPredicate.sge (IntOp.subi (IntOp.addi (BitVec.ofNat 32 a.val) 128#32) (BitVec.ofNat 32 k.val)) 0#32)
      (IntOp.cmpi CmpIPredicate.slt (IntOp.subi (IntOp.addi (BitVec.ofNat 32 a.val) 128#32) (BitVec.ofNat 32 k.val)) 128#32)
      = if k.val ≤ a.val + 128 ∧ a.val < k.val then 1#1 else 0#1 := by decide +kernel
  have h2 : ∀ (n : Fin 32) (k : Fin 256),
      IntOp.cmpi CmpIPredicate.sge (IntOp.addi (IntOp.subi (IntOp.muli (BitVec.ofNat 32 n.val) 128#32) 128#32) (BitVec.ofNat 32 k.val)) 0#32
      = if 128 ≤ k.val ∨ 0 < n.val then 1#1 else 0#1 := by decide +kernel
  rw [h1, h2]
  by_cases c1 : k.val ≤ a.val + 128 ∧ a.val < k.val
  · by_cases c2 : 128 ≤ k.val ∨ 0 < n.val
    · rw [if_pos c1, if_pos c2]
      exact ⟨fun _ => ⟨c1.1, c1.2, c2⟩, fun _ => by decide⟩
    · rw [if_pos c1, if_neg c2]
      exact ⟨fun h => absurd h (by decide), fun h => absurd h.2.2 c2⟩
  · by_cases c2 : 128 ≤ k.val ∨ 0 < n.val
    · rw [if_neg c1, if_pos c2]
      exact ⟨fun h => absurd h (by decide), fun h => absurd ⟨h.1, h.2.1⟩ c1⟩
    · rw [if_neg c1, if_neg c2]
      exact ⟨fun h => absurd h (by decide), fun h => absurd h.2.2 c2⟩

/-- Rows of a block and of the block before it, zero before the first. -/
theorem two_blocks (f : Fin 4096 → EReal) (z : Fin 32 → Fin 128 → EReal) (hz : ∀ n a, z n a = f (rowPos n a)) (n : Fin 32) (k : Fin 256) :
    (if h : k.val < 128 then
        if h' : (1 ≤ n.val ∧ n.val - 1 < 32) ∧ k.val < 128 then z ⟨n.val - 1, h'.1.2⟩ ⟨k.val, h⟩
        else (FloatOps.sitofp FTy.f32 (0#32 : BitVec 32) : Ideal .f32)
      else z n ⟨k.val - 128, by omega⟩)
      = if 128 ≤ k.val ∨ 0 < n.val then f (keyPos n k) else 0 := by
  by_cases h : k.val < 128
  · rw [dif_pos h]
    by_cases h' : 1 ≤ n.val
    · rw [dif_pos ⟨⟨h', by omega⟩, h⟩, if_pos (Or.inr (show 0 < n.val by omega)), hz]
      exact congrArg f (Fin.ext (by show 128 * (n.val - 1) + k.val = 128 * n.val + k.val - 128; omega))
    · rw [dif_neg (fun c => h' c.1.1), if_neg (by omega)]
      exact zero_int
  · rw [dif_neg h, if_pos (Or.inl (by omega)), hz]
    exact congrArg f (Fin.ext (by show 128 * n.val + (k.val - 128) = 128 * n.val + k.val - 128; omega))

/-- Queries by block, row, key head and head of the group. -/
theorem queries_read (b : Fin 4) (n : Fin 32) (a : Fin 128) (h : Fin 3) (g : Fin 8) (d : Fin 64) :
    val_main_v91 (F := Ideal) x0 x1 x2 (ix6 b n a h g d) = turned x0 x1 x2 b (rowPos n a) (64 * (headOf h g).val) (by omega) d := by
  have h1 := q_turned x0 x1 x2 b
  unfold val_main_v91
  generalize val_main_v48 (F := Ideal) x0 x1 x2 = z at *
  pointwise
  rw [h1]
  congr 1
  · exact Fin.ext (by show n.val * 128 + a.val = 128 * n.val + a.val; omega)
  · show 64 * (h.val * 8 + g.val) = 64 * (8 * h.val + g.val); omega

/-- Keys by block. -/
theorem keys_block (b : Fin 4) (n : Fin 32) (a : Fin 128) (h : Fin 3) (d : Fin 64) :
    val_main_v92 (F := Ideal) x0 x1 x3 (ix5 b n a h d) = turned x0 x1 x3 b (rowPos n a) (1536 + 64 * h.val) (by omega) d := by
  have h1 := k_turned x0 x1 x3 b
  unfold val_main_v92
  generalize val_main_v90 (F := Ideal) x0 x1 x3 = z at *
  pointwise
  rw [h1]
  congr 1
  exact Fin.ext (by show n.val * 128 + a.val = 128 * n.val + a.val; omega)

/-- Values by block. -/
theorem values_block (b : Fin 4) (n : Fin 32) (a : Fin 128) (h : Fin 3) (d : Fin 64) :
    val_main_v96 (F := Ideal) x0 (ix5 b n a h d) = x0 (ix3 b (rowPos n a) ⟨1728 + 64 * h.val + d.val, by omega⟩) := by
  unfold val_main_v96 val_main_v6 val_main_v5 val_main_v0
  pointwise
  congr 1
  congr 1
  · exact Fin.ext (by show n.val * 128 + a.val = 128 * n.val + a.val; omega)
  · exact Fin.ext (by show 1728 + (h.val * 64 + d.val) = 1728 + 64 * h.val + d.val; omega)

/-- Keys of a block and of the block before it. -/
theorem keys_read (b : Fin 4) (n : Fin 32) (k : Fin 256) (h : Fin 3) (d : Fin 64) :
    val_main_v95 (F := Ideal) x0 x1 x3 (ix5 b n k h d)
      = if 128 ≤ k.val ∨ 0 < n.val then turned x0 x1 x3 b (keyPos n k) (1536 + 64 * h.val) (by omega) d else 0 := by
  have h1 := fun n a => keys_block x0 x1 x3 b n a h d
  unfold val_main_v95 val_main_v94 val_main_v93 val_main_call0_v0 val_main_c
  generalize val_main_v92 (F := Ideal) x0 x1 x3 = z at *
  pointwise
  exact two_blocks (fun t => turned x0 x1 x3 b t (1536 + 64 * h.val) (by omega) d) (fun n a => z (ix5 b n a h d)) h1 n k

/-- The window, at an index. -/
theorem mask_read (b : Fin 4) (n : Fin 32) (h : Fin 3) (g : Fin 8) (a : Fin 128) (k : Fin 256) :
    val_main_call2_v1 (F := Ideal) (ix6 b n h g a k) = 1#1 ↔ Sees n a k := by
  unfold val_main_call2_v1 val_main_v134 val_main_v133 val_main_v132 val_main_v131 val_main_v130 val_main_v129 val_main_v128 val_main_c_16 val_main_v127 val_main_v126 val_main_v125 val_main_c_15 val_main_v124 val_main_v123 val_main_c_14 val_main_v122 val_main_v121 val_main_v120 val_main_v119 val_main_v118 val_main_v117 val_main_c_13 val_main_v116 val_main_v115 val_main_c_12 val_main_v114 val_main_v113 val_main_v112 val_main_v111 val_main_v110 val_main_v109 val_main_v108 val_main_c_11 val_main_v107 val_main_v106 val_main_v105 val_main_v104
  pointwise
  exact seen n a k

/-- The scores before the window. -/
theorem products_read (b : Fin 4) (n : Fin 32) (h : Fin 3) (g : Fin 8) (a : Fin 128) (k : Fin 256) :
    val_main_v103 (F := Ideal) x0 x1 x2 x3 (ix6 b n h g a k)
      = (∑ d, val_main_v95 (F := Ideal) x0 x1 x3 (ix5 b n k h d) * val_main_v91 (F := Ideal) x0 x1 x2 (ix6 b n a h g d)) * Ideal.ofBits FTy.f32 0x3E000000#32 := by
  unfold val_main_v103 val_main_v102 val_main_cst_10 val_main_v101 val_main_v100
  generalize val_main_v95 (F := Ideal) x0 x1 x3 = z
  generalize val_main_v91 (F := Ideal) x0 x1 x2 = y
  pointwise

/-- Values of a block and of the block before it. -/
theorem values_read (b : Fin 4) (n : Fin 32) (k : Fin 256) (h : Fin 3) (g : Fin 8) (e : Fin 64) :
    val_main_v99 (F := Ideal) x0 (ix5 b n k h e) = value x0 b n (headOf h g) e k := by
  have h1 := fun n a => values_block x0 b n a h e
  unfold val_main_v99 val_main_v98 val_main_v97 val_main_call1_v0 val_main_c_9
  generalize val_main_v96 (F := Ideal) x0 = z at *
  pointwise
  refine (two_blocks (fun t => x0 (ix3 b t ⟨1728 + 64 * h.val + e.val, by omega⟩)) (fun n a => z (ix5 b n a h e)) h1 n k).trans ?_
  unfold value
  have e1 : (⟨1728 + 64 * h.val + e.val, by omega⟩ : Fin 2432) = ⟨1728 + 64 * ((headOf h g).val / 8) + e.val, by omega⟩ :=
    Fin.ext (by show 1728 + 64 * h.val + e.val = 1728 + 64 * ((8 * h.val + g.val) / 8) + e.val; omega)
  rw [e1]

/-- The reference's scores. -/
theorem scores_read (b : Fin 4) (n : Fin 32) (h : Fin 3) (g : Fin 8) (a : Fin 128) (k : Fin 256) :
    val_main_v135 (F := Ideal) x0 x1 x2 x3 (ix6 b n h g a k) = score x0 x1 x2 x3 b n a (headOf h g) k := by
  have h1 := mask_read b n h g a k
  have h2 := products_read x0 x1 x2 x3 b n h g a k
  have h3 := keys_read x0 x1 x3 b n k h
  have h4 := queries_read x0 x1 x2 b n a h g
  unfold val_main_v135 val_main_call2_v2 val_main_call2_v0 val_main_cst_17
  generalize val_main_call2_v1 (F := Ideal) = w at *
  generalize val_main_v103 (F := Ideal) x0 x1 x2 x3 = y at *
  pointwise
  have e : score x0 x1 x2 x3 b n a (headOf h g) k = if Sees n a k then
      (∑ d, turned x0 x1 x2 b (rowPos n a) (64 * (headOf h g).val) (by omega) d * turned x0 x1 x3 b (keyPos n k) (1536 + 64 * h.val) (by omega) d)
        * Ideal.ofBits .f32 0x3E000000#32 else Ideal.ofBits .f32 0xFF800000#32 := by
    unfold score
    have e1 : (headOf h g).val / 8 = h.val := by show (8 * h.val + g.val) / 8 = h.val; omega
    simp only [e1]
  rw [e]
  by_cases c : Sees n a k
  · rw [if_pos c, h1.mpr c, h2]
    show (∑ d, _) * _ = (∑ d, _) * _
    congr 1
    refine Finset.sum_congr rfl fun d _ => ?_
    rw [h3, h4, if_pos c.2.2, mul_comm]
  · rw [if_neg c]
    exact if_neg (fun hw => c (h1.mp hw))

end Cert.SwaRefIdeal.Hand
-- ==== Proof.SwaRef3.lean ====
module

public import proofs.«01_k».proof.Proof.SwaRef2

@[expose] public section

set_option maxRecDepth 16384

noncomputable section

namespace Cert.SwaRefIdeal.Hand

open Cert.SwaRefIdeal Cert.SwaRefIdeal.Read Cert.SwaRefIdeal.Gen Idealize.ShloMosaic Idealize.ShloMosaic.TcCoe Idealize.SL.Sem Hand.Swa

/-! The reference read at an index: the scores, the softmax and the weighted values. -/

variable (x0 : (⟨S4x4096x2432, .bf16⟩ : BufTy).Contents (Elt Ideal)) (x1 : (⟨S4x4096, .i32⟩ : BufTy).Contents (Elt Ideal))
  (x2 x3 : (⟨S64, .f32⟩ : BufTy).Contents (Elt Ideal)) (x4 : (⟨S24, .f32⟩ : BufTy).Contents (Elt Ideal))

/-- Reducing the last axis: the indices over one reduced index. -/
theorem fiber_last (j : S4x32x3x8x128.Idx) (i : S4x32x3x8x128x256.Idx) :
    reducesTo_S4x32x3x8x128x256_S4x32x3x8x128_d5.drop i = j ↔ ∃ k : Fin 256, ix6 (j 0) (j 1) (j 2) (j 3) (j 4) k = i := by
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext b
    apply Fin.ext
    match b with
    | ⟨0, _⟩ => rfl
    | ⟨1, _⟩ => rfl
    | ⟨2, _⟩ => rfl
    | ⟨3, _⟩ => rfl
    | ⟨4, _⟩ => rfl

/-- Reducing the last axis with a commutative, associative operation, at an index, is a fold along it. -/
theorem reduce_last (op : EReal → EReal → EReal) [Std.Commutative op] [Std.Associative op] (z : S4x32x3x8x128x256.Idx → EReal)
    (w : S_.Idx → EReal) (b : Fin 4) (n : Fin 32) (h : Fin 3) (g : Fin 8) (a : Fin 128) :
    Host.reduce op z w reducesTo_S4x32x3x8x128x256_S4x32x3x8x128_d5 h_S_ (ix5 b n h g a)
      = Finset.fold op (w (Shape.Idx.first h_S_)) (fun s => z (ix6 b n h g a s)) Finset.univ := by
  pointwise
  exact Finset.fold_filter_eq_fold_of_fiber op _ (fun k : Fin 256 => ix6 b n h g a k) (fun _ _ e => congrFun e 5)
    (fiber_last (ix5 b n h g a)) _ z

/-- Summing the last axis, at an index, is a sum along it. -/
theorem sum_last (z : S4x32x3x8x128x256.Idx → EReal) (w : EReal) (b : Fin 4) (n : Fin 32) (h : Fin 3) (g : Fin 8) (a : Fin 128) :
    Ideal.hostReduceAdd reducesTo_S4x32x3x8x128x256_S4x32x3x8x128_d5 z w (ix5 b n h g a) = w + ∑ s, z (ix6 b n h g a s) :=
  congrArg (w + ·) (Finset.sum_filter_eq_sum_of_fiber _ (fun k : Fin 256 => ix6 b n h g a k) (fun _ _ e => congrFun e 5)
    (fiber_last (ix5 b n h g a)) z)

/-- The greatest along the last axis. -/
theorem reduce_max (z : FVec Ideal S4x32x3x8x128x256 .f32) (b : Fin 4) (n : Fin 32) (h : Fin 3) (g : Fin 8) (a : Fin 128) :
    Host.reduce FloatOps.maximumf z (val_main_cst_18 (F := Ideal)) reducesTo_S4x32x3x8x128x256_S4x32x3x8x128_d5 h_S_ (ix5 b n h g a)
      = Finset.fold max (Ideal.ofBits FTy.f32 0xFF800000#32) (fun s => z (ix6 b n h g a s)) Finset.univ :=
  reduce_last max z _ b n h g a

/-- The greatest score. -/
theorem max_read (b : Fin 4) (n : Fin 32) (h : Fin 3) (g : Fin 8) (a : Fin 128) :
    val_main_v137 (F := Ideal) x0 x1 x2 x3 (ix5 b n h g a)
      = Finset.fold max (Ideal.ofBits FTy.f32 0xFF800000#32) (score x0 x1 x2 x3 b n a (headOf h g)) Finset.univ := by
  have h1 : (fun s => val_main_v135 (F := Ideal) x0 x1 x2 x3 (ix6 b n h g a s)) = score x0 x1 x2 x3 b n a (headOf h g) :=
    funext fun k => scores_read x0 x1 x2 x3 b n h g a k
  unfold val_main_v137
  generalize val_main_v135 (F := Ideal) x0 x1 x2 x3 = z at *
  rw [← h1]
  exact reduce_max _ b n h g a

/-- The greater of two arrays, at an index. -/
theorem greater_read (x y : FVec Ideal S4x32x3x8x128x1 .f32) (i : S4x32x3x8x128x1.Idx) : maximumf x y i = max (x i) (y i) := rfl

/-- The greatest score, one unit axis more. -/
theorem max_unit (b : Fin 4) (n : Fin 32) (h : Fin 3) (g : Fin 8) (a : Fin 128) :
    val_main_v138 (F := Ideal) x0 x1 x2 x3 (ix6 b n h g a 0) = val_main_v137 (F := Ideal) x0 x1 x2 x3 (ix5 b n h g a) := by
  unfold val_main_v138
  generalize val_main_v137 (F := Ideal) x0 x1 x2 x3 = z
  pointwise

/-- The sinks, spread over the rows. -/
theorem sink_read (b : Fin 4) (n : Fin 32) (h : Fin 3) (g : Fin 8) (a : Fin 128) :
    val_main_v139 (F := Ideal) x4 (ix6 b n h g a 0) = x4 (ix1 (headOf h g)) := by
  unfold val_main_v139 val_main_v136
  pointwise
  have e1 : (⟨h.val * 8 + g.val, by omega⟩ : Fin 24) = headOf h g := Fin.ext (by show h.val * 8 + g.val = 8 * h.val + g.val; omega)
  rw [e1]

/-- The reference's greatest score, the sink among them. -/
theorem top_read (b : Fin 4) (n : Fin 32) (h : Fin 3) (g : Fin 8) (a : Fin 128) :
    val_main_v140 (F := Ideal) x0 x1 x2 x3 x4 (ix6 b n h g a 0) = top (score x0 x1 x2 x3 b n a (headOf h g)) (x4 (ix1 (headOf h g))) := by
  have h2 := max_read x0 x1 x2 x3 b n h g a
  have h3 := max_unit x0 x1 x2 x3 b n h g a
  have h4 := sink_read x4 b n h g a
  unfold val_main_v140
  rw [greater_read, h3, h4, h2]
  rfl

/-- The reference's softmax weights. -/
theorem weights_read (b : Fin 4) (n : Fin 32) (h : Fin 3) (g : Fin 8) (a : Fin 128) (k : Fin 256) :
    val_main_v151 (F := Ideal) x0 x1 x2 x3 x4 (ix6 b n h g a k)
      = Ideal.div (Ideal.exp (score x0 x1 x2 x3 b n a (headOf h g) k - top (score x0 x1 x2 x3 b n a (headOf h g)) (x4 (ix1 (headOf h g)))))
        ((∑ j, Ideal.exp (score x0 x1 x2 x3 b n a (headOf h g) j - top (score x0 x1 x2 x3 b n a (headOf h g)) (x4 (ix1 (headOf h g)))))
          + Ideal.exp (x4 (ix1 (headOf h g)) - top (score x0 x1 x2 x3 b n a (headOf h g)) (x4 (ix1 (headOf h g))))) := by
  have h1 := scores_read x0 x1 x2 x3 b n h g a
  have h2 := top_read x0 x1 x2 x3 x4 b n h g a
  unfold val_main_v151 val_main_v150 val_main_v149 val_main_v148 val_main_v147 val_main_v146 val_main_v145 val_main_v144 val_main_cst_19 val_main_v143 val_main_v142 val_main_v141 val_main_v136
  generalize val_main_v135 (F := Ideal) x0 x1 x2 x3 = z at *
  generalize val_main_v140 (F := Ideal) x0 x1 x2 x3 x4 = y at *
  pointwise
  rw [sum_last]
  have e1 : (⟨h.val * 8 + g.val, by omega⟩ : Fin 24) = headOf h g := Fin.ext (by show h.val * 8 + g.val = 8 * h.val + g.val; omega)
  pointwise
  simp only [h1, h2, e1, zero_add]

/-- The reference's result. -/
theorem reference_attended : val_main_v155 (F := Ideal) x0 x1 x2 x3 x4 = attended x0 x1 x2 x3 x4 := by
  funext i
  obtain ⟨b, t, l, rfl⟩ : ∃ (b : Fin 4) (t : Fin 4096) (l : Fin 1536), i = ix3 b t l := ⟨i 0, i 1, i 2, eq_ix3 i⟩
  have h1 := weights_read x0 x1 x2 x3 x4
  have h2 := values_read x0
  unfold val_main_v155 val_main_v154 val_main_v153 val_main_v152 attended
  generalize val_main_v151 (F := Ideal) x0 x1 x2 x3 x4 = z at *
  generalize val_main_v99 (F := Ideal) x0 = y at *
  pointwise
  unfold attention attend
  have e1 : headOf ⟨l.val / 512, by omega⟩ ⟨l.val / 64 % 8, by omega⟩ = ⟨l.val / 64, by omega⟩ :=
    Fin.ext (by show 8 * (l.val / 512) + l.val / 64 % 8 = l.val / 64; omega)
  refine Finset.sum_congr rfl fun k _ => ?_
  rw [h1, h2 b _ k _ ⟨l.val / 64 % 8, by omega⟩ _, mul_comm]
  rw [e1]

end Cert.SwaRefIdeal.Hand

end
-- ==== Proof.SwaClaims.lean ====
module

public import proofs.«01_k».proof.Defs
public import proofs.«01_k».proof.Proof.Gen.Swa.Frame
public import proofs.«01_k».proof.Proof.Gen.SwaIdeal.Frame
public import proofs.«01_k».proof.Proof.Gen.SwaIdeal.Value
public import proofs.«01_k».proof.Proof.Gen.SwaRefIdeal.Run
public import proofs.«01_k».proof.Proof.SwaFinite
public import proofs.«01_k».proof.Proof.SwaRef3

@[expose] public section

set_option maxRecDepth 16384

noncomputable section

namespace Cert.Proof.SwaClaims

open Idealize.ShloMosaic Idealize.ShloMosaic.TcCoe Idealize.SL.Sem

/-- The kernel at the machine's floats runs, leaves its arguments as they were, and ends with every counter at zero. -/
theorem frame_kernel : Cert.quiescent_Swa := fun m ρ _ => Cert.Swa.Gen.frame m ρ

/-- The kernel over extended reals does the same. -/
theorem frame_ideal : Cert.quiescent_SwaIdeal := fun m ρ _ => Cert.SwaIdeal.Gen.frame m ρ

/-- So does the reference over extended reals. -/
theorem frame_reference : Cert.quiescent_SwaRefIdeal := fun m ρ _ =>
  (θ_run Cert.SwaRefIdeal.defs _ _).mono (fun r h => ⟨fun c => (h c).2,
      Idealize.ShloMosaic.sem_eq_zero_of_no_sems (by decide) r.2⟩)
    (Cert.SwaRefIdeal.Value.run (F := Ideal) m ρ)

/-- The same of the kernel over extended reals from finite arguments. -/
theorem frame_ideal_finite : Cert.quiescent_SwaIdeal_pre_swa_finite := fun m ρ _ => Cert.SwaIdeal.Gen.frame m ρ

/-- And of the reference from finite arguments. -/
theorem frame_reference_finite : Cert.quiescent_SwaRefIdeal_pre_swa_finite := fun m ρ _ => frame_reference m ρ trivial

/-- The two constants that were named are the words the kernel has: the rationals of its text are within rounding of the values named. -/
theorem preserves : Cert.preserves_Swa_SwaIdeal :=
  ⟨IdealRules.named_const.statement Cert.SwaIdeal.κ "log2e_8" .f32 0x3E38AA3B#32 (((8 * (Real.log 2))⁻¹ : ℝ) : EReal) rfl,
    IdealRules.named_const.statement Cert.SwaIdeal.κ "log2e" .f32 0x3FB8AA3B#32 (((Real.log 2)⁻¹ : ℝ) : EReal) rfl⟩

/-- Over extended reals the kernel's result is the reference's, from arguments that agree, where what is normalised, the gains and the
sinks are finite. -/
theorem algebraic : Cert.algebraic_SwaIdeal_SwaRefIdeal_pre_swa_finite := by
  intro m ρ m' ρ' hpre hag
  refine ⟨fun c => (Cert.SwaIdeal.Gen.dats m 0 c).arrAt 9 Cert.SwaIdeal.cfg0.N, Cert.SwaIdeal.Value.run_blocks (F := Ideal) m ρ, ?_⟩
  refine (θ_run Cert.SwaRefIdeal.defs _ _).mono (fun _ h c => ?_) (Cert.SwaRefIdeal.Value.run (F := Ideal) m' ρ')
  obtain ⟨h0, h1, h2, h3, h4⟩ := hag c
  exact ⟨((h c).1.trans (Cert.SwaRefIdeal.Read.val_main_v155_eq _)).trans
    ((congr (congr (congr (congr (congrArg (Cert.SwaRefIdeal.Read.val_main_v155 (F := Ideal)) h0) h1) h2) h3) h4).trans
      ((Cert.SwaRefIdeal.Hand.reference_attended _ _ _ _ _).trans
        (Cert.SwaIdeal.Hand.result_attended (Cert.SwaIdeal.Hand.finite_of_pre m hpre c)).symm)), (h c).2⟩

end Cert.Proof.SwaClaims

end
-- ==== Proof.FfnStep.lean ====
module

public import proofs.«01_k».proof.Proof.Gen.FfnIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.FfnIdeal.Hand

open Cert.FfnIdeal Cert.FfnIdeal.Gen Idealize.ShloMosaic Idealize.ShloMosaic.TcCoe Idealize.SL.Sem

variable {F : FTy → Type} [FloatOps F]
variable (m : (ℓ : Loc nD τ sig) → Buf (Elt F) ℓ)

/-- The first point of a row of points leaves the residual plus the first block's product, and the normalised rows. -/
theorem first_point (c : Dev nD) (t : Fin cfg0.N) (h0 : t.val % 11 = 0) :
    outsAt0 m c t.val t.isLt
      = (k0_pay1 (iblk m c 0 t) (k0_pay4 (k0_pay3 (iblk m c 0 t) (iblk m c 1 t)) (iblk m c 2 t) (iblk m c 3 t) (iblk m c 4 t)),
         k0_pay3 (iblk m c 0 t) (iblk m c 1 t)) := by
  rw [outsAt0_A m c t h0 (by omega)]
  refine Prod.ext ?_ ?_
  · frame_out
  · frame_out

/-- A later point adds its block's product to what the point before left, and keeps the normalised rows. -/
theorem later_point (c : Dev nD) (t : Fin cfg0.N) (h0 : ¬ t.val % 11 = 0) :
    outsAt0 m c t.val t.isLt
      = (k0_pay2 (outsAt0 m c (t.val - 1) (Nat.lt_of_le_of_lt (Nat.sub_le _ _) t.isLt)).2 (iblk m c 2 t) (iblk m c 3 t)
          (outsAt0 m c (t.val - 1) (Nat.lt_of_le_of_lt (Nat.sub_le _ _) t.isLt)).1 (iblk m c 4 t),
         (outsAt0 m c (t.val - 1) (Nat.lt_of_le_of_lt (Nat.sub_le _ _) t.isLt)).2) := by
  rw [outsAt0_B m c t h0 (by omega)]
  refine Prod.ext ?_ ?_
  · frame_out
    simp only [read_unread_whole]
  · rfl

end Cert.FfnIdeal.Hand

end
-- ==== Proof.FfnRead.lean ====
module

public import proofs.«01_k».proof.Proof.FfnStep

@[expose] public section

set_option maxRecDepth 16384

noncomputable section

namespace Cert.FfnIdeal.Hand

open Cert.FfnIdeal Cert.FfnIdeal.Gen Idealize.ShloMosaic Idealize.ShloMosaic.TcCoe Idealize.SL.Sem

variable (m : (ℓ : Loc nD τ sig) → Buf (Elt Ideal) ℓ)

/-- The block indices of the five operands at a grid point. -/
theorem places : ∀ t : Fin cfg0.N,
    win0_0.index t = ![t.val / 11, 0] ∧ win0_1.index t = ![0, 0] ∧ win0_2.index t = ![0, t.val % 11]
      ∧ win0_3.index t = ![0, t.val % 11] ∧ win0_4.index t = ![t.val % 11, 0] :=
  (by decide +kernel : ∀ t : Fin grid0.N, _)

/-- Row block `t / 11` of the residual stream. -/
theorem x_block (c : Dev nD) (t : Fin cfg0.N) (a : Fin 1024) (k : Fin 2048) :
    iblk m c 0 t (ix2 a k) = m ((c : Thread nD τ).loc main_arg0) (ix2 ⟨(1024 * (t.val / 11) + a.val) % 16384, Nat.mod_lt _ (by norm_num)⟩ k) := by
  have hN : t.val < 176 := lt_of_lt_of_eq t.isLt N_0
  blk_ext [iblk, V, places t]

/-- The gain row. -/
theorem g_block (c : Dev nD) (t : Fin cfg0.N) (k : Fin 2048) :
    iblk m c 1 t (ix2 0 k) = m ((c : Thread nD τ).loc main_arg1) (ix1 k) := by
  blk_point [iblk, V, places t]

/-- Column block `t % 11` of the gate's weights. -/
theorem gate_block (c : Dev nD) (t : Fin cfg0.N) (k : Fin 2048) (l : Fin 512) :
    iblk m c 2 t (ix2 k l) = m ((c : Thread nD τ).loc main_arg2) (ix2 k ⟨((t.val % 11) * 512 + l.val) % 5632, Nat.mod_lt _ (by norm_num)⟩) := by
  blk_ext [iblk, V, places t]

/-- Column block `t % 11` of the other weights. -/
theorem up_block (c : Dev nD) (t : Fin cfg0.N) (k : Fin 2048) (l : Fin 512) :
    iblk m c 3 t (ix2 k l) = m ((c : Thread nD τ).loc main_arg3) (ix2 k ⟨((t.val % 11) * 512 + l.val) % 5632, Nat.mod_lt _ (by norm_num)⟩) := by
  blk_ext [iblk, V, places t]

/-- Row block `t % 11` of the output weights. -/
theorem down_block (c : Dev nD) (t : Fin cfg0.N) (l : Fin 512) (d : Fin 2048) :
    iblk m c 4 t (ix2 l d) = m ((c : Thread nD τ).loc main_arg4) (ix2 ⟨((t.val % 11) * 512 + l.val) % 5632, Nat.mod_lt _ (by norm_num)⟩ d) := by
  blk_ext [iblk, V, places t]

end Cert.FfnIdeal.Hand

end
-- ==== Proof.FfnMath.lean ====
module

public import Idealize.ShloMosaic.Lib.Pointwise
public import Idealize.ShloMosaic.Lib.Pipeline.ValueKit

@[expose] public section

set_option maxRecDepth 16384

noncomputable section

/-! The gated feed-forward layer over extended reals, and its sum over the hidden units cut into eleven blocks. -/

namespace Hand.Ffn

open Idealize.ShloMosaic

/-- Matrices and vectors of extended reals, by shape. -/
abbrev Mat (a b : ℕ) : Type := (⟨2, ![a, b]⟩ : Shape).Idx → EReal
abbrev Row (a : ℕ) : Type := (⟨1, ![a]⟩ : Shape).Idx → EReal

/-- One element of a row normalised by its root mean square, times the gain. -/
def rms (x : Mat 16384 2048) (g : Row 2048) (r : Fin 16384) (k : Fin 2048) : EReal :=
  x (ix2 r k) * Ideal.rsqrt (Ideal.div (∑ l : Fin 2048, x (ix2 r l) * x (ix2 r l)) (Ideal.ofBits FTy.f32 1157627904#32)
    + Ideal.ofBits FTy.f32 897988541#32) * g (ix1 k)

/-- The normalised row times one column of a weight matrix. -/
def proj (x : Mat 16384 2048) (g : Row 2048) (w : Mat 2048 5632) (r : Fin 16384) (f : Fin 5632) : EReal :=
  ∑ k : Fin 2048, rms x g r k * w (ix2 k f)

/-- One hidden unit: the gate through its logistic function, times the other product. -/
def unit (x : Mat 16384 2048) (g : Row 2048) (wg wu : Mat 2048 5632) (r : Fin 16384) (f : Fin 5632) : EReal :=
  proj x g wg r f * Ideal.logistic (proj x g wg r f) * proj x g wu r f

/-- The hidden unit at lane `l` of block `q`. -/
abbrev lane (q : ℕ) (l : ℕ) : Fin 5632 := ⟨(q * 512 + l) % 5632, Nat.mod_lt _ (by norm_num)⟩

/-- Block `q`'s part of the output: each unit halved, then multiplied with its row of the output weights. -/
def part (x : Mat 16384 2048) (g : Row 2048) (wg wu : Mat 2048 5632) (wd : Mat 5632 2048) (r : Fin 16384) (q : ℕ) (d : Fin 2048) : EReal :=
  ∑ l : Fin 512, unit x g wg wu r (lane q l.val) * Ideal.ofBits FTy.f32 1056964608#32 * wd (ix2 (lane q l.val) d)

/-- The bit pattern of one half. -/
theorem half_eq : Ideal.ofBits FTy.f32 1056964608#32 = ((1 / 2 : ℝ) : EReal) := by
  simp [Ideal.ofBits, Ideal.ieee, -EReal.coe_mul]; norm_num

/-- Halving distributes over a finite sum of extended reals. -/
theorem half_sum {ι : Type} (s : Finset ι) (f : ι → EReal) :
    ((1 / 2 : ℝ) : EReal) * ∑ i ∈ s, f i = ∑ i ∈ s, ((1 / 2 : ℝ) : EReal) * f i := by
  classical
  induction s using Finset.induction_on with
  | empty => simp
  | insert a s ha ih =>
    rw [Finset.sum_insert ha, Finset.sum_insert ha, ← ih]
    exact EReal.left_distrib_of_nonneg_of_ne_top (by norm_num) (EReal.coe_ne_top _) _ _

/-- The eleven blocks of 512 hidden units are the 5632 units. -/
theorem sum_blocks (f : Fin 5632 → EReal) :
    ∑ q ∈ Finset.range 11, ∑ l : Fin 512, f (lane q l.val) = ∑ u : Fin 5632, f u := by
  have h := Finset.sum_range_mul_split 11 512 (fun n => f ⟨n % 5632, Nat.mod_lt _ (by norm_num)⟩)
  rw [← Fin.sum_univ_eq_sum_range (fun n => f ⟨n % 5632, Nat.mod_lt _ (by norm_num)⟩)] at h
  refine Eq.trans ?_ (h.symm.trans ?_)
  · refine Finset.sum_congr rfl fun q _ => ?_
    rw [← Fin.sum_univ_eq_sum_range (fun n => f ⟨(q * 512 + n) % 5632, Nat.mod_lt _ (by norm_num)⟩)]
  · refine Finset.sum_congr rfl fun u _ => ?_
    congr 1
    exact Fin.ext (Nat.mod_eq_of_lt u.isLt)

/-- The blocks' parts add up to half of the whole product. -/
theorem sum_parts (x : Mat 16384 2048) (g : Row 2048) (wg wu : Mat 2048 5632) (wd : Mat 5632 2048) (r : Fin 16384) (d : Fin 2048) :
    ∑ q ∈ Finset.range 11, part x g wg wu wd r q d
      = Ideal.ofBits FTy.f32 1056964608#32 * ∑ u : Fin 5632, unit x g wg wu r u * wd (ix2 u d) := by
  unfold part
  rw [sum_blocks (fun u => unit x g wg wu r u * Ideal.ofBits FTy.f32 1056964608#32 * wd (ix2 u d)), half_eq, half_sum]
  refine Finset.sum_congr rfl fun u _ => ?_
  rw [mul_comm (unit x g wg wu r u), mul_assoc]

end Hand.Ffn

end
-- ==== Proof.FfnValue.lean ====
module

public import proofs.«01_k».proof.Proof.FfnRead
public import proofs.«01_k».proof.Proof.FfnMath
public import proofs.«01_k».proof.Proof.Gen.FfnRefIdeal.Run
public import proofs.«01_k».proof.Proof.Gen.FfnRefIdeal.Read

@[expose] public section

set_option maxRecDepth 16384

noncomputable section

namespace Cert.FfnIdeal.Hand

open Cert.FfnIdeal Cert.FfnIdeal.Gen Idealize.ShloMosaic Idealize.ShloMosaic.TcCoe Idealize.SL.Sem
open _root_.Hand.Ffn

variable (m : (ℓ : Loc nD τ sig) → Buf (Elt Ideal) ℓ)

/-- The arguments as matrices of extended reals. -/
abbrev X (c : Dev nD) : Mat 16384 2048 := m ((c : Thread nD τ).loc main_arg0)
abbrev G (c : Dev nD) : Row 2048 := m ((c : Thread nD τ).loc main_arg1)
abbrev Wg (c : Dev nD) : Mat 2048 5632 := m ((c : Thread nD τ).loc main_arg2)
abbrev Wu (c : Dev nD) : Mat 2048 5632 := m ((c : Thread nD τ).loc main_arg3)
abbrev Wd (c : Dev nD) : Mat 5632 2048 := m ((c : Thread nD τ).loc main_arg4)

/-- Row `a` of row block `n / 11`. -/
abbrev row (n : ℕ) (a : Fin 1024) : Fin 16384 := ⟨(1024 * (n / 11) + a.val) % 16384, Nat.mod_lt _ (by norm_num)⟩

/-- What the first point stores as normalised rows. -/
theorem norm_apply (c : Dev nD) (t : Fin cfg0.N) (a : Fin 1024) (k : Fin 2048) :
    k0_pay3 (iblk m c 0 t) (iblk m c 1 t) (ix2 a k) = rms (X m c) (G m c) (row t.val a) k := by
  have hp : ∀ (x : Vec Ideal S1024x2048 .f32) (g : Vec Ideal S1x2048 .f32), k0_pay3 x g (ix2 a k)
      = x (ix2 a k) * Ideal.rsqrt (Ideal.div (∑ l : Fin 2048, x (ix2 a l) * x (ix2 a l)) (Ideal.ofBits FTy.f32 1157627904#32)
          + Ideal.ofBits FTy.f32 897988541#32) * g (ix2 0 k) := fun x g => by
    pointwise [k0_pay3]
  rw [hp, g_block]
  simp only [x_block]
  rfl

/-- A block's product at an element, over normalised rows held as `h`. -/
theorem block_apply (c : Dev nD) (t : Fin cfg0.N) (h : Vec Ideal S1024x2048 .bf16) (a : Fin 1024) (d : Fin 2048)
    (hh : ∀ k, h (ix2 a k) = rms (X m c) (G m c) (row t.val a) k) :
    k0_pay4 h (iblk m c 2 t) (iblk m c 3 t) (iblk m c 4 t) (ix2 a d)
      = part (X m c) (G m c) (Wg m c) (Wu m c) (Wd m c) (row t.val a) (t.val % 11) d := by
  have hp : ∀ (wg wu : Vec Ideal S2048x512 .bf16) (wd : Vec Ideal S512x2048 .bf16), k0_pay4 h wg wu wd (ix2 a d)
      = ∑ l : Fin 512, ((∑ k, h (ix2 a k) * wg (ix2 k l)) * Ideal.logistic (∑ k, h (ix2 a k) * wg (ix2 k l)) *
            ∑ k, h (ix2 a k) * wu (ix2 k l)) * Ideal.ofBits FTy.f32 1056964608#32 * wd (ix2 l d) := fun wg wu wd => by
    pointwise [k0_pay4]
  rw [hp]
  simp only [gate_block, up_block, down_block, hh]
  rfl

/-- A later point's output is what was there plus its block's product. -/
theorem later_eq (h : Vec Ideal S1024x2048 .bf16) (wg wu : Vec Ideal S2048x512 .bf16) (o : Vec Ideal S1024x2048 .f32)
    (wd : Vec Ideal S512x2048 .bf16) (a : Fin 1024) (d : Fin 2048) :
    k0_pay2 h wg wu o wd (ix2 a d) = o (ix2 a d) + k0_pay4 h wg wu wd (ix2 a d) := by
  pointwise [k0_pay2, k0_pay4]

/-- After each point: the rows' residual plus the parts of the blocks met so far, and the normalised rows. -/
theorem after_point (c : Dev nD) : ∀ (n : ℕ) (hn : n < cfg0.N),
    (∀ (a : Fin 1024) (d : Fin 2048), (outsAt0 m c n hn).1 (ix2 a d)
        = X m c (ix2 (row n a) d) + ∑ q ∈ Finset.range (n % 11 + 1), part (X m c) (G m c) (Wg m c) (Wu m c) (Wd m c) (row n a) q d)
    ∧ ∀ (a : Fin 1024) (k : Fin 2048), (outsAt0 m c n hn).2 (ix2 a k) = rms (X m c) (G m c) (row n a) k := by
  intro n
  induction n with
  | zero =>
    intro hn
    have h := first_point m c ⟨0, hn⟩ rfl
    dsimp only at h
    refine ⟨fun a d => ?_, fun a k => ?_⟩
    · rw [h]
      dsimp only
      have e : ∀ (x y : Vec Ideal S1024x2048 .f32), k0_pay1 x y (ix2 a d) = x (ix2 a d) + y (ix2 a d) := fun x y => by pointwise [k0_pay1]
      rw [e, block_apply m c ⟨0, hn⟩ _ a d (fun k => norm_apply m c ⟨0, hn⟩ a k), x_block]
      simp only [Nat.zero_mod, zero_add, Finset.sum_range_one]
    · rw [h]
      exact norm_apply m c ⟨0, hn⟩ a k
  | succ n ih =>
    intro hn
    have ih' := ih (Nat.lt_of_succ_lt hn)
    by_cases h0 : (n + 1) % 11 = 0
    · have h := first_point m c ⟨n + 1, hn⟩ h0
      dsimp only at h
      refine ⟨fun a d => ?_, fun a k => ?_⟩
      · rw [h]
        dsimp only
        have e : ∀ (x y : Vec Ideal S1024x2048 .f32), k0_pay1 x y (ix2 a d) = x (ix2 a d) + y (ix2 a d) := fun x y => by pointwise [k0_pay1]
        rw [e, block_apply m c ⟨n + 1, hn⟩ _ a d (fun k => norm_apply m c ⟨n + 1, hn⟩ a k), x_block]
        simp only [h0, zero_add, Finset.sum_range_one]
      · rw [h]
        exact norm_apply m c ⟨n + 1, hn⟩ a k
    · have h := later_point m c ⟨n + 1, hn⟩ h0
      dsimp only [Nat.add_sub_cancel] at h
      have hr : ∀ a, row (n + 1) a = row n a := fun a => Fin.ext (by
        show (1024 * ((n + 1) / 11) + a.val) % 16384 = (1024 * (n / 11) + a.val) % 16384
        have : (n + 1) / 11 = n / 11 := by omega
        rw [this])
      refine ⟨fun a d => ?_, fun a k => ?_⟩
      · rw [h]
        dsimp only
        rw [later_eq, block_apply m c ⟨n + 1, hn⟩ _ a d (fun k => by rw [hr]; exact ih'.2 a k)]
        have hm : (n + 1) % 11 = n % 11 + 1 := by omega
        dsimp only
        rw [show (outsAt0 m c (n + 1 - 1) (Nat.lt_of_le_of_lt (Nat.sub_le _ _) hn)).1 (ix2 a d) = _ from ih'.1 a d, hm,
          Finset.sum_range_succ _ (n % 11 + 1), hr, add_assoc]
      · rw [h, hr]
        exact ih'.2 a k

/-- The kernel's result at an index. -/
theorem result_apply (c : Dev nD) (r : Fin 16384) (d : Fin 2048) :
    Value.G5 m c (ix2 r d) = X m c (ix2 r d)
      + Ideal.ofBits FTy.f32 1056964608#32 * ∑ u : Fin 5632, unit (X m c) (G m c) (Wg m c) (Wu m c) r u * Wd m c (ix2 u d) := by
  have hr : r.val < 16384 := r.isLt
  have hd : d.val < 2048 := d.isLt
  have hp : Value.pt5Of (ix2 r d) = 11 * (r.val / 1024) + 10 := by
    show 11 * (1 * (r.val / 1024 - 0) + 1 * (d.val / 2048 - 0)) + 10 = _
    omega
  have hN : Value.pt5Of (ix2 r d) < cfg0.N := by
    rw [hp]; exact lt_of_lt_of_eq (by omega) N_0.symm
  unfold Value.G5
  rw [dif_pos hN, ← Value.outsAt0_sweep m c _ hN]
  have hl : Value.loc5Of (ix2 r d) = ix2 ⟨r.val % 1024, Nat.mod_lt _ (by norm_num)⟩ d := by
    funext b
    match b with
    | ⟨0, _⟩ => rfl
    | ⟨1, _⟩ => exact Fin.ext (Nat.mod_eq_of_lt hd)
  rw [hl, (after_point m c _ hN).1]
  have hrow : row (Value.pt5Of (ix2 r d)) ⟨r.val % 1024, Nat.mod_lt _ (by norm_num)⟩ = r := Fin.ext (by
    show (1024 * (Value.pt5Of (ix2 r d) / 11) + r.val % 1024) % 16384 = r.val
    rw [hp]; omega)
  have hq : Value.pt5Of (ix2 r d) % 11 + 1 = 11 := by rw [hp]; omega
  rw [hrow, hq, sum_parts]

/-- The reference's result at an index. -/
theorem reference_apply (x : (⟨S16384x2048, .f32⟩ : BufTy).Contents (Elt Ideal)) (g : (⟨S2048, .f32⟩ : BufTy).Contents (Elt Ideal))
    (wg wu : (⟨S2048x5632, .f32⟩ : BufTy).Contents (Elt Ideal)) (wd : (⟨S5632x2048, .f32⟩ : BufTy).Contents (Elt Ideal))
    (r : Fin 16384) (d : Fin 2048) :
    Cert.FfnRefIdeal.Read.val_main_v20 (F := Ideal) x g wg wu wd (ix2 r d) = x (ix2 r d)
      + Ideal.ofBits FTy.f32 1056964608#32 * ∑ u : Fin 5632, unit x g wg wu r u * wd (ix2 u d) := by
  rw [← Cert.FfnRefIdeal.Read.val_main_v20_eq]
  pointwise
  rfl

/-- The kernel's result is the reference's. -/
theorem result_eq (c : Dev nD) : Value.G5 m c
    = Cert.FfnRefIdeal.Read.val_main_v20 (F := Ideal) (X m c) (G m c) (Wg m c) (Wu m c) (Wd m c) := by
  funext i
  obtain ⟨r, d, rfl⟩ : ∃ (r : Fin 16384) (d : Fin 2048), i = ix2 r d := ⟨i 0, i 1, eq_ix2 i⟩
  rw [result_apply]
  exact (reference_apply _ _ _ _ _ r d).symm

end Cert.FfnIdeal.Hand

end
-- ==== Proof.FfnClaims.lean ====
module

public import proofs.«01_k».proof.Defs
public import proofs.«01_k».proof.Proof.Gen.Ffn.Frame
public import proofs.«01_k».proof.Proof.FfnValue

@[expose] public section

set_option maxRecDepth 16384

noncomputable section

namespace Cert.Proof.FfnClaims

open Idealize.ShloMosaic Idealize.ShloMosaic.TcCoe Idealize.SL.Sem

/-- The kernel at the machine's floats runs, leaves its arguments as they were, and ends with every counter at zero. -/
theorem frame_kernel : Cert.quiescent_Ffn := fun m ρ _ => Cert.Ffn.Gen.frame m ρ

/-- The kernel over extended reals does the same. -/
theorem frame_ideal : Cert.quiescent_FfnIdeal := fun m ρ _ => Cert.FfnIdeal.Gen.frame m ρ

/-- So does the reference over extended reals. -/
theorem frame_reference : Cert.quiescent_FfnRefIdeal := fun m ρ _ =>
  (θ_run Cert.FfnRefIdeal.defs _ _).mono (fun r h => ⟨fun c => (h c).2,
      Idealize.ShloMosaic.sem_eq_zero_of_no_sems (by decide) r.2⟩)
    (Cert.FfnRefIdeal.Value.run (F := Ideal) m ρ)

/-- No operation was exchanged on the way to the extended reals. -/
theorem preserves : Cert.preserves_Ffn_FfnIdeal := trivial

/-- Over extended reals the kernel's result is the reference's, from arguments that agree. -/
theorem algebraic : Cert.algebraic_FfnIdeal_FfnRefIdeal := by
  intro m ρ m' ρ' _ hag
  refine ⟨fun c => Cert.FfnIdeal.Value.G5 m c, Cert.FfnIdeal.Value.run (F := Ideal) m ρ, ?_⟩
  refine (θ_run Cert.FfnRefIdeal.defs _ _).mono (fun _ h c => ?_) (Cert.FfnRefIdeal.Value.run (F := Ideal) m' ρ')
  obtain ⟨h0, h1, h2, h3, h4⟩ := hag c
  exact ⟨((h c).1.trans (Cert.FfnRefIdeal.Read.val_main_v20_eq _ _ _ _ _)).trans
    ((congr (congr (congr (congr (congrArg (Cert.FfnRefIdeal.Read.val_main_v20 (F := Ideal)) h0) h1) h2) h3) h4).trans
      (Cert.FfnIdeal.Hand.result_eq m c).symm), (h c).2⟩

end Cert.Proof.FfnClaims

end
-- ==== Proof.FfnNextStep.lean ====
module

public import proofs.«01_k».proof.Proof.Gen.FfnNextIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.FfnNextIdeal.Hand

open Cert.FfnNextIdeal Cert.FfnNextIdeal.Gen Idealize.ShloMosaic Idealize.ShloMosaic.TcCoe Idealize.SL.Sem

variable {F : FTy → Type} [FloatOps F]
variable (m : (ℓ : Loc nD τ sig) → Buf (Elt F) ℓ)

/-- The first point of a row of points leaves the residual plus the first block's product, its tiles of the next
    layer's weights cast, and the normalised rows. -/
theorem first_point (c : Dev nD) (t : Fin cfg0.N) (h0 : t.val % 11 = 0) :
    outsAt0 m c t.val t.isLt
      = (k0_pay1 (iblk m c 0 t) (k0_pay7 (k0_pay6 (iblk m c 0 t) (iblk m c 1 t)) (iblk m c 2 t) (iblk m c 3 t) (iblk m c 4 t)),
         k0_pay3 (iblk m c 5 t), k0_pay4 (iblk m c 6 t), k0_pay5 (iblk m c 7 t),
         k0_pay6 (iblk m c 0 t) (iblk m c 1 t)) := by
  rw [outsAt0_A m c t h0 (by omega)]
  refine Prod.ext ?_ (Prod.ext ?_ (Prod.ext ?_ (Prod.ext ?_ ?_)))
  · frame_out
  · frame_out
  · frame_out
  · frame_out
  · frame_out

/-- A later point adds its block's product to what the point before left, casts its tiles of the next layer's
    weights, and keeps the normalised rows. -/
theorem later_point (c : Dev nD) (t : Fin cfg0.N) (h0 : ¬ t.val % 11 = 0) :
    outsAt0 m c t.val t.isLt
      = (k0_pay2 (outsAt0 m c (t.val - 1) (Nat.lt_of_le_of_lt (Nat.sub_le _ _) t.isLt)).2.2.2.2 (iblk m c 2 t) (iblk m c 3 t)
          (outsAt0 m c (t.val - 1) (Nat.lt_of_le_of_lt (Nat.sub_le _ _) t.isLt)).1 (iblk m c 4 t),
         k0_pay3 (iblk m c 5 t), k0_pay4 (iblk m c 6 t), k0_pay5 (iblk m c 7 t),
         (outsAt0 m c (t.val - 1) (Nat.lt_of_le_of_lt (Nat.sub_le _ _) t.isLt)).2.2.2.2) := by
  rw [outsAt0_B m c t h0 (by omega)]
  refine Prod.ext ?_ (Prod.ext ?_ (Prod.ext ?_ (Prod.ext ?_ ?_)))
  · frame_out
    simp only [read_unread_whole]
  · frame_out
  · frame_out
  · frame_out
  · rfl

end Cert.FfnNextIdeal.Hand

end
-- ==== Proof.FfnNextRead.lean ====
module

public import proofs.«01_k».proof.Proof.FfnNextStep

@[expose] public section

set_option maxRecDepth 16384

noncomputable section

namespace Cert.FfnNextIdeal.Hand

open Cert.FfnNextIdeal Cert.FfnNextIdeal.Gen Idealize.ShloMosaic Idealize.ShloMosaic.TcCoe Idealize.SL.Sem

variable (m : (ℓ : Loc nD τ sig) → Buf (Elt Ideal) ℓ)

/-- The block indices of the eight operands at a grid point. -/
theorem places : ∀ t : Fin cfg0.N,
    win0_0.index t = ![t.val / 11, 0] ∧ win0_1.index t = ![0, 0] ∧ win0_2.index t = ![0, t.val % 11]
      ∧ win0_3.index t = ![0, t.val % 11] ∧ win0_4.index t = ![t.val % 11, 0]
      ∧ win0_5.index t = ![1, 1, t.val / 11, t.val % 11] ∧ win0_6.index t = ![1, 1, t.val / 11, t.val % 11]
      ∧ win0_7.index t = ![1, 1, t.val % 11, t.val / 11] :=
  (by decide +kernel : ∀ t : Fin grid0.N, _)

/-- Row block `t / 11` of the residual stream. -/
theorem x_block (c : Dev nD) (t : Fin cfg0.N) (a : Fin 1024) (k : Fin 2048) :
    iblk m c 0 t (ix2 a k) = m ((c : Thread nD τ).loc main_arg0) (ix2 ⟨(1024 * (t.val / 11) + a.val) % 16384, Nat.mod_lt _ (by norm_num)⟩ k) := by
  have hN : t.val < 176 := lt_of_lt_of_eq t.isLt N_0
  blk_ext [iblk, V, places t]

/-- The gain row. -/
theorem g_block (c : Dev nD) (t : Fin cfg0.N) (k : Fin 2048) :
    iblk m c 1 t (ix2 0 k) = m ((c : Thread nD τ).loc main_arg1) (ix1 k) := by
  blk_point [iblk, V, places t]

/-- Column block `t % 11` of the gate's weights. -/
theorem gate_block (c : Dev nD) (t : Fin cfg0.N) (k : Fin 2048) (l : Fin 512) :
    iblk m c 2 t (ix2 k l) = m ((c : Thread nD τ).loc main_arg2) (ix2 k ⟨((t.val % 11) * 512 + l.val) % 5632, Nat.mod_lt _ (by norm_num)⟩) := by
  blk_ext [iblk, V, places t]

/-- Column block `t % 11` of the other weights. -/
theorem up_block (c : Dev nD) (t : Fin cfg0.N) (k : Fin 2048) (l : Fin 512) :
    iblk m c 3 t (ix2 k l) = m ((c : Thread nD τ).loc main_arg3) (ix2 k ⟨((t.val % 11) * 512 + l.val) % 5632, Nat.mod_lt _ (by norm_num)⟩) := by
  blk_ext [iblk, V, places t]

/-- Row block `t % 11` of the output weights. -/
theorem down_block (c : Dev nD) (t : Fin cfg0.N) (l : Fin 512) (d : Fin 2048) :
    iblk m c 4 t (ix2 l d) = m ((c : Thread nD τ).loc main_arg4) (ix2 ⟨((t.val % 11) * 512 + l.val) % 5632, Nat.mod_lt _ (by norm_num)⟩ d) := by
  blk_ext [iblk, V, places t]

/-- A tile of the next gate's weights. -/
theorem next_gate_tile (c : Dev nD) (t : Fin cfg0.N) (a : Fin 128) (l : Fin 512) :
    iblk m c 5 t (ix4 0 0 a l) = m ((c : Thread nD τ).loc main_arg5)
      (ix4 1 1 ⟨((t.val / 11) * 128 + a.val) % 2048, Nat.mod_lt _ (by norm_num)⟩ ⟨((t.val % 11) * 512 + l.val) % 5632, Nat.mod_lt _ (by norm_num)⟩) := by
  have hN : t.val < 176 := lt_of_lt_of_eq t.isLt N_0
  blk_ext [iblk, V, places t]

/-- A tile of the next layer's other weights. -/
theorem next_up_tile (c : Dev nD) (t : Fin cfg0.N) (a : Fin 128) (l : Fin 512) :
    iblk m c 6 t (ix4 0 0 a l) = m ((c : Thread nD τ).loc main_arg6)
      (ix4 1 1 ⟨((t.val / 11) * 128 + a.val) % 2048, Nat.mod_lt _ (by norm_num)⟩ ⟨((t.val % 11) * 512 + l.val) % 5632, Nat.mod_lt _ (by norm_num)⟩) := by
  have hN : t.val < 176 := lt_of_lt_of_eq t.isLt N_0
  blk_ext [iblk, V, places t]

/-- A tile of the next layer's output weights. -/
theorem next_down_tile (c : Dev nD) (t : Fin cfg0.N) (l : Fin 512) (a : Fin 128) :
    iblk m c 7 t (ix4 0 0 l a) = m ((c : Thread nD τ).loc main_arg7)
      (ix4 1 1 ⟨((t.val % 11) * 512 + l.val) % 5632, Nat.mod_lt _ (by norm_num)⟩ ⟨((t.val / 11) * 128 + a.val) % 2048, Nat.mod_lt _ (by norm_num)⟩) := by
  have hN : t.val < 176 := lt_of_lt_of_eq t.isLt N_0
  blk_ext [iblk, V, places t]

end Cert.FfnNextIdeal.Hand

end
-- ==== Proof.FfnNextValue.lean ====
module

public import proofs.«01_k».proof.Proof.FfnNextRead
public import proofs.«01_k».proof.Proof.FfnMath
public import proofs.«01_k».proof.Proof.Gen.FfnNextRefIdeal.Run
public import proofs.«01_k».proof.Proof.Gen.FfnNextRefIdeal.Read

@[expose] public section

set_option maxRecDepth 16384

noncomputable section

namespace Cert.FfnNextIdeal.Hand

open Cert.FfnNextIdeal Cert.FfnNextIdeal.Gen Idealize.ShloMosaic Idealize.ShloMosaic.TcCoe Idealize.SL.Sem
open _root_.Hand.Ffn

variable (m : (ℓ : Loc nD τ sig) → Buf (Elt Ideal) ℓ)

/-- The arguments as matrices of extended reals. -/
abbrev X (c : Dev nD) : Mat 16384 2048 := m ((c : Thread nD τ).loc main_arg0)
abbrev G (c : Dev nD) : Row 2048 := m ((c : Thread nD τ).loc main_arg1)
abbrev Wg (c : Dev nD) : Mat 2048 5632 := m ((c : Thread nD τ).loc main_arg2)
abbrev Wu (c : Dev nD) : Mat 2048 5632 := m ((c : Thread nD τ).loc main_arg3)
abbrev Wd (c : Dev nD) : Mat 5632 2048 := m ((c : Thread nD τ).loc main_arg4)

/-- Row `a` of row block `n / 11`. -/
abbrev row (n : ℕ) (a : Fin 1024) : Fin 16384 := ⟨(1024 * (n / 11) + a.val) % 16384, Nat.mod_lt _ (by norm_num)⟩

/-- What the first point stores as normalised rows. -/
theorem norm_apply (c : Dev nD) (t : Fin cfg0.N) (a : Fin 1024) (k : Fin 2048) :
    k0_pay6 (iblk m c 0 t) (iblk m c 1 t) (ix2 a k) = rms (X m c) (G m c) (row t.val a) k := by
  have hp : ∀ (x : Vec Ideal S1024x2048 .f32) (g : Vec Ideal S1x2048 .f32), k0_pay6 x g (ix2 a k)
      = x (ix2 a k) * Ideal.rsqrt (Ideal.div (∑ l : Fin 2048, x (ix2 a l) * x (ix2 a l)) (Ideal.ofBits FTy.f32 1157627904#32)
          + Ideal.ofBits FTy.f32 897988541#32) * g (ix2 0 k) := fun x g => by
    pointwise [k0_pay6]
  rw [hp, g_block]
  simp only [x_block]
  rfl

/-- A block's product at an element, over normalised rows held as `h`. -/
theorem block_apply (c : Dev nD) (t : Fin cfg0.N) (h : Vec Ideal S1024x2048 .bf16) (a : Fin 1024) (d : Fin 2048)
    (hh : ∀ k, h (ix2 a k) = rms (X m c) (G m c) (row t.val a) k) :
    k0_pay7 h (iblk m c 2 t) (iblk m c 3 t) (iblk m c 4 t) (ix2 a d)
      = part (X m c) (G m c) (Wg m c) (Wu m c) (Wd m c) (row t.val a) (t.val % 11) d := by
  have hp : ∀ (wg wu : Vec Ideal S2048x512 .bf16) (wd : Vec Ideal S512x2048 .bf16), k0_pay7 h wg wu wd (ix2 a d)
      = ∑ l : Fin 512, ((∑ k, h (ix2 a k) * wg (ix2 k l)) * Ideal.logistic (∑ k, h (ix2 a k) * wg (ix2 k l)) *
            ∑ k, h (ix2 a k) * wu (ix2 k l)) * Ideal.ofBits FTy.f32 1056964608#32 * wd (ix2 l d) := fun wg wu wd => by
    pointwise [k0_pay7]
  rw [hp]
  simp only [gate_block, up_block, down_block, hh]
  rfl

/-- A later point's output is what was there plus its block's product. -/
theorem later_eq (h : Vec Ideal S1024x2048 .bf16) (wg wu : Vec Ideal S2048x512 .bf16) (o : Vec Ideal S1024x2048 .f32)
    (wd : Vec Ideal S512x2048 .bf16) (a : Fin 1024) (d : Fin 2048) :
    k0_pay2 h wg wu o wd (ix2 a d) = o (ix2 a d) + k0_pay7 h wg wu wd (ix2 a d) := by
  pointwise [k0_pay2, k0_pay7]

/-- After each point: the rows' residual plus the parts of the blocks met so far, and the normalised rows. -/
theorem after_point (c : Dev nD) : ∀ (n : ℕ) (hn : n < cfg0.N),
    (∀ (a : Fin 1024) (d : Fin 2048), (outsAt0 m c n hn).1 (ix2 a d)
        = X m c (ix2 (row n a) d) + ∑ q ∈ Finset.range (n % 11 + 1), part (X m c) (G m c) (Wg m c) (Wu m c) (Wd m c) (row n a) q d)
    ∧ ∀ (a : Fin 1024) (k : Fin 2048), (outsAt0 m c n hn).2.2.2.2 (ix2 a k) = rms (X m c) (G m c) (row n a) k := by
  intro n
  induction n with
  | zero =>
    intro hn
    have h := first_point m c ⟨0, hn⟩ rfl
    dsimp only at h
    refine ⟨fun a d => ?_, fun a k => ?_⟩
    · rw [h]
      dsimp only
      have e : ∀ (x y : Vec Ideal S1024x2048 .f32), k0_pay1 x y (ix2 a d) = x (ix2 a d) + y (ix2 a d) := fun x y => by pointwise [k0_pay1]
      rw [e, block_apply m c ⟨0, hn⟩ _ a d (fun k => norm_apply m c ⟨0, hn⟩ a k), x_block]
      simp only [Nat.zero_mod, zero_add, Finset.sum_range_one]
    · rw [h]
      exact norm_apply m c ⟨0, hn⟩ a k
  | succ n ih =>
    intro hn
    have ih' := ih (Nat.lt_of_succ_lt hn)
    by_cases h0 : (n + 1) % 11 = 0
    · have h := first_point m c ⟨n + 1, hn⟩ h0
      dsimp only at h
      refine ⟨fun a d => ?_, fun a k => ?_⟩
      · rw [h]
        dsimp only
        have e : ∀ (x y : Vec Ideal S1024x2048 .f32), k0_pay1 x y (ix2 a d) = x (ix2 a d) + y (ix2 a d) := fun x y => by pointwise [k0_pay1]
        rw [e, block_apply m c ⟨n + 1, hn⟩ _ a d (fun k => norm_apply m c ⟨n + 1, hn⟩ a k), x_block]
        simp only [h0, zero_add, Finset.sum_range_one]
      · rw [h]
        exact norm_apply m c ⟨n + 1, hn⟩ a k
    · have h := later_point m c ⟨n + 1, hn⟩ h0
      dsimp only [Nat.add_sub_cancel] at h
      have hr : ∀ a, row (n + 1) a = row n a := fun a => Fin.ext (by
        show (1024 * ((n + 1) / 11) + a.val) % 16384 = (1024 * (n / 11) + a.val) % 16384
        have : (n + 1) / 11 = n / 11 := by omega
        rw [this])
      refine ⟨fun a d => ?_, fun a k => ?_⟩
      · rw [h]
        dsimp only
        rw [later_eq, block_apply m c ⟨n + 1, hn⟩ _ a d (fun k => by rw [hr]; exact ih'.2 a k)]
        have hm : (n + 1) % 11 = n % 11 + 1 := by omega
        dsimp only
        rw [show (outsAt0 m c (n + 1 - 1) (Nat.lt_of_le_of_lt (Nat.sub_le _ _) hn)).1 (ix2 a d) = _ from ih'.1 a d, hm,
          Finset.sum_range_succ _ (n % 11 + 1), hr, add_assoc]
      · rw [h, hr]
        exact ih'.2 a k

/-- The kernel's result at an index. -/
theorem result_apply (c : Dev nD) (r : Fin 16384) (d : Fin 2048) :
    Value.G8 m c (ix2 r d) = X m c (ix2 r d)
      + Ideal.ofBits FTy.f32 1056964608#32 * ∑ u : Fin 5632, unit (X m c) (G m c) (Wg m c) (Wu m c) r u * Wd m c (ix2 u d) := by
  have hr : r.val < 16384 := r.isLt
  have hd : d.val < 2048 := d.isLt
  have hp : Value.pt8Of (ix2 r d) = 11 * (r.val / 1024) + 10 := by
    show 11 * (1 * (r.val / 1024 - 0) + 1 * (d.val / 2048 - 0)) + 10 = _
    omega
  have hN : Value.pt8Of (ix2 r d) < cfg0.N := by
    rw [hp]; exact lt_of_lt_of_eq (by omega) N_0.symm
  unfold Value.G8
  rw [dif_pos hN, ← Value.outsAt0_sweep m c _ hN]
  have hl : Value.loc8Of (ix2 r d) = ix2 ⟨r.val % 1024, Nat.mod_lt _ (by norm_num)⟩ d := by
    funext b
    match b with
    | ⟨0, _⟩ => rfl
    | ⟨1, _⟩ => exact Fin.ext (Nat.mod_eq_of_lt hd)
  rw [hl, (after_point m c _ hN).1]
  have hrow : row (Value.pt8Of (ix2 r d)) ⟨r.val % 1024, Nat.mod_lt _ (by norm_num)⟩ = r := Fin.ext (by
    show (1024 * (Value.pt8Of (ix2 r d) / 11) + r.val % 1024) % 16384 = r.val
    rw [hp]; omega)
  have hq : Value.pt8Of (ix2 r d) % 11 + 1 = 11 := by rw [hp]; omega
  rw [hrow, hq, sum_parts]

/-- The reference's result at an index. -/
theorem reference_apply (x : (⟨S16384x2048, .f32⟩ : BufTy).Contents (Elt Ideal)) (g : (⟨S2048, .f32⟩ : BufTy).Contents (Elt Ideal))
    (wg wu : (⟨S2048x5632, .f32⟩ : BufTy).Contents (Elt Ideal)) (wd : (⟨S5632x2048, .f32⟩ : BufTy).Contents (Elt Ideal))
    (r : Fin 16384) (d : Fin 2048) :
    Cert.FfnNextRefIdeal.Read.val_main_v20 (F := Ideal) x g wg wu wd (ix2 r d) = x (ix2 r d)
      + Ideal.ofBits FTy.f32 1056964608#32 * ∑ u : Fin 5632, unit x g wg wu r u * wd (ix2 u d) := by
  rw [← Cert.FfnNextRefIdeal.Read.val_main_v20_eq]
  pointwise
  rfl

/-- The kernel's result is the reference's. -/
theorem result_eq (c : Dev nD) : Value.G8 m c
    = Cert.FfnNextRefIdeal.Read.val_main_v20 (F := Ideal) (X m c) (G m c) (Wg m c) (Wu m c) (Wd m c) := by
  funext i
  obtain ⟨r, d, rfl⟩ : ∃ (r : Fin 16384) (d : Fin 2048), i = ix2 r d := ⟨i 0, i 1, eq_ix2 i⟩
  rw [result_apply]
  exact (reference_apply _ _ _ _ _ r d).symm

/-- What each point leaves of the next layer's weights: its three tiles. -/
theorem tiles_at (c : Dev nD) (t : Fin cfg0.N) :
    (outsAt0 m c t.val t.isLt).2.1 = k0_pay3 (iblk m c 5 t) ∧ (outsAt0 m c t.val t.isLt).2.2.1 = k0_pay4 (iblk m c 6 t)
      ∧ (outsAt0 m c t.val t.isLt).2.2.2.1 = k0_pay5 (iblk m c 7 t) := by
  by_cases h0 : t.val % 11 = 0
  · rw [first_point m c t h0]; exact ⟨rfl, rfl, rfl⟩
  · rw [later_point m c t h0]; exact ⟨rfl, rfl, rfl⟩

/-- The next gate's weights come out as they were. -/
theorem next_gate_eq (c : Dev nD) : Value.G9 m c
    = Cert.FfnNextRefIdeal.Read.val_main_v23 (F := Ideal) (m ((c : Thread nD τ).loc main_arg5)) := by
  funext i
  obtain ⟨r, d, rfl⟩ : ∃ (r : Fin 2048) (d : Fin 5632), i = ix2 r d := ⟨i 0, i 1, eq_ix2 i⟩
  have hr : r.val < 2048 := r.isLt
  have hd : d.val < 5632 := d.isLt
  have hp : Value.pt9Of (ix2 r d) = 11 * (r.val / 128) + d.val / 512 := by
    show 11 * (r.val / 128 - 0) + 1 * (d.val / 512 - 0) = _
    omega
  have hN : Value.pt9Of (ix2 r d) < cfg0.N := by
    rw [hp]; exact lt_of_lt_of_eq (by omega) N_0.symm
  have hl : Value.loc9Of (ix2 r d) = ix2 ⟨r.val % 128, Nat.mod_lt _ (by norm_num)⟩ ⟨d.val % 512, Nat.mod_lt _ (by norm_num)⟩ := by
    funext b
    match b with
    | ⟨0, _⟩ => rfl
    | ⟨1, _⟩ => rfl
  have e : ∀ (x : Vec Ideal S1x1x128x512 .f32) (a : Fin 128) (l : Fin 512), k0_pay3 x (ix2 a l) = x (ix4 0 0 a l) := fun x a l => by
    pointwise [k0_pay3]
  unfold Value.G9
  rw [dif_pos hN, ← Value.outsAt0_sweep m c _ hN, hl, (tiles_at m c ⟨_, hN⟩).1, e, next_gate_tile]
  have e1 : (⟨(Value.pt9Of (ix2 r d) / 11 * 128 + r.val % 128) % 2048, Nat.mod_lt _ (by norm_num)⟩ : Fin 2048) = r :=
    Fin.ext (by dsimp only; rw [hp]; omega)
  have e2 : (⟨(Value.pt9Of (ix2 r d) % 11 * 512 + d.val % 512) % 5632, Nat.mod_lt _ (by norm_num)⟩ : Fin 5632) = d :=
    Fin.ext (by dsimp only; rw [hp]; omega)
  dsimp only
  rw [e1, e2, ← Cert.FfnNextRefIdeal.Read.val_main_v23_eq]
  pointwise

/-- The next layer's other weights come out as they were. -/
theorem next_up_eq (c : Dev nD) : Value.G10 m c
    = Cert.FfnNextRefIdeal.Read.val_main_v26 (F := Ideal) (m ((c : Thread nD τ).loc main_arg6)) := by
  funext i
  obtain ⟨r, d, rfl⟩ : ∃ (r : Fin 2048) (d : Fin 5632), i = ix2 r d := ⟨i 0, i 1, eq_ix2 i⟩
  have hr : r.val < 2048 := r.isLt
  have hd : d.val < 5632 := d.isLt
  have hp : Value.pt10Of (ix2 r d) = 11 * (r.val / 128) + d.val / 512 := by
    show 11 * (r.val / 128 - 0) + 1 * (d.val / 512 - 0) = _
    omega
  have hN : Value.pt10Of (ix2 r d) < cfg0.N := by
    rw [hp]; exact lt_of_lt_of_eq (by omega) N_0.symm
  have hl : Value.loc10Of (ix2 r d) = ix2 ⟨r.val % 128, Nat.mod_lt _ (by norm_num)⟩ ⟨d.val % 512, Nat.mod_lt _ (by norm_num)⟩ := by
    funext b
    match b with
    | ⟨0, _⟩ => rfl
    | ⟨1, _⟩ => rfl
  have e : ∀ (x : Vec Ideal S1x1x128x512 .f32) (a : Fin 128) (l : Fin 512), k0_pay4 x (ix2 a l) = x (ix4 0 0 a l) := fun x a l => by
    pointwise [k0_pay4]
  unfold Value.G10
  rw [dif_pos hN, ← Value.outsAt0_sweep m c _ hN, hl, (tiles_at m c ⟨_, hN⟩).2.1, e, next_up_tile]
  have e1 : (⟨(Value.pt10Of (ix2 r d) / 11 * 128 + r.val % 128) % 2048, Nat.mod_lt _ (by norm_num)⟩ : Fin 2048) = r :=
    Fin.ext (by dsimp only; rw [hp]; omega)
  have e2 : (⟨(Value.pt10Of (ix2 r d) % 11 * 512 + d.val % 512) % 5632, Nat.mod_lt _ (by norm_num)⟩ : Fin 5632) = d :=
    Fin.ext (by dsimp only; rw [hp]; omega)
  dsimp only
  rw [e1, e2, ← Cert.FfnNextRefIdeal.Read.val_main_v26_eq]
  pointwise

/-- The next layer's output weights come out as they were. -/
theorem next_down_eq (c : Dev nD) : Value.G11 m c
    = Cert.FfnNextRefIdeal.Read.val_main_v29 (F := Ideal) (m ((c : Thread nD τ).loc main_arg7)) := by
  funext i
  obtain ⟨r, d, rfl⟩ : ∃ (r : Fin 5632) (d : Fin 2048), i = ix2 r d := ⟨i 0, i 1, eq_ix2 i⟩
  have hr : r.val < 5632 := r.isLt
  have hd : d.val < 2048 := d.isLt
  have hp : Value.pt11Of (ix2 r d) = r.val / 512 + 11 * (d.val / 128) := by
    show 1 * (r.val / 512 - 0) + 11 * (d.val / 128 - 0) = _
    omega
  have hN : Value.pt11Of (ix2 r d) < cfg0.N := by
    rw [hp]; exact lt_of_lt_of_eq (by omega) N_0.symm
  have hl : Value.loc11Of (ix2 r d) = ix2 ⟨r.val % 512, Nat.mod_lt _ (by norm_num)⟩ ⟨d.val % 128, Nat.mod_lt _ (by norm_num)⟩ := by
    funext b
    match b with
    | ⟨0, _⟩ => rfl
    | ⟨1, _⟩ => rfl
  have e : ∀ (x : Vec Ideal S1x1x512x128 .f32) (l : Fin 512) (a : Fin 128), k0_pay5 x (ix2 l a) = x (ix4 0 0 l a) := fun x l a => by
    pointwise [k0_pay5]
  unfold Value.G11
  rw [dif_pos hN, ← Value.outsAt0_sweep m c _ hN, hl, (tiles_at m c ⟨_, hN⟩).2.2, e, next_down_tile]
  have e1 : (⟨(Value.pt11Of (ix2 r d) % 11 * 512 + r.val % 512) % 5632, Nat.mod_lt _ (by norm_num)⟩ : Fin 5632) = r :=
    Fin.ext (by dsimp only; rw [hp]; omega)
  have e2 : (⟨(Value.pt11Of (ix2 r d) / 11 * 128 + d.val % 128) % 2048, Nat.mod_lt _ (by norm_num)⟩ : Fin 2048) = d :=
    Fin.ext (by dsimp only; rw [hp]; omega)
  dsimp only
  rw [e1, e2, ← Cert.FfnNextRefIdeal.Read.val_main_v29_eq]
  pointwise

end Cert.FfnNextIdeal.Hand

end
-- ==== Proof.FfnNextClaims.lean ====
module

public import proofs.«01_k».proof.Defs
public import proofs.«01_k».proof.Proof.Gen.FfnNext.Frame
public import proofs.«01_k».proof.Proof.FfnNextValue

@[expose] public section

set_option maxRecDepth 16384

noncomputable section

namespace Cert.Proof.FfnNextClaims

open Idealize.ShloMosaic Idealize.ShloMosaic.TcCoe Idealize.SL.Sem

/-- The kernel at the machine's floats runs, leaves its arguments as they were, and ends with every counter at zero. -/
theorem frame_kernel : Cert.quiescent_FfnNext := fun m ρ _ => Cert.FfnNext.Gen.frame m ρ

/-- The kernel over extended reals does the same. -/
theorem frame_ideal : Cert.quiescent_FfnNextIdeal := fun m ρ _ => Cert.FfnNextIdeal.Gen.frame m ρ

/-- So does the reference over extended reals. -/
theorem frame_reference : Cert.quiescent_FfnNextRefIdeal := fun m ρ _ =>
  (θ_run Cert.FfnNextRefIdeal.defs _ _).mono (fun r h => ⟨fun c => (h c).2.2.2.2,
      Idealize.ShloMosaic.sem_eq_zero_of_no_sems (by decide) r.2⟩)
    (Cert.FfnNextRefIdeal.Value.run (F := Ideal) m ρ)

/-- No operation was exchanged on the way to the extended reals. -/
theorem preserves : Cert.preserves_FfnNext_FfnNextIdeal := trivial

/-- Over extended reals the kernel's four results are the reference's, from arguments that agree. -/
theorem algebraic : Cert.algebraic_FfnNextIdeal_FfnNextRefIdeal := by
  intro m ρ m' ρ' _ hag
  refine ⟨fun c => Cert.FfnNextIdeal.Value.G8 m c, fun c => Cert.FfnNextIdeal.Value.G9 m c, fun c => Cert.FfnNextIdeal.Value.G10 m c,
    fun c => Cert.FfnNextIdeal.Value.G11 m c, Cert.FfnNextIdeal.Value.run (F := Ideal) m ρ, ?_⟩
  refine (θ_run Cert.FfnNextRefIdeal.defs _ _).mono (fun _ h c => ?_) (Cert.FfnNextRefIdeal.Value.run (F := Ideal) m' ρ')
  obtain ⟨h0, h1, h2, h3, h4, h5, h6, h7⟩ := hag c
  obtain ⟨r0, r1, r2, r3, rest⟩ := h c
  exact ⟨(r0.trans (Cert.FfnNextRefIdeal.Read.val_main_v20_eq _ _ _ _ _)).trans
    ((congr (congr (congr (congr (congrArg (Cert.FfnNextRefIdeal.Read.val_main_v20 (F := Ideal)) h0) h1) h2) h3) h4).trans
      (Cert.FfnNextIdeal.Hand.result_eq m c).symm),
    (r1.trans (Cert.FfnNextRefIdeal.Read.val_main_v23_eq _)).trans
      ((congrArg (Cert.FfnNextRefIdeal.Read.val_main_v23 (F := Ideal)) h5).trans (Cert.FfnNextIdeal.Hand.next_gate_eq m c).symm),
    (r2.trans (Cert.FfnNextRefIdeal.Read.val_main_v26_eq _)).trans
      ((congrArg (Cert.FfnNextRefIdeal.Read.val_main_v26 (F := Ideal)) h6).trans (Cert.FfnNextIdeal.Hand.next_up_eq m c).symm),
    (r3.trans (Cert.FfnNextRefIdeal.Read.val_main_v29_eq _)).trans
      ((congrArg (Cert.FfnNextRefIdeal.Read.val_main_v29 (F := Ideal)) h7).trans (Cert.FfnNextIdeal.Hand.next_down_eq m c).symm), rest⟩

end Cert.Proof.FfnNextClaims

end
-- ==== Proof.MixStep.lean ====
module

public import proofs.«01_k».proof.Proof.Gen.MixIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MixIdeal.Hand

open Cert.MixIdeal Cert.MixIdeal.Gen Idealize.ShloMosaic Idealize.ShloMosaic.TcCoe Idealize.SL.Sem

/-- The scaled product of a normalised query row with key `s`. -/
def score (q g : Fin 128 → EReal) (k : Fin 256 → Fin 128 → EReal) (s : Fin 256) : EReal :=
  (∑ d : Fin 128, q d * Ideal.rsqrt (Ideal.div (∑ l : Fin 128, q l * q l) (Ideal.ofBits FTy.f32 0x43000000#32)
    + Ideal.ofBits FTy.f32 897988541#32) * g d * k s d) * Ideal.ofBits FTy.f32 0x3DB504F3#32

/-- The largest score of a row. -/
def top (q g : Fin 128 → EReal) (k : Fin 256 → Fin 128 → EReal) : EReal :=
  Finset.fold max (Ideal.ofBits FTy.f32 0xFF800000#32) (fun s => score q g k s) Finset.univ

/-- The softmax weight of key `s`. -/
def weight (q g : Fin 128 → EReal) (k : Fin 256 → Fin 128 → EReal) (s : Fin 256) : EReal :=
  Ideal.div (Ideal.exp (score q g k s - top q g k)) (∑ l : Fin 256, Ideal.exp (score q g k l - top q g k))

/-- One element of a head's output: the values weighted by the softmax of the scores. -/
def head (q g : Fin 128 → EReal) (k v : Fin 256 → Fin 128 → EReal) (e : Fin 128) : EReal :=
  ∑ s : Fin 256, weight q g k s * v s e

section Payloads

variable (q : Vec Ideal S1x512x128 .bf16) (g : Vec Ideal S1x128 .f32) (k v : Vec Ideal S1x256x128 .bf16) (a : Fin 512)

/-- A head's output from the blocks of its operands. -/
abbrev headOf (e : Fin 128) : EReal :=
  head (fun d => q (ix3 0 a d)) (fun d => g (ix2 0 d)) (fun s d => k (ix3 0 s d)) (fun s d => v (ix3 0 s d)) e

/-- The product with the output weights, over the heads' outputs side by side. -/
theorem out_apply (v7 : FVec Ideal S512x2048 .f32) (h0 h1 h2 : FVec Ideal S512x128 .bf16) (p : FVec Ideal S512x256 .bf16)
    (w : Vec Ideal S1x512x2048 .bf16) (n : Fin 2048) :
    k0_pay1 v7 h0 h1 h2 p v w (ix3 0 a n) = v7 (ix2 a n) +
      ∑ x : Fin 512, (if h : x.val < 128 then h0 (ix2 a ⟨x.val, h⟩)
          else if h' : x.val - 128 < 128 then h1 (ix2 a ⟨x.val - 128, h'⟩)
            else if h'' : x.val - 128 - 128 < 128 then h2 (ix2 a ⟨x.val - 128 - 128, h''⟩)
              else (∑ s, p (ix2 a s) * v (ix3 0 s ⟨x.val - 128 - 128 - 128, by omega⟩) : EReal)) * w (ix3 0 x n) := by
  pointwise [k0_pay1]

/-- The residual plus the product of the other attention's output. -/
theorem tok_apply (x : Vec Ideal S1x512x2048 .f32) (t : Vec Ideal S1x512x1536 .bf16) (w : Vec Ideal S1x1536x2048 .bf16) (n : Fin 2048) :
    k0_pay2 x t w (ix2 a n) = x (ix3 0 a n) + ∑ l : Fin 1536, t (ix3 0 a l) * w (ix3 0 l n) := by
  pointwise [k0_pay2]

/-- The first head's scores. -/
theorem scores_apply (s : Fin 256) :
    k0_pay3 q g k (ix2 a s) = score (fun d => q (ix3 0 a d)) (fun d => g (ix2 0 d)) (fun s d => k (ix3 0 s d)) s := by
  pointwise [k0_pay3]
  rfl

/-- The first head's largest score, along the row. -/
theorem top_apply (s : Fin 256) :
    k0_pay4 q g k (ix2 a s) = top (fun d => q (ix3 0 a d)) (fun d => g (ix2 0 d)) (fun s d => k (ix3 0 s d)) := by
  unfold k0_pay4 top
  simp only [← scores_apply]
  generalize k0_pay3 q g k = z
  pointwise

/-- The first head. -/
theorem head0_apply (e : Fin 128) : k0_pay5 (k0_pay3 q g k) (k0_pay4 q g k) v (ix2 a e) = headOf q g k v a e := by
  have hp : ∀ z m : FVec Ideal S512x256 .f32, k0_pay5 z m v (ix2 a e)
      = ∑ x, Ideal.div (Ideal.exp (z (ix2 a x) - m (ix2 a x))) (∑ y, Ideal.exp (z (ix2 a y) - m (ix2 a y))) * v (ix3 0 x e) := fun z m => by
    pointwise [k0_pay5]
  rw [hp]
  simp only [scores_apply, top_apply]
  rfl

/-- The second head's exponentials are the first head's, from its own operands. -/
theorem exps_eq : k0_pay6 q g k = exp (subf (k0_pay3 q g k) (k0_pay4 q g k)) := rfl

/-- The second head. -/
theorem head1_apply (e : Fin 128) : k0_pay8 (k0_pay6 q g k) (k0_pay7 q g k) v (ix2 a e) = headOf q g k v a e := by
  rw [← head0_apply]
  rfl

/-- The third head. -/
theorem head2_apply (e : Fin 128) : k0_pay10 (k0_pay9 q g k) v (ix2 a e) = headOf q g k v a e := by
  rw [← head0_apply]
  rfl

/-- The fourth head, whose last product is among the final operations. -/
theorem head3_apply (e : Fin 128) : (∑ s, k0_pay11 q g k (ix2 a s) * v (ix3 0 s e) : EReal) = headOf q g k v a e := by
  have hp : ∀ p : FVec Ideal S512x256 .bf16, k0_pay10 p v (ix2 a e) = ∑ s, p (ix2 a s) * v (ix3 0 s e) := fun p => by
    pointwise [k0_pay10]
  rw [← head2_apply, hp]
  rfl

end Payloads

section Loads

/-- Column `e` of head `h`. -/
abbrev lane (h : Fin 4) (e : Fin 128) : Fin 512 := ⟨h.val * 128 + e.val, by omega⟩

variable (x : Vec Ideal S1x256x512 .bf16) (s : Fin 256) (d : Fin 128)

/-- Loading head 0 of the memory's keys or values. -/
theorem ld_head0 : View.ld x r0_5 (ix3 0 s d) = x (ix3 0 s (lane 0 d)) := congrArg x (by
  funext b
  match b with
  | ⟨0, _⟩ => rfl
  | ⟨1, _⟩ => exact Fin.ext (show 0 + 1 * s.val = s.val by omega)
  | ⟨2, _⟩ => exact Fin.ext (show 0 + 1 * d.val = 0 * 128 + d.val by omega))

/-- Loading head 1 of the memory's keys or values. -/
theorem ld_head1 : View.ld x r0_6 (ix3 0 s d) = x (ix3 0 s (lane 1 d)) := congrArg x (by
  funext b
  match b with
  | ⟨0, _⟩ => rfl
  | ⟨1, _⟩ => exact Fin.ext (show 0 + 1 * s.val = s.val by omega)
  | ⟨2, _⟩ => exact Fin.ext (show 128 + 1 * d.val = 1 * 128 + d.val by omega))

/-- Loading head 2 of the memory's keys or values. -/
theorem ld_head2 : View.ld x r0_7 (ix3 0 s d) = x (ix3 0 s (lane 2 d)) := congrArg x (by
  funext b
  match b with
  | ⟨0, _⟩ => rfl
  | ⟨1, _⟩ => exact Fin.ext (show 0 + 1 * s.val = s.val by omega)
  | ⟨2, _⟩ => exact Fin.ext (show 256 + 1 * d.val = 2 * 128 + d.val by omega))

/-- Loading head 3 of the memory's keys or values. -/
theorem ld_head3 : View.ld x r0_8 (ix3 0 s d) = x (ix3 0 s (lane 3 d)) := congrArg x (by
  funext b
  match b with
  | ⟨0, _⟩ => rfl
  | ⟨1, _⟩ => exact Fin.ext (show 0 + 1 * s.val = s.val by omega)
  | ⟨2, _⟩ => exact Fin.ext (show 384 + 1 * d.val = 3 * 128 + d.val by omega))

/-- The weights' rows that meet the other attention's output. -/
theorem ld_first (w : Vec Ideal S1x2048x2048 .bf16) (l : Fin 1536) (n : Fin 2048) :
    View.ld w r0_2 (ix3 0 l n) = w (ix3 0 ⟨l.val, by omega⟩ n) := congrArg w (by
  funext b
  match b with
  | ⟨0, _⟩ => rfl
  | ⟨1, _⟩ => exact Fin.ext (show 0 + 1 * l.val = l.val by omega)
  | ⟨2, _⟩ => exact Fin.ext (show 0 + 1 * n.val = n.val by omega))

/-- The weights' rows that meet the heads' outputs. -/
theorem ld_second (w : Vec Ideal S1x2048x2048 .bf16) (l : Fin 512) (n : Fin 2048) :
    View.ld w r0_9 (ix3 0 l n) = w (ix3 0 ⟨1536 + l.val, by omega⟩ n) := congrArg w (by
  funext b
  match b with
  | ⟨0, _⟩ => rfl
  | ⟨1, _⟩ => exact Fin.ext (show 1536 + 1 * l.val = 1536 + l.val by omega)
  | ⟨2, _⟩ => exact Fin.ext (show 0 + 1 * n.val = n.val by omega))

end Loads

/-- The result's buffer after a point, as one term. -/
theorem point_eq (x0 : Vec Ideal S1x512x2048 .f32) (x1 : Vec Ideal S1x512x1536 .bf16) (x2 x3 x4 x5 : Vec Ideal S1x512x128 .bf16)
    (x6 x7 : Vec Ideal S1x256x512 .bf16) (x8 : Vec Ideal S1x128 .f32) (x9 : Vec Ideal S1x2048x2048 .bf16) :
    out0_10 x0 x1 x2 x3 x4 x5 x6 x7 x8 x9
      = k0_pay1 (k0_pay2 x0 x1 (View.ld x9 r0_2)) (k0_pay5 (k0_pay3 x2 x8 (View.ld x6 r0_5)) (k0_pay4 x2 x8 (View.ld x6 r0_5)) (View.ld x7 r0_5))
          (k0_pay8 (k0_pay6 x3 x8 (View.ld x6 r0_6)) (k0_pay7 x3 x8 (View.ld x6 r0_6)) (View.ld x7 r0_6))
          (k0_pay10 (k0_pay9 x4 x8 (View.ld x6 r0_7)) (View.ld x7 r0_7)) (k0_pay11 x5 x8 (View.ld x6 r0_8)) (View.ld x7 r0_8) (View.ld x9 r0_9) := by
  unfold out0_10
  frame_out

end Cert.MixIdeal.Hand

end
-- ==== Proof.MixValue.lean ====
module

public import proofs.«01_k».proof.Proof.MixStep
public import proofs.«01_k».proof.Proof.Gen.MixRefIdeal.Run
public import proofs.«01_k».proof.Proof.Gen.MixRefIdeal.Read

@[expose] public section

set_option maxRecDepth 16384

noncomputable section

namespace Cert.MixIdeal.Hand

open Cert.MixIdeal Cert.MixIdeal.Gen Idealize.ShloMosaic Idealize.ShloMosaic.TcCoe Idealize.SL.Sem
open Cert.MixRefIdeal.Read

/-- Arrays of extended reals, by shape. -/
abbrev Res : Type := (⟨3, ![4, 4096, 2048]⟩ : Shape).Idx → EReal
abbrev Tok : Type := (⟨3, ![4, 4096, 1536]⟩ : Shape).Idx → EReal
abbrev Proj : Type := (⟨3, ![4, 4096, 2432]⟩ : Shape).Idx → EReal
abbrev Mem : Type := (⟨3, ![4, 256, 512]⟩ : Shape).Idx → EReal
abbrev Gain : Type := (⟨1, ![128]⟩ : Shape).Idx → EReal
abbrev Wts : Type := (⟨3, ![2, 2048, 2048]⟩ : Shape).Idx → EReal

/-- Column `e` of head `h` among the projection's memory queries. -/
abbrev qlane (h : Fin 4) (e : Fin 128) : Fin 2432 := ⟨1920 + (h.val * 128 + e.val), by omega⟩

/-- The attention to the memory: head `h`, element `e`, at position `t` of batch element `b`. -/
def memo (p : Proj) (km vm : Mem) (g : Gain) (b : Fin 4) (t : Fin 4096) (h : Fin 4) (e : Fin 128) : EReal :=
  head (fun d => p (ix3 b t (qlane h d))) (fun d => g (ix1 d)) (fun s d => km (ix3 b s (lane h d))) (fun s d => vm (ix3 b s (lane h d))) e

/-- The same over the 512 columns of the heads side by side. -/
abbrev memoCol (p : Proj) (km vm : Mem) (g : Gain) (b : Fin 4) (t : Fin 4096) (j : Fin 512) : EReal :=
  memo p km vm g b t ⟨j.val / 128, Nat.div_lt_of_lt_mul j.isLt⟩ ⟨j.val % 128, Nat.mod_lt _ (by norm_num)⟩

/-- The residual plus the two attentions' outputs through layer 1's output weights. -/
def mixed (x : Res) (tok : Tok) (p : Proj) (km vm : Mem) (g : Gain) (w : Wts) : Res := fun i =>
  x i + (∑ l : Fin 1536, tok (ix3 (i 0) (i 1) l) * w (ix3 1 ⟨l.val, by omega⟩ (i 2)))
    + ∑ j : Fin 512, memoCol p km vm g (i 0) (i 1) j * w (ix3 1 ⟨1536 + j.val, by omega⟩ (i 2))

variable (m : (ℓ : Loc nD τ sig) → Buf (Elt Ideal) ℓ)

/-- The arguments as arrays of extended reals. -/
abbrev X (c : Dev nD) : Res := m ((c : Thread nD τ).loc main_arg0)
abbrev T (c : Dev nD) : Tok := m ((c : Thread nD τ).loc main_arg1)
abbrev P (c : Dev nD) : Proj := m ((c : Thread nD τ).loc main_arg2)
abbrev KM (c : Dev nD) : Mem := m ((c : Thread nD τ).loc main_arg3)
abbrev VM (c : Dev nD) : Mem := m ((c : Thread nD τ).loc main_arg4)
abbrev G (c : Dev nD) : Gain := m ((c : Thread nD τ).loc main_arg5)
abbrev W (c : Dev nD) : Wts := m ((c : Thread nD τ).loc main_arg6)

/-- The block indices of the operands and of the result at a grid point. -/
theorem places : ∀ t : Fin cfg0.N,
    win0_0.index t = ![t.val / 8, t.val % 8, 0] ∧ win0_1.index t = ![t.val / 8, t.val % 8, 0]
      ∧ win0_2.index t = ![t.val / 8, t.val % 8, 15] ∧ win0_3.index t = ![t.val / 8, t.val % 8, 16]
      ∧ win0_4.index t = ![t.val / 8, t.val % 8, 17] ∧ win0_5.index t = ![t.val / 8, t.val % 8, 18]
      ∧ win0_6.index t = ![t.val / 8, 0, 0] ∧ win0_7.index t = ![t.val / 8, 0, 0] ∧ win0_8.index t = ![0, 0]
      ∧ win0_9.index t = ![1, 0, 0] ∧ win0_10.index t = ![t.val / 8, t.val % 8, 0] :=
  (by decide +kernel : ∀ t : Fin grid0.N, _)

/-- The batch element and the position that a point's row `a` holds. -/
abbrev bat (n : ℕ) : Fin 4 := ⟨(n / 8) % 4, Nat.mod_lt _ (by norm_num)⟩
abbrev pos (n : ℕ) (a : Fin 512) : Fin 4096 := ⟨(n % 8) * 512 + a.val, by omega⟩

section Blocks

variable (c : Dev nD) (t : Fin cfg0.N)

/-- What a grid point reads of this operand. -/
theorem x_block (a : Fin 512) (n : Fin 2048) : iblk m c 0 t (ix3 0 a n) = X m c (ix3 (bat t.val) (pos t.val a) n) := by
  have hN : t.val < 32 := lt_of_lt_of_eq t.isLt N_0
  blk_ext [iblk, V, places t]

/-- What a grid point reads of this operand. -/
theorem t_block (a : Fin 512) (l : Fin 1536) : iblk m c 1 t (ix3 0 a l) = T m c (ix3 (bat t.val) (pos t.val a) l) := by
  have hN : t.val < 32 := lt_of_lt_of_eq t.isLt N_0
  blk_ext [iblk, V, places t]

/-- What a grid point reads of this operand. -/
theorem q0_block (a : Fin 512) (d : Fin 128) : iblk m c 2 t (ix3 0 a d) = P m c (ix3 (bat t.val) (pos t.val a) (qlane 0 d)) := by
  have hN : t.val < 32 := lt_of_lt_of_eq t.isLt N_0
  blk_ext [iblk, V, places t]

/-- What a grid point reads of this operand. -/
theorem q1_block (a : Fin 512) (d : Fin 128) : iblk m c 3 t (ix3 0 a d) = P m c (ix3 (bat t.val) (pos t.val a) (qlane 1 d)) := by
  have hN : t.val < 32 := lt_of_lt_of_eq t.isLt N_0
  blk_ext [iblk, V, places t]

/-- What a grid point reads of this operand. -/
theorem q2_block (a : Fin 512) (d : Fin 128) : iblk m c 4 t (ix3 0 a d) = P m c (ix3 (bat t.val) (pos t.val a) (qlane 2 d)) := by
  have hN : t.val < 32 := lt_of_lt_of_eq t.isLt N_0
  blk_ext [iblk, V, places t]

/-- What a grid point reads of this operand. -/
theorem q3_block (a : Fin 512) (d : Fin 128) : iblk m c 5 t (ix3 0 a d) = P m c (ix3 (bat t.val) (pos t.val a) (qlane 3 d)) := by
  have hN : t.val < 32 := lt_of_lt_of_eq t.isLt N_0
  blk_ext [iblk, V, places t]

/-- What a grid point reads of this operand. -/
theorem k_block (s : Fin 256) (j : Fin 512) : iblk m c 6 t (ix3 0 s j) = KM m c (ix3 (bat t.val) s j) := by
  have hN : t.val < 32 := lt_of_lt_of_eq t.isLt N_0
  blk_ext [iblk, V, places t]

/-- What a grid point reads of this operand. -/
theorem v_block (s : Fin 256) (j : Fin 512) : iblk m c 7 t (ix3 0 s j) = VM m c (ix3 (bat t.val) s j) := by
  have hN : t.val < 32 := lt_of_lt_of_eq t.isLt N_0
  blk_ext [iblk, V, places t]

/-- What a grid point reads of this operand. -/
theorem g_block (d : Fin 128) : iblk m c 8 t (ix2 0 d) = G m c (ix1 d) := by
  blk_point [iblk, V, places t]

/-- What a grid point reads of this operand. -/
theorem w_block (k n : Fin 2048) : iblk m c 9 t (ix3 0 k n) = W m c (ix3 1 k n) := by
  blk_ext [iblk, V, places t]

/-- Four heads side by side, at column `j`. -/
theorem side_by_side (f : Fin 4 → Fin 128 → EReal) (j : Fin 512) :
    (if h : j.val < 128 then f 0 ⟨j.val, h⟩
          else if h' : j.val - 128 < 128 then f 1 ⟨j.val - 128, h'⟩
            else if h'' : j.val - 128 - 128 < 128 then f 2 ⟨j.val - 128 - 128, h''⟩
              else f 3 ⟨j.val - 128 - 128 - 128, by omega⟩)
      = f ⟨j.val / 128, Nat.div_lt_of_lt_mul j.isLt⟩ ⟨j.val % 128, Nat.mod_lt _ (by norm_num)⟩ := by
  have hj : j.val < 512 := j.isLt
  split
  · congr 1 <;> exact Fin.ext (by simp only [Fin.val_zero]; omega)
  split
  · congr 1 <;> exact Fin.ext (by simp only [Fin.val_one]; omega)
  split
  · congr 1 <;> exact Fin.ext (by simp only [Fin.val_two]; omega)
  · congr 1
    · exact Fin.ext (show 3 = j.val / 128 by omega)
    · exact Fin.ext (by show j.val - 128 - 128 - 128 = j.val % 128; omega)

/-- Head 0 of a point's row. -/
theorem head0_memo (a : Fin 512) (e : Fin 128) :
    headOf (iblk m c 2 t) (iblk m c 8 t) (View.ld (iblk m c 6 t) r0_5) (View.ld (iblk m c 7 t) r0_5) a e
      = memo (P m c) (KM m c) (VM m c) (G m c) (bat t.val) (pos t.val a) 0 e := by
  unfold headOf memo
  have hk : ∀ s d, View.ld (iblk m c 6 t) r0_5 (ix3 0 s d) = KM m c (ix3 (bat t.val) s (lane 0 d)) :=
    fun s d => (ld_head0 (iblk m c 6 t) s d).trans (k_block m c t s _)
  have hv : ∀ s d, View.ld (iblk m c 7 t) r0_5 (ix3 0 s d) = VM m c (ix3 (bat t.val) s (lane 0 d)) :=
    fun s d => (ld_head0 (iblk m c 7 t) s d).trans (v_block m c t s _)
  simp only [q0_block, hk, hv, g_block]

/-- Head 1 of a point's row. -/
theorem head1_memo (a : Fin 512) (e : Fin 128) :
    headOf (iblk m c 3 t) (iblk m c 8 t) (View.ld (iblk m c 6 t) r0_6) (View.ld (iblk m c 7 t) r0_6) a e
      = memo (P m c) (KM m c) (VM m c) (G m c) (bat t.val) (pos t.val a) 1 e := by
  unfold headOf memo
  have hk : ∀ s d, View.ld (iblk m c 6 t) r0_6 (ix3 0 s d) = KM m c (ix3 (bat t.val) s (lane 1 d)) :=
    fun s d => (ld_head1 (iblk m c 6 t) s d).trans (k_block m c t s _)
  have hv : ∀ s d, View.ld (iblk m c 7 t) r0_6 (ix3 0 s d) = VM m c (ix3 (bat t.val) s (lane 1 d)) :=
    fun s d => (ld_head1 (iblk m c 7 t) s d).trans (v_block m c t s _)
  simp only [q1_block, hk, hv, g_block]

/-- Head 2 of a point's row. -/
theorem head2_memo (a : Fin 512) (e : Fin 128) :
    headOf (iblk m c 4 t) (iblk m c 8 t) (View.ld (iblk m c 6 t) r0_7) (View.ld (iblk m c 7 t) r0_7) a e
      = memo (P m c) (KM m c) (VM m c) (G m c) (bat t.val) (pos t.val a) 2 e := by
  unfold headOf memo
  have hk : ∀ s d, View.ld (iblk m c 6 t) r0_7 (ix3 0 s d) = KM m c (ix3 (bat t.val) s (lane 2 d)) :=
    fun s d => (ld_head2 (iblk m c 6 t) s d).trans (k_block m c t s _)
  have hv : ∀ s d, View.ld (iblk m c 7 t) r0_7 (ix3 0 s d) = VM m c (ix3 (bat t.val) s (lane 2 d)) :=
    fun s d => (ld_head2 (iblk m c 7 t) s d).trans (v_block m c t s _)
  simp only [q2_block, hk, hv, g_block]

/-- Head 3 of a point's row. -/
theorem head3_memo (a : Fin 512) (e : Fin 128) :
    headOf (iblk m c 5 t) (iblk m c 8 t) (View.ld (iblk m c 6 t) r0_8) (View.ld (iblk m c 7 t) r0_8) a e
      = memo (P m c) (KM m c) (VM m c) (G m c) (bat t.val) (pos t.val a) 3 e := by
  unfold headOf memo
  have hk : ∀ s d, View.ld (iblk m c 6 t) r0_8 (ix3 0 s d) = KM m c (ix3 (bat t.val) s (lane 3 d)) :=
    fun s d => (ld_head3 (iblk m c 6 t) s d).trans (k_block m c t s _)
  have hv : ∀ s d, View.ld (iblk m c 7 t) r0_8 (ix3 0 s d) = VM m c (ix3 (bat t.val) s (lane 3 d)) :=
    fun s d => (ld_head3 (iblk m c 7 t) s d).trans (v_block m c t s _)
  simp only [q3_block, hk, hv, g_block]

/-- What a point leaves, at an element. -/
theorem point_apply (a : Fin 512) (n : Fin 2048) :
    out0_10 (iblk m c 0 t) (iblk m c 1 t) (iblk m c 2 t) (iblk m c 3 t) (iblk m c 4 t) (iblk m c 5 t) (iblk m c 6 t) (iblk m c 7 t)
        (iblk m c 8 t) (iblk m c 9 t) (ix3 0 a n)
      = mixed (X m c) (T m c) (P m c) (KM m c) (VM m c) (G m c) (W m c) (ix3 (bat t.val) (pos t.val a) n) := by
  have hf := side_by_side (fun h e => memo (P m c) (KM m c) (VM m c) (G m c) (bat t.val) (pos t.val a) h e)
  beta_reduce at hf
  have h1 : ∀ l : Fin 1536, View.ld (iblk m c 9 t) r0_2 (ix3 0 l n) = W m c (ix3 1 ⟨l.val, by omega⟩ n) :=
    fun l => (ld_first (iblk m c 9 t) l n).trans (w_block m c t _ n)
  have h2 : ∀ l : Fin 512, View.ld (iblk m c 9 t) r0_9 (ix3 0 l n) = W m c (ix3 1 ⟨1536 + l.val, by omega⟩ n) :=
    fun l => (ld_second (iblk m c 9 t) l n).trans (w_block m c t _ n)
  rw [point_eq, out_apply, tok_apply]
  simp only [head0_apply, head1_apply, head2_apply, head3_apply, head0_memo, head1_memo, head2_memo, head3_memo, h1, h2,
    x_block, t_block, hf]
  rfl

end Blocks

/-- The kernel's result. -/
theorem result_mixed (c : Dev nD) : (dats m 0 c).arrAt 10 cfg0.N
    = mixed (X m c) (T m c) (P m c) (KM m c) (VM m c) (G m c) (W m c) := by
  refine (dats m 0 c).arrAt_eq_of_covers 10 _ (by decide +kernel) fun t hf y => ?_
  have hN : t.val < 32 := lt_of_lt_of_eq t.isLt N_0
  blk_simp
  rw [after0_10]
  obtain ⟨z, a, n, rfl⟩ : ∃ (z : Fin 1) (a : Fin 512) (n : Fin 2048), y = ix3 z a n := ⟨y 0, y 1, y 2, eq_ix3 y⟩
  obtain rfl : z = 0 := Subsingleton.elim _ _
  rw [point_apply]
  blk_ext [places t]

section Reference

variable (x0 : (⟨S4x4096x2048, .f32⟩ : BufTy).Contents (Elt Ideal)) (x1 : (⟨S4x4096x1536, .bf16⟩ : BufTy).Contents (Elt Ideal))
  (x2 : (⟨S4x4096x2432, .bf16⟩ : BufTy).Contents (Elt Ideal)) (x3 x4 : (⟨S4x256x512, .bf16⟩ : BufTy).Contents (Elt Ideal))
  (x5 : (⟨S128, .f32⟩ : BufTy).Contents (Elt Ideal)) (x6 : (⟨S2x2048x2048, .f32⟩ : BufTy).Contents (Elt Ideal))

/-- The reference's scores. -/
theorem scores_reference (b h : Fin 4) (t : Fin 4096) (s : Fin 256) :
    val_main_v22 (F := Ideal) x2 x3 x5 (ix4 b h t s)
      = score (fun d => x2 (ix3 b t (qlane h d))) (fun d => x5 (ix1 d)) (fun s d => x3 (ix3 b s (lane h d))) s := by
  unfold val_main_v22 val_main_v21 val_main_cst_2 val_main_v20 val_main_v19 val_main_v18 val_main_v17 val_main_v16 val_main_v15 val_main_v14 val_main_v13 val_main_v12 val_main_cst_1 val_main_v11 val_main_v10 val_main_cst_0 val_main_v9 val_main_v8 val_main_cst val_main_v7 val_main_v4 val_main_v3 val_main_v2 val_main_v1 val_main_v0
  pointwise
  rfl

/-- The bit pattern of minus infinity. -/
theorem bot_eq : Ideal.ofBits FTy.f32 4286578688#32 = ⊥ := by
  simp [Ideal.ofBits, Ideal.ieee]

/-- Reducing the last axis with a commutative, associative operation, at an index, is a fold along it. -/
theorem reduce_last (op : EReal → EReal → EReal) [Std.Commutative op] [Std.Associative op] (z : Cert.MixRefIdeal.S4x4x4096x256.Idx → EReal)
    (w : Cert.MixRefIdeal.S_.Idx → EReal) (b h : Fin 4) (t : Fin 4096) :
    Host.reduce op z w Cert.MixRefIdeal.Gen.reducesTo_S4x4x4096x256_S4x4x4096_d3 Cert.MixRefIdeal.Gen.h_S_ (ix3 b h t)
      = Finset.fold op (w (Shape.Idx.first Cert.MixRefIdeal.Gen.h_S_)) (fun s => z (ix4 b h t s)) Finset.univ := by
  pointwise

/-- The reference's maximum along the last axis, at an index. -/
theorem reduce_max (z : FVec Ideal Cert.MixRefIdeal.S4x4x4096x256 .f32) (b h : Fin 4) (t : Fin 4096) :
    Host.reduce FloatOps.maximumf z (val_main_cst_3 (F := Ideal)) Cert.MixRefIdeal.Gen.reducesTo_S4x4x4096x256_S4x4x4096_d3 Cert.MixRefIdeal.Gen.h_S_ (ix3 b h t)
      = Finset.fold max (Ideal.ofBits FTy.f32 0xFF800000#32) (fun s => z (ix4 b h t s)) Finset.univ :=
  reduce_last max z _ b h t

/-- Minus infinity is no larger than anything. -/
theorem bot_max (w : EReal) : max (Ideal.ofBits FTy.f32 4286578688#32) w = w := by
  rw [bot_eq]
  exact max_eq_right bot_le

/-- The lower bound the reference puts under its maximum. -/
theorem floor_reference (b h : Fin 4) (t : Fin 4096) :
    val_main_v24 (F := Ideal) (ix3 b h t) = Ideal.ofBits FTy.f32 4286578688#32 := by
  unfold val_main_v24 val_main_cst_4
  pointwise

/-- The reference's maximum of a row of scores. -/
theorem max_reference (b h : Fin 4) (t : Fin 4096) :
    val_main_v23 (F := Ideal) x2 x3 x5 (ix3 b h t)
      = Finset.fold max (Ideal.ofBits FTy.f32 0xFF800000#32) (fun s => val_main_v22 (F := Ideal) x2 x3 x5 (ix4 b h t s)) Finset.univ := by
  unfold val_main_v23
  exact reduce_max _ b h t

/-- A row's largest score, from its scores. -/
theorem top_of (q g : Fin 128 → EReal) (k : Fin 256 → Fin 128 → EReal) (f : Fin 256 → EReal) (hf : ∀ s, f s = score q g k s) :
    Finset.fold max (Ideal.ofBits FTy.f32 0xFF800000#32) f Finset.univ = top q g k := by
  obtain rfl : f = fun s => score q g k s := funext hf
  rfl

/-- The reference's largest score. -/
theorem top_reference (b h : Fin 4) (t : Fin 4096) :
    val_main_v25 (F := Ideal) x2 x3 x5 (ix3 b h t)
      = top (fun d => x2 (ix3 b t (qlane h d))) (fun d => x5 (ix1 d)) (fun s d => x3 (ix3 b s (lane h d))) := by
  have hs := scores_reference x2 x3 x5 b h t
  rw [val_main_v25_apply, floor_reference, max_reference, top_of _ _ _ _ hs]
  exact bot_max _

/-- The reference's softmax weights. -/
theorem weights_reference (b h : Fin 4) (t : Fin 4096) (s : Fin 256) :
    val_main_v33 (F := Ideal) x2 x3 x5 (ix4 b h t s)
      = weight (fun d => x2 (ix3 b t (qlane h d))) (fun d => x5 (ix1 d)) (fun s d => x3 (ix3 b s (lane h d))) s := by
  have hs := scores_reference x2 x3 x5 b h t
  have ht := top_reference x2 x3 x5 b h t
  unfold val_main_v33 val_main_v32 val_main_v31 val_main_v30 val_main_cst_5 val_main_v29 val_main_v28 val_main_v27 val_main_v26
  unfold weight
  rw [← ht]
  simp only [← hs]
  generalize val_main_v22 (F := Ideal) x2 x3 x5 = z
  generalize val_main_v25 (F := Ideal) x2 x3 x5 = y
  pointwise

/-- The reference's attention to the memory. -/
theorem memo_reference (b : Fin 4) (t : Fin 4096) (j : Fin 512) :
    val_main_v36 (F := Ideal) x2 x3 x4 x5 (ix3 b t j) = memoCol x2 x3 x4 x5 b t j := by
  have hw := weights_reference x2 x3 x5 b
  unfold val_main_v36 val_main_v35 val_main_v34 val_main_v6 val_main_v5 memoCol memo head
  simp only [← hw]
  generalize val_main_v33 (F := Ideal) x2 x3 x5 = z
  pointwise
  have e : ∀ p, (⟨j.val / 128 * 128 + j.val % 128, p⟩ : Fin 512) = j := fun p => Fin.ext (Nat.div_add_mod' _ _)
  simp only [lane, e]
  exact Finset.sum_congr rfl fun s _ => mul_comm _ _

/-- The reference's result. -/
theorem reference_mixed : val_main_v42 (F := Ideal) x0 x1 x2 x3 x4 x5 x6 = mixed x0 x1 x2 x3 x4 x5 x6 := by
  funext i
  obtain ⟨b, t, n, rfl⟩ : ∃ (b : Fin 4) (t : Fin 4096) (n : Fin 2048), i = ix3 b t n := ⟨i 0, i 1, i 2, eq_ix3 i⟩
  have hm := memo_reference x2 x3 x4 x5 b t
  unfold val_main_v42 val_main_v41 val_main_v40 val_main_v39 val_main_v38 val_main_v37 mixed
  revert hm
  generalize val_main_v36 (F := Ideal) x2 x3 x4 x5 = z
  intro hm
  pointwise
  simp only [hm]
  exact (add_assoc _ _ _).symm

end Reference

/-- The kernel's result is the reference's. -/
theorem result_eq (c : Dev nD) : (dats m 0 c).arrAt 10 cfg0.N
    = val_main_v42 (F := Ideal) (X m c) (T m c) (P m c) (KM m c) (VM m c) (G m c) (W m c) :=
  (result_mixed m c).trans (reference_mixed _ _ _ _ _ _ _).symm

end Cert.MixIdeal.Hand

end
-- ==== Proof.MixClaims.lean ====
module

public import proofs.«01_k».proof.Defs
public import proofs.«01_k».proof.Proof.Gen.Mix.Frame
public import proofs.«01_k».proof.Proof.MixValue

@[expose] public section

set_option maxRecDepth 16384

noncomputable section

namespace Cert.Proof.MixClaims

open Idealize.ShloMosaic Idealize.ShloMosaic.TcCoe Idealize.SL.Sem

/-- The kernel at the machine's floats runs, leaves its arguments as they were, and ends with every counter at zero. -/
theorem frame_kernel : Cert.quiescent_Mix := fun m ρ _ => Cert.Mix.Gen.frame m ρ

/-- The kernel over extended reals does the same. -/
theorem frame_ideal : Cert.quiescent_MixIdeal := fun m ρ _ => Cert.MixIdeal.Gen.frame m ρ

/-- So does the reference over extended reals. -/
theorem frame_reference : Cert.quiescent_MixRefIdeal := fun m ρ _ =>
  (θ_run Cert.MixRefIdeal.defs _ _).mono (fun r h => ⟨fun c => (h c).2,
      Idealize.ShloMosaic.sem_eq_zero_of_no_sems (by decide) r.2⟩)
    (Cert.MixRefIdeal.Value.run (F := Ideal) m ρ)

/-- No operation was exchanged on the way to the extended reals. -/
theorem preserves : Cert.preserves_Mix_MixIdeal := trivial

/-- Over extended reals the kernel's result is the reference's, from arguments that agree. -/
theorem algebraic : Cert.algebraic_MixIdeal_MixRefIdeal := by
  intro m ρ m' ρ' _ hag
  refine ⟨fun c => (Cert.MixIdeal.Gen.dats m 0 c).arrAt 10 Cert.MixIdeal.cfg0.N, Cert.MixIdeal.Value.run_blocks (F := Ideal) m ρ, ?_⟩
  refine (θ_run Cert.MixRefIdeal.defs _ _).mono (fun _ h c => ?_) (Cert.MixRefIdeal.Value.run (F := Ideal) m' ρ')
  obtain ⟨h0, h1, h2, h3, h4, h5, h6⟩ := hag c
  exact ⟨((h c).1.trans (Cert.MixRefIdeal.Read.val_main_v42_eq _ _)).trans
    ((congr (congr (congr (congr (congr (congr (congrArg (Cert.MixRefIdeal.Read.val_main_v42 (F := Ideal)) h0) h1) h2) h3) h4) h5) h6).trans
      (Cert.MixIdeal.Hand.result_eq m c).symm), (h c).2⟩

end Cert.Proof.MixClaims

end
-- ==== Proof.SbProjStep.lean ====
module

public import proofs.«01_k».proof.Proof.Gen.SbProjIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.SbProjIdeal.Hand

open Cert.SbProjIdeal Cert.SbProjIdeal.Gen Idealize.ShloMosaic Idealize.ShloMosaic.TcCoe Idealize.SL.Sem

section Points

variable {F : FTy → Type} [FloatOps F]
variable (m : (ℓ : Loc nD τ sig) → Buf (Elt F) ℓ)

/-- The first point of a row block leaves the product of its normalised rows, and those rows. -/
theorem first_point (c : Dev nD) (t : Fin cfg0.N) (h0 : t.val % 2 = 0) :
    outsAt0 m c t.val t.isLt
      = (k0_pay2 (k0_pay1 (iblk m c 0 t) (iblk m c 1 t)) (iblk m c 2 t), k0_pay1 (iblk m c 0 t) (iblk m c 1 t)) := by
  rw [outsAt0_A m c t h0 (by omega)]
  refine Prod.ext ?_ ?_
  · frame_out
  · frame_out

/-- The second point multiplies the rows that the first one left. -/
theorem later_point (c : Dev nD) (t : Fin cfg0.N) (h0 : ¬ t.val % 2 = 0) :
    outsAt0 m c t.val t.isLt
      = (k0_pay3 (outsAt0 m c (t.val - 1) (Nat.lt_of_le_of_lt (Nat.sub_le _ _) t.isLt)).2 (iblk m c 2 t),
         (outsAt0 m c (t.val - 1) (Nat.lt_of_le_of_lt (Nat.sub_le _ _) t.isLt)).2) := by
  rw [outsAt0_B m c t h0 (by omega)]
  refine Prod.ext ?_ ?_
  · frame_out
    simp only [read_unread_whole]
  · rfl

end Points

end Cert.SbProjIdeal.Hand

end
-- ==== Proof.SbProjRead.lean ====
module

public import proofs.«01_k».proof.Proof.SbProjStep

@[expose] public section

set_option maxRecDepth 16384

noncomputable section

namespace Cert.SbProjIdeal.Hand

open Cert.SbProjIdeal Cert.SbProjIdeal.Gen Idealize.ShloMosaic Idealize.ShloMosaic.TcCoe Idealize.SL.Sem

variable (m : (ℓ : Loc nD τ sig) → Buf (Elt Ideal) ℓ)

/-- The block indices of the three operands at a grid point. -/
theorem places : ∀ t : Fin cfg0.N,
    win0_0.index t = ![t.val / 2, 0] ∧ win0_1.index t = ![0, 0] ∧ win0_2.index t = ![0, t.val % 2] :=
  (by decide +kernel : ∀ t : Fin grid0.N, _)

/-- Row block `t / 2` of the residual stream. -/
theorem x_block (c : Dev nD) (t : Fin cfg0.N) (a : Fin 1024) (k : Fin 2048) :
    iblk m c 0 t (ix2 a k) = m ((c : Thread nD τ).loc main_arg0) (ix2 ⟨(1024 * (t.val / 2) + a.val) % 16384, Nat.mod_lt _ (by norm_num)⟩ k) := by
  have hN : t.val < 32 := lt_of_lt_of_eq t.isLt N_0
  blk_ext [iblk, V, places t]

/-- The gain as the kernel is given it: one row. -/
theorem gain_apply (c : Dev nD) (k : Fin 2048) :
    V m c main_v9 (ix2 0 k) = m ((c : Thread nD τ).loc main_arg1) (ix1 k) := by
  simp only [V, hostOps0, hostOps0_1, hostOps0_2, List.flatten_cons, List.flatten_nil, List.cons_append, List.nil_append]
  entry_read
  pointwise

/-- The gain row. -/
theorem g_block (c : Dev nD) (t : Fin cfg0.N) (k : Fin 2048) :
    iblk m c 1 t (ix2 0 k) = m ((c : Thread nD τ).loc main_arg1) (ix1 k) := by
  rw [← gain_apply m c k]
  unfold iblk
  generalize V m c main_v9 = w
  blk_ext [places t]

/-- The factor of a column: the first 1536 columns carry the reciprocal of the attention scale. -/
def factor (n : ℕ) : EReal := if n < 1536 then Ideal.ofBits .f32 0x3DB504F3#32 else 1

/-- The choice that the host line makes by comparing the column's number. -/
theorem select_factor (n : Fin 5120) :
    Scalar.select (IntOp.cmpi CmpIPredicate.slt (BitVec.ofNat 32 n.val) 1536#32) (Ideal.ofBits FTy.f32 1035273459#32) 1 = factor n.val := by
  have hn : n.val < 5120 := n.isLt
  have h : (BitVec.ofNat 32 n.val).toInt = n.val := by
    rw [BitVec.toInt_eq_toNat_of_lt] <;> rw [BitVec.toNat_ofNat] <;> omega
  unfold factor Scalar.select IntOp.cmpi
  by_cases hc : n.val < 1536
  · simp [BitVec.slt, h, hc]
  · simp [BitVec.slt, h, hc]

/-- The weights as a matrix of extended reals. -/
abbrev W (c : Dev nD) : S2048x5120.Idx → EReal := m ((c : Thread nD τ).loc main_arg2)

/-- The weights as the kernel is given them: the first 1536 columns scaled. -/
theorem weights_apply (c : Dev nD) (k : Fin 2048) (n : Fin 5120) :
    V m c main_v8 (ix2 k n) = W m c (ix2 k n) * factor n.val := by
  rw [← select_factor]
  simp only [V, hostOps0, hostOps0_1, hostOps0_2, List.flatten_cons, List.flatten_nil, List.cons_append, List.nil_append]
  entry_read
  pointwise
  change _ * select (cmpi CmpIPredicate.slt (iotaInDim S5120 32 0)
              (broadcastInDim S5120 ![] bcast_S_S5120 (constantI S_ 32 1536#32))) (broadcastInDim S5120 ![] bcast_S_S5120 (constant (F := Ideal) S_ FTy.f32 1035273459#32)) (broadcastInDim S5120 ![] bcast_S_S5120 (constant (F := Ideal) S_ FTy.f32 1065353216#32)) (ix1 n) = _
  pointwise

/-- Column block `t % 2` of the scaled weights. -/
theorem w_block (c : Dev nD) (t : Fin cfg0.N) (k : Fin 2048) (l : Fin 2560) :
    iblk m c 2 t (ix2 k l) = V m c main_v8 (ix2 k ⟨((t.val % 2) * 2560 + l.val) % 5120, Nat.mod_lt _ (by norm_num)⟩) := by
  unfold iblk
  generalize V m c main_v8 = w
  blk_ext [places t]

/-- The same block over the weights of the argument. -/
theorem w_scaled (c : Dev nD) (t : Fin cfg0.N) (k : Fin 2048) (l : Fin 2560) :
    iblk m c 2 t (ix2 k l) = W m c (ix2 k ⟨((t.val % 2) * 2560 + l.val) % 5120, Nat.mod_lt _ (by norm_num)⟩)
      * factor (((t.val % 2) * 2560 + l.val) % 5120) :=
  (w_block m c t k l).trans (weights_apply m c k _)

end Cert.SbProjIdeal.Hand

end
-- ==== Proof.SbProjValue.lean ====
module

public import proofs.«01_k».proof.Proof.SbProjRead
public import proofs.«01_k».proof.Proof.FfnMath
public import proofs.«01_k».proof.Proof.Gen.SbProjRefIdeal.Run
public import proofs.«01_k».proof.Proof.Gen.SbProjRefIdeal.Read

@[expose] public section

set_option maxRecDepth 16384

noncomputable section

namespace Cert.SbProjIdeal.Hand

open Cert.SbProjIdeal Cert.SbProjIdeal.Gen Idealize.ShloMosaic Idealize.ShloMosaic.TcCoe Idealize.SL.Sem

open _root_.Hand.Ffn

variable (m : (ℓ : Loc nD τ sig) → Buf (Elt Ideal) ℓ)

/-- The arguments as matrices of extended reals. -/
abbrev X (c : Dev nD) : Mat 16384 2048 := m ((c : Thread nD τ).loc main_arg0)
abbrev G (c : Dev nD) : Row 2048 := m ((c : Thread nD τ).loc main_arg1)

/-- The projection: the normalised row times a column of the weights, times the column's factor. -/
def scaled (x : Mat 16384 2048) (g : Row 2048) (w : Mat 2048 5120) (r : Fin 16384) (n : Fin 5120) : EReal :=
  (∑ k : Fin 2048, rms x g r k * w (ix2 k n)) * factor n.val

/-- The factor is a real number that is not negative. -/
theorem factor_real (n : ℕ) : ∃ v : ℝ, 0 ≤ v ∧ factor n = (v : EReal) := by
  unfold factor
  split
  · refine ⟨11863283 / 134217728, by norm_num, ?_⟩
    simp [Ideal.ofBits, Ideal.ieee, -EReal.coe_mul]; norm_num
  · exact ⟨1, by norm_num, rfl⟩

/-- A factor on every weight of a column comes out of the sum. -/
theorem sum_factor (n : ℕ) (f g : Fin 2048 → EReal) :
    ∑ k, f k * (g k * factor n) = (∑ k, f k * g k) * factor n := by
  obtain ⟨v, hv, e⟩ := factor_real n
  rw [e]
  have h : ∀ s : Finset (Fin 2048), ∑ k ∈ s, f k * (g k * (v : EReal)) = (∑ k ∈ s, f k * g k) * (v : EReal) := by
    intro s
    classical
    induction s using Finset.induction_on with
    | empty => simp
    | insert a s ha ih =>
      rw [Finset.sum_insert ha, Finset.sum_insert ha, ih, ← mul_assoc]
      exact (EReal.right_distrib_of_nonneg_of_ne_top (EReal.coe_nonneg.2 hv) (EReal.coe_ne_top _) _ _).symm
  exact h _

/-- Row `a` of row block `n / 2`. -/
abbrev row (n : ℕ) (a : Fin 1024) : Fin 16384 := ⟨(1024 * (n / 2) + a.val) % 16384, Nat.mod_lt _ (by norm_num)⟩

/-- Column `l` of column block `n % 2`. -/
abbrev col (n : ℕ) (l : Fin 2560) : Fin 5120 := ⟨((n % 2) * 2560 + l.val) % 5120, Nat.mod_lt _ (by norm_num)⟩

/-- What the first point of a row block stores as normalised rows. -/
theorem norm_apply (c : Dev nD) (t : Fin cfg0.N) (a : Fin 1024) (k : Fin 2048) :
    k0_pay1 (iblk m c 0 t) (iblk m c 1 t) (ix2 a k) = rms (X m c) (G m c) (row t.val a) k := by
  have hp : ∀ (x : Vec Ideal S1024x2048 .f32) (g : Vec Ideal S1x2048 .f32), k0_pay1 x g (ix2 a k)
      = x (ix2 a k) * Ideal.rsqrt (Ideal.div (∑ l : Fin 2048, x (ix2 a l) * x (ix2 a l)) (Ideal.ofBits FTy.f32 1157627904#32)
          + Ideal.ofBits FTy.f32 897988541#32) * g (ix2 0 k) := fun x g => by
    pointwise [k0_pay1]
  rw [hp, g_block]
  simp only [x_block]
  rfl

/-- A point's product at an element, over normalised rows held as `h`. -/
theorem block_apply (c : Dev nD) (t : Fin cfg0.N) (h : Vec Ideal S1024x2048 .bf16) (a : Fin 1024) (l : Fin 2560)
    (hh : ∀ k, h (ix2 a k) = rms (X m c) (G m c) (row t.val a) k) :
    k0_pay3 h (iblk m c 2 t) (ix2 a l) = scaled (X m c) (G m c) (W m c) (row t.val a) (col t.val l) := by
  have hp : ∀ (w : Vec Ideal S2048x2560 .bf16), k0_pay3 h w (ix2 a l) = ∑ k, h (ix2 a k) * w (ix2 k l) := fun w => by
    pointwise [k0_pay3]
  rw [hp]
  simp only [w_scaled, hh]
  exact (Finset.sum_congr rfl fun k _ => rfl).trans
    (sum_factor (col t.val l).val (fun k => rms (X m c) (G m c) (row t.val a) k) (fun k => W m c (ix2 k (col t.val l))))

/-- The two payloads of the product are one. -/
theorem first_eq (h : Vec Ideal S1024x2048 .bf16) (w : Vec Ideal S2048x2560 .bf16) : k0_pay2 h w = k0_pay3 h w := rfl

/-- After each point: the product of its blocks, and the normalised rows. -/
theorem after_point (c : Dev nD) : ∀ (n : ℕ) (hn : n < cfg0.N),
    (∀ (a : Fin 1024) (l : Fin 2560), (outsAt0 m c n hn).1 (ix2 a l)
        = scaled (X m c) (G m c) (W m c) (row n a) (col n l))
    ∧ ∀ (a : Fin 1024) (k : Fin 2048), (outsAt0 m c n hn).2 (ix2 a k) = rms (X m c) (G m c) (row n a) k := by
  intro n hn
  by_cases h0 : n % 2 = 0
  · have h := first_point m c ⟨n, hn⟩ h0
    dsimp only at h
    refine ⟨fun a l => ?_, fun a k => ?_⟩
    · rw [h]
      dsimp only
      rw [first_eq, block_apply m c ⟨n, hn⟩ _ a l (fun k => norm_apply m c ⟨n, hn⟩ a k)]
    · rw [h]
      exact norm_apply m c ⟨n, hn⟩ a k
  · have h := later_point m c ⟨n, hn⟩ h0
    have h1 := first_point m c ⟨n - 1, Nat.lt_of_le_of_lt (Nat.sub_le _ _) hn⟩ (by show (n - 1) % 2 = 0; omega)
    dsimp only at h h1
    have hr : ∀ a, row (n - 1) a = row n a := fun a => Fin.ext (by
      show (1024 * ((n - 1) / 2) + a.val) % 16384 = (1024 * (n / 2) + a.val) % 16384
      have : (n - 1) / 2 = n / 2 := by omega
      rw [this])
    have hs : ∀ (a : Fin 1024) (k : Fin 2048), (outsAt0 m c (n - 1) (Nat.lt_of_le_of_lt (Nat.sub_le _ _) hn)).2 (ix2 a k)
        = rms (X m c) (G m c) (row n a) k := fun a k => by
      rw [h1, ← hr]
      exact norm_apply m c ⟨n - 1, Nat.lt_of_le_of_lt (Nat.sub_le _ _) hn⟩ a k
    refine ⟨fun a l => ?_, fun a k => ?_⟩
    · rw [h]
      exact block_apply m c ⟨n, hn⟩ _ a l (fun k => hs a k)
    · rw [h]
      exact hs a k

/-- The kernel's result at an index. -/
theorem result_apply (c : Dev nD) (r : Fin 16384) (d : Fin 5120) :
    Value.G3 m c (ix2 r d) = scaled (X m c) (G m c) (W m c) r d := by
  have hr : r.val < 16384 := r.isLt
  have hd : d.val < 5120 := d.isLt
  have hp : Value.pt3Of (ix2 r d) = 2 * (r.val / 1024) + d.val / 2560 := by
    show 2 * (r.val / 1024 - 0) + 1 * (d.val / 2560 - 0) = _
    omega
  have hN : Value.pt3Of (ix2 r d) < cfg0.N := by
    rw [hp]; exact lt_of_lt_of_eq (by omega) N_0.symm
  unfold Value.G3
  rw [dif_pos hN, ← Value.outsAt0_sweep m c _ hN]
  have hl : Value.loc3Of (ix2 r d) = ix2 ⟨r.val % 1024, Nat.mod_lt _ (by norm_num)⟩ ⟨d.val % 2560, Nat.mod_lt _ (by norm_num)⟩ := by
    funext b
    match b with
    | ⟨0, _⟩ => rfl
    | ⟨1, _⟩ => rfl
  rw [hl, (after_point m c _ hN).1]
  have hrow : row (Value.pt3Of (ix2 r d)) ⟨r.val % 1024, Nat.mod_lt _ (by norm_num)⟩ = r := Fin.ext (by
    show (1024 * (Value.pt3Of (ix2 r d) / 2) + r.val % 1024) % 16384 = r.val
    rw [hp]; omega)
  have hcol : col (Value.pt3Of (ix2 r d)) ⟨d.val % 2560, Nat.mod_lt _ (by norm_num)⟩ = d := Fin.ext (by
    show ((Value.pt3Of (ix2 r d) % 2) * 2560 + d.val % 2560) % 5120 = d.val
    rw [hp]; omega)
  rw [hrow, hcol]

/-- The reference's result at an index. -/
theorem reference_apply (x : (⟨S16384x2048, .f32⟩ : BufTy).Contents (Elt Ideal)) (g : (⟨S2048, .f32⟩ : BufTy).Contents (Elt Ideal))
    (w : (⟨S2048x5120, .f32⟩ : BufTy).Contents (Elt Ideal)) (r : Fin 16384) (d : Fin 5120) :
    Cert.SbProjRefIdeal.Read.val_main_v19 (F := Ideal) x g w (ix2 r d) = scaled x g w r d := by
  rw [← Cert.SbProjRefIdeal.Read.val_main_v19_eq]
  pointwise
  unfold scaled factor
  split
  · rfl
  · rw [mul_one]
    have e : ∀ h, (⟨1536 + (d.val - 1536), h⟩ : Fin 5120) = d := fun h => Fin.ext (by show 1536 + (d.val - 1536) = d.val; omega)
    simp only [e]
    rfl

/-- The kernel's result is the reference's. -/
theorem result_eq (c : Dev nD) : Value.G3 m c
    = Cert.SbProjRefIdeal.Read.val_main_v19 (F := Ideal) (X m c) (G m c) (W m c) := by
  funext i
  obtain ⟨r, d, rfl⟩ : ∃ (r : Fin 16384) (d : Fin 5120), i = ix2 r d := ⟨i 0, i 1, eq_ix2 i⟩
  rw [result_apply]
  exact (reference_apply _ _ _ r d).symm

end Cert.SbProjIdeal.Hand

end
-- ==== Proof.SbProjClaims.lean ====
module

public import proofs.«01_k».proof.Defs
public import proofs.«01_k».proof.Proof.Gen.SbProj.Frame
public import proofs.«01_k».proof.Proof.SbProjValue

@[expose] public section

set_option maxRecDepth 16384

noncomputable section

namespace Cert.Proof.SbProjClaims

open Idealize.ShloMosaic Idealize.ShloMosaic.TcCoe Idealize.SL.Sem

/-- The kernel at the machine's floats runs, leaves its arguments as they were, and ends with every counter at zero. -/
theorem frame_kernel : Cert.quiescent_SbProj := fun m ρ _ => Cert.SbProj.Gen.frame m ρ

/-- The kernel over extended reals does the same. -/
theorem frame_ideal : Cert.quiescent_SbProjIdeal := fun m ρ _ => Cert.SbProjIdeal.Gen.frame m ρ

/-- So does the reference over extended reals. -/
theorem frame_reference : Cert.quiescent_SbProjRefIdeal := fun m ρ _ =>
  (θ_run Cert.SbProjRefIdeal.defs _ _).mono (fun r h => ⟨fun c => (h c).2,
      Idealize.ShloMosaic.sem_eq_zero_of_no_sems (by decide) r.2⟩)
    (Cert.SbProjRefIdeal.Value.run (F := Ideal) m ρ)

/-- No operation was exchanged on the way to the extended reals. -/
theorem preserves : Cert.preserves_SbProj_SbProjIdeal := trivial

/-- Over extended reals the kernel's result is the reference's, from arguments that agree. -/
theorem algebraic : Cert.algebraic_SbProjIdeal_SbProjRefIdeal := by
  intro m ρ m' ρ' _ hag
  refine ⟨fun c => Cert.SbProjIdeal.Value.G3 m c, Cert.SbProjIdeal.Value.run (F := Ideal) m ρ, ?_⟩
  refine (θ_run Cert.SbProjRefIdeal.defs _ _).mono (fun _ h c => ?_) (Cert.SbProjRefIdeal.Value.run (F := Ideal) m' ρ')
  obtain ⟨h0, h1, h2⟩ := hag c
  exact ⟨((h c).1.trans (Cert.SbProjRefIdeal.Read.val_main_v19_eq _ _ _)).trans
    ((congr (congr (congrArg (Cert.SbProjRefIdeal.Read.val_main_v19 (F := Ideal)) h0) h1) h2).trans
      (Cert.SbProjIdeal.Hand.result_eq m c).symm), (h c).2⟩

end Cert.Proof.SbProjClaims

end
-- ==== Proof.SwaProjStep.lean ====
module

public import proofs.«01_k».proof.Proof.Gen.SwaProjIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.SwaProjIdeal.Hand

open Cert.SwaProjIdeal Cert.SwaProjIdeal.Gen Idealize.ShloMosaic Idealize.ShloMosaic.TcCoe Idealize.SL.Sem

/-- Each point leaves the product of its normalised rows with the weights. -/
theorem each_point {F : FTy → Type} [FloatOps F] (m : (ℓ : Loc nD τ sig) → Buf (Elt F) ℓ) (c : Dev nD) (t : Fin cfg0.N) :
    outsAt0 m c t = k0_pay2 (k0_pay1 (iblk m c 0 t) (iblk m c 1 t)) (iblk m c 2 t) := by
  unfold outsAt0
  frame_out

variable (m : (ℓ : Loc nD τ sig) → Buf (Elt Ideal) ℓ)

/-- The block indices of the three operands and of the result at a grid point. -/
theorem places : ∀ t : Fin cfg0.N,
    win0_0.index t = ![t.val, 0] ∧ win0_1.index t = ![0, 0] ∧ win0_2.index t = ![0, 0] ∧ win0_3.index t = ![t.val, 0] :=
  (by decide +kernel : ∀ t : Fin grid0.N, _)

/-- Row block `t` of the residual stream. -/
theorem x_block (c : Dev nD) (t : Fin cfg0.N) (a : Fin 1024) (k : Fin 2048) :
    iblk m c 0 t (ix2 a k) = m ((c : Thread nD τ).loc main_arg0) (ix2 ⟨(1024 * t.val + a.val) % 16384, Nat.mod_lt _ (by norm_num)⟩ k) := by
  have hN : t.val < 16 := lt_of_lt_of_eq t.isLt N_0
  blk_ext [iblk, V, places t]

/-- The gain row. -/
theorem g_block (c : Dev nD) (t : Fin cfg0.N) (k : Fin 2048) :
    iblk m c 1 t (ix2 0 k) = m ((c : Thread nD τ).loc main_arg1) (ix1 k) := by
  blk_point [iblk, V, places t]

/-- The weights, whole. -/
theorem w_block (c : Dev nD) (t : Fin cfg0.N) (k : Fin 2048) (l : Fin 2432) :
    iblk m c 2 t (ix2 k l) = m ((c : Thread nD τ).loc main_arg2) (ix2 k l) := by
  blk_ext [iblk, V, places t]

end Cert.SwaProjIdeal.Hand

end
-- ==== Proof.SwaProjValue.lean ====
module

public import proofs.«01_k».proof.Proof.SwaProjStep
public import proofs.«01_k».proof.Proof.FfnMath
public import proofs.«01_k».proof.Proof.Gen.SwaProjRefIdeal.Run
public import proofs.«01_k».proof.Proof.Gen.SwaProjRefIdeal.Read

@[expose] public section

set_option maxRecDepth 16384

noncomputable section

namespace Cert.SwaProjIdeal.Hand

open Cert.SwaProjIdeal Cert.SwaProjIdeal.Gen Idealize.ShloMosaic Idealize.ShloMosaic.TcCoe Idealize.SL.Sem

open _root_.Hand.Ffn

variable (m : (ℓ : Loc nD τ sig) → Buf (Elt Ideal) ℓ)

/-- The arguments as matrices of extended reals. -/
abbrev X (c : Dev nD) : Mat 16384 2048 := m ((c : Thread nD τ).loc main_arg0)
abbrev G (c : Dev nD) : Row 2048 := m ((c : Thread nD τ).loc main_arg1)
abbrev W (c : Dev nD) : Mat 2048 2432 := m ((c : Thread nD τ).loc main_arg2)

/-- The projection: the normalised rows times the weights. -/
def product (x : Mat 16384 2048) (g : Row 2048) (w : Mat 2048 2432) : Mat 16384 2432 :=
  fun i => ∑ k : Fin 2048, rms x g (i 0) k * w (ix2 k (i 1))

/-- Row `a` of row block `n`. -/
abbrev row (n : ℕ) (a : Fin 1024) : Fin 16384 := ⟨(1024 * n + a.val) % 16384, Nat.mod_lt _ (by norm_num)⟩

/-- What a point normalises. -/
theorem norm_apply (c : Dev nD) (t : Fin cfg0.N) (a : Fin 1024) (k : Fin 2048) :
    k0_pay1 (iblk m c 0 t) (iblk m c 1 t) (ix2 a k) = rms (X m c) (G m c) (row t.val a) k := by
  have hp : ∀ (x : Vec Ideal S1024x2048 .f32) (g : Vec Ideal S1x2048 .f32), k0_pay1 x g (ix2 a k)
      = x (ix2 a k) * Ideal.rsqrt (Ideal.div (∑ l : Fin 2048, x (ix2 a l) * x (ix2 a l)) (Ideal.ofBits FTy.f32 1157627904#32)
          + Ideal.ofBits FTy.f32 897988541#32) * g (ix2 0 k) := fun x g => by
    pointwise [k0_pay1]
  rw [hp, g_block]
  simp only [x_block]
  rfl

/-- A point's product at an element. -/
theorem point_apply (c : Dev nD) (t : Fin cfg0.N) (a : Fin 1024) (l : Fin 2432) :
    outsAt0 m c t (ix2 a l) = product (X m c) (G m c) (W m c) (ix2 (row t.val a) l) := by
  have hp : ∀ (h : Vec Ideal S1024x2048 .bf16) (w : Vec Ideal S2048x2432 .bf16),
      k0_pay2 h w (ix2 a l) = ∑ k, h (ix2 a k) * w (ix2 k l) := fun h w => by
    pointwise [k0_pay2]
  rw [each_point, hp]
  simp only [norm_apply, w_block]
  rfl

/-- The kernel's result. -/
theorem result_product (c : Dev nD) : (dats m 0 c).arrAt 3 cfg0.N = product (X m c) (G m c) (W m c) := by
  refine (dats m 0 c).arrAt_eq_of_covers 3 _ (by decide +kernel) fun t hf y => ?_
  have hN : t.val < 16 := lt_of_lt_of_eq t.isLt N_0
  blk_simp
  rw [after0_3]
  obtain ⟨a, l, rfl⟩ : ∃ (a : Fin 1024) (l : Fin 2432), y = ix2 a l := ⟨y 0, y 1, eq_ix2 y⟩
  rw [point_apply]
  blk_ext [places t]

/-- The reference's result. -/
theorem reference_product (x : (⟨S16384x2048, .f32⟩ : BufTy).Contents (Elt Ideal)) (g : (⟨S2048, .f32⟩ : BufTy).Contents (Elt Ideal))
    (w : (⟨S2048x2432, .f32⟩ : BufTy).Contents (Elt Ideal)) :
    Cert.SwaProjRefIdeal.Read.val_main_v14 (F := Ideal) x g w = product x g w := by
  funext i
  obtain ⟨r, d, rfl⟩ : ∃ (r : Fin 16384) (d : Fin 2432), i = ix2 r d := ⟨i 0, i 1, eq_ix2 i⟩
  rw [← Cert.SwaProjRefIdeal.Read.val_main_v14_eq]
  pointwise
  rfl

/-- The kernel's result is the reference's. -/
theorem result_eq (c : Dev nD) : (dats m 0 c).arrAt 3 cfg0.N
    = Cert.SwaProjRefIdeal.Read.val_main_v14 (F := Ideal) (X m c) (G m c) (W m c) :=
  (result_product m c).trans (reference_product _ _ _).symm

end Cert.SwaProjIdeal.Hand

end
-- ==== Proof.SwaProjClaims.lean ====
module

public import proofs.«01_k».proof.Defs
public import proofs.«01_k».proof.Proof.Gen.SwaProj.Frame
public import proofs.«01_k».proof.Proof.SwaProjValue

@[expose] public section

set_option maxRecDepth 16384

noncomputable section

namespace Cert.Proof.SwaProjClaims

open Idealize.ShloMosaic Idealize.ShloMosaic.TcCoe Idealize.SL.Sem

/-- The kernel at the machine's floats runs, leaves its arguments as they were, and ends with every counter at zero. -/
theorem frame_kernel : Cert.quiescent_SwaProj := fun m ρ _ => Cert.SwaProj.Gen.frame m ρ

/-- The kernel over extended reals does the same. -/
theorem frame_ideal : Cert.quiescent_SwaProjIdeal := fun m ρ _ => Cert.SwaProjIdeal.Gen.frame m ρ

/-- So does the reference over extended reals. -/
theorem frame_reference : Cert.quiescent_SwaProjRefIdeal := fun m ρ _ =>
  (θ_run Cert.SwaProjRefIdeal.defs _ _).mono (fun r h => ⟨fun c => (h c).2,
      Idealize.ShloMosaic.sem_eq_zero_of_no_sems (by decide) r.2⟩)
    (Cert.SwaProjRefIdeal.Value.run (F := Ideal) m ρ)

/-- No operation was exchanged on the way to the extended reals. -/
theorem preserves : Cert.preserves_SwaProj_SwaProjIdeal := trivial

/-- Over extended reals the kernel's result is the reference's, from arguments that agree. -/
theorem algebraic : Cert.algebraic_SwaProjIdeal_SwaProjRefIdeal := by
  intro m ρ m' ρ' _ hag
  refine ⟨fun c => (Cert.SwaProjIdeal.Gen.dats m 0 c).arrAt 3 Cert.SwaProjIdeal.cfg0.N, Cert.SwaProjIdeal.Value.run_blocks (F := Ideal) m ρ, ?_⟩
  refine (θ_run Cert.SwaProjRefIdeal.defs _ _).mono (fun _ h c => ?_) (Cert.SwaProjRefIdeal.Value.run (F := Ideal) m' ρ')
  obtain ⟨h0, h1, h2⟩ := hag c
  exact ⟨((h c).1.trans (Cert.SwaProjRefIdeal.Read.val_main_v14_eq _ _ _)).trans
    ((congr (congr (congrArg (Cert.SwaProjRefIdeal.Read.val_main_v14 (F := Ideal)) h0) h1) h2).trans
      (Cert.SwaProjIdeal.Hand.result_eq m c).symm), (h c).2⟩

end Cert.Proof.SwaProjClaims

end
-- ==== Proof.MemKvStep.lean ====
module

public import proofs.«01_k».proof.Proof.Gen.MemKvIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MemKvIdeal.Hand

open Cert.MemKvIdeal Cert.MemKvIdeal.Gen Idealize.ShloMosaic Idealize.ShloMosaic.TcCoe Idealize.SL.Sem

variable (m : (ℓ : Loc nD τ sig) → Buf (Elt Ideal) ℓ)

/-- The block indices of the operands and of the results at a grid point. -/
theorem places : ∀ t : Fin cfg0.N,
    win0_0.index t = ![t.val, 0, 0] ∧ win0_1.index t = ![0, 0] ∧ win0_2.index t = ![1, 0, 0] ∧ win0_3.index t = ![0, 0]
      ∧ win0_4.index t = ![t.val, 0, 0] ∧ win0_5.index t = ![t.val, 0, 0] :=
  (by decide +kernel : ∀ t : Fin grid0.N, _)

/-- The memory of batch element `t`. -/
theorem x_block (c : Dev nD) (t : Fin cfg0.N) (a : Fin 256) (k : Fin 2048) :
    iblk m c 0 t (ix3 0 a k) = m ((c : Thread nD τ).loc main_arg0) (ix3 ⟨t.val % 4, Nat.mod_lt _ (by norm_num)⟩ a k) := by
  have hN : t.val < 4 := lt_of_lt_of_eq t.isLt N_0
  blk_ext [iblk, V, places t]

/-- The gain row of the memory's normalisation. -/
theorem g_block (c : Dev nD) (t : Fin cfg0.N) (k : Fin 2048) :
    iblk m c 1 t (ix2 0 k) = m ((c : Thread nD τ).loc main_arg1) (ix1 k) := by
  blk_point [iblk, V, places t]

/-- The layer's weights, whole. -/
theorem w_block (c : Dev nD) (t : Fin cfg0.N) (k : Fin 2048) (l : Fin 1024) :
    iblk m c 2 t (ix3 0 k l) = m ((c : Thread nD τ).loc main_arg2) (ix3 1 k l) := by
  blk_ext [iblk, V, places t]

/-- The gain row of the keys' normalisation. -/
theorem k_block (c : Dev nD) (t : Fin cfg0.N) (k : Fin 128) :
    iblk m c 3 t (ix2 0 k) = m ((c : Thread nD τ).loc main_arg3) (ix1 k) := by
  blk_point [iblk, V, places t]

/-- The product that the pieces share. -/
theorem shared_eq (x0 : Vec Ideal S1x256x2048 .f32) (x1 : Vec Ideal S1x2048 .f32) (x2 : Vec Ideal S1x2048x1024 .bf16) (x3 : Vec Ideal S1x128 .f32) :
    k0_pay8 x0 x1 x2 x3 = k0_pay3 x0 x1 x2 := by
  unfold k0_pay8
  frame_out

/-- The keys' buffer after a point. -/
theorem keys_point (x0 : Vec Ideal S1x256x2048 .f32) (x1 : Vec Ideal S1x2048 .f32) (x2 : Vec Ideal S1x2048x1024 .bf16) (x3 : Vec Ideal S1x128 .f32)
    (y : S1x256x512.Idx) : out0_4 x0 x1 x2 x3 y = Value.E4 x0 x1 x2 x3 y := by
  rw [← Value.canon4_eq]
  frame_out
  rw [shared_eq]

/-- The values' buffer after a point. -/
theorem values_point (x0 : Vec Ideal S1x256x2048 .f32) (x1 : Vec Ideal S1x2048 .f32) (x2 : Vec Ideal S1x2048x1024 .bf16) (x3 : Vec Ideal S1x128 .f32)
    (y : S1x256x512.Idx) : out0_5 x0 x1 x2 x3 y = Value.E5 x0 x1 x2 y := by
  rw [← Value.canon5_eq]
  frame_out
  rw [shared_eq]

end Cert.MemKvIdeal.Hand

end
-- ==== Proof.MemKvValue.lean ====
module

public import proofs.«01_k».proof.Proof.MemKvStep
public import proofs.«01_k».proof.Proof.Gen.MemKvRefIdeal.Run
public import proofs.«01_k».proof.Proof.Gen.MemKvRefIdeal.Read

@[expose] public section

set_option maxRecDepth 16384

noncomputable section

namespace Cert.MemKvIdeal.Hand

open Cert.MemKvIdeal Cert.MemKvIdeal.Gen Idealize.ShloMosaic Idealize.ShloMosaic.TcCoe Idealize.SL.Sem
open Cert.MemKvRefIdeal.Read

/-- Arrays of extended reals, by shape. -/
abbrev Mem : Type := (⟨3, ![4, 256, 2048]⟩ : Shape).Idx → EReal
abbrev Gain : Type := (⟨1, ![2048]⟩ : Shape).Idx → EReal
abbrev Wts : Type := (⟨3, ![2, 2048, 1024]⟩ : Shape).Idx → EReal
abbrev KeyGain : Type := (⟨1, ![128]⟩ : Shape).Idx → EReal
abbrev Out : Type := (⟨3, ![4, 256, 512]⟩ : Shape).Idx → EReal

/-- One element of the memory normalised by its row's root mean square, times the gain. -/
def normed (x : Mem) (g : Gain) (b : Fin 4) (a : Fin 256) (k : Fin 2048) : EReal :=
  x (ix3 b a k) * Ideal.rsqrt (Ideal.div (∑ l : Fin 2048, x (ix3 b a l) * x (ix3 b a l)) (Ideal.ofBits FTy.f32 1157627904#32)
    + Ideal.ofBits FTy.f32 897988541#32) * g (ix1 k)

/-- The normalised memory times column `n` of layer 1's weights. -/
def prod (x : Mem) (g : Gain) (w : Wts) (b : Fin 4) (a : Fin 256) (n : Fin 1024) : EReal :=
  ∑ k : Fin 2048, normed x g b a k * w (ix3 1 k n)

/-- Column `e` of head `h` among the keys. -/
abbrev lane (h : Fin 4) (e : Fin 128) : Fin 1024 := ⟨h.val * 128 + e.val, by omega⟩

/-- The keys: each head's row normalised by its root mean square, times the keys' gain. -/
def keys (x : Mem) (g : Gain) (w : Wts) (kg : KeyGain) : Out := fun i =>
  prod x g w (i 0) (i 1) ⟨(i 2).val, by have h : (i 2).val < 512 := (i 2).isLt; omega⟩
    * Ideal.rsqrt (Ideal.div (∑ e : Fin 128, prod x g w (i 0) (i 1) (lane ⟨(i 2).val / 128, Nat.div_lt_of_lt_mul (i 2).isLt⟩ e)
          * prod x g w (i 0) (i 1) (lane ⟨(i 2).val / 128, Nat.div_lt_of_lt_mul (i 2).isLt⟩ e)) (Ideal.ofBits FTy.f32 0x43000000#32)
        + Ideal.ofBits FTy.f32 897988541#32)
    * kg (ix1 ⟨(i 2).val % 128, Nat.mod_lt _ (by norm_num)⟩)

/-- The values: the second half of the product's columns. -/
def vals (x : Mem) (g : Gain) (w : Wts) : Out := fun i =>
  prod x g w (i 0) (i 1) ⟨512 + (i 2).val, by have h : (i 2).val < 512 := (i 2).isLt; omega⟩

variable (m : (ℓ : Loc nD τ sig) → Buf (Elt Ideal) ℓ)

/-- The arguments as arrays of extended reals. -/
abbrev X (c : Dev nD) : Mem := m ((c : Thread nD τ).loc main_arg0)
abbrev G (c : Dev nD) : Gain := m ((c : Thread nD τ).loc main_arg1)
abbrev W (c : Dev nD) : Wts := m ((c : Thread nD τ).loc main_arg2)
abbrev KG (c : Dev nD) : KeyGain := m ((c : Thread nD τ).loc main_arg3)

/-- A point's product at an element. -/
theorem product_apply (c : Dev nD) (t : Fin cfg0.N) (a : Fin 256) (n : Fin 1024) :
    k0_pay3 (iblk m c 0 t) (iblk m c 1 t) (iblk m c 2 t) (ix2 a n)
      = prod (X m c) (G m c) (W m c) ⟨t.val % 4, Nat.mod_lt _ (by norm_num)⟩ a n := by
  have hp : ∀ (x : Vec Ideal S1x256x2048 .f32) (g : Vec Ideal S1x2048 .f32) (w : Vec Ideal S1x2048x1024 .bf16),
      k0_pay3 x g w (ix2 a n) = ∑ k : Fin 2048, x (ix3 0 a k) * Ideal.rsqrt (Ideal.div (∑ l : Fin 2048, x (ix3 0 a l) * x (ix3 0 a l))
          (Ideal.ofBits FTy.f32 1157627904#32) + Ideal.ofBits FTy.f32 897988541#32) * g (ix2 0 k) * w (ix3 0 k n) := fun x g w => by
    pointwise [k0_pay3]
  rw [hp]
  simp only [x_block, g_block, w_block]
  rfl

/-- The sum of squares over a head, at each of the four heads. -/
theorem head_squares (P0 : Vec Ideal S1x256x2048 .f32) (P1 : Vec Ideal S1x2048 .f32) (P2 : Vec Ideal S1x2048x1024 .bf16) (P3 : Vec Ideal S1x128 .f32)
    (h : Fin 4) (a : Fin 256) :
    Value.Fam4_1 P0 P1 P2 P3 h (ix1 a)
      = ∑ e : Fin 128, (k0_pay3 P0 P1 P2 (ix2 a (lane h e)) * k0_pay3 P0 P1 P2 (ix2 a (lane h e)) : EReal) := by
  match h with
  | ⟨0, _⟩ =>
    have q : ∀ (e : Fin 128) (p : e.val < 1024), (⟨e.val, p⟩ : Fin 1024) = lane 0 e := fun e p => Fin.ext (by
      show e.val = 0 * 128 + e.val
      omega)
    dsimp only [Value.Fam4_1]
    generalize k0_pay3 P0 P1 P2 = z
    pointwise
    simp only [q]
  | ⟨1, _⟩ =>
    have q : ∀ (e : Fin 128) (p : 128 + e.val < 1024), (⟨128 + e.val, p⟩ : Fin 1024) = lane 1 e := fun e p => Fin.ext (by
      show 128 + e.val = 1 * 128 + e.val
      omega)
    dsimp only [Value.Fam4_1]
    generalize k0_pay3 P0 P1 P2 = z
    pointwise
    simp only [q]
  | ⟨2, _⟩ =>
    have q : ∀ (e : Fin 128) (p : 256 + e.val < 1024), (⟨256 + e.val, p⟩ : Fin 1024) = lane 2 e := fun e p => Fin.ext (by
      show 256 + e.val = 2 * 128 + e.val
      omega)
    dsimp only [Value.Fam4_1]
    generalize k0_pay3 P0 P1 P2 = z
    pointwise
    simp only [q]
  | ⟨3, _⟩ =>
    have q : ∀ (e : Fin 128) (p : 384 + e.val < 1024), (⟨384 + e.val, p⟩ : Fin 1024) = lane 3 e := fun e p => Fin.ext (by
      show 384 + e.val = 3 * 128 + e.val
      omega)
    dsimp only [Value.Fam4_1]
    generalize k0_pay3 P0 P1 P2 = z
    pointwise
    simp only [q]

/-- A point's keys at an element. -/
theorem keys_apply (c : Dev nD) (t : Fin cfg0.N) (a : Fin 256) (j : Fin 512) :
    out0_4 (iblk m c 0 t) (iblk m c 1 t) (iblk m c 2 t) (iblk m c 3 t) (ix3 0 a j)
      = keys (X m c) (G m c) (W m c) (KG m c) (ix3 ⟨t.val % 4, Nat.mod_lt _ (by norm_num)⟩ a j) := by
  rw [keys_point]
  dsimp only [Value.E4]
  have e0 : Value.ix4_0 (ix3 0 a j) = ix2 a ⟨j.val, lt_trans j.isLt (by norm_num)⟩ := by
    funext b
    match b with
    | ⟨0, _⟩ => rfl
    | ⟨1, _⟩ => rfl
  have e1 : Value.ix4_1 (ix3 0 a j) = ix1 a := by
    funext b
    match b with
    | ⟨0, _⟩ => rfl
  have e2 : Value.ix4_2 (ix3 0 a j) = ix2 0 ⟨j.val % 128, Nat.mod_lt _ (by norm_num)⟩ := by
    funext b
    match b with
    | ⟨0, _⟩ => rfl
    | ⟨1, _⟩ => rfl
  rw [e0, e1, e2, head_squares, k_block, product_apply]
  simp only [product_apply]
  rfl

/-- A point's values at an element. -/
theorem vals_apply (c : Dev nD) (t : Fin cfg0.N) (a : Fin 256) (j : Fin 512) :
    out0_5 (iblk m c 0 t) (iblk m c 1 t) (iblk m c 2 t) (iblk m c 3 t) (ix3 0 a j)
      = vals (X m c) (G m c) (W m c) (ix3 ⟨t.val % 4, Nat.mod_lt _ (by norm_num)⟩ a j) := by
  rw [values_point]
  dsimp only [Value.E5]
  have e0 : Value.ix5_0 (ix3 0 a j) = ix2 a ⟨512 + j.val, by omega⟩ := by
    funext b
    match b with
    | ⟨0, _⟩ => rfl
    | ⟨1, _⟩ => exact Fin.ext (Nat.add_comm _ _)
  rw [e0, product_apply]
  rfl

/-- The kernel's keys. -/
theorem keys_result (c : Dev nD) : (dats m 0 c).arrAt 4 cfg0.N = keys (X m c) (G m c) (W m c) (KG m c) := by
  refine (dats m 0 c).arrAt_eq_of_covers 4 _ (by decide +kernel) fun t hf y => ?_
  have hN : t.val < 4 := lt_of_lt_of_eq t.isLt N_0
  blk_simp
  rw [after0_4]
  obtain ⟨z, a, j, rfl⟩ : ∃ (z : Fin 1) (a : Fin 256) (j : Fin 512), y = ix3 z a j := ⟨y 0, y 1, y 2, eq_ix3 y⟩
  obtain rfl : z = 0 := Subsingleton.elim _ _
  rw [keys_apply]
  blk_ext [places t]

/-- The kernel's values. -/
theorem vals_result (c : Dev nD) : (dats m 0 c).arrAt 5 cfg0.N = vals (X m c) (G m c) (W m c) := by
  refine (dats m 0 c).arrAt_eq_of_covers 5 _ (by decide +kernel) fun t hf y => ?_
  have hN : t.val < 4 := lt_of_lt_of_eq t.isLt N_0
  blk_simp
  rw [after0_5]
  obtain ⟨z, a, j, rfl⟩ : ∃ (z : Fin 1) (a : Fin 256) (j : Fin 512), y = ix3 z a j := ⟨y 0, y 1, y 2, eq_ix3 y⟩
  obtain rfl : z = 0 := Subsingleton.elim _ _
  rw [vals_apply]
  blk_ext [places t]

/-- The reference's product at an element. -/
theorem reference_product (x0 : (⟨S4x256x2048, .f32⟩ : BufTy).Contents (Elt Ideal)) (x1 : (⟨S2048, .f32⟩ : BufTy).Contents (Elt Ideal))
    (x2 : (⟨S2x2048x1024, .f32⟩ : BufTy).Contents (Elt Ideal)) (b : Fin 4) (a : Fin 256) (n : Fin 1024) :
    val_main_v15 (F := Ideal) x0 x1 x2 (ix3 b a n) = prod x0 x1 x2 b a n := by
  unfold val_main_v15
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14]
  rfl

/-- The reference's keys. -/
theorem keys_reference (x0 : (⟨S4x256x2048, .f32⟩ : BufTy).Contents (Elt Ideal)) (x1 : (⟨S2048, .f32⟩ : BufTy).Contents (Elt Ideal))
    (x2 : (⟨S2x2048x1024, .f32⟩ : BufTy).Contents (Elt Ideal)) (x3 : (⟨S128, .f32⟩ : BufTy).Contents (Elt Ideal)) :
    val_main_v33 (F := Ideal) x0 x1 x2 x3 = keys x0 x1 x2 x3 := by
  funext i
  obtain ⟨b, a, j, rfl⟩ : ∃ (b : Fin 4) (a : Fin 256) (j : Fin 512), i = ix3 b a j := ⟨i 0, i 1, i 2, eq_ix3 i⟩
  have h : ∀ n, val_main_v15 (F := Ideal) x0 x1 x2 (ix3 b a n) = prod x0 x1 x2 b a n := reference_product x0 x1 x2 b a
  unfold val_main_v33 val_main_v32 val_main_v31 val_main_v30 val_main_v29 val_main_v28 val_main_v27 val_main_v26 val_main_v25 val_main_v24 val_main_cst_4 val_main_v23 val_main_v22 val_main_cst_3 val_main_v21 val_main_v20 val_main_cst_2 val_main_v19 val_main_v18 val_main_v17 val_main_v16
  revert h
  generalize val_main_v15 (F := Ideal) x0 x1 x2 = z
  intro h
  pointwise
  simp only [h, Nat.div_add_mod']
  rfl

/-- The reference's values. -/
theorem vals_reference (x0 : (⟨S4x256x2048, .f32⟩ : BufTy).Contents (Elt Ideal)) (x1 : (⟨S2048, .f32⟩ : BufTy).Contents (Elt Ideal))
    (x2 : (⟨S2x2048x1024, .f32⟩ : BufTy).Contents (Elt Ideal)) :
    val_main_v37 (F := Ideal) x0 x1 x2 = vals x0 x1 x2 := by
  funext i
  obtain ⟨b, a, j, rfl⟩ : ∃ (b : Fin 4) (a : Fin 256) (j : Fin 512), i = ix3 b a j := ⟨i 0, i 1, i 2, eq_ix3 i⟩
  have h : ∀ n, val_main_v15 (F := Ideal) x0 x1 x2 (ix3 b a n) = prod x0 x1 x2 b a n := reference_product x0 x1 x2 b a
  unfold val_main_v37 val_main_v36 val_main_v35 val_main_v34 val_main_v16
  revert h
  generalize val_main_v15 (F := Ideal) x0 x1 x2 = z
  intro h
  pointwise
  simp only [h, add_assoc, Nat.div_add_mod']
  rfl

end Cert.MemKvIdeal.Hand

end
-- ==== Proof.MemKvClaims.lean ====
module

public import proofs.«01_k».proof.Defs
public import proofs.«01_k».proof.Proof.Gen.MemKv.Frame
public import proofs.«01_k».proof.Proof.MemKvValue

@[expose] public section

set_option maxRecDepth 16384

noncomputable section

namespace Cert.Proof.MemKvClaims

open Idealize.ShloMosaic Idealize.ShloMosaic.TcCoe Idealize.SL.Sem

/-- The kernel at the machine's floats runs, leaves its arguments as they were, and ends with every counter at zero. -/
theorem frame_kernel : Cert.quiescent_MemKv := fun m ρ _ => Cert.MemKv.Gen.frame m ρ

/-- The kernel over extended reals does the same. -/
theorem frame_ideal : Cert.quiescent_MemKvIdeal := fun m ρ _ => Cert.MemKvIdeal.Gen.frame m ρ

/-- So does the reference over extended reals. -/
theorem frame_reference : Cert.quiescent_MemKvRefIdeal := fun m ρ _ =>
  (θ_run Cert.MemKvRefIdeal.defs _ _).mono (fun r h => ⟨fun c => (h c).2.2,
      Idealize.ShloMosaic.sem_eq_zero_of_no_sems (by decide) r.2⟩)
    (Cert.MemKvRefIdeal.Value.run (F := Ideal) m ρ)

/-- No operation was exchanged on the way to the extended reals. -/
theorem preserves : Cert.preserves_MemKv_MemKvIdeal := trivial

/-- Over extended reals the kernel's two results are the reference's, from arguments that agree. -/
theorem algebraic : Cert.algebraic_MemKvIdeal_MemKvRefIdeal := by
  intro m ρ m' ρ' _ hag
  refine ⟨fun c => (Cert.MemKvIdeal.Gen.dats m 0 c).arrAt 4 Cert.MemKvIdeal.cfg0.N,
    fun c => (Cert.MemKvIdeal.Gen.dats m 0 c).arrAt 5 Cert.MemKvIdeal.cfg0.N, Cert.MemKvIdeal.Value.run_blocks (F := Ideal) m ρ, ?_⟩
  refine (θ_run Cert.MemKvRefIdeal.defs _ _).mono (fun _ h c => ?_) (Cert.MemKvRefIdeal.Value.run (F := Ideal) m' ρ')
  obtain ⟨h0, h1, h2, h3⟩ := hag c
  obtain ⟨r0, r1, rest⟩ := h c
  exact ⟨((r0.trans (Cert.MemKvRefIdeal.Read.val_main_v33_eq m' c)).trans
      (congr (congr (congr (congrArg (Cert.MemKvRefIdeal.Read.val_main_v33 (F := Ideal)) h0) h1) h2) h3)).trans
      ((Cert.MemKvIdeal.Hand.keys_reference _ _ _ _).trans (Cert.MemKvIdeal.Hand.keys_result m c).symm),
    ((r1.trans (Cert.MemKvRefIdeal.Read.val_main_v37_eq _ _ _)).trans
      (congr (congr (congrArg (Cert.MemKvRefIdeal.Read.val_main_v37 (F := Ideal)) h0) h1) h2)).trans
      ((Cert.MemKvIdeal.Hand.vals_reference _ _ _).trans (Cert.MemKvIdeal.Hand.vals_result m c).symm), rest⟩

end Cert.Proof.MemKvClaims

end
-- ==== Proof.lean ====
module

public import proofs.«01_k».proof.Defs
public import proofs.«01_k».proof.Proof.SwaClaims
public import proofs.«01_k».proof.Proof.FfnClaims
public import proofs.«01_k».proof.Proof.FfnNextClaims
public import proofs.«01_k».proof.Proof.MixClaims
public import proofs.«01_k».proof.Proof.SbProjClaims
public import proofs.«01_k».proof.Proof.SwaProjClaims
public import proofs.«01_k».proof.Proof.MemKvClaims
public import Idealize.ShloMosaic.Adequacy
public import Idealize.ShloMosaic.Init

@[expose] public section

noncomputable section

namespace Cert.Proof

/-- Everything claimed of the seven programs: each runs and leaves its arguments as they were, and what each computes over extended
    reals is what its reference computes. -/
theorem claim : Cert.Claim := ⟨Cert.Swa.Gen.facts, Cert.SwaIdeal.Gen.facts, Cert.SwaRefIdeal.Gen.facts, Cert.Ffn.Gen.facts, Cert.FfnIdeal.Gen.facts, Cert.FfnRefIdeal.Gen.facts, Cert.FfnNext.Gen.facts, Cert.FfnNextIdeal.Gen.facts, Cert.FfnNextRefIdeal.Gen.facts, Cert.Mix.Gen.facts, Cert.MixIdeal.Gen.facts, Cert.MixRefIdeal.Gen.facts, Cert.SbProj.Gen.facts, Cert.SbProjIdeal.Gen.facts, Cert.SbProjRefIdeal.Gen.facts, Cert.SwaProj.Gen.facts, Cert.SwaProjIdeal.Gen.facts, Cert.SwaProjRefIdeal.Gen.facts, Cert.MemKv.Gen.facts, Cert.MemKvIdeal.Gen.facts, Cert.MemKvRefIdeal.Gen.facts, Cert.Pre_swa_finite.Gen.facts,
  SwaClaims.frame_kernel, SwaClaims.frame_ideal, SwaClaims.frame_ideal_finite, SwaClaims.frame_reference, SwaClaims.frame_reference_finite,
  FfnClaims.frame_kernel, FfnClaims.frame_ideal, FfnClaims.frame_reference,
  FfnNextClaims.frame_kernel, FfnNextClaims.frame_ideal, FfnNextClaims.frame_reference,
  MixClaims.frame_kernel, MixClaims.frame_ideal, MixClaims.frame_reference,
  SbProjClaims.frame_kernel, SbProjClaims.frame_ideal, SbProjClaims.frame_reference,
  SwaProjClaims.frame_kernel, SwaProjClaims.frame_ideal, SwaProjClaims.frame_reference,
  MemKvClaims.frame_kernel, MemKvClaims.frame_ideal, MemKvClaims.frame_reference,
  SwaClaims.preserves, SwaClaims.algebraic,
  FfnClaims.preserves, FfnClaims.algebraic,
  FfnNextClaims.preserves, FfnNextClaims.algebraic,
  MixClaims.preserves, MixClaims.algebraic,
  SbProjClaims.preserves, SbProjClaims.algebraic,
  SwaProjClaims.preserves, SwaProjClaims.algebraic,
  MemKvClaims.preserves, MemKvClaims.algebraic⟩

end Cert.Proof

end
